-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)) (v4 : (c : Dev Cert.Kernel4Ideal.nD) → Buf (Elt Ideal) ((c.tc : Thread Cert.Kernel4Ideal.nD Cert.Kernel4Ideal.τ).loc Cert.Kernel4Ideal.main_v21_4)) (v5 : (c : Dev Cert.Kernel4Ideal.nD) → Buf (Elt Ideal) ((c.tc : Thread Cert.Kernel4Ideal.nD Cert.Kernel4Ideal.τ).loc Cert.Kernel4Ideal.main_v21_5)) (v6 : (c : Dev Cert.Kernel4Ideal.nD) → Buf (Elt Ideal) ((c.tc : Thread Cert.Kernel4Ideal.nD Cert.Kernel4Ideal.τ).loc Cert.Kernel4Ideal.main_v21_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_v21_3) = v3 c
          ∧ r.2.mem ((c.tc : Thread Cert.Kernel4Ideal.nD Cert.Kernel4Ideal.τ).loc Cert.Kernel4Ideal.main_v21_4) = v4 c
          ∧ r.2.mem ((c.tc : Thread Cert.Kernel4Ideal.nD Cert.Kernel4Ideal.τ).loc Cert.Kernel4Ideal.main_v21_5) = v5 c
          ∧ r.2.mem ((c.tc : Thread Cert.Kernel4Ideal.nD Cert.Kernel4Ideal.τ).loc Cert.Kernel4Ideal.main_v21_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_v69) = v3 c
          ∧ r.2.mem ((c.tc : Thread Cert.Reference4Ideal.nD Cert.Reference4Ideal.τ).loc Cert.Reference4Ideal.main_v73) = v4 c
          ∧ r.2.mem ((c.tc : Thread Cert.Reference4Ideal.nD Cert.Reference4Ideal.τ).loc Cert.Reference4Ideal.main_v77) = v5 c
          ∧ r.2.mem ((c.tc : Thread Cert.Reference4Ideal.nD Cert.Reference4Ideal.τ).loc Cert.Reference4Ideal.main_v81) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S1x16384x16x128 : Shape := ⟨4, ![1, 16384, 16, 128]⟩
abbrev S1x16384x16x64 : Shape := ⟨4, ![1, 16384, 16, 64]⟩
abbrev S1x16384x64 : Shape := ⟨3, ![1, 16384, 64]⟩
abbrev S16384x16 : Shape := ⟨2, ![16384, 16]⟩
abbrev S16384x128 : Shape := ⟨2, ![16384, 128]⟩
abbrev S_ : Shape := ⟨0, ![]⟩

class Facts : Prop where
  bcast_S_S1x16384x16x128 : S_.BroadcastsInDim S1x16384x16x128 (![] : Fin 0 → Fin S1x16384x16x128.rank)
  reducesTo_S1x16384x16x128_S_d0_1_2_3 : S1x16384x16x128.ReducesTo [0, 1, 2, 3] S_
  h_S_ : 0 < S_.numel
  bcast_S_S1x16384x16x64 : S_.BroadcastsInDim S1x16384x16x64 (![] : Fin 0 → Fin S1x16384x16x64.rank)
  reducesTo_S1x16384x16x64_S_d0_1_2_3 : S1x16384x16x64.ReducesTo [0, 1, 2, 3] S_
  bcast_S_S1x16384x64 : S_.BroadcastsInDim S1x16384x64 (![] : Fin 0 → Fin S1x16384x64.rank)
  reducesTo_S1x16384x64_S_d0_1_2 : S1x16384x64.ReducesTo [0, 1, 2] S_
  bcast_S_S16384x16 : S_.BroadcastsInDim S16384x16 (![] : Fin 0 → Fin S16384x16.rank)
  reducesTo_S16384x16_S_d0_1 : S16384x16.ReducesTo [0, 1] S_

variable [Facts]

def fn_part1 {F : FTy → Type} [FloatOps F] (main_arg5 : FVec F S16384x16 .f32) (main_v13 : IVec S_ 1) (main_v16 : IVec S1x16384x64 1) : IVec S_ 1 :=
  let main_c_5 : IVec S_ 1 := constantI S_ 1 1#1
  let main_v17 : IVec S_ 1 := (fun x v => Host.reduce IntOp.andi x v reducesTo_S1x16384x64_S_d0_1_2 h_S_) main_v16 main_c_5
  let main_v18 : IVec S_ 1 := andi main_v13 main_v17
  let main_v19 : FVec F S16384x16 .f32 := Host.absf main_arg5
  let main_cst_6 : FVec F S_ .f32 := constant S_ .f32 0x7F800000#32
  let main_v20 : FVec F S16384x16 .f32 := broadcastInDim S16384x16 ![] bcast_S_S16384x16 main_cst_6
  let main_v21 : IVec S16384x16 1 := cmpf .olt main_v19 main_v20
  let main_c_7 : IVec S_ 1 := constantI S_ 1 1#1
  let main_v22 : IVec S_ 1 := (fun x v => Host.reduce IntOp.andi x v reducesTo_S16384x16_S_d0_1 h_S_) main_v21 main_c_7
  let main_v23 : IVec S_ 1 := andi main_v18 main_v22
  main_v23

def fn {F : FTy → Type} [FloatOps F] (main_arg0 : FVec F S1x16384x16x128 .f32) (main_arg1 : FVec F S1x16384x16x64 .f32) (main_arg2 : FVec F S1x16384x16x128 .f32) (main_arg3 : FVec F S1x16384x64 .f32) (main_arg4 : FVec F S1x16384x16x128 .f32) (main_arg5 : FVec F S16384x16 .f32) (main_arg6 : FVec F S16384x128 .f32) : IVec S_ 1 :=
  let main_v0 : FVec F S1x16384x16x128 .f32 := Host.absf main_arg0
  let main_cst : FVec F S_ .f32 := constant S_ .f32 0x7F800000#32
  let main_v1 : FVec F S1x16384x16x128 .f32 := broadcastInDim S1x16384x16x128 ![] bcast_S_S1x16384x16x128 main_cst
  let main_v2 : IVec S1x16384x16x128 1 := cmpf .olt main_v0 main_v1
  let main_c : IVec S_ 1 := constantI S_ 1 1#1
  let main_v3 : IVec S_ 1 := (fun x v => Host.reduce IntOp.andi x v reducesTo_S1x16384x16x128_S_d0_1_2_3 h_S_) main_v2 main_c
  let main_v4 : FVec F S1x16384x16x64 .f32 := Host.absf main_arg1
  let main_cst_0 : FVec F S_ .f32 := constant S_ .f32 0x7F800000#32
  let main_v5 : FVec F S1x16384x16x64 .f32 := broadcastInDim S1x16384x16x64 ![] bcast_S_S1x16384x16x64 main_cst_0
  let main_v6 : IVec S1x16384x16x64 1 := cmpf .olt main_v4 main_v5
  let main_c_1 : IVec S_ 1 := constantI S_ 1 1#1
  let main_v7 : IVec S_ 1 := (fun x v => Host.reduce IntOp.andi x v reducesTo_S1x16384x16x64_S_d0_1_2_3 h_S_) main_v6 main_c_1
  let main_v8 : IVec S_ 1 := andi main_v3 main_v7
  let main_v9 : FVec F S1x16384x16x128 .f32 := Host.absf main_arg2
  let main_cst_2 : FVec F S_ .f32 := constant S_ .f32 0x7F800000#32
  let main_v10 : FVec F S1x16384x16x128 .f32 := broadcastInDim S1x16384x16x128 ![] bcast_S_S1x16384x16x128 main_cst_2
  let main_v11 : IVec S1x16384x16x128 1 := cmpf .olt main_v9 main_v10
  let main_c_3 : IVec S_ 1 := constantI S_ 1 1#1
  let main_v12 : IVec S_ 1 := (fun x v => Host.reduce IntOp.andi x v reducesTo_S1x16384x16x128_S_d0_1_2_3 h_S_) main_v11 main_c_3
  let main_v13 : IVec S_ 1 := andi main_v8 main_v12
  let main_v14 : FVec F S1x16384x64 .f32 := Host.absf main_arg3
  let main_cst_4 : FVec F S_ .f32 := constant S_ .f32 0x7F800000#32
  let main_v15 : FVec F S1x16384x64 .f32 := broadcastInDim S1x16384x64 ![] bcast_S_S1x16384x64 main_cst_4
  let main_v16 : IVec S1x16384x64 1 := cmpf .olt main_v14 main_v15
  fn_part1 (F := F) main_arg5 main_v13 main_v16
-- ==== Kernel.lean ====
abbrev S1x16384x16x128 : Shape := ⟨4, ![1, 16384, 16, 128]⟩
abbrev S1x16384x16x64 : Shape := ⟨4, ![1, 16384, 16, 64]⟩
abbrev S1x16384x64 : Shape := ⟨3, ![1, 16384, 64]⟩
abbrev S16384x16 : Shape := ⟨2, ![16384, 16]⟩
abbrev S16384x128 : Shape := ⟨2, ![16384, 128]⟩
abbrev S72 : Shape := ⟨1, ![72]⟩
abbrev S_ : Shape := ⟨0, ![]⟩
abbrev S16384x16x63 : Shape := ⟨3, ![16384, 16, 63]⟩
abbrev S16384x16x128 : Shape := ⟨3, ![16384, 16, 128]⟩
abbrev S16384x16x64 : Shape := ⟨3, ![16384, 16, 64]⟩
abbrev S16384x16x1 : Shape := ⟨3, ![16384, 16, 1]⟩
abbrev S16384x16x256 : Shape := ⟨3, ![16384, 16, 256]⟩
abbrev S16384x64 : Shape := ⟨2, ![16384, 64]⟩
abbrev S16384x1x64 : Shape := ⟨3, ![16384, 1, 64]⟩
abbrev S16384x2048 : Shape := ⟨2, ![16384, 2048]⟩
abbrev S2048x16384 : Shape := ⟨2, ![2048, 16384]⟩
abbrev S16384x4096 : Shape := ⟨2, ![16384, 4096]⟩
abbrev S16x1024x8x2 : Shape := ⟨4, ![16, 1024, 8, 2]⟩
abbrev S16x8 : Shape := ⟨2, ![16, 8]⟩
abbrev S8x16 : Shape := ⟨2, ![8, 16]⟩
abbrev S72x1 : Shape := ⟨2, ![72, 1]⟩
abbrev S8x72 : Shape := ⟨2, ![8, 72]⟩
abbrev S576 : Shape := ⟨1, ![576]⟩
abbrev S1024x512 : Shape := ⟨2, ![1024, 512]⟩
abbrev S1 : Shape := ⟨1, ![1]⟩
abbrev S2048x512 : Shape := ⟨2, ![2048, 512]⟩
abbrev S256x2048 : Shape := ⟨2, ![256, 2048]⟩
abbrev S1024x256 : Shape := ⟨2, ![1024, 256]⟩
abbrev S2x8x1024 : Shape := ⟨3, ![2, 8, 1024]⟩
abbrev S2x128x1024 : Shape := ⟨3, ![2, 128, 1024]⟩
abbrev S1024x1024 : Shape := ⟨2, ![1024, 1024]⟩
abbrev S128x8x1024 : Shape := ⟨3, ![128, 8, 1024]⟩
abbrev S128x1024 : Shape := ⟨2, ![128, 1024]⟩
abbrev S1x8x1024 : Shape := ⟨3, ![1, 8, 1024]⟩
abbrev S8x1024 : Shape := ⟨2, ![8, 1024]⟩
abbrev S1x128x1024 : Shape := ⟨3, ![1, 128, 1024]⟩
abbrev S1024 : Shape := ⟨1, ![1024]⟩
abbrev S1x1024 : Shape := ⟨2, ![1, 1024]⟩
abbrev S1024x128 : Shape := ⟨2, ![1024, 128]⟩
abbrev S16x8x1024 : Shape := ⟨3, ![16, 8, 1024]⟩

abbrev nBuf : Space → Nat
  | .hbm => 56
  | .vmem => 11
  | .smem => 3
  | _ => 0

abbrev bufTy : (tb : Table) → Fin (tcTables nBuf tb) → BufTy
  | .hbm, ⟨0, _⟩ => ⟨S1x16384x16x128, .f32⟩
  | .hbm, ⟨1, _⟩ => ⟨S1x16384x16x64, .f32⟩
  | .hbm, ⟨2, _⟩ => ⟨S1x16384x16x128, .f32⟩
  | .hbm, ⟨3, _⟩ => ⟨S1x16384x64, .f32⟩
  | .hbm, ⟨4, _⟩ => ⟨S1x16384x16x128, .f32⟩
  | .hbm, ⟨5, _⟩ => ⟨S16384x16, .f32⟩
  | .hbm, ⟨6, _⟩ => ⟨S16384x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x16x63, .f32⟩
  | .hbm, ⟨13, _⟩ => ⟨S16384x16x128, .f32⟩
  | .hbm, ⟨14, _⟩ => ⟨S16384x16x128, .f32⟩
  | .hbm, ⟨15, _⟩ => ⟨S16384x16x128, .f32⟩
  | .hbm, ⟨16, _⟩ => ⟨S16384x16x64, .f32⟩
  | .hbm, ⟨17, _⟩ => ⟨S16384x16x64, .f32⟩
  | .hbm, ⟨18, _⟩ => ⟨S16384x16x64, .f32⟩
  | .hbm, ⟨19, _⟩ => ⟨S16384x16x1, .f32⟩
  | .hbm, ⟨20, _⟩ => ⟨S16384x16x1, .f32⟩
  | .hbm, ⟨21, _⟩ => ⟨S16384x16x256, .f32⟩
  | .hbm, ⟨22, _⟩ => ⟨S16384x16x128, .f32⟩
  | .hbm, ⟨23, _⟩ => ⟨S16384x64, .f32⟩
  | .hbm, ⟨24, _⟩ => ⟨S16384x1x64, .f32⟩
  | .hbm, ⟨25, _⟩ => ⟨S16384x16x64, .f32⟩
  | .hbm, ⟨26, _⟩ => ⟨S_, .f32⟩
  | .hbm, ⟨27, _⟩ => ⟨S16384x16x1, .f32⟩
  | .hbm, ⟨28, _⟩ => ⟨S16384x16x256, .f32⟩
  | .hbm, ⟨29, _⟩ => ⟨S16384x16x128, .f32⟩
  | .hbm, ⟨30, _⟩ => ⟨S16384x2048, .f32⟩
  | .hbm, ⟨31, _⟩ => ⟨S2048x16384, .f32⟩
  | .hbm, ⟨32, _⟩ => ⟨S16384x4096, .f32⟩
  | .hbm, ⟨33, _⟩ => ⟨S16384x4096, .bf16⟩
  | .hbm, ⟨34, _⟩ => ⟨S16384x4096, .f32⟩
  | .hbm, ⟨35, _⟩ => ⟨S16384x4096, .bf16⟩
  | .hbm, ⟨36, _⟩ => ⟨S2048x16384, .bf16⟩
  | .hbm, ⟨37, _⟩ => ⟨S16384x16, .f32⟩
  | .hbm, ⟨38, _⟩ => ⟨S16x1024x8x2, .f32⟩
  | .hbm, ⟨39, _⟩ => ⟨S_, .f32⟩
  | .hbm, ⟨40, _⟩ => ⟨S16x8, .f32⟩
  | .hbm, ⟨41, _⟩ => ⟨S_, .f32⟩
  | .hbm, ⟨42, _⟩ => ⟨S16x8, .f32⟩
  | .hbm, ⟨43, _⟩ => ⟨S16x8, .i1⟩
  | .hbm, ⟨44, _⟩ => ⟨S16x8, .i32⟩
  | .hbm, ⟨45, _⟩ => ⟨S8x16, .i32⟩
  | .hbm, ⟨46, _⟩ => ⟨S_, .i32⟩
  | .hbm, ⟨47, _⟩ => ⟨S72, .i32⟩
  | .hbm, ⟨48, _⟩ => ⟨S72, .i1⟩
  | .hbm, ⟨49, _⟩ => ⟨S_, .i32⟩
  | .hbm, ⟨50, _⟩ => ⟨S72, .i32⟩
  | .hbm, ⟨51, _⟩ => ⟨S72, .i32⟩
  | .hbm, ⟨52, _⟩ => ⟨S72, .i32⟩
  | .hbm, ⟨53, _⟩ => ⟨S72x1, .i32⟩
  | .hbm, ⟨54, _⟩ => ⟨S8x72, .i32⟩
  | .hbm, ⟨55, _⟩ => ⟨S16384x2048, .bf16⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S256x2048, .bf16⟩
  | .local _ .vmem, ⟨5, _⟩ => ⟨S256x2048, .bf16⟩
  | .local _ .vmem, ⟨6, _⟩ => ⟨S1024x256, .bf16⟩
  | .local _ .vmem, ⟨7, _⟩ => ⟨S1024x256, .bf16⟩
  | .local _ .vmem, ⟨8, _⟩ => ⟨S2x8x1024, .f32⟩
  | .local _ .vmem, ⟨9, _⟩ => ⟨S2x8x1024, .f32⟩
  | .local _ .vmem, ⟨10, _⟩ => ⟨S2x128x1024, .f32⟩
  | .local _ .smem, ⟨0, _⟩ => ⟨S72, .i32⟩
  | .local _ .smem, ⟨1, _⟩ => ⟨S72, .i32⟩
  | .local _ .smem, ⟨2, _⟩ => ⟨S576, .i32⟩
  | _, _ => ⟨S1x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v41 : Ref sig .tc := ⟨.hbm, 55, rfl⟩
abbrev main_c : Ref sig .tc := ⟨.smem, 0, rfl⟩
abbrev main_c_0 : Ref sig .tc := ⟨.smem, 1, rfl⟩
abbrev main_v40 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 72], ![false, false]⟩

abbrev pre0 : Pipeline.Prefetch sig := ⟨3, ![main_c.idx, main_c_0.idx, main_v40.idx], fun | 0 => main_c.names | 1 => main_c_0.names | 2 => main_v40.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg0 : BitVec 32 := BitVec.ofNat 32 (i 0).val
  let c72_i32 : BitVec 32 := 72#32
  let v6 : BitVec 32 := Scalar.muli arg0 c72_i32
  let arg1 : BitVec 32 := BitVec.ofNat 32 (i 1).val
  let v7 : BitVec 32 := Scalar.addi v6 arg1
  let v8 : Index := Scalar.indexCast v7
  ![v8.toNat]
def k0_cond3 (v1 : BitVec 32) (v3 : BitVec 32) (v9 : BitVec 32) : BitVec 1 :=
  let c0_i32 : BitVec 32 := 0#32
  let v10 : BitVec 1 := Scalar.cmpi .ne v9 c0_i32
  let c2_i32 : BitVec 32 := 2#32
  let v4 : BitVec 32 := Scalar.muli c2_i32 v3
  let v5 : BitVec 32 := Scalar.subi v1 v4
  let c0_i32_4 : BitVec 32 := 0#32
  let v18 : BitVec 1 := Scalar.cmpi .eq v5 c0_i32_4
  let v19 : BitVec 1 := Scalar.andi v10 v18
  let v20 : BitVec 32 := Scalar.extui v19
  let c0_i32_5 : BitVec 32 := 0#32
  let v21 : BitVec 1 := Scalar.cmpi .ne v20 c0_i32_5
  v21

def k0_cond4 (v1 : BitVec 32) (v3 : BitVec 32) (v9 : BitVec 32) : BitVec 1 :=
  let c0_i32 : BitVec 32 := 0#32
  let v10 : BitVec 1 := Scalar.cmpi .ne v9 c0_i32
  let c2_i32 : BitVec 32 := 2#32
  let v4 : BitVec 32 := Scalar.muli c2_i32 v3
  let v5 : BitVec 32 := Scalar.subi v1 v4
  let c1_i32 : BitVec 32 := 1#32
  let v22 : BitVec 1 := Scalar.cmpi .eq v5 c1_i32
  let v23 : BitVec 1 := Scalar.andi v10 v22
  let v24 : BitVec 32 := Scalar.extui v23
  let c0_i32_6 : BitVec 32 := 0#32
  let v25 : BitVec 1 := Scalar.cmpi .ne v24 c0_i32_6
  v25

def k0_cond6 (v1 : BitVec 32) (v3 : BitVec 32) (v9 : BitVec 32) : BitVec 1 :=
  let c0_i32 : BitVec 32 := 0#32
  let v10 : BitVec 1 := Scalar.cmpi .ne v9 c0_i32
  let v_true : BitVec 1 := 1#1
  let v26 : BitVec 1 := Scalar.xori v10 v_true
  let c2_i32 : BitVec 32 := 2#32
  let v4 : BitVec 32 := Scalar.muli c2_i32 v3
  let v5 : BitVec 32 := Scalar.subi v1 v4
  let c0_i32_9 : BitVec 32 := 0#32
  let v31 : BitVec 1 := Scalar.cmpi .eq v5 c0_i32_9
  let v32 : BitVec 1 := Scalar.andi v26 v31
  let v33 : BitVec 32 := Scalar.extui v32
  let c0_i32_10 : BitVec 32 := 0#32
  let v34 : BitVec 1 := Scalar.cmpi .ne v33 c0_i32_10
  v34

def k0_cond7 (v1 : BitVec 32) (v3 : BitVec 32) (v9 : BitVec 32) : BitVec 1 :=
  let c0_i32 : BitVec 32 := 0#32
  let v10 : BitVec 1 := Scalar.cmpi .ne v9 c0_i32
  let v_true : BitVec 1 := 1#1
  let v26 : BitVec 1 := Scalar.xori v10 v_true
  let c2_i32 : BitVec 32 := 2#32
  let v4 : BitVec 32 := Scalar.muli c2_i32 v3
  let v5 : BitVec 32 := Scalar.subi v1 v4
  let c1_i32_11 : BitVec 32 := 1#32
  let v35 : BitVec 1 := Scalar.cmpi .eq v5 c1_i32_11
  let v36 : BitVec 1 := Scalar.andi v26 v35
  let v37 : BitVec 32 := Scalar.extui v36
  let c0_i32_12 : BitVec 32 := 0#32
  let v38 : BitVec 1 := Scalar.cmpi .ne v37 c0_i32_12
  v38

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![arg0.toNat, v1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x16384x16x128 : Shape := ⟨4, ![1, 16384, 16, 128]⟩
abbrev S1x16384x16x64 : Shape := ⟨4, ![1, 16384, 16, 64]⟩
abbrev S1x16384x64 : Shape := ⟨3, ![1, 16384, 64]⟩
abbrev S16384x16 : Shape := ⟨2, ![16384, 16]⟩
abbrev S16384x128 : Shape := ⟨2, ![16384, 128]⟩
abbrev S1x16x16384x16384 : Shape := ⟨4, ![1, 16, 16384, 16384]⟩
abbrev S1x16384x16384x16 : Shape := ⟨4, ![1, 16384, 16384, 16]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S1x16x16384 : Shape := ⟨3, ![1, 16, 16384]⟩
abbrev S1x16x16384x1 : Shape := ⟨4, ![1, 16, 16384, 1]⟩
abbrev S1x16x128x16384 : Shape := ⟨4, ![1, 16, 128, 16384]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S1x16384x16x128, .f32⟩
  | .hbm, ⟨1, _⟩ => ⟨S1x16384x16x64, .f32⟩
  | .hbm, ⟨2, _⟩ => ⟨S1x16384x16x128, .f32⟩
  | .hbm, ⟨3, _⟩ => ⟨S1x16384x64, .f32⟩
  | .hbm, ⟨4, _⟩ => ⟨S1x16384x16x128, .f32⟩
  | .hbm, ⟨5, _⟩ => ⟨S16384x16, .f32⟩
  | .hbm, ⟨6, _⟩ => ⟨S16384x128, .f32⟩
  | .hbm, ⟨7, _⟩ => ⟨S1x16x16384x16384, .f32⟩
  | .hbm, ⟨8, _⟩ => ⟨S1x16384x16384x16, .f32⟩
  | .hbm, ⟨9, _⟩ => ⟨S1x16x16384x16384, .f32⟩
  | .hbm, ⟨10, _⟩ => ⟨S1x16x16384x16384, .f32⟩
  | .hbm, ⟨11, _⟩ => ⟨S_, .f32⟩
  | .hbm, ⟨12, _⟩ => ⟨S1x16x16384x16384, .f32⟩
  | .hbm, ⟨13, _⟩ => ⟨S1x16x16384x16384, .f32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S1x1x16384x16384, .i1⟩
  | .hbm, ⟨21, _⟩ => ⟨S_, .f32⟩
  | .hbm, ⟨22, _⟩ => ⟨S_, .f32⟩
  | .hbm, ⟨23, _⟩ => ⟨S1x16x16384x16384, .i1⟩
  | .hbm, ⟨24, _⟩ => ⟨S1x16x16384x16384, .f32⟩
  | .hbm, ⟨25, _⟩ => ⟨S1x16x16384x16384, .f32⟩
  | .hbm, ⟨26, _⟩ => ⟨S_, .f32⟩
  | .hbm, ⟨27, _⟩ => ⟨S1x16x16384, .f32⟩
  | .hbm, ⟨28, _⟩ => ⟨S_, .f32⟩
  | .hbm, ⟨29, _⟩ => ⟨S1x16x16384, .f32⟩
  | .hbm, ⟨30, _⟩ => ⟨S1x16x16384, .f32⟩
  | .hbm, ⟨31, _⟩ => ⟨S1x16x16384x1, .f32⟩
  | .hbm, ⟨32, _⟩ => ⟨S1x16x16384x16384, .f32⟩
  | .hbm, ⟨33, _⟩ => ⟨S1x16x16384x16384, .f32⟩
  | .hbm, ⟨34, _⟩ => ⟨S1x16x16384x16384, .f32⟩
  | .hbm, ⟨35, _⟩ => ⟨S_, .f32⟩
  | .hbm, ⟨36, _⟩ => ⟨S1x16x16384, .f32⟩
  | .hbm, ⟨37, _⟩ => ⟨S1x16x16384x1, .f32⟩
  | .hbm, ⟨38, _⟩ => ⟨S1x16x16384x16384, .f32⟩
  | .hbm, ⟨39, _⟩ => ⟨S1x16x16384x16384, .f32⟩
  | .hbm, ⟨40, _⟩ => ⟨S1x16x128x16384, .f32⟩
  | .hbm, ⟨41, _⟩ => ⟨S1x16384x16x128, .f32⟩
  | .hbm, ⟨42, _⟩ => ⟨S16384x2048, .f32⟩
  | .hbm, ⟨43, _⟩ => ⟨S16384x2048, .bf16⟩
  | _, _ => ⟨S1x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel2.lean ====
abbrev S1x16384x2048 : Shape := ⟨3, ![1, 16384, 2048]⟩
abbrev S2048x5632 : Shape := ⟨2, ![2048, 5632]⟩
abbrev S5632x2048 : Shape := ⟨2, ![5632, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S1x16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S1x16384x2048 : Shape := ⟨3, ![1, 16384, 2048]⟩
abbrev S2048x5632 : Shape := ⟨2, ![2048, 5632]⟩
abbrev S5632x2048 : Shape := ⟨2, ![5632, 2048]⟩
abbrev S2048 : Shape := ⟨1, ![2048]⟩
abbrev S1x16384x5632 : Shape := ⟨3, ![1, 16384, 5632]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S1x16384x5632, .f32⟩
  | .hbm, ⟨7, _⟩ => ⟨S1x16384x5632, .f32⟩
  | .hbm, ⟨8, _⟩ => ⟨S1x16384x5632, .f32⟩
  | .hbm, ⟨9, _⟩ => ⟨S_, .f32⟩
  | .hbm, ⟨10, _⟩ => ⟨S1x16384x5632, .f32⟩
  | .hbm, ⟨11, _⟩ => ⟨S1x16384x5632, .f32⟩
  | .hbm, ⟨12, _⟩ => ⟨S_, .f32⟩
  | .hbm, ⟨13, _⟩ => ⟨S1x16384x5632, .f32⟩
  | .hbm, ⟨14, _⟩ => ⟨S1x16384x5632, .f32⟩
  | .hbm, ⟨15, _⟩ => ⟨S1x16384x5632, .f32⟩
  | .hbm, ⟨16, _⟩ => ⟨S1x16384x5632, .f32⟩
  | .hbm, ⟨17, _⟩ => ⟨S1x16384x5632, .f32⟩
  | .hbm, ⟨18, _⟩ => ⟨S1x16384x2048, .f32⟩
  | .hbm, ⟨19, _⟩ => ⟨S_, .f32⟩
  | .hbm, ⟨20, _⟩ => ⟨S1x16384x2048, .f32⟩
  | .hbm, ⟨21, _⟩ => ⟨S1x16384x2048, .f32⟩
  | .hbm, ⟨22, _⟩ => ⟨S1x16384x2048, .f32⟩
  | .hbm, ⟨23, _⟩ => ⟨S_, .f32⟩
  | .hbm, ⟨24, _⟩ => ⟨S1x16384, .f32⟩
  | .hbm, ⟨25, _⟩ => ⟨S1x16384x1, .f32⟩
  | .hbm, ⟨26, _⟩ => ⟨S_, .f32⟩
  | .hbm, ⟨27, _⟩ => ⟨S1x16384x1, .f32⟩
  | .hbm, ⟨28, _⟩ => ⟨S1x16384x1, .f32⟩
  | .hbm, ⟨29, _⟩ => ⟨S1x16384x2048, .f32⟩
  | .hbm, ⟨30, _⟩ => ⟨S1x16384x2048, .f32⟩
  | .hbm, ⟨31, _⟩ => ⟨S1x16384x2048, .f32⟩
  | .hbm, ⟨32, _⟩ => ⟨S_, .f32⟩
  | .hbm, ⟨33, _⟩ => ⟨S1x16384, .f32⟩
  | .hbm, ⟨34, _⟩ => ⟨S1x16384x1, .f32⟩
  | .hbm, ⟨35, _⟩ => ⟨S_, .f32⟩
  | .hbm, ⟨36, _⟩ => ⟨S1x16384x1, .f32⟩
  | .hbm, ⟨37, _⟩ => ⟨S1x16384x1, .f32⟩
  | .hbm, ⟨38, _⟩ => ⟨S1x16384x2048, .f32⟩
  | .hbm, ⟨39, _⟩ => ⟨S1x16384x2048, .f32⟩
  | .hbm, ⟨40, _⟩ => ⟨S_, .f32⟩
  | .hbm, ⟨41, _⟩ => ⟨S1x16384x1, .f32⟩
  | .hbm, ⟨42, _⟩ => ⟨S1x16384x1, .f32⟩
  | .hbm, ⟨43, _⟩ => ⟨S1x16384x1, .f32⟩
  | .hbm, ⟨44, _⟩ => ⟨S1x16384x2048, .f32⟩
  | .hbm, ⟨45, _⟩ => ⟨S1x16384x2048, .f32⟩
  | .hbm, ⟨46, _⟩ => ⟨S1x1x2048, .f32⟩
  | .hbm, ⟨47, _⟩ => ⟨S1x16384x2048, .f32⟩
  | .hbm, ⟨48, _⟩ => ⟨S1x16384x2048, .f32⟩
  | .hbm, ⟨49, _⟩ => ⟨S1x1x2048, .f32⟩
  | .hbm, ⟨50, _⟩ => ⟨S1x16384x2048, .f32⟩
  | .hbm, ⟨51, _⟩ => ⟨S1x16384x2048, .f32⟩
  | .hbm, ⟨52, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S1x16384x2048 : Shape := ⟨3, ![1, 16384, 2048]⟩
abbrev S1x16384x1024 : Shape := ⟨3, ![1, 16384, 1024]⟩
abbrev S2048x6208 : Shape := ⟨2, ![2048, 6208]⟩
abbrev S1024x4096 : Shape := ⟨2, ![1024, 4096]⟩
abbrev S2048x2048 : Shape := ⟨2, ![2048, 2048]⟩
abbrev S2048 : Shape := ⟨1, ![2048]⟩
abbrev S2048x4096 : Shape := ⟨2, ![2048, 4096]⟩
abbrev S16384x2048 : Shape := ⟨2, ![16384, 2048]⟩
abbrev S16384x1024 : Shape := ⟨2, ![16384, 1024]⟩
abbrev S1x2048 : Shape := ⟨2, ![1, 2048]⟩
abbrev S512x2048 : Shape := ⟨2, ![512, 2048]⟩
abbrev S512x1024 : Shape := ⟨2, ![512, 1024]⟩
abbrev S512x512 : Shape := ⟨2, ![512, 512]⟩
abbrev S1024x512 : Shape := ⟨2, ![1024, 512]⟩
abbrev S2048x512 : Shape := ⟨2, ![2048, 512]⟩
abbrev S512 : Shape := ⟨1, ![512]⟩
abbrev S512x1 : Shape := ⟨2, ![512, 1]⟩

abbrev nBuf : Space → Nat
  | .hbm => 20
  | .vmem => 22
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x2048, .f32⟩
  | .hbm, ⟨3, _⟩ => ⟨S2048x6208, .f32⟩
  | .hbm, ⟨4, _⟩ => ⟨S1024x4096, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x6208, .bf16⟩
  | .hbm, ⟨9, _⟩ => ⟨S2048x4096, .bf16⟩
  | .hbm, ⟨10, _⟩ => ⟨S16384x2048, .f32⟩
  | .hbm, ⟨11, _⟩ => ⟨S16384x1024, .f32⟩
  | .hbm, ⟨12, _⟩ => ⟨S16384x1024, .bf16⟩
  | .hbm, ⟨13, _⟩ => ⟨S16384x2048, .f32⟩
  | .hbm, ⟨14, _⟩ => ⟨S16384x2048, .bf16⟩
  | .hbm, ⟨15, _⟩ => ⟨S1024x4096, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S1x2048, .f32⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_24 : BitVec 32 := 0#32
  let v39 : BitVec 1 := Scalar.cmpi .ne v38 c0_i32_24
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S1x16384x2048 : Shape := ⟨3, ![1, 16384, 2048]⟩
abbrev S1x16384x1024 : Shape := ⟨3, ![1, 16384, 1024]⟩
abbrev S2048x6208 : Shape := ⟨2, ![2048, 6208]⟩
abbrev S1024x4096 : Shape := ⟨2, ![1024, 4096]⟩
abbrev S2048x2048 : Shape := ⟨2, ![2048, 2048]⟩
abbrev S2048 : Shape := ⟨1, ![2048]⟩
abbrev S1x16384x6208 : Shape := ⟨3, ![1, 16384, 6208]⟩
abbrev S1x16384x2112 : Shape := ⟨3, ![1, 16384, 2112]⟩
abbrev S1x16384x4096 : Shape := ⟨3, ![1, 16384, 4096]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 71
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x2048, .f32⟩
  | .hbm, ⟨3, _⟩ => ⟨S2048x6208, .f32⟩
  | .hbm, ⟨4, _⟩ => ⟨S1024x4096, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S1x16384x6208, .f32⟩
  | .hbm, ⟨9, _⟩ => ⟨S1x16384x2112, .f32⟩
  | .hbm, ⟨10, _⟩ => ⟨S1x16384x4096, .f32⟩
  | .hbm, ⟨11, _⟩ => ⟨S1x16384x4096, .f32⟩
  | .hbm, ⟨12, _⟩ => ⟨S1x16384x2048, .f32⟩
  | .hbm, ⟨13, _⟩ => ⟨S1x16384x2048, .f32⟩
  | .hbm, ⟨14, _⟩ => ⟨S1x16384x2048, .f32⟩
  | .hbm, ⟨15, _⟩ => ⟨S1x16384x2048, .f32⟩
  | .hbm, ⟨16, _⟩ => ⟨S_, .f32⟩
  | .hbm, ⟨17, _⟩ => ⟨S1x16384x2048, .f32⟩
  | .hbm, ⟨18, _⟩ => ⟨S1x16384x2048, .f32⟩
  | .hbm, ⟨19, _⟩ => ⟨S_, .f32⟩
  | .hbm, ⟨20, _⟩ => ⟨S1x16384x2048, .f32⟩
  | .hbm, ⟨21, _⟩ => ⟨S1x16384x2048, .f32⟩
  | .hbm, ⟨22, _⟩ => ⟨S1x16384x2048, .f32⟩
  | .hbm, ⟨23, _⟩ => ⟨S1x16384x4096, .f32⟩
  | .hbm, ⟨24, _⟩ => ⟨S1x16384x4096, .f32⟩
  | .hbm, ⟨25, _⟩ => ⟨S_, .f32⟩
  | .hbm, ⟨26, _⟩ => ⟨S1x16384x4096, .f32⟩
  | .hbm, ⟨27, _⟩ => ⟨S1x16384x4096, .f32⟩
  | .hbm, ⟨28, _⟩ => ⟨S_, .f32⟩
  | .hbm, ⟨29, _⟩ => ⟨S1x16384x4096, .f32⟩
  | .hbm, ⟨30, _⟩ => ⟨S1x16384x4096, .f32⟩
  | .hbm, ⟨31, _⟩ => ⟨S1x16384x2048, .f32⟩
  | .hbm, ⟨32, _⟩ => ⟨S1x16384x2048, .f32⟩
  | .hbm, ⟨33, _⟩ => ⟨S1x16384x2048, .f32⟩
  | .hbm, ⟨34, _⟩ => ⟨S1x16384x2048, .f32⟩
  | .hbm, ⟨35, _⟩ => ⟨S1x16384x2048, .f32⟩
  | .hbm, ⟨36, _⟩ => ⟨S1x16384x2048, .f32⟩
  | .hbm, ⟨37, _⟩ => ⟨S_, .f32⟩
  | .hbm, ⟨38, _⟩ => ⟨S1x16384x2048, .f32⟩
  | .hbm, ⟨39, _⟩ => ⟨S1x16384x2048, .f32⟩
  | .hbm, ⟨40, _⟩ => ⟨S1x16384x2048, .f32⟩
  | .hbm, ⟨41, _⟩ => ⟨S_, .f32⟩
  | .hbm, ⟨42, _⟩ => ⟨S1x16384, .f32⟩
  | .hbm, ⟨43, _⟩ => ⟨S1x16384x1, .f32⟩
  | .hbm, ⟨44, _⟩ => ⟨S_, .f32⟩
  | .hbm, ⟨45, _⟩ => ⟨S1x16384x1, .f32⟩
  | .hbm, ⟨46, _⟩ => ⟨S1x16384x1, .f32⟩
  | .hbm, ⟨47, _⟩ => ⟨S1x16384x2048, .f32⟩
  | .hbm, ⟨48, _⟩ => ⟨S1x16384x2048, .f32⟩
  | .hbm, ⟨49, _⟩ => ⟨S1x16384x2048, .f32⟩
  | .hbm, ⟨50, _⟩ => ⟨S_, .f32⟩
  | .hbm, ⟨51, _⟩ => ⟨S1x16384, .f32⟩
  | .hbm, ⟨52, _⟩ => ⟨S1x16384x1, .f32⟩
  | .hbm, ⟨53, _⟩ => ⟨S_, .f32⟩
  | .hbm, ⟨54, _⟩ => ⟨S1x16384x1, .f32⟩
  | .hbm, ⟨55, _⟩ => ⟨S1x16384x1, .f32⟩
  | .hbm, ⟨56, _⟩ => ⟨S1x16384x2048, .f32⟩
  | .hbm, ⟨57, _⟩ => ⟨S1x16384x2048, .f32⟩
  | .hbm, ⟨58, _⟩ => ⟨S_, .f32⟩
  | .hbm, ⟨59, _⟩ => ⟨S1x16384x1, .f32⟩
  | .hbm, ⟨60, _⟩ => ⟨S1x16384x1, .f32⟩
  | .hbm, ⟨61, _⟩ => ⟨S1x16384x1, .f32⟩
  | .hbm, ⟨62, _⟩ => ⟨S1x16384x2048, .f32⟩
  | .hbm, ⟨63, _⟩ => ⟨S1x16384x2048, .f32⟩
  | .hbm, ⟨64, _⟩ => ⟨S1x1x2048, .f32⟩
  | .hbm, ⟨65, _⟩ => ⟨S1x16384x2048, .f32⟩
  | .hbm, ⟨66, _⟩ => ⟨S1x16384x2048, .f32⟩
  | .hbm, ⟨67, _⟩ => ⟨S1x1x2048, .f32⟩
  | .hbm, ⟨68, _⟩ => ⟨S1x16384x2048, .f32⟩
  | .hbm, ⟨69, _⟩ => ⟨S1x16384x2048, .f32⟩
  | .hbm, ⟨70, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel4.lean ====
abbrev S1x16384x2048 : Shape := ⟨3, ![1, 16384, 2048]⟩
abbrev S1x16384 : Shape := ⟨2, ![1, 16384]⟩
abbrev S2048x6208 : Shape := ⟨2, ![2048, 6208]⟩
abbrev S512 : Shape := ⟨1, ![512]⟩
abbrev S2048x2176 : Shape := ⟨2, ![2048, 2176]⟩
abbrev S16384x2048 : Shape := ⟨2, ![16384, 2048]⟩
abbrev S1x512 : Shape := ⟨2, ![1, 512]⟩
abbrev S16384 : Shape := ⟨1, ![16384]⟩
abbrev S16384x1 : Shape := ⟨2, ![16384, 1]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S16384x1024 : Shape := ⟨2, ![16384, 1024]⟩
abbrev S16384x512 : Shape := ⟨2, ![16384, 512]⟩
abbrev S16384x128 : Shape := ⟨2, ![16384, 128]⟩
abbrev S512x2048 : Shape := ⟨2, ![512, 2048]⟩
abbrev S512x1 : Shape := ⟨2, ![512, 1]⟩
abbrev S512x1024 : Shape := ⟨2, ![512, 1024]⟩
abbrev S512x512 : Shape := ⟨2, ![512, 512]⟩
abbrev S512x128 : Shape := ⟨2, ![512, 128]⟩
abbrev S512x2176 : Shape := ⟨2, ![512, 2176]⟩

abbrev nBuf : Space → Nat
  | .hbm => 39
  | .vmem => 22
  | .smem => 0
  | _ => 0

abbrev bufTy : (tb : Table) → Fin (tcTables nBuf tb) → BufTy
  | .hbm, ⟨0, _⟩ => ⟨S1x16384x2048, .f32⟩
  | .hbm, ⟨1, _⟩ => ⟨S1x16384, .i32⟩
  | .hbm, ⟨2, _⟩ => ⟨S2048x6208, .f32⟩
  | .hbm, ⟨3, _⟩ => ⟨S512, .f32⟩
  | .hbm, ⟨4, _⟩ => ⟨S512, .f32⟩
  | .hbm, ⟨5, _⟩ => ⟨S2048x6208, .bf16⟩
  | .hbm, ⟨6, _⟩ => ⟨S2048x2176, .bf16⟩
  | .hbm, ⟨7, _⟩ => ⟨S16384x2048, .f32⟩
  | .hbm, ⟨8, _⟩ => ⟨S1x512, .f32⟩
  | .hbm, ⟨9, _⟩ => ⟨S1x512, .f32⟩
  | .hbm, ⟨10, _⟩ => ⟨S16384, .i32⟩
  | .hbm, ⟨11, _⟩ => ⟨S16384x1, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S64, .f32⟩
  | .hbm, ⟨30, _⟩ => ⟨S128, .f32⟩
  | .hbm, ⟨31, _⟩ => ⟨S1x128, .f32⟩
  | .hbm, ⟨32, _⟩ => ⟨S16384x1024, .f32⟩
  | .hbm, ⟨33, _⟩ => ⟨S16384x512, .bf16⟩
  | .hbm, ⟨34, _⟩ => ⟨S16384x512, .bf16⟩
  | .hbm, ⟨35, _⟩ => ⟨S16384x128, .bf16⟩
  | .hbm, ⟨36, _⟩ => ⟨S16384x128, .f32⟩
  | .hbm, ⟨37, _⟩ => ⟨S16384x128, .f32⟩
  | .hbm, ⟨38, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S2048x2176, .bf16⟩
  | .local _ .vmem, ⟨3, _⟩ => ⟨S1x512, .f32⟩
  | .local _ .vmem, ⟨4, _⟩ => ⟨S1x512, .f32⟩
  | .local _ .vmem, ⟨5, _⟩ => ⟨S512x1, .i32⟩
  | .local _ .vmem, ⟨6, _⟩ => ⟨S512x1, .i32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev main_v21_5 : Ref sig .tc := ⟨.hbm, 37, rfl⟩
abbrev main_v21_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S1x16384x2048 : Shape := ⟨3, ![1, 16384, 2048]⟩
abbrev S1x16384 : Shape := ⟨2, ![1, 16384]⟩
abbrev S2048x6208 : Shape := ⟨2, ![2048, 6208]⟩
abbrev S512 : Shape := ⟨1, ![512]⟩
abbrev S32 : Shape := ⟨1, ![32]⟩
abbrev S_ : Shape := ⟨0, ![]⟩
abbrev S1x16384x1 : Shape := ⟨3, ![1, 16384, 1]⟩
abbrev S1x1x32 : Shape := ⟨3, ![1, 1, 32]⟩
abbrev S1x16384x32 : Shape := ⟨3, ![1, 16384, 32]⟩
abbrev S1x16384x6208 : Shape := ⟨3, ![1, 16384, 6208]⟩
abbrev S1x16384x1024 : Shape := ⟨3, ![1, 16384, 1024]⟩
abbrev S1x16384x512 : Shape := ⟨3, ![1, 16384, 512]⟩
abbrev S1x16384x64 : Shape := ⟨3, ![1, 16384, 64]⟩
abbrev S1x16384x4096 : Shape := ⟨3, ![1, 16384, 4096]⟩
abbrev S16384x64 : Shape := ⟨2, ![16384, 64]⟩
abbrev S16384x1 : Shape := ⟨2, ![16384, 1]⟩
abbrev S16384x63 : Shape := ⟨2, ![16384, 63]⟩
abbrev S16384x128 : Shape := ⟨2, ![16384, 128]⟩
abbrev S16384x1024 : Shape := ⟨2, ![16384, 1024]⟩
abbrev S1x1x512 : Shape := ⟨3, ![1, 1, 512]⟩
abbrev S16384x512 : Shape := ⟨2, ![16384, 512]⟩
abbrev S16384x32 : Shape := ⟨2, ![16384, 32]⟩
abbrev S16384x96 : Shape := ⟨2, ![16384, 96]⟩

abbrev nBuf : Space → Nat
  | .hbm => 104
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384, .i32⟩
  | .hbm, ⟨2, _⟩ => ⟨S2048x6208, .f32⟩
  | .hbm, ⟨3, _⟩ => ⟨S512, .f32⟩
  | .hbm, ⟨4, _⟩ => ⟨S512, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1x16384, .f32⟩
  | .hbm, ⟨22, _⟩ => ⟨S1x16384x1, .f32⟩
  | .hbm, ⟨23, _⟩ => ⟨S1x1x32, .f32⟩
  | .hbm, ⟨24, _⟩ => ⟨S1x16384x32, .f32⟩
  | .hbm, ⟨25, _⟩ => ⟨S1x16384x32, .f32⟩
  | .hbm, ⟨26, _⟩ => ⟨S1x16384x32, .f32⟩
  | .hbm, ⟨27, _⟩ => ⟨S1x16384x32, .f32⟩
  | .hbm, ⟨28, _⟩ => ⟨S1x16384x32, .f32⟩
  | .hbm, ⟨29, _⟩ => ⟨S1x16384x6208, .f32⟩
  | .hbm, ⟨30, _⟩ => ⟨S1x16384x1024, .f32⟩
  | .hbm, ⟨31, _⟩ => ⟨S1x16384x512, .f32⟩
  | .hbm, ⟨32, _⟩ => ⟨S1x16384x512, .f32⟩
  | .hbm, ⟨33, _⟩ => ⟨S1x16384x64, .f32⟩
  | .hbm, ⟨34, _⟩ => ⟨S1x16384x4096, .f32⟩
  | .hbm, ⟨35, _⟩ => ⟨S1x16384x32, .f32⟩
  | .hbm, ⟨36, _⟩ => ⟨S1x16384x32, .f32⟩
  | .hbm, ⟨37, _⟩ => ⟨S1x16384x32, .f32⟩
  | .hbm, ⟨38, _⟩ => ⟨S1x16384x32, .f32⟩
  | .hbm, ⟨39, _⟩ => ⟨S1x16384x32, .f32⟩
  | .hbm, ⟨40, _⟩ => ⟨S1x16384x32, .f32⟩
  | .hbm, ⟨41, _⟩ => ⟨S1x16384x32, .f32⟩
  | .hbm, ⟨42, _⟩ => ⟨S1x16384x32, .f32⟩
  | .hbm, ⟨43, _⟩ => ⟨S1x16384x64, .f32⟩
  | .hbm, ⟨44, _⟩ => ⟨S16384x64, .f32⟩
  | .hbm, ⟨45, _⟩ => ⟨S_, .f32⟩
  | .hbm, ⟨46, _⟩ => ⟨S16384x1, .f32⟩
  | .hbm, ⟨47, _⟩ => ⟨S_, .f32⟩
  | .hbm, ⟨48, _⟩ => ⟨S16384x63, .f32⟩
  | .hbm, ⟨49, _⟩ => ⟨S16384x128, .f32⟩
  | .hbm, ⟨50, _⟩ => ⟨S16384x1024, .f32⟩
  | .hbm, ⟨51, _⟩ => ⟨S1x16384x512, .f32⟩
  | .hbm, ⟨52, _⟩ => ⟨S_, .f32⟩
  | .hbm, ⟨53, _⟩ => ⟨S1x16384, .f32⟩
  | .hbm, ⟨54, _⟩ => ⟨S1x16384x1, .f32⟩
  | .hbm, ⟨55, _⟩ => ⟨S_, .f32⟩
  | .hbm, ⟨56, _⟩ => ⟨S1x16384x1, .f32⟩
  | .hbm, ⟨57, _⟩ => ⟨S1x16384x1, .f32⟩
  | .hbm, ⟨58, _⟩ => ⟨S_, .f32⟩
  | .hbm, ⟨59, _⟩ => ⟨S1x16384x1, .f32⟩
  | .hbm, ⟨60, _⟩ => ⟨S1x16384x1, .f32⟩
  | .hbm, ⟨61, _⟩ => ⟨S1x16384x1, .f32⟩
  | .hbm, ⟨62, _⟩ => ⟨S1x16384x512, .f32⟩
  | .hbm, ⟨63, _⟩ => ⟨S1x16384x512, .f32⟩
  | .hbm, ⟨64, _⟩ => ⟨S1x1x512, .f32⟩
  | .hbm, ⟨65, _⟩ => ⟨S1x16384x512, .f32⟩
  | .hbm, ⟨66, _⟩ => ⟨S1x16384x512, .f32⟩
  | .hbm, ⟨67, _⟩ => ⟨S16384x512, .f32⟩
  | .hbm, ⟨68, _⟩ => ⟨S16384x512, .bf16⟩
  | .hbm, ⟨69, _⟩ => ⟨S1x16384x512, .f32⟩
  | .hbm, ⟨70, _⟩ => ⟨S_, .f32⟩
  | .hbm, ⟨71, _⟩ => ⟨S1x16384, .f32⟩
  | .hbm, ⟨72, _⟩ => ⟨S1x16384x1, .f32⟩
  | .hbm, ⟨73, _⟩ => ⟨S_, .f32⟩
  | .hbm, ⟨74, _⟩ => ⟨S1x16384x1, .f32⟩
  | .hbm, ⟨75, _⟩ => ⟨S1x16384x1, .f32⟩
  | .hbm, ⟨76, _⟩ => ⟨S_, .f32⟩
  | .hbm, ⟨77, _⟩ => ⟨S1x16384x1, .f32⟩
  | .hbm, ⟨78, _⟩ => ⟨S1x16384x1, .f32⟩
  | .hbm, ⟨79, _⟩ => ⟨S1x16384x1, .f32⟩
  | .hbm, ⟨80, _⟩ => ⟨S1x16384x512, .f32⟩
  | .hbm, ⟨81, _⟩ => ⟨S1x16384x512, .f32⟩
  | .hbm, ⟨82, _⟩ => ⟨S1x1x512, .f32⟩
  | .hbm, ⟨83, _⟩ => ⟨S1x16384x512, .f32⟩
  | .hbm, ⟨84, _⟩ => ⟨S1x16384x512, .f32⟩
  | .hbm, ⟨85, _⟩ => ⟨S16384x512, .f32⟩
  | .hbm, ⟨86, _⟩ => ⟨S16384x512, .bf16⟩
  | .hbm, ⟨87, _⟩ => ⟨S16384x128, .bf16⟩
  | .hbm, ⟨88, _⟩ => ⟨S16384x32, .f32⟩
  | .hbm, ⟨89, _⟩ => ⟨S16384x32, .f32⟩
  | .hbm, ⟨90, _⟩ => ⟨S_, .f32⟩
  | .hbm, ⟨91, _⟩ => ⟨S16384x64, .f32⟩
  | .hbm, ⟨92, _⟩ => ⟨S16384x128, .f32⟩
  | .hbm, ⟨93, _⟩ => ⟨S16384x32, .f32⟩
  | .hbm, ⟨94, _⟩ => ⟨S16384x32, .f32⟩
  | .hbm, ⟨95, _⟩ => ⟨S_, .f32⟩
  | .hbm, ⟨96, _⟩ => ⟨S16384x96, .f32⟩
  | .hbm, ⟨97, _⟩ => ⟨S16384x128, .f32⟩
  | .hbm, ⟨98, _⟩ => ⟨S_, .f32⟩
  | .hbm, ⟨99, _⟩ => ⟨S16384x32, .f32⟩
  | .hbm, ⟨100, _⟩ => ⟨S16384x32, .f32⟩
  | .hbm, ⟨101, _⟩ => ⟨S_, .f32⟩
  | .hbm, ⟨102, _⟩ => ⟨S16384x64, .f32⟩
  | .hbm, ⟨103, _⟩ => ⟨S16384x128, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_13 : Ref sig .tc := ⟨.hbm, 95, rfl⟩
abbrev main_v76 : Ref sig .tc := ⟨.hbm, 96, rfl⟩
abbrev main_v77 : Ref sig .tc := ⟨.hbm, 97, rfl⟩
abbrev main_cst_14 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Proof.Attn.Words.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.Frame
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! The memory the body reads and writes, and the decisions it takes on the three table words of a point. -/

abbrev tbQ : Memref sig .tc .smem S72 .i32 := Memref.whole main_c
abbrev tbK : Memref sig .tc .smem S72 .i32 := Memref.whole main_c_0
abbrev tbS : Memref sig .tc .smem S576 .i32 := Memref.whole main_v40
abbrev scM : Memref sig .tc .vmem S2x8x1024 .f32 := Memref.whole cc0_scratch0
abbrev scL : Memref sig .tc .vmem S2x8x1024 .f32 := Memref.whole cc0_scratch1
abbrev scA : Memref sig .tc .vmem S2x128x1024 .f32 := Memref.whole cc0_scratch2

/-- The query block of a point, read off its table. -/
abbrev rdQ (i : grid0.Coords) (T : S72.Idx → Elt F .i32) : BitVec 32 :=
  View.readAt (Elt F) (tbQ).view (Rect.unit (s := S72) (k0_off1 i) S1.size (k0_off1_inb i)).toLoadRect T (Shape.Idx.first (numel1_S1.symm ▸ Nat.one_pos))
/-- Its key block. -/
abbrev rdK (i : grid0.Coords) (T : S72.Idx → Elt F .i32) : BitVec 32 :=
  View.readAt (Elt F) (tbK).view (Rect.unit (s := S72) (k0_off1 i) S1.size (k0_off1_inb i)).toLoadRect T (Shape.Idx.first (numel1_S1.symm ▸ Nat.one_pos))
/-- Its safety word. -/
abbrev rdS (i : grid0.Coords) (T : S576.Idx → Elt F .i32) : BitVec 32 :=
  View.readAt (Elt F) (tbS).view (Rect.unit (s := S576) (k0_off2 i) S1.size (k0_off2_inb i)).toLoadRect T (Shape.Idx.first (numel1_S1.symm ▸ Nat.one_pos))

/-- The first step of a query block; a safe step below the diagonal; a safe step on its first and on its second half;
    the same three of an unsafe step. -/
abbrev C1 (k : BitVec 32) : Prop := Scalar.cmpi .ne (Scalar.extui (Scalar.cmpi .eq k 0#32)) 0#32 = 1#1
abbrev C2 (q k s : BitVec 32) : Prop :=
  Scalar.cmpi .ne (Scalar.extui (Scalar.andi (Scalar.cmpi .ne s 0#32) (Scalar.cmpi .sge (Scalar.subi q (Scalar.muli 2#32 k)) 2#32))) 0#32 = 1#1
abbrev C3 (q k s : BitVec 32) : Prop := k0_cond3 q k s = 1#1
abbrev C4 (q k s : BitVec 32) : Prop := k0_cond4 q k s = 1#1
abbrev C5 (q k s : BitVec 32) : Prop :=
  Scalar.cmpi .ne (Scalar.extui (Scalar.andi (Scalar.xori (Scalar.cmpi .ne s 0#32) 1#1) (Scalar.cmpi .sge (Scalar.subi q (Scalar.muli 2#32 k)) 2#32))) 0#32 = 1#1
abbrev C6 (q k s : BitVec 32) : Prop := k0_cond6 q k s = 1#1
abbrev C7 (q k s : BitVec 32) : Prop := k0_cond7 q k s = 1#1

end Cert.KernelIdeal.Attn

end
-- ==== Proof.Attn.Sched.lean ====
module

public import proofs.«01_k».proof.Proof.Attn.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! The schedule: the two literal tables, the third table `T2` whatever it holds, and what the words of a point decide. -/

/-- The query blocks and the key blocks of the 72 steps. -/
abbrev tabQ : S72.Idx → Elt F .i32 := fun x => lit0 (S72.rowMajor x)
abbrev tabK : S72.Idx → Elt F .i32 := fun x => lit1 (S72.rowMajor x)

set_option backward.proofsInPublic true in
/-- The three tables the pipeline runs at. -/
def pfN (T2 : S576.Idx → Elt F .i32) : pre0.Contents (Elt F) :=
  fun | ⟨0, _⟩ => tabQ (F := F) | ⟨1, _⟩ => tabK (F := F) | ⟨2, _⟩ => T2 | ⟨_ + 3, h⟩ => absurd h (by simp)

theorem off1_eq (i : grid0.Coords) : k0_off1 i = ![(i 1).val] := by
  have h : (i 1).val < 72 := (i 1).isLt
  unfold k0_off1
  simp only [Scalar.indexCast]
  congr 1
  simp
  omega

theorem off2_eq (i : grid0.Coords) : k0_off2 i = ![72 * (i 0).val + (i 1).val] := by
  have h0 : (i 0).val < 8 := (i 0).isLt
  have h : (i 1).val < 72 := (i 1).isLt
  unfold k0_off2
  simp only [Scalar.indexCast, Scalar.muli, Scalar.addi, IntOp.muli, IntOp.addi]
  congr 1
  simp
  omega

theorem rdQ_eq (i : grid0.Coords) : rdQ (F := F) i (tabQ (F := F)) = lit0 (i 1) := by
  show lit0 _ = _
  congr 1
  apply Fin.ext
  rw [Shape.rowMajor_val_one]
  show k0_off1 i 0 + 1 * 0 = _
  rw [off1_eq]; simp

theorem rdK_eq (i : grid0.Coords) : rdK (F := F) i (tabK (F := F)) = lit1 (i 1) := by
  show lit1 _ = _
  congr 1
  apply Fin.ext
  rw [Shape.rowMajor_val_one]
  show k0_off1 i 0 + 1 * 0 = _
  rw [off1_eq]; simp

/-- The place of a point's safety word. -/
def posS (i : grid0.Coords) : S576.Idx :=
  fun | ⟨0, _⟩ => (⟨72 * (i 0).val + (i 1).val, by
          have h0 : (i 0).val < 8 := (i 0).isLt
          have h : (i 1).val < 72 := (i 1).isLt
          omega⟩ : Fin 576)
      | ⟨_ + 1, h⟩ => absurd h (by simp)

theorem rdS_eq (T2 : S576.Idx → Elt F .i32) (i : grid0.Coords) : rdS (F := F) i T2 = T2 (posS i) := by
  show T2 _ = _
  congr 1
  funext a
  fin_cases a
  apply Fin.ext
  show k0_off2 i 0 + 1 * 0 = 72 * (i 0).val + (i 1).val
  rw [off2_eq]; simp

theorem tr0_eq (T2 : S576.Idx → Elt F .i32) (i : grid0.Coords) :
    cc0_transform_0 k0_off1_inb numel1_S1 (pfN T2) i = ![(lit0 (i 1)).toNat, (i 0).val] := by
  have h0 : (i 0).val < 8 := (i 0).isLt
  unfold cc0_transform_0
  simp only
  congr 1
  · rw [← rdQ_eq (F := F) i]; rfl
  · simp; omega

theorem tr1_eq (T2 : S576.Idx → Elt F .i32) (i : grid0.Coords) :
    cc0_transform_1 k0_off1_inb numel1_S1 (pfN T2) i = ![(lit1 (i 1)).toNat, (i 0).val] := by
  have h0 : (i 0).val < 8 := (i 0).isLt
  unfold cc0_transform_1
  simp only
  congr 1
  · rw [← rdK_eq (F := F) i]; rfl
  · simp; omega

theorem tr2_eq (T2 : S576.Idx → Elt F .i32) (i : grid0.Coords) :
    cc0_transform_2 k0_off1_inb numel1_S1 (pfN T2) i = ![(i 0).val, (lit1 (i 1)).toNat] := by
  have h0 : (i 0).val < 8 := (i 0).isLt
  unfold cc0_transform_2
  simp only
  have e : (pfN T2).at 1 (Rect.unit (s := S72) ![(Scalar.indexCast (BitVec.ofNat 32 (i 1).val)).toNat] S1.size (k0_off1_inb i)) numel1_S1 = lit1 (i 1) := by
    rw [← rdK_eq (F := F) i]; rfl
  have e0 : (BitVec.ofNat 32 (i 0).val).toNat = (i 0).val := by simp; omega
  rw [e0]
  exact congrArg (fun z : BitVec 32 => ![(i 0).val, z.toNat]) e

theorem tr3_eq (T2 : S576.Idx → Elt F .i32) (i : grid0.Coords) :
    cc0_transform_3 k0_off1_inb numel1_S1 (pfN T2) i = ![(lit0 (i 1)).toNat, (i 0).val] := by
  have h0 : (i 0).val < 8 := (i 0).isLt
  unfold cc0_transform_3
  simp only
  congr 1
  · rw [← rdQ_eq (F := F) i]; rfl
  · simp; omega

/-- The query block of a step and its key block, as numbers, and what the step is: below the diagonal (at least two),
    with the diagonal in its first half (none) or in its second (one). -/
def qn (j : Fin 72) : ℕ := (lit0 j).toNat
def kn (j : Fin 72) : ℕ := (lit1 j).toNat
def dn (j : Fin 72) : ℕ := qn j - 2 * kn j

theorem qn_lt : ∀ j : Fin 72, qn j < 16 := by decide +kernel
theorem kn_lt : ∀ j : Fin 72, kn j < 8 := by decide +kernel
theorem kq_le : ∀ j : Fin 72, 2 * kn j ≤ qn j := by decide +kernel
theorem C1_iff : ∀ j : Fin 72, C1 (lit1 j) ↔ kn j = 0 := by decide +kernel

theorem inb2 (x y a b m n : ℕ) (hx : (x + 1) * a ≤ m) (hy : (y + 1) * b ≤ n) :
    ∀ k : Fin 2, (![x, y] k + 1) * (![a, b] : Fin 2 → ℕ) k ≤ (![m, n] : Fin 2 → ℕ) k := by
  intro k; fin_cases k
  · exact hx
  · exact hy

/-- The pipeline's side condition: every block inside its array. -/
theorem ok_pfN (T2 : S576.Idx → Elt F .i32) : ok0 (F := F) (pfN T2) := by
  have hq : ∀ i : grid0.Coords, (lit0 (i 1)).toNat < 16 := fun i => qn_lt (i 1)
  have hk : ∀ i : grid0.Coords, (lit1 (i 1)).toNat < 8 := fun i => kn_lt (i 1)
  have h0 : ∀ i : grid0.Coords, (i 0).val < 8 := fun i => (i 0).isLt
  refine ⟨fun i => ⟨?_, .inr (Affine.block_words_dvd (s := S16384x4096) (p := EltTy.packing .bf16) (by decide) (by decide))⟩,
    fun i => ⟨?_, .inr (Affine.block_words_dvd (s := S16384x4096) (p := EltTy.packing .bf16) (by decide) (by decide))⟩,
    fun i => ⟨?_, .inr (Affine.block_words_dvd (s := S2048x16384) (p := EltTy.packing .bf16) (by decide) (by decide))⟩,
    fun i => ⟨?_, .inr (Affine.block_words_dvd (s := S16384x2048) (p := EltTy.packing .bf16) (by decide) (by decide))⟩⟩
  · rw [tr0_eq]; exact inb2 _ _ 1024 512 16384 4096 (by have := hq i; omega) (by have := h0 i; omega)
  · rw [tr1_eq]; exact inb2 _ _ 2048 512 16384 4096 (by have := hk i; omega) (by have := h0 i; omega)
  · rw [tr2_eq]; exact inb2 _ _ 256 2048 2048 16384 (by have := h0 i; omega) (by have := hk i; omega)
  · rw [tr3_eq]; exact inb2 _ _ 1024 256 16384 2048 (by have := hq i; omega) (by have := h0 i; omega)

theorem ne1 {s : BitVec 32} (h : s ≠ 0#32) : Scalar.cmpi .ne s 0#32 = 1#1 := by
  have : (s != 0#32) = true := by simpa using h
  simp only [Scalar.cmpi, IntOp.cmpi, this]; rfl
theorem ne0 : Scalar.cmpi .ne (0#32 : BitVec 32) 0#32 = 0#1 := by decide

theorem conds_S2 {s : BitVec 32} (h : s ≠ 0#32) (j : Fin 72) (hd : 2 ≤ dn j) : C2 (lit0 j) (lit1 j) s ∧ ¬C3 (lit0 j) (lit1 j) s
    ∧ ¬C4 (lit0 j) (lit1 j) s ∧ ¬C5 (lit0 j) (lit1 j) s ∧ ¬C6 (lit0 j) (lit1 j) s ∧ ¬C7 (lit0 j) (lit1 j) s := by
  simp only [C2, C3, C4, C5, C6, C7, k0_cond3, k0_cond4, k0_cond6, k0_cond7, ne1 h]
  revert j; decide +kernel
theorem conds_S0 {s : BitVec 32} (h : s ≠ 0#32) (j : Fin 72) (hd : dn j = 0) : ¬C2 (lit0 j) (lit1 j) s ∧ C3 (lit0 j) (lit1 j) s
    ∧ ¬C4 (lit0 j) (lit1 j) s ∧ ¬C5 (lit0 j) (lit1 j) s ∧ ¬C6 (lit0 j) (lit1 j) s ∧ ¬C7 (lit0 j) (lit1 j) s := by
  simp only [C2, C3, C4, C5, C6, C7, k0_cond3, k0_cond4, k0_cond6, k0_cond7, ne1 h]
  revert j; decide +kernel
theorem conds_S1 {s : BitVec 32} (h : s ≠ 0#32) (j : Fin 72) (hd : dn j = 1) : ¬C2 (lit0 j) (lit1 j) s ∧ ¬C3 (lit0 j) (lit1 j) s
    ∧ C4 (lit0 j) (lit1 j) s ∧ ¬C5 (lit0 j) (lit1 j) s ∧ ¬C6 (lit0 j) (lit1 j) s ∧ ¬C7 (lit0 j) (lit1 j) s := by
  simp only [C2, C3, C4, C5, C6, C7, k0_cond3, k0_cond4, k0_cond6, k0_cond7, ne1 h]
  revert j; decide +kernel
theorem conds_N2 (j : Fin 72) (hd : 2 ≤ dn j) : ¬C2 (lit0 j) (lit1 j) 0#32 ∧ ¬C3 (lit0 j) (lit1 j) 0#32
    ∧ ¬C4 (lit0 j) (lit1 j) 0#32 ∧ C5 (lit0 j) (lit1 j) 0#32 ∧ ¬C6 (lit0 j) (lit1 j) 0#32 ∧ ¬C7 (lit0 j) (lit1 j) 0#32 := by
  revert j; decide +kernel
theorem conds_N0 (j : Fin 72) (hd : dn j = 0) : ¬C2 (lit0 j) (lit1 j) 0#32 ∧ ¬C3 (lit0 j) (lit1 j) 0#32
    ∧ ¬C4 (lit0 j) (lit1 j) 0#32 ∧ ¬C5 (lit0 j) (lit1 j) 0#32 ∧ C6 (lit0 j) (lit1 j) 0#32 ∧ ¬C7 (lit0 j) (lit1 j) 0#32 := by
  revert j; decide +kernel
theorem conds_N1 (j : Fin 72) (hd : dn j = 1) : ¬C2 (lit0 j) (lit1 j) 0#32 ∧ ¬C3 (lit0 j) (lit1 j) 0#32
    ∧ ¬C4 (lit0 j) (lit1 j) 0#32 ∧ ¬C5 (lit0 j) (lit1 j) 0#32 ∧ ¬C6 (lit0 j) (lit1 j) 0#32 ∧ C7 (lit0 j) (lit1 j) 0#32 := by
  revert j; decide +kernel

/-- The admissible contents of the tables, and the pipeline at them. -/
def adm (T2 : S576.Idx → Elt F .i32) : (pcfg0 (F := F)).Adm := ⟨pfN T2, ok_pfN T2⟩
abbrev cfgA (T2 : S576.Idx → Elt F .i32) : Pipeline.Cfg sig Λ₀ := cfg0 (F := F) (adm T2)

end Cert.KernelIdeal.Attn

end
-- ==== Proof.Attn.RunS2.lean ====
module

public import proofs.«01_k».proof.Proof.Attn.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- A safe step below the diagonal. What the body leaves in the three scratch buffers, with the proof. -/
def runS2 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) :
    Σ' (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)

          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)

              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, fun K => by
    rw [cc0__attention_kernel_eq_skeleton]; unfold cc0__attention_kernel_skel
    iintro ⟨H0, H1, H2, HT0, HT1, HT2, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = ¬(Scalar.cmpi = _); exact h1) | (guard_target = Scalar.cmpi = _; exact h2) | (guard_target = ¬(k0_cond3 _ _ _ = _); exact h3) | (guard_target = ¬(k0_cond4 _ _ _ = _); exact h4) | (guard_target = ¬(Scalar.cmpi = _); exact h5) | (guard_target = ¬(k0_cond6 _ _ _ = _); exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HS0]; · iexact HS0
    isplitl [HS1]; · iexact HS1
    iexact HS2⟩

set_option backward.proofsInPublic true in
set_option maxHeartbeats 16000000 in
/-- A safe step below the diagonal, the first of its query block. What the body leaves in the three scratch buffers, with the proof. -/
def runS2i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) :
    Σ' (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)

          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)

              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, fun K => by
    rw [cc0__attention_kernel_eq_skeleton]; unfold cc0__attention_kernel_skel
    iintro ⟨H0, H1, H2, HT0, HT1, HT2, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = Scalar.cmpi = _; exact h1) | (guard_target = Scalar.cmpi = _; exact h2) | (guard_target = ¬(k0_cond3 _ _ _ = _); exact h3) | (guard_target = ¬(k0_cond4 _ _ _ = _); exact h4) | (guard_target = ¬(Scalar.cmpi = _); exact h5) | (guard_target = ¬(k0_cond6 _ _ _ = _); exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HS0]; · iexact HS0
    isplitl [HS1]; · iexact HS1
    iexact HS2⟩

end Cert.KernelIdeal.Attn

end
-- ==== Proof.Attn.RunS0.lean ====
module

public import proofs.«01_k».proof.Proof.Attn.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- A safe step whose first key block is the diagonal. What the body leaves in the output's staging buffer (its two halves) and in the three scratch buffers, with the proof. -/
def runS0 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) :
    Σ' (out0 : List (View.Piece (Elt F) S1024x256 .bf16)) (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ d, owns (c : Thread nD τ) arg8 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ f, arg8.view.loc (c : Thread nD τ) ↦[arg8.view.set]{fullShare} arg8.view.writes (Elt F) f out0)
              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, _, fun K => by
    unfold owns
    rw [cc0__attention_kernel_eq_skeleton]; unfold cc0__attention_kernel_skel
    iintro ⟨H0, H1, H2, HT0, HT1, HT2, ⟨%d3, %f3, -, HO3⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = ¬(Scalar.cmpi = _); exact h1) | (guard_target = ¬(Scalar.cmpi = _); exact h2) | (guard_target = k0_cond3 _ _ _ = _; exact h3) | (guard_target = ¬(k0_cond4 _ _ _ = _); exact h4) | (guard_target = ¬(Scalar.cmpi = _); exact h5) | (guard_target = ¬(k0_cond6 _ _ _ = _); exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Its two stores tile the output block. -/
theorem coverS0 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) (y : S1024x256.Idx) :
    ∃ pc ∈ (runS0 c i arg5 harg5 arg6 harg6 arg7 harg7 arg8 harg8 T0 T1 T2 x0 x1 x2 xa0 xa1 xa2 h1 h2 h3 h4 h5 h6 h7).1, y ∈ pc.1.set :=
  View.cover_of_tiledL (runS0 c i arg5 harg5 arg6 harg6 arg7 harg7 arg8 harg8 T0 T1 T2 x0 x1 x2 xa0 xa1 xa2 h1 h2 h3 h4 h5 h6 h7).1 S1024x128.size (by sl_kernel_rfl) y

set_option backward.proofsInPublic true in
set_option maxHeartbeats 16000000 in
/-- A safe step whose first key block is the diagonal, the first of its query block. What the body leaves in the output's staging buffer (its two halves) and in the three scratch buffers, with the proof. -/
def runS0i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) :
    Σ' (out0 : List (View.Piece (Elt F) S1024x256 .bf16)) (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ d, owns (c : Thread nD τ) arg8 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ f, arg8.view.loc (c : Thread nD τ) ↦[arg8.view.set]{fullShare} arg8.view.writes (Elt F) f out0)
              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, _, fun K => by
    unfold owns
    rw [cc0__attention_kernel_eq_skeleton]; unfold cc0__attention_kernel_skel
    iintro ⟨H0, H1, H2, HT0, HT1, HT2, ⟨%d3, %f3, -, HO3⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = Scalar.cmpi = _; exact h1) | (guard_target = ¬(Scalar.cmpi = _); exact h2) | (guard_target = k0_cond3 _ _ _ = _; exact h3) | (guard_target = ¬(k0_cond4 _ _ _ = _); exact h4) | (guard_target = ¬(Scalar.cmpi = _); exact h5) | (guard_target = ¬(k0_cond6 _ _ _ = _); exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Its two stores tile the output block. -/
theorem coverS0i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) (y : S1024x256.Idx) :
    ∃ pc ∈ (runS0i c i arg5 harg5 arg6 harg6 arg7 harg7 arg8 harg8 T0 T1 T2 x0 x1 x2 xa0 xa1 xa2 h1 h2 h3 h4 h5 h6 h7).1, y ∈ pc.1.set :=
  View.cover_of_tiledL (runS0i c i arg5 harg5 arg6 harg6 arg7 harg7 arg8 harg8 T0 T1 T2 x0 x1 x2 xa0 xa1 xa2 h1 h2 h3 h4 h5 h6 h7).1 S1024x128.size (by sl_kernel_rfl) y

end Cert.KernelIdeal.Attn

end
-- ==== Proof.Attn.RunS1.lean ====
module

public import proofs.«01_k».proof.Proof.Attn.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- A safe step whose second key block is the diagonal. What the body leaves in the output's staging buffer (its two halves) and in the three scratch buffers, with the proof. -/
def runS1 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) :
    Σ' (out0 : List (View.Piece (Elt F) S1024x256 .bf16)) (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ d, owns (c : Thread nD τ) arg8 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ f, arg8.view.loc (c : Thread nD τ) ↦[arg8.view.set]{fullShare} arg8.view.writes (Elt F) f out0)
              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, _, fun K => by
    unfold owns
    rw [cc0__attention_kernel_eq_skeleton]; unfold cc0__attention_kernel_skel
    iintro ⟨H0, H1, H2, HT0, HT1, HT2, ⟨%d3, %f3, -, HO3⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = ¬(Scalar.cmpi = _); exact h1) | (guard_target = ¬(Scalar.cmpi = _); exact h2) | (guard_target = ¬(k0_cond3 _ _ _ = _); exact h3) | (guard_target = k0_cond4 _ _ _ = _; exact h4) | (guard_target = ¬(Scalar.cmpi = _); exact h5) | (guard_target = ¬(k0_cond6 _ _ _ = _); exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Its two stores tile the output block. -/
theorem coverS1 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) (y : S1024x256.Idx) :
    ∃ pc ∈ (runS1 c i arg5 harg5 arg6 harg6 arg7 harg7 arg8 harg8 T0 T1 T2 x0 x1 x2 xa0 xa1 xa2 h1 h2 h3 h4 h5 h6 h7).1, y ∈ pc.1.set :=
  View.cover_of_tiledL (runS1 c i arg5 harg5 arg6 harg6 arg7 harg7 arg8 harg8 T0 T1 T2 x0 x1 x2 xa0 xa1 xa2 h1 h2 h3 h4 h5 h6 h7).1 S1024x128.size (by sl_kernel_rfl) y

set_option backward.proofsInPublic true in
set_option maxHeartbeats 16000000 in
/-- A safe step whose second key block is the diagonal, the first of its query block. What the body leaves in the output's staging buffer (its two halves) and in the three scratch buffers, with the proof. -/
def runS1i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) :
    Σ' (out0 : List (View.Piece (Elt F) S1024x256 .bf16)) (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ d, owns (c : Thread nD τ) arg8 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ f, arg8.view.loc (c : Thread nD τ) ↦[arg8.view.set]{fullShare} arg8.view.writes (Elt F) f out0)
              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, _, fun K => by
    unfold owns
    rw [cc0__attention_kernel_eq_skeleton]; unfold cc0__attention_kernel_skel
    iintro ⟨H0, H1, H2, HT0, HT1, HT2, ⟨%d3, %f3, -, HO3⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = Scalar.cmpi = _; exact h1) | (guard_target = ¬(Scalar.cmpi = _); exact h2) | (guard_target = ¬(k0_cond3 _ _ _ = _); exact h3) | (guard_target = k0_cond4 _ _ _ = _; exact h4) | (guard_target = ¬(Scalar.cmpi = _); exact h5) | (guard_target = ¬(k0_cond6 _ _ _ = _); exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Its two stores tile the output block. -/
theorem coverS1i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) (y : S1024x256.Idx) :
    ∃ pc ∈ (runS1i c i arg5 harg5 arg6 harg6 arg7 harg7 arg8 harg8 T0 T1 T2 x0 x1 x2 xa0 xa1 xa2 h1 h2 h3 h4 h5 h6 h7).1, y ∈ pc.1.set :=
  View.cover_of_tiledL (runS1i c i arg5 harg5 arg6 harg6 arg7 harg7 arg8 harg8 T0 T1 T2 x0 x1 x2 xa0 xa1 xa2 h1 h2 h3 h4 h5 h6 h7).1 S1024x128.size (by sl_kernel_rfl) y

end Cert.KernelIdeal.Attn

end
-- ==== Proof.Attn.RunN2.lean ====
module

public import proofs.«01_k».proof.Proof.Attn.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- An unsafe step below the diagonal. What the body leaves in the three scratch buffers, with the proof. -/
def runN2 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) :
    Σ' (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)

          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)

              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, fun K => by
    rw [cc0__attention_kernel_eq_skeleton]; unfold cc0__attention_kernel_skel
    iintro ⟨H0, H1, H2, HT0, HT1, HT2, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = ¬(Scalar.cmpi = _); exact h1) | (guard_target = ¬(Scalar.cmpi = _); exact h2) | (guard_target = ¬(k0_cond3 _ _ _ = _); exact h3) | (guard_target = ¬(k0_cond4 _ _ _ = _); exact h4) | (guard_target = Scalar.cmpi = _; exact h5) | (guard_target = ¬(k0_cond6 _ _ _ = _); exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HS0]; · iexact HS0
    isplitl [HS1]; · iexact HS1
    iexact HS2⟩

set_option backward.proofsInPublic true in
set_option maxHeartbeats 16000000 in
/-- An unsafe step below the diagonal, the first of its query block. What the body leaves in the three scratch buffers, with the proof. -/
def runN2i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : C5 (rdQ (F := F) i T0) (rdK (F := F) i T1) (rdS (F := F) i T2))
    (h6 : ¬C6 (rdQ (F := F) i T0) (rdK (F := F) i T1) (rdS (F := F) i T2))
    (h7 : ¬C7 (rdQ (F := F) i T0) (rdK (F := F) i T1) (rdS (F := F) i T2)) :
    Σ' (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)

          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)

              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, fun K => by
    rw [cc0__attention_kernel_eq_skeleton]; unfold cc0__attention_kernel_skel
    iintro ⟨H0, H1, H2, HT0, HT1, HT2, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = Scalar.cmpi = _; exact h1) | (guard_target = ¬(Scalar.cmpi = _); exact h2) | (guard_target = ¬(k0_cond3 _ _ _ = _); exact h3) | (guard_target = ¬(k0_cond4 _ _ _ = _); exact h4) | (guard_target = Scalar.cmpi = _; exact h5) | (guard_target = ¬(k0_cond6 _ _ _ = _); exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HS0]; · iexact HS0
    isplitl [HS1]; · iexact HS1
    iexact HS2⟩

end Cert.KernelIdeal.Attn

end
-- ==== Proof.Attn.RunN0.lean ====
module

public import proofs.«01_k».proof.Proof.Attn.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- An unsafe step whose first key block is the diagonal. What the body leaves in the output's staging buffer (its two halves) and in the three scratch buffers, with the proof. -/
def runN0 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : C6 (rdQ (F := F) i T0) (rdK (F := F) i T1) (rdS (F := F) i T2))
    (h7 : ¬C7 (rdQ (F := F) i T0) (rdK (F := F) i T1) (rdS (F := F) i T2)) :
    Σ' (out0 : List (View.Piece (Elt F) S1024x256 .bf16)) (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ d, owns (c : Thread nD τ) arg8 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ f, arg8.view.loc (c : Thread nD τ) ↦[arg8.view.set]{fullShare} arg8.view.writes (Elt F) f out0)
              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, _, fun K => by
    unfold owns
    rw [cc0__attention_kernel_eq_skeleton]; unfold cc0__attention_kernel_skel
    iintro ⟨H0, H1, H2, HT0, HT1, HT2, ⟨%d3, %f3, -, HO3⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = ¬(Scalar.cmpi = _); exact h1) | (guard_target = ¬(Scalar.cmpi = _); exact h2) | (guard_target = ¬(k0_cond3 _ _ _ = _); exact h3) | (guard_target = ¬(k0_cond4 _ _ _ = _); exact h4) | (guard_target = ¬(Scalar.cmpi = _); exact h5) | (guard_target = k0_cond6 _ _ _ = _; exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Its two stores tile the output block. -/
theorem coverN0 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : C6 (rdQ (F := F) i T0) (rdK (F := F) i T1) (rdS (F := F) i T2))
    (h7 : ¬C7 (rdQ (F := F) i T0) (rdK (F := F) i T1) (rdS (F := F) i T2)) (y : S1024x256.Idx) :
    ∃ pc ∈ (runN0 c i arg5 harg5 arg6 harg6 arg7 harg7 arg8 harg8 T0 T1 T2 x0 x1 x2 xa0 xa1 xa2 h1 h2 h3 h4 h5 h6 h7).1, y ∈ pc.1.set :=
  View.cover_of_tiledL (runN0 c i arg5 harg5 arg6 harg6 arg7 harg7 arg8 harg8 T0 T1 T2 x0 x1 x2 xa0 xa1 xa2 h1 h2 h3 h4 h5 h6 h7).1 S1024x128.size (by sl_kernel_rfl) y

set_option backward.proofsInPublic true in
set_option maxHeartbeats 16000000 in
/-- An unsafe step whose first key block is the diagonal, the first of its query block. What the body leaves in the output's staging buffer (its two halves) and in the three scratch buffers, with the proof. -/
def runN0i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : C6 (rdQ (F := F) i T0) (rdK (F := F) i T1) (rdS (F := F) i T2))
    (h7 : ¬C7 (rdQ (F := F) i T0) (rdK (F := F) i T1) (rdS (F := F) i T2)) :
    Σ' (out0 : List (View.Piece (Elt F) S1024x256 .bf16)) (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ d, owns (c : Thread nD τ) arg8 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ f, arg8.view.loc (c : Thread nD τ) ↦[arg8.view.set]{fullShare} arg8.view.writes (Elt F) f out0)
              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, _, fun K => by
    unfold owns
    rw [cc0__attention_kernel_eq_skeleton]; unfold cc0__attention_kernel_skel
    iintro ⟨H0, H1, H2, HT0, HT1, HT2, ⟨%d3, %f3, -, HO3⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = Scalar.cmpi = _; exact h1) | (guard_target = ¬(Scalar.cmpi = _); exact h2) | (guard_target = ¬(k0_cond3 _ _ _ = _); exact h3) | (guard_target = ¬(k0_cond4 _ _ _ = _); exact h4) | (guard_target = ¬(Scalar.cmpi = _); exact h5) | (guard_target = k0_cond6 _ _ _ = _; exact h6) | (guard_target = ¬(k0_cond7 _ _ _ = _); exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Its two stores tile the output block. -/
theorem coverN0i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : C6 (rdQ (F := F) i T0) (rdK (F := F) i T1) (rdS (F := F) i T2))
    (h7 : ¬C7 (rdQ (F := F) i T0) (rdK (F := F) i T1) (rdS (F := F) i T2)) (y : S1024x256.Idx) :
    ∃ pc ∈ (runN0i c i arg5 harg5 arg6 harg6 arg7 harg7 arg8 harg8 T0 T1 T2 x0 x1 x2 xa0 xa1 xa2 h1 h2 h3 h4 h5 h6 h7).1, y ∈ pc.1.set :=
  View.cover_of_tiledL (runN0i c i arg5 harg5 arg6 harg6 arg7 harg7 arg8 harg8 T0 T1 T2 x0 x1 x2 xa0 xa1 xa2 h1 h2 h3 h4 h5 h6 h7).1 S1024x128.size (by sl_kernel_rfl) y

end Cert.KernelIdeal.Attn

end
-- ==== Proof.Attn.RunN1.lean ====
module

public import proofs.«01_k».proof.Proof.Attn.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- An unsafe step whose second key block is the diagonal. What the body leaves in the output's staging buffer (its two halves) and in the three scratch buffers, with the proof. -/
def runN1 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : C7 (rdQ (F := F) i T0) (rdK (F := F) i T1) (rdS (F := F) i T2)) :
    Σ' (out0 : List (View.Piece (Elt F) S1024x256 .bf16)) (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ d, owns (c : Thread nD τ) arg8 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ f, arg8.view.loc (c : Thread nD τ) ↦[arg8.view.set]{fullShare} arg8.view.writes (Elt F) f out0)
              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, _, fun K => by
    unfold owns
    rw [cc0__attention_kernel_eq_skeleton]; unfold cc0__attention_kernel_skel
    iintro ⟨H0, H1, H2, HT0, HT1, HT2, ⟨%d3, %f3, -, HO3⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = ¬(Scalar.cmpi = _); exact h1) | (guard_target = ¬(Scalar.cmpi = _); exact h2) | (guard_target = ¬(k0_cond3 _ _ _ = _); exact h3) | (guard_target = ¬(k0_cond4 _ _ _ = _); exact h4) | (guard_target = ¬(Scalar.cmpi = _); exact h5) | (guard_target = ¬(k0_cond6 _ _ _ = _); exact h6) | (guard_target = k0_cond7 _ _ _ = _; exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Its two stores tile the output block. -/
theorem coverN1 (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : ¬C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : C7 (rdQ (F := F) i T0) (rdK (F := F) i T1) (rdS (F := F) i T2)) (y : S1024x256.Idx) :
    ∃ pc ∈ (runN1 c i arg5 harg5 arg6 harg6 arg7 harg7 arg8 harg8 T0 T1 T2 x0 x1 x2 xa0 xa1 xa2 h1 h2 h3 h4 h5 h6 h7).1, y ∈ pc.1.set :=
  View.cover_of_tiledL (runN1 c i arg5 harg5 arg6 harg6 arg7 harg7 arg8 harg8 T0 T1 T2 x0 x1 x2 xa0 xa1 xa2 h1 h2 h3 h4 h5 h6 h7).1 S1024x128.size (by sl_kernel_rfl) y

set_option backward.proofsInPublic true in
set_option maxHeartbeats 16000000 in
/-- An unsafe step whose second key block is the diagonal, the first of its query block. What the body leaves in the output's staging buffer (its two halves) and in the three scratch buffers, with the proof. -/
def runN1i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : C7 (rdQ (F := F) i T0) (rdK (F := F) i T1) (rdS (F := F) i T2)) :
    Σ' (out0 : List (View.Piece (Elt F) S1024x256 .bf16)) (out1 : S2x8x1024.Idx → Elt F .f32) (out2 : S2x8x1024.Idx → Elt F .f32), { out3 : S2x128x1024.Idx → Elt F .f32 //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ d, owns (c : Thread nD τ) arg8 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} T0)
          ∗ (tbK.view.loc (c : Thread nD τ) ↦{fullShare.right} T1)
          ∗ (tbS.view.loc (c : Thread nD τ) ↦{fullShare.right} T2)
          ∗ (∃ f, arg8.view.loc (c : Thread nD τ) ↦[arg8.view.set]{fullShare} arg8.view.writes (Elt F) f out0)
              ∗ (scM.view.loc (c : Thread nD τ) ↦{fullShare} out1)
              ∗ (scL.view.loc (c : Thread nD τ) ↦{fullShare} out2)
              ∗ (scA.view.loc (c : Thread nD τ) ↦{fullShare} out3)) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K } :=
  ⟨_, _, _, _, fun K => by
    unfold owns
    rw [cc0__attention_kernel_eq_skeleton]; unfold cc0__attention_kernel_skel
    iintro ⟨H0, H1, H2, HT0, HT1, HT2, ⟨%d3, %f3, -, HO3⟩, HS0, HS1, HS2, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    have hT2 : tbS.IsWhole := Memref.isWhole_whole _
    sl_exec! (disch := first | (guard_target = Scalar.cmpi = _; exact h1) | (guard_target = ¬(Scalar.cmpi = _); exact h2) | (guard_target = ¬(k0_cond3 _ _ _ = _); exact h3) | (guard_target = ¬(k0_cond4 _ _ _ = _); exact h4) | (guard_target = ¬(Scalar.cmpi = _); exact h5) | (guard_target = ¬(k0_cond6 _ _ _ = _); exact h6) | (guard_target = k0_cond7 _ _ _ = _; exact h7))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Its two stores tile the output block. -/
theorem coverN1i (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T0 T1 : S72.Idx → Elt F .i32) (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (h1 : C1 (rdK (F := F) i T1))
    (h2 : ¬C2 (rdQ (F := F) i T0) (rdK (F := F) i T1) (rdS (F := F) i T2))
    (h3 : ¬C3 (rdQ (F := F) i T0) (rdK (F := F) i T1) (rdS (F := F) i T2))
    (h4 : ¬C4 (rdQ (F := F) i T0) (rdK (F := F) i T1) (rdS (F := F) i T2))
    (h5 : ¬C5 (rdQ (F := F) i T0) (rdK (F := F) i T1) (rdS (F := F) i T2))
    (h6 : ¬C6 (rdQ (F := F) i T0) (rdK (F := F) i T1) (rdS (F := F) i T2))
    (h7 : C7 (rdQ (F := F) i T0) (rdK (F := F) i T1) (rdS (F := F) i T2)) (y : S1024x256.Idx) :
    ∃ pc ∈ (runN1i c i arg5 harg5 arg6 harg6 arg7 harg7 arg8 harg8 T0 T1 T2 x0 x1 x2 xa0 xa1 xa2 h1 h2 h3 h4 h5 h6 h7).1, y ∈ pc.1.set :=
  View.cover_of_tiledL (runN1i c i arg5 harg5 arg6 harg6 arg7 harg7 arg8 harg8 T0 T1 T2 x0 x1 x2 xa0 xa1 xa2 h1 h2 h3 h4 h5 h6 h7).1 S1024x128.size (by sl_kernel_rfl) y

end Cert.KernelIdeal.Attn

end
-- ==== Proof.Attn.Step.lean ====
module

public import proofs.«01_k».proof.Proof.Attn.Sched
public import proofs.«01_k».proof.Proof.Attn.RunS2
public import proofs.«01_k».proof.Proof.Attn.RunS0
public import proofs.«01_k».proof.Proof.Attn.RunS1
public import proofs.«01_k».proof.Proof.Attn.RunN2
public import proofs.«01_k».proof.Proof.Attn.RunN0
public import proofs.«01_k».proof.Proof.Attn.RunN1

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! One step of the schedule, whatever its words: what it leaves, and that the body runs to it. -/

local notation "𝕄" => MT nD τ sig Unit (Elt F) ℕ (UR sig nD τ) ℕ

section
variable (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)

/-- What a step leaves: the pieces of the output block it stores (none where it does not finish the block) and the three
    scratch buffers, by the path its words choose. -/
inductive Step :
    Option (List (View.Piece (Elt F) S1024x256 .bf16)) → (S2x8x1024.Idx → Elt F .f32) → (S2x8x1024.Idx → Elt F .f32) → (S2x128x1024.Idx → Elt F .f32) → Prop
  | pS2 (h1 h2 h3 h4 h5 h6 h7) : Step none (runS2 c i arg5 harg5 arg6 harg6 arg7 harg7 arg8 harg8 tabQ tabK T2 x0 x1 x2 xa0 xa1 xa2 h1 h2 h3 h4 h5 h6 h7).1 (runS2 c i arg5 harg5 arg6 harg6 arg7 harg7 arg8 harg8 tabQ tabK T2 x0 x1 x2 xa0 xa1 xa2 h1 h2 h3 h4 h5 h6 h7).2.1 (runS2 c i arg5 harg5 arg6 harg6 arg7 harg7 arg8 harg8 tabQ tabK T2 x0 x1 x2 xa0 xa1 xa2 h1 h2 h3 h4 h5 h6 h7).2.2.1
  | pS2i (h1 h2 h3 h4 h5 h6 h7) : Step none (runS2i c i arg5 harg5 arg6 harg6 arg7 harg7 arg8 harg8 tabQ tabK T2 x0 x1 x2 xa0 xa1 xa2 h1 h2 h3 h4 h5 h6 h7).1 (runS2i c i arg5 harg5 arg6 harg6 arg7 harg7 arg8 harg8 tabQ tabK T2 x0 x1 x2 xa0 xa1 xa2 h1 h2 h3 h4 h5 h6 h7).2.1 (runS2i c i arg5 harg5 arg6 harg6 arg7 harg7 arg8 harg8 tabQ tabK T2 x0 x1 x2 xa0 xa1 xa2 h1 h2 h3 h4 h5 h6 h7).2.2.1
  | pS0 (h1 h2 h3 h4 h5 h6 h7) : Step (some (runS0 c i arg5 harg5 arg6 harg6 arg7 harg7 arg8 harg8 tabQ tabK T2 x0 x1 x2 xa0 xa1 xa2 h1 h2 h3 h4 h5 h6 h7).1) (runS0 c i arg5 harg5 arg6 harg6 arg7 harg7 arg8 harg8 tabQ tabK T2 x0 x1 x2 xa0 xa1 xa2 h1 h2 h3 h4 h5 h6 h7).2.1 (runS0 c i arg5 harg5 arg6 harg6 arg7 harg7 arg8 harg8 tabQ tabK T2 x0 x1 x2 xa0 xa1 xa2 h1 h2 h3 h4 h5 h6 h7).2.2.1 (runS0 c i arg5 harg5 arg6 harg6 arg7 harg7 arg8 harg8 tabQ tabK T2 x0 x1 x2 xa0 xa1 xa2 h1 h2 h3 h4 h5 h6 h7).2.2.2.1
  | pS0i (h1 h2 h3 h4 h5 h6 h7) : Step (some (runS0i c i arg5 harg5 arg6 harg6 arg7 harg7 arg8 harg8 tabQ tabK T2 x0 x1 x2 xa0 xa1 xa2 h1 h2 h3 h4 h5 h6 h7).1) (runS0i c i arg5 harg5 arg6 harg6 arg7 harg7 arg8 harg8 tabQ tabK T2 x0 x1 x2 xa0 xa1 xa2 h1 h2 h3 h4 h5 h6 h7).2.1 (runS0i c i arg5 harg5 arg6 harg6 arg7 harg7 arg8 harg8 tabQ tabK T2 x0 x1 x2 xa0 xa1 xa2 h1 h2 h3 h4 h5 h6 h7).2.2.1 (runS0i c i arg5 harg5 arg6 harg6 arg7 harg7 arg8 harg8 tabQ tabK T2 x0 x1 x2 xa0 xa1 xa2 h1 h2 h3 h4 h5 h6 h7).2.2.2.1
  | pS1 (h1 h2 h3 h4 h5 h6 h7) : Step (some (runS1 c i arg5 harg5 arg6 harg6 arg7 harg7 arg8 harg8 tabQ tabK T2 x0 x1 x2 xa0 xa1 xa2 h1 h2 h3 h4 h5 h6 h7).1) (runS1 c i arg5 harg5 arg6 harg6 arg7 harg7 arg8 harg8 tabQ tabK T2 x0 x1 x2 xa0 xa1 xa2 h1 h2 h3 h4 h5 h6 h7).2.1 (runS1 c i arg5 harg5 arg6 harg6 arg7 harg7 arg8 harg8 tabQ tabK T2 x0 x1 x2 xa0 xa1 xa2 h1 h2 h3 h4 h5 h6 h7).2.2.1 (runS1 c i arg5 harg5 arg6 harg6 arg7 harg7 arg8 harg8 tabQ tabK T2 x0 x1 x2 xa0 xa1 xa2 h1 h2 h3 h4 h5 h6 h7).2.2.2.1
  | pS1i (h1 h2 h3 h4 h5 h6 h7) : Step (some (runS1i c i arg5 harg5 arg6 harg6 arg7 harg7 arg8 harg8 tabQ tabK T2 x0 x1 x2 xa0 xa1 xa2 h1 h2 h3 h4 h5 h6 h7).1) (runS1i c i arg5 harg5 arg6 harg6 arg7 harg7 arg8 harg8 tabQ tabK T2 x0 x1 x2 xa0 xa1 xa2 h1 h2 h3 h4 h5 h6 h7).2.1 (runS1i c i arg5 harg5 arg6 harg6 arg7 harg7 arg8 harg8 tabQ tabK T2 x0 x1 x2 xa0 xa1 xa2 h1 h2 h3 h4 h5 h6 h7).2.2.1 (runS1i c i arg5 harg5 arg6 harg6 arg7 harg7 arg8 harg8 tabQ tabK T2 x0 x1 x2 xa0 xa1 xa2 h1 h2 h3 h4 h5 h6 h7).2.2.2.1
  | pN2 (h1 h2 h3 h4 h5 h6 h7) : Step none (runN2 c i arg5 harg5 arg6 harg6 arg7 harg7 arg8 harg8 tabQ tabK T2 x0 x1 x2 xa0 xa1 xa2 h1 h2 h3 h4 h5 h6 h7).1 (runN2 c i arg5 harg5 arg6 harg6 arg7 harg7 arg8 harg8 tabQ tabK T2 x0 x1 x2 xa0 xa1 xa2 h1 h2 h3 h4 h5 h6 h7).2.1 (runN2 c i arg5 harg5 arg6 harg6 arg7 harg7 arg8 harg8 tabQ tabK T2 x0 x1 x2 xa0 xa1 xa2 h1 h2 h3 h4 h5 h6 h7).2.2.1
  | pN2i (h1 h2 h3 h4 h5 h6 h7) : Step none (runN2i c i arg5 harg5 arg6 harg6 arg7 harg7 arg8 harg8 tabQ tabK T2 x0 x1 x2 xa0 xa1 xa2 h1 h2 h3 h4 h5 h6 h7).1 (runN2i c i arg5 harg5 arg6 harg6 arg7 harg7 arg8 harg8 tabQ tabK T2 x0 x1 x2 xa0 xa1 xa2 h1 h2 h3 h4 h5 h6 h7).2.1 (runN2i c i arg5 harg5 arg6 harg6 arg7 harg7 arg8 harg8 tabQ tabK T2 x0 x1 x2 xa0 xa1 xa2 h1 h2 h3 h4 h5 h6 h7).2.2.1
  | pN0 (h1 h2 h3 h4 h5 h6 h7) : Step (some (runN0 c i arg5 harg5 arg6 harg6 arg7 harg7 arg8 harg8 tabQ tabK T2 x0 x1 x2 xa0 xa1 xa2 h1 h2 h3 h4 h5 h6 h7).1) (runN0 c i arg5 harg5 arg6 harg6 arg7 harg7 arg8 harg8 tabQ tabK T2 x0 x1 x2 xa0 xa1 xa2 h1 h2 h3 h4 h5 h6 h7).2.1 (runN0 c i arg5 harg5 arg6 harg6 arg7 harg7 arg8 harg8 tabQ tabK T2 x0 x1 x2 xa0 xa1 xa2 h1 h2 h3 h4 h5 h6 h7).2.2.1 (runN0 c i arg5 harg5 arg6 harg6 arg7 harg7 arg8 harg8 tabQ tabK T2 x0 x1 x2 xa0 xa1 xa2 h1 h2 h3 h4 h5 h6 h7).2.2.2.1
  | pN0i (h1 h2 h3 h4 h5 h6 h7) : Step (some (runN0i c i arg5 harg5 arg6 harg6 arg7 harg7 arg8 harg8 tabQ tabK T2 x0 x1 x2 xa0 xa1 xa2 h1 h2 h3 h4 h5 h6 h7).1) (runN0i c i arg5 harg5 arg6 harg6 arg7 harg7 arg8 harg8 tabQ tabK T2 x0 x1 x2 xa0 xa1 xa2 h1 h2 h3 h4 h5 h6 h7).2.1 (runN0i c i arg5 harg5 arg6 harg6 arg7 harg7 arg8 harg8 tabQ tabK T2 x0 x1 x2 xa0 xa1 xa2 h1 h2 h3 h4 h5 h6 h7).2.2.1 (runN0i c i arg5 harg5 arg6 harg6 arg7 harg7 arg8 harg8 tabQ tabK T2 x0 x1 x2 xa0 xa1 xa2 h1 h2 h3 h4 h5 h6 h7).2.2.2.1
  | pN1 (h1 h2 h3 h4 h5 h6 h7) : Step (some (runN1 c i arg5 harg5 arg6 harg6 arg7 harg7 arg8 harg8 tabQ tabK T2 x0 x1 x2 xa0 xa1 xa2 h1 h2 h3 h4 h5 h6 h7).1) (runN1 c i arg5 harg5 arg6 harg6 arg7 harg7 arg8 harg8 tabQ tabK T2 x0 x1 x2 xa0 xa1 xa2 h1 h2 h3 h4 h5 h6 h7).2.1 (runN1 c i arg5 harg5 arg6 harg6 arg7 harg7 arg8 harg8 tabQ tabK T2 x0 x1 x2 xa0 xa1 xa2 h1 h2 h3 h4 h5 h6 h7).2.2.1 (runN1 c i arg5 harg5 arg6 harg6 arg7 harg7 arg8 harg8 tabQ tabK T2 x0 x1 x2 xa0 xa1 xa2 h1 h2 h3 h4 h5 h6 h7).2.2.2.1
  | pN1i (h1 h2 h3 h4 h5 h6 h7) : Step (some (runN1i c i arg5 harg5 arg6 harg6 arg7 harg7 arg8 harg8 tabQ tabK T2 x0 x1 x2 xa0 xa1 xa2 h1 h2 h3 h4 h5 h6 h7).1) (runN1i c i arg5 harg5 arg6 harg6 arg7 harg7 arg8 harg8 tabQ tabK T2 x0 x1 x2 xa0 xa1 xa2 h1 h2 h3 h4 h5 h6 h7).2.1 (runN1i c i arg5 harg5 arg6 harg6 arg7 harg7 arg8 harg8 tabQ tabK T2 x0 x1 x2 xa0 xa1 xa2 h1 h2 h3 h4 h5 h6 h7).2.2.1 (runN1i c i arg5 harg5 arg6 harg6 arg7 harg7 arg8 harg8 tabQ tabK T2 x0 x1 x2 xa0 xa1 xa2 h1 h2 h3 h4 h5 h6 h7).2.2.2.1

end

/-- A run that leaves the output block as it was, around it. -/
theorem keep_out {A0 A1 A2 T0 T1 T2 O O' S0 S1 S2 M L A k W : sProp 𝕄} (hO : O ⊢ O')
    (run : iprop(A0 ∗ A1 ∗ A2 ∗ T0 ∗ T1 ∗ T2 ∗ S0 ∗ S1 ∗ S2 ∗ (iprop(A0 ∗ A1 ∗ A2 ∗ T0 ∗ T1 ∗ T2 ∗ M ∗ L ∗ A) -∗ k)) ⊢ W) :
    iprop(A0 ∗ A1 ∗ A2 ∗ T0 ∗ T1 ∗ T2 ∗ O ∗ S0 ∗ S1 ∗ S2 ∗ (iprop(A0 ∗ A1 ∗ A2 ∗ T0 ∗ T1 ∗ T2 ∗ O' ∗ M ∗ L ∗ A) -∗ k)) ⊢ W := by
  iintro ⟨H0, H1, H2, HT0, HT1, HT2, HO, HS0, HS1, HS2, Hk⟩
  iapply run
  isplitl [H0]; · iexact H0
  isplitl [H1]; · iexact H1
  isplitl [H2]; · iexact H2
  isplitl [HT0]; · iexact HT0
  isplitl [HT1]; · iexact HT1
  isplitl [HT2]; · iexact HT2
  isplitl [HS0]; · iexact HS0
  isplitl [HS1]; · iexact HS1
  isplitl [HS2]; · iexact HS2
  iintro ⟨H0, H1, H2, HT0, HT1, HT2, HS0, HS1, HS2⟩
  iapply Hk
  isplitl [H0]; · iexact H0
  isplitl [H1]; · iexact H1
  isplitl [H2]; · iexact H2
  isplitl [HT0]; · iexact HT0
  isplitl [HT1]; · iexact HT1
  isplitl [HT2]; · iexact HT2
  isplitl [HO]; · iapply hO; iexact HO
  isplitl [HS0]; · iexact HS0
  isplitl [HS1]; · iexact HS1
  iexact HS2

/-- A run that stores into the output block. -/
theorem fill_out {A0 A1 A2 T0 T1 T2 O Oi Oo O' S0 S1 S2 M L A k W : sProp 𝕄} (hi : O ⊢ Oi) (ho : Oo ⊢ O')
    (run : iprop(A0 ∗ A1 ∗ A2 ∗ T0 ∗ T1 ∗ T2 ∗ Oi ∗ S0 ∗ S1 ∗ S2 ∗ (iprop(A0 ∗ A1 ∗ A2 ∗ T0 ∗ T1 ∗ T2 ∗ Oo ∗ M ∗ L ∗ A) -∗ k)) ⊢ W) :
    iprop(A0 ∗ A1 ∗ A2 ∗ T0 ∗ T1 ∗ T2 ∗ O ∗ S0 ∗ S1 ∗ S2 ∗ (iprop(A0 ∗ A1 ∗ A2 ∗ T0 ∗ T1 ∗ T2 ∗ O' ∗ M ∗ L ∗ A) -∗ k)) ⊢ W := by
  iintro ⟨H0, H1, H2, HT0, HT1, HT2, HO, HS0, HS1, HS2, Hk⟩
  iapply run
  isplitl [H0]; · iexact H0
  isplitl [H1]; · iexact H1
  isplitl [H2]; · iexact H2
  isplitl [HT0]; · iexact HT0
  isplitl [HT1]; · iexact HT1
  isplitl [HT2]; · iexact HT2
  isplitl [HO]; · iapply hi; iexact HO
  isplitl [HS0]; · iexact HS0
  isplitl [HS1]; · iexact HS1
  isplitl [HS2]; · iexact HS2
  iintro ⟨H0, H1, H2, HT0, HT1, HT2, HO, HS0, HS1, HS2⟩
  iapply Hk
  isplitl [H0]; · iexact H0
  isplitl [H1]; · iexact H1
  isplitl [H2]; · iexact H2
  isplitl [HT0]; · iexact HT0
  isplitl [HT1]; · iexact HT1
  isplitl [HT2]; · iexact HT2
  isplitl [HO]; · iapply ho; iexact HO
  isplitl [HS0]; · iexact HS0
  isplitl [HS1]; · iexact HS1
  iexact HS2

section Out
variable (c : Dev nD) (arg8 : Memref sig .tc .vmem S1024x256 .bf16)

theorem out_any (d : S1024x256.Idx → Elt F .bf16) : owns (c : Thread nD τ) arg8 fullShare d ⊢ (iprop(∃ d, owns (c : Thread nD τ) arg8 fullShare d) : sProp 𝕄) := by
  iintro HO
  iexists d; iexact HO

theorem out_kept (d : S1024x256.Idx → Elt F .bf16) : owns (c : Thread nD τ) arg8 fullShare d
    ⊢ (iprop(∃ X, ⌜∀ L, none = some L → ∃ f, X = arg8.view.read (Elt F) (arg8.view.writes (Elt F) f L)⌝ ∗ owns (c : Thread nD τ) arg8 fullShare X) : sProp 𝕄) := by
  iintro HO
  iexists d; isplitr; swap
  · iexact HO
  · ipureintro; intro L hL; exact absurd hL.symm (Option.some_ne_none _)

theorem out_stored (o : List (View.Piece (Elt F) S1024x256 .bf16)) :
    (iprop(∃ f, arg8.view.loc (c : Thread nD τ) ↦[arg8.view.set]{fullShare} arg8.view.writes (Elt F) f o) : sProp 𝕄)
    ⊢ iprop(∃ X, ⌜∀ L, some o = some L → ∃ f, X = arg8.view.read (Elt F) (arg8.view.writes (Elt F) f L)⌝ ∗ owns (c : Thread nD τ) arg8 fullShare X) := by
  iintro ⟨%e, HO⟩
  iexists _; isplitr; swap
  · unfold owns; iexists _; isplitr; swap
    · iexact HO
    · ipureintro; rfl
  · ipureintro; intro L hL; obtain rfl := Option.some.inj hL; exact ⟨e, rfl⟩

end Out

set_option maxHeartbeats 4000000 in
/-- The body at any point runs to one of these. -/
theorem run_step (c : Dev nD) (i : grid0.Coords) (arg5 : Memref sig .tc .vmem S1024x512 .bf16) (harg5 : arg5.IsWhole)
    (arg6 : Memref sig .tc .vmem S2048x512 .bf16) (harg6 : arg6.IsWhole) (arg7 : Memref sig .tc .vmem S256x2048 .bf16) (harg7 : arg7.IsWhole)
    (arg8 : Memref sig .tc .vmem S1024x256 .bf16) (harg8 : arg8.IsWhole)
    (T2 : S576.Idx → Elt F .i32)
    (x0 : S1024x512.Idx → Elt F .bf16) (x1 : S2048x512.Idx → Elt F .bf16) (x2 : S256x2048.Idx → Elt F .bf16)
    (xa0 : S2x8x1024.Idx → Elt F .f32) (xa1 : S2x8x1024.Idx → Elt F .f32) (xa2 : S2x128x1024.Idx → Elt F .f32)
    (d : S1024x256.Idx → Elt F .bf16) :
    ∃ o m' l' a', Step c i arg5 harg5 arg6 harg6 arg7 harg7 arg8 harg8 T2 x0 x1 x2 xa0 xa1 xa2 o m' l' a' ∧ (o = none → 2 ≤ dn (i 1)) ∧
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} tabQ (F := F))
          ∗ (tbK.view.loc (c : Thread nD τ) ↦{fullShare.right} tabK (F := F))
          ∗ (tbS.view.loc (c : Thread nD τ) ↦{fullShare.right} T2)
          ∗ owns (c : Thread nD τ) arg8 fullShare d
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (tbQ.view.loc (c : Thread nD τ) ↦{fullShare.right} tabQ (F := F))
          ∗ (tbK.view.loc (c : Thread nD τ) ↦{fullShare.right} tabK (F := F))
          ∗ (tbS.view.loc (c : Thread nD τ) ↦{fullShare.right} T2)
          ∗ (∃ X, ⌜∀ L, o = some L → ∃ f, X = arg8.view.read (Elt F) (arg8.view.writes (Elt F) f L)⌝ ∗ owns (c : Thread nD τ) arg8 fullShare X)
              ∗ (scM.view.loc (c : Thread nD τ) ↦{fullShare} m')
              ∗ (scL.view.loc (c : Thread nD τ) ↦{fullShare} l')
              ∗ (scA.view.loc (c : Thread nD τ) ↦{fullShare} a')) -∗ K ⟨⟩))
          ⊢ wp frame (wpE (defs₀ (F := F)) Variants.none c none) Set.univ (cc0__attention_kernel i tbQ (Memref.isWhole_whole _) tbK (Memref.isWhole_whole _) tbS (Memref.isWhole_whole _) arg5 harg5 arg6 harg6 arg7 harg7 arg8 harg8 scM (Memref.isWhole_whole _) scL (Memref.isWhole_whole _) scA (Memref.isWhole_whole _)) K := by
  have eQ := rdQ_eq (F := F) i
  have eK := rdK_eq (F := F) i
  by_cases hs : rdS (F := F) i T2 = 0#32
  · by_cases h1 : C1 (rdK (F := F) i tabK)
    · rcases (by omega : 2 ≤ dn (i 1) ∨ dn (i 1) = 0 ∨ dn (i 1) = 1) with hd | hd | hd
      · obtain ⟨h2, h3, h4, h5, h6, h7⟩ := conds_N2 (i 1) hd
        rw [← hs, ← eQ, ← eK] at h2 h3 h4 h5 h6 h7
        refine ⟨_, _, _, _, .pN2i h1 h2 h3 h4 h5 h6 h7, fun _ => hd, fun K => ?_⟩
        exact keep_out (out_kept c arg8 d) ((runN2i c i arg5 harg5 arg6 harg6 arg7 harg7 arg8 harg8 tabQ tabK T2 x0 x1 x2 xa0 xa1 xa2 h1 h2 h3 h4 h5 h6 h7).2.2.2 K)
      · obtain ⟨h2, h3, h4, h5, h6, h7⟩ := conds_N0 (i 1) hd
        rw [← hs, ← eQ, ← eK] at h2 h3 h4 h5 h6 h7
        refine ⟨_, _, _, _, .pN0i h1 h2 h3 h4 h5 h6 h7, fun hn => absurd hn (Option.some_ne_none _), fun K => ?_⟩
        exact fill_out (out_any c arg8 d) (out_stored c arg8 _) ((runN0i c i arg5 harg5 arg6 harg6 arg7 harg7 arg8 harg8 tabQ tabK T2 x0 x1 x2 xa0 xa1 xa2 h1 h2 h3 h4 h5 h6 h7).2.2.2.2 K)
      · obtain ⟨h2, h3, h4, h5, h6, h7⟩ := conds_N1 (i 1) hd
        rw [← hs, ← eQ, ← eK] at h2 h3 h4 h5 h6 h7
        refine ⟨_, _, _, _, .pN1i h1 h2 h3 h4 h5 h6 h7, fun hn => absurd hn (Option.some_ne_none _), fun K => ?_⟩
        exact fill_out (out_any c arg8 d) (out_stored c arg8 _) ((runN1i c i arg5 harg5 arg6 harg6 arg7 harg7 arg8 harg8 tabQ tabK T2 x0 x1 x2 xa0 xa1 xa2 h1 h2 h3 h4 h5 h6 h7).2.2.2.2 K)
    · rcases (by omega : 2 ≤ dn (i 1) ∨ dn (i 1) = 0 ∨ dn (i 1) = 1) with hd | hd | hd
      · obtain ⟨h2, h3, h4, h5, h6, h7⟩ := conds_N2 (i 1) hd
        rw [← hs, ← eQ, ← eK] at h2 h3 h4 h5 h6 h7
        refine ⟨_, _, _, _, .pN2 h1 h2 h3 h4 h5 h6 h7, fun _ => hd, fun K => ?_⟩
        exact keep_out (out_kept c arg8 d) ((runN2 c i arg5 harg5 arg6 harg6 arg7 harg7 arg8 harg8 tabQ tabK T2 x0 x1 x2 xa0 xa1 xa2 h1 h2 h3 h4 h5 h6 h7).2.2.2 K)
      · obtain ⟨h2, h3, h4, h5, h6, h7⟩ := conds_N0 (i 1) hd
        rw [← hs, ← eQ, ← eK] at h2 h3 h4 h5 h6 h7
        refine ⟨_, _, _, _, .pN0 h1 h2 h3 h4 h5 h6 h7, fun hn => absurd hn (Option.some_ne_none _), fun K => ?_⟩
        exact fill_out (out_any c arg8 d) (out_stored c arg8 _) ((runN0 c i arg5 harg5 arg6 harg6 arg7 harg7 arg8 harg8 tabQ tabK T2 x0 x1 x2 xa0 xa1 xa2 h1 h2 h3 h4 h5 h6 h7).2.2.2.2 K)
      · obtain ⟨h2, h3, h4, h5, h6, h7⟩ := conds_N1 (i 1) hd
        rw [← hs, ← eQ, ← eK] at h2 h3 h4 h5 h6 h7
        refine ⟨_, _, _, _, .pN1 h1 h2 h3 h4 h5 h6 h7, fun hn => absurd hn (Option.some_ne_none _), fun K => ?_⟩
        exact fill_out (out_any c arg8 d) (out_stored c arg8 _) ((runN1 c i arg5 harg5 arg6 harg6 arg7 harg7 arg8 harg8 tabQ tabK T2 x0 x1 x2 xa0 xa1 xa2 h1 h2 h3 h4 h5 h6 h7).2.2.2.2 K)
  · by_cases h1 : C1 (rdK (F := F) i tabK)
    · rcases (by omega : 2 ≤ dn (i 1) ∨ dn (i 1) = 0 ∨ dn (i 1) = 1) with hd | hd | hd
      · obtain ⟨h2, h3, h4, h5, h6, h7⟩ := conds_S2 hs (i 1) hd
        rw [← eQ, ← eK] at h2 h3 h4 h5 h6 h7
        refine ⟨_, _, _, _, .pS2i h1 h2 h3 h4 h5 h6 h7, fun _ => hd, fun K => ?_⟩
        exact keep_out (out_kept c arg8 d) ((runS2i c i arg5 harg5 arg6 harg6 arg7 harg7 arg8 harg8 tabQ tabK T2 x0 x1 x2 xa0 xa1 xa2 h1 h2 h3 h4 h5 h6 h7).2.2.2 K)
      · obtain ⟨h2, h3, h4, h5, h6, h7⟩ := conds_S0 hs (i 1) hd
        rw [← eQ, ← eK] at h2 h3 h4 h5 h6 h7
        refine ⟨_, _, _, _, .pS0i h1 h2 h3 h4 h5 h6 h7, fun hn => absurd hn (Option.some_ne_none _), fun K => ?_⟩
        exact fill_out (out_any c arg8 d) (out_stored c arg8 _) ((runS0i c i arg5 harg5 arg6 harg6 arg7 harg7 arg8 harg8 tabQ tabK T2 x0 x1 x2 xa0 xa1 xa2 h1 h2 h3 h4 h5 h6 h7).2.2.2.2 K)
      · obtain ⟨h2, h3, h4, h5, h6, h7⟩ := conds_S1 hs (i 1) hd
        rw [← eQ, ← eK] at h2 h3 h4 h5 h6 h7
        refine ⟨_, _, _, _, .pS1i h1 h2 h3 h4 h5 h6 h7, fun hn => absurd hn (Option.some_ne_none _), fun K => ?_⟩
        exact fill_out (out_any c arg8 d) (out_stored c arg8 _) ((runS1i c i arg5 harg5 arg6 harg6 arg7 harg7 arg8 harg8 tabQ tabK T2 x0 x1 x2 xa0 xa1 xa2 h1 h2 h3 h4 h5 h6 h7).2.2.2.2 K)
    · rcases (by omega : 2 ≤ dn (i 1) ∨ dn (i 1) = 0 ∨ dn (i 1) = 1) with hd | hd | hd
      · obtain ⟨h2, h3, h4, h5, h6, h7⟩ := conds_S2 hs (i 1) hd
        rw [← eQ, ← eK] at h2 h3 h4 h5 h6 h7
        refine ⟨_, _, _, _, .pS2 h1 h2 h3 h4 h5 h6 h7, fun _ => hd, fun K => ?_⟩
        exact keep_out (out_kept c arg8 d) ((runS2 c i arg5 harg5 arg6 harg6 arg7 harg7 arg8 harg8 tabQ tabK T2 x0 x1 x2 xa0 xa1 xa2 h1 h2 h3 h4 h5 h6 h7).2.2.2 K)
      · obtain ⟨h2, h3, h4, h5, h6, h7⟩ := conds_S0 hs (i 1) hd
        rw [← eQ, ← eK] at h2 h3 h4 h5 h6 h7
        refine ⟨_, _, _, _, .pS0 h1 h2 h3 h4 h5 h6 h7, fun hn => absurd hn (Option.some_ne_none _), fun K => ?_⟩
        exact fill_out (out_any c arg8 d) (out_stored c arg8 _) ((runS0 c i arg5 harg5 arg6 harg6 arg7 harg7 arg8 harg8 tabQ tabK T2 x0 x1 x2 xa0 xa1 xa2 h1 h2 h3 h4 h5 h6 h7).2.2.2.2 K)
      · obtain ⟨h2, h3, h4, h5, h6, h7⟩ := conds_S1 hs (i 1) hd
        rw [← eQ, ← eK] at h2 h3 h4 h5 h6 h7
        refine ⟨_, _, _, _, .pS1 h1 h2 h3 h4 h5 h6 h7, fun hn => absurd hn (Option.some_ne_none _), fun K => ?_⟩
        exact fill_out (out_any c arg8 d) (out_stored c arg8 _) ((runS1 c i arg5 harg5 arg6 harg6 arg7 harg7 arg8 harg8 tabQ tabK T2 x0 x1 x2 xa0 xa1 xa2 h1 h2 h3 h4 h5 h6 h7).2.2.2.2 K)

end Cert.KernelIdeal.Attn

end
-- ==== Proof.Attn.Launch.lean ====
module

public import proofs.«01_k».proof.Proof.Attn.Step
public import Idealize.ShloMosaic.Lib.Claim

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! The run of @main: the host operations, then the pipeline, with an invariant `Inv` of the three scratch buffers before
    each point and a condition `Out` on each block a finishing step leaves. -/

local notation "𝕄" => MT nD τ sig Unit (Elt F) ℕ (UR sig nD τ) ℕ

variable (m : (ℓ : Loc nD τ sig) → Buf (Elt F) ℓ)

/-- Every buffer's contents when the pipeline starts. -/
abbrev V (c : Dev nD) (b : Ref sig .tc) : Buf (Elt F) ((c.tc : Thread nD τ).loc b) :=
  StableHlo.after hostOps0 (fun b => m (c, b)) b

/-- The third table then. -/
def T2m : S576.Idx → Elt F .i32 := V m 0 main_v40

abbrev cfgM : Pipeline.Cfg sig Λ₀ := cfgA (F := F) (T2m m)

abbrev crd (t : Fin (cfgM m).N) : grid0.Coords := (cfgM m).grid.coords t

abbrev ms0 (t : Fin (cfgM m).N) : Memref sig .tc .vmem S1024x512 .bf16 := spec0_0.stage ((cfgM m).slots t (0 : Fin 4))
abbrev hs0 (t : Fin (cfgM m).N) : (ms0 m t).IsWhole := hstage0_0 (((cfgM m).slots t (0 : Fin 4)).cast nbuf0_0)
abbrev ms1 (t : Fin (cfgM m).N) : Memref sig .tc .vmem S2048x512 .bf16 := spec0_1.stage ((cfgM m).slots t (1 : Fin 4))
abbrev hs1 (t : Fin (cfgM m).N) : (ms1 m t).IsWhole := hstage0_1 (((cfgM m).slots t (1 : Fin 4)).cast nbuf0_1)
abbrev ms2 (t : Fin (cfgM m).N) : Memref sig .tc .vmem S256x2048 .bf16 := spec0_2.stage ((cfgM m).slots t (2 : Fin 4))
abbrev hs2 (t : Fin (cfgM m).N) : (ms2 m t).IsWhole := hstage0_2 (((cfgM m).slots t (2 : Fin 4)).cast nbuf0_2)
abbrev ms3 (t : Fin (cfgM m).N) : Memref sig .tc .vmem S1024x256 .bf16 := spec0_3.stage ((cfgM m).slots t (3 : Fin 4))
abbrev hs3 (t : Fin (cfgM m).N) : (ms3 m t).IsWhole := hstage0_3 (((cfgM m).slots t (3 : Fin 4)).cast nbuf0_3)

/-- Window `w`'s block at point `t`. -/
def blkAt (c : Dev nD) (w : Fin 4) (t : Fin (cfgM m).N) : (((cfgM m).win w).xblock (crd m t)).Idx → Elt F ((cfgM m).win w).elt :=
  (((cfgM m).win w).blk t).view.read (Elt F) (V m c (Pipeline.arrRef (cfgM m).spec w))

abbrev Inv3 : Type := Fin ((cfgM m).N + 1) → (S2x8x1024.Idx → Elt F .f32) → (S2x8x1024.Idx → Elt F .f32) → (S2x128x1024.Idx → Elt F .f32) → Prop

variable (Inv : Dev nD → Inv3 m) (Out : Dev nD → Fin (cfgM m).N → (S1024x256.Idx → Elt F .bf16) → Prop)

/-- What is carried from a point to the next: the scratch buffers, and the body's halves of the tables. -/
def Phi (c : Dev nD) (t : Fin ((cfgM m).N + 1)) : sProp 𝕄 :=
  iprop((∃ a0 a1 a2, ⌜Inv c t a0 a1 a2⌝ ∗ (scM.view.loc (c : Thread nD τ) ↦{fullShare} a0) ∗ (scL.view.loc (c : Thread nD τ) ↦{fullShare} a1)
      ∗ (scA.view.loc (c : Thread nD τ) ↦{fullShare} a2))
    ∗ (tbQ.view.loc (c : Thread nD τ) ↦{fullShare.right} tabQ (F := F)) ∗ (tbK.view.loc (c : Thread nD τ) ↦{fullShare.right} tabK (F := F))
    ∗ (tbS.view.loc (c : Thread nD τ) ↦{fullShare.right} T2m m) ∗ ∃ r, prngReg c r)

/-- The proof data: inputs left as found, the output's block satisfying `Out` where the step finishes it. -/
def rdat (c : Dev nD) : Pipeline.RDat τ (Elt F) Unit ℕ (UR sig nD τ) ℕ (cfgM m) c where
  A w := V m c (Pipeline.arrRef (cfgM m).spec w)
  after w t Y X := match w with
    | ⟨0, _⟩ => X = Y
    | ⟨1, _⟩ => X = Y
    | ⟨2, _⟩ => X = Y
    | ⟨3, _⟩ => dn ((crd m t) 1) < 2 → Out c t X
  Φ t := Phi m Inv c t
  q _ := fullShare
  owed _ := 0

theorem finds0 (c : Dev nD) (t) (Y) (h : (rdat m Inv Out c).Finds (0 : Fin 4) t Y) : Y = blkAt m c 0 t := by
  obtain ⟨d, hd⟩ := Pipeline.RDat.finds_in_eq_fetched (rdat m Inv Out c) (0 : Fin 4) rfl (fun _ _ _ => rfl) (fun _ _ _ h => h) t Y h
  rw [hd]; unfold Pipeline.RDat.fetched Pipeline.RDat.blockOf blkAt; rfl
theorem finds1 (c : Dev nD) (t) (Y) (h : (rdat m Inv Out c).Finds (1 : Fin 4) t Y) : Y = blkAt m c 1 t := by
  obtain ⟨d, hd⟩ := Pipeline.RDat.finds_in_eq_fetched (rdat m Inv Out c) (1 : Fin 4) rfl (fun _ _ _ => rfl) (fun _ _ _ h => h) t Y h
  rw [hd]; unfold Pipeline.RDat.fetched Pipeline.RDat.blockOf blkAt; rfl
theorem finds2 (c : Dev nD) (t) (Y) (h : (rdat m Inv Out c).Finds (2 : Fin 4) t Y) : Y = blkAt m c 2 t := by
  obtain ⟨d, hd⟩ := Pipeline.RDat.finds_in_eq_fetched (rdat m Inv Out c) (2 : Fin 4) rfl (fun _ _ _ => rfl) (fun _ _ _ h => h) t Y h
  rw [hd]; unfold Pipeline.RDat.fetched Pipeline.RDat.blockOf blkAt; rfl

/-- The step at a point, on its blocks. -/
abbrev StepAt (c : Dev nD) (t : Fin (cfgM m).N) :=
  Step c (crd m t) (ms0 m t) (hs0 m t) (ms1 m t) (hs1 m t) (ms2 m t) (hs2 m t) (ms3 m t) (hs3 m t) (T2m m) (blkAt m c 0 t) (blkAt m c 1 t) (blkAt m c 2 t)

/-- What the invariant and the condition have to satisfy. -/
def Keeps (c : Dev nD) : Prop := ∀ (t : Fin (cfgM m).N) a0 a1 a2 o m' l' a', Inv c t.castSucc a0 a1 a2 →
  StepAt m c t a0 a1 a2 o m' l' a' → Inv c t.succ m' l' a'
    ∧ ∀ L, o = some L → ∀ f, Out c t ((ms3 m t).view.read (Elt F) ((ms3 m t).view.writes (Elt F) f L))

set_option maxHeartbeats 4000000 in
theorem body_obligation (c : Dev nD) (hk : Keeps m Inv Out c) :
    (rdat m Inv Out c).BodyObligation (defs₀ (F := F)) Variants.none () Set.univ := fun t Y hY => by
  rw [bigSep_W0, bigSep_W0]
  have e0 := finds0 m Inv Out c t _ (hY (0 : Fin 4))
  have e1 := finds1 m Inv Out c t _ (hY (1 : Fin 4))
  have e2 := finds2 m Inv Out c t _ (hY (2 : Fin 4))
  rw [show (rdat m Inv Out c).owesAt () t.succ = (rdat m Inv Out c).owesAt () t.castSucc from rfl,
    show (rdat m Inv Out c).Φ t.succ = Phi m Inv c t.succ from rfl, show (rdat m Inv Out c).Φ t.castSucc = Phi m Inv c t.castSucc from rfl]
  unfold Phi
  iintro ⟨⟨⟨%a0, %a1, %a2, %hI, HS0, HS1, HS2⟩, HT0, HT1, HT2, Hp⟩, Ho, H0, H1, H2, H3⟩
  obtain ⟨o, m', l', a', hst, hd, hrun⟩ := run_step c (crd m t) (ms0 m t) (hs0 m t) (ms1 m t) (hs1 m t) (ms2 m t) (hs2 m t) (ms3 m t) (hs3 m t) (T2m m)
    (blkAt m c 0 t) (blkAt m c 1 t) (blkAt m c 2 t) a0 a1 a2 (Y (3 : Fin 4))
  obtain ⟨hI', hO⟩ := hk t a0 a1 a2 o m' l' a' hI hst
  iapply (hrun _)
  isplitl [H0]; · iapply rep_of_owns; rw [← e0]; iexact H0
  isplitl [H1]; · iapply rep_of_owns; rw [← e1]; iexact H1
  isplitl [H2]; · iapply rep_of_owns; rw [← e2]; iexact H2
  isplitl [HT0]; · iexact HT0
  isplitl [HT1]; · iexact HT1
  isplitl [HT2]; · iexact HT2
  isplitl [H3]; · iexact H3
  isplitl [HS0]; · iexact HS0
  isplitl [HS1]; · iexact HS1
  isplitl [HS2]; · iexact HS2
  iintro ⟨H0, H1, H2, HT0, HT1, HT2, ⟨%X, %hX, H3⟩, HS0, HS1, HS2⟩
  isplitl [HS0 HS1 HS2 HT0 HT1 HT2 Hp]
  · isplitl [HS0 HS1 HS2]
    · iexists m', l', a'
      isplitr; · ipureintro; exact hI'
      isplitl [HS0]; · iexact HS0
      isplitl [HS1]; · iexact HS1
      iexact HS2
    isplitl [HT0]; · iexact HT0
    isplitl [HT1]; · iexact HT1
    isplitl [HT2]; · iexact HT2
    iexact Hp
  isplitl [Ho]; · iexact Ho
  isplitl [H0]
  · iexists _; isplitr; swap
    · iapply owns_of_rep; iexact H0
    · ipureintro; exact e0.symm
  isplitl [H1]
  · iexists _; isplitr; swap
    · iapply owns_of_rep; iexact H1
    · ipureintro; exact e1.symm
  isplitl [H2]
  · iexists _; isplitr; swap
    · iapply owns_of_rep; iexact H2
    · ipureintro; exact e2.symm
  iexists X; isplitr; swap
  · iexact H3
  · ipureintro
    intro hlt
    cases ho : o with
    | none => exact absurd (hd ho) (by omega)
    | some L =>
      obtain ⟨f, rfl⟩ := hX L ho
      exact hO L ho f

theorem share_eq (c : Dev nD) (w : Fin (cfgM m).W) : (rdat m Inv Out c).share w = fullShare := by unfold Pipeline.RDat.share; split <;> rfl

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_v40) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_in (h0 : ∀ c a0 a1 a2, Inv c 0 a0 a1 a2) (c : Dev nD) :
    iprop(Pipeline.ΦA (U := UR sig nD τ) spec0 c ∗ Pipeline.ΦT (U := UR sig nD τ) pre0 (adm (T2m m)).1 c) ⊢ (rdat m Inv Out c).Φ 0 := by
  unfold Pipeline.ΦA Pipeline.ΦT
  rw [prefHeld_eq, scopedRest0_eq, show (rdat m Inv Out c).Φ 0 = Phi m Inv c 0 from rfl]
  unfold Phi
  iintro ⟨⟨⟨⟨%a0, HS0⟩, ⟨%a1, HS1⟩, ⟨%a2, HS2⟩⟩, Hp⟩, HT0, HT1, HT2⟩
  isplitl [HS0 HS1 HS2]
  · iexists a0, a1, a2
    isplitr; · ipureintro; exact h0 c a0 a1 a2
    isplitl [HS0]; · iexact HS0
    isplitl [HS1]; · iexact HS1
    iexact HS2
  isplitl [HT0]; · iexact HT0
  isplitl [HT1]; · iexact HT1
  isplitl [HT2]; · iexact HT2
  iexact Hp

theorem phi_out (c : Dev nD) : (rdat m Inv Out c).Φ (Fin.last (cfgM m).N) ⊢ Pipeline.ΦA (U := UR sig nD τ) spec0 c := by
  unfold Pipeline.ΦA
  rw [scopedRest0_eq, show (rdat m Inv Out c).Φ (Fin.last (cfgM m).N) = Phi m Inv c (Fin.last _) from rfl]
  unfold Phi
  iintro ⟨⟨%a0, %a1, %a2, -, HS0, HS1, HS2⟩, -, -, -, Hp⟩
  isplitr [Hp]
  · isplitl [HS0]; · iexists a0; iexact HS0
    isplitl [HS1]; · iexists a1; iexact HS1
    iexists a2; iexact HS2
  iexact Hp

theorem V_c (c : Dev nD) : V m c main_c = tabQ (F := F) := by
  show StableHlo.after hostOps0 (fun b => m (c, b)) main_c = _
  after_results
  rfl
theorem V_c0 (c : Dev nD) : V m c main_c_0 = tabK (F := F) := by
  show StableHlo.after hostOps0 (fun b => m (c, b)) main_c_0 = _
  after_results
  rfl

theorem hpf (c : Dev nD) : ∀ k : Fin 3, V m c (pre0.ref k) = (adm (F := F) (T2m m)).1 k := fun
  | ⟨0, _⟩ => V_c m c
  | ⟨1, _⟩ => V_c0 m c
  | ⟨2, _⟩ => by obtain rfl : c = 0 := Subsingleton.elim _ _; rfl
  | ⟨_ + 3, h⟩ => absurd h (by simp)

set_option maxHeartbeats 4000000 in
set_option backward.isDefEq.respectTransparency.types false in
/-- Every fair execution of @main ends, with the output array one that the steps may leave, and every counter zero. -/
theorem run_main (ρ : Dev nD → PrngReg) (h0 : ∀ c a0 a1 a2, Inv c 0 a0 a1 a2) (hk : ∀ c, Keeps m Inv Out c) :
    θ_run (defs (F := F)) (onTc (τ := τ) (main (F := F))) (s₀ m ρ)
      (fun r => Pipeline.RDat.FramePost (cfgM m) (rdat m Inv Out) (V m) r ∧ r.2.sem = fun _ => 0) :=
  Pipeline.RDat.θ_run_frameP_track pcfgs (fun _ => adm (T2m m)) 0 (launch0 (F := F)) defs₀ Variants.none (rdat m Inv Out) m ρ main
    (hbody := fun c => body_obligation m Inv Out c (hk c)) (hshare := share_eq m Inv Out) (howed := fun _ _ => rfl) (V := V m)
    (hmain := Pipeline.hmainP_prefix pcfgs 0 defs₀ Variants.none m main hostOps0 hostOps0_sub
      (by simp only [List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩) main_chain)
    (hA := fun _ _ => rfl) (hpf := hpf m) (hin := phi_in m Inv Out h0) (hout := phi_out m Inv Out)
    (Q' := fun r => Pipeline.RDat.FramePost (cfgM m) (rdat m Inv Out) (V m) r ∧ r.2.sem = fun _ => 0) (hQ' := fun _ h => h)

theorem V_arg0 (c : Dev nD) : V m c main_arg0 = m ((c.tc : Thread nD τ).loc main_arg0) := by
  show StableHlo.after hostOps0 (fun b => m (c, b)) main_arg0 = _
  after_results
theorem V_arg1 (c : Dev nD) : V m c main_arg1 = m ((c.tc : Thread nD τ).loc main_arg1) := by
  show StableHlo.after hostOps0 (fun b => m (c, b)) main_arg1 = _
  after_results
theorem V_arg2 (c : Dev nD) : V m c main_arg2 = m ((c.tc : Thread nD τ).loc main_arg2) := by
  show StableHlo.after hostOps0 (fun b => m (c, b)) main_arg2 = _
  after_results
theorem V_arg3 (c : Dev nD) : V m c main_arg3 = m ((c.tc : Thread nD τ).loc main_arg3) := by
  show StableHlo.after hostOps0 (fun b => m (c, b)) main_arg3 = _
  after_results
theorem V_arg4 (c : Dev nD) : V m c main_arg4 = m ((c.tc : Thread nD τ).loc main_arg4) := by
  show StableHlo.after hostOps0 (fun b => m (c, b)) main_arg4 = _
  after_results
theorem V_arg5 (c : Dev nD) : V m c main_arg5 = m ((c.tc : Thread nD τ).loc main_arg5) := by
  show StableHlo.after hostOps0 (fun b => m (c, b)) main_arg5 = _
  after_results
theorem V_arg6 (c : Dev nD) : V m c main_arg6 = m ((c.tc : Thread nD τ).loc main_arg6) := by
  show StableHlo.after hostOps0 (fun b => m (c, b)) main_arg6 = _
  after_results

/-- The arguments end as they were, whatever the invariant. -/
theorem unchanged {r : PUnit × MemSt nD τ sig (Elt F)} (h : Pipeline.RDat.FramePost (cfgM m) (rdat m Inv Out) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (show main_arg0 ∈ Pipeline.restRefs sig spec0 by decide)).trans (V_arg0 m c), ((h c).2 main_arg1 (show main_arg1 ∈ Pipeline.restRefs sig spec0 by decide)).trans (V_arg1 m c), ((h c).2 main_arg2 (show main_arg2 ∈ Pipeline.restRefs sig spec0 by decide)).trans (V_arg2 m c), ((h c).2 main_arg3 (show main_arg3 ∈ Pipeline.restRefs sig spec0 by decide)).trans (V_arg3 m c), ((h c).2 main_arg4 (show main_arg4 ∈ Pipeline.restRefs sig spec0 by decide)).trans (V_arg4 m c), ((h c).2 main_arg5 (show main_arg5 ∈ Pipeline.restRefs sig spec0 by decide)).trans (V_arg5 m c), ((h c).2 main_arg6 (show main_arg6 ∈ Pipeline.restRefs sig spec0 by decide)).trans (V_arg6 m c)⟩

/-- The run with no condition: it ends, the arguments unchanged, every counter zero. -/
theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨unchanged m _ _ h.1, h.2⟩)
    (run_main m (fun _ _ _ _ _ => True) (fun _ _ _ => True) ρ (fun _ _ _ _ => trivial) fun _ _ _ _ _ _ _ _ _ _ _ => ⟨trivial, fun _ _ _ => trivial⟩)

end Cert.KernelIdeal.Attn

end
-- ==== Proof.Attn.Canon.lean ====
module

public import proofs.«01_k».proof.Proof.Attn.Words
public import Idealize.ShloMosaic.Lib.Pipeline.ReadBack

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! What a step does to one head, as vector expressions: `sc` the scores of a key block against the query block, `mk` the
    causal mask on the diagonal block, `sL` and `sA` the safe update of the denominator and of the accumulator, `nM`, `nL`
    and `nA` the running-maximum update, `fin` the block that the last step of a query block writes. -/

/-- Head `h`'s half of the query block. -/
def rq (h : Fin 2) : Rect S1024x512 := Rect.unit ![0, 256 * h.val] S1024x256.size (by revert h; decide)
/-- Head `h`'s part of the `c`-th half of the key block. -/
def rk (c h : Fin 2) : Rect S2048x512 := Rect.unit ![1024 * c.val, 256 * h.val] S1024x256.size (by revert c h; decide)
/-- Head `h`'s part of the `c`-th half of the transposed value block. -/
def rv (c h : Fin 2) : Rect S256x2048 := Rect.unit ![128 * h.val, 1024 * c.val] S128x1024.size (by revert c h; decide)
/-- Head `h`'s part of a buffer of maxima or denominators. -/
def rl (h : Fin 2) : Rect S2x8x1024 := Rect.unit ![h.val, 0, 0] S1x8x1024.size (by revert h; decide)
/-- Head `h`'s part of the accumulator. -/
def ra (h : Fin 2) : Rect S2x128x1024 := Rect.unit ![h.val, 0, 0] S1x128x1024.size (by revert h; decide)
/-- Head `h`'s half of the output block. -/
def ro (h : Fin 2) : Rect S1024x256 := Rect.unit ![0, 128 * h.val] S1024x128.size (by revert h; decide)

def sc (k q : Vec F S1024x256 .bf16) : FVec F S1024x1024 .f32 :=
  matmul dot_S1024x256_S1024x256_S1024x1024_1_1_0_0_n_n none (shapeCast S1024x256 k shapeCasts_S1024x256_S1024x256)
    (shapeCast S1024x256 q shapeCasts_S1024x256_S1024x256) (constant S1024x1024 .f32 0x00000000#32)

def mk (s : FVec F S1024x1024 .f32) : FVec F S1024x1024 .f32 :=
  select (cmpi .sle (iota .tc S1024x1024 32 [0] iota_S1024x1024_d0_w32) (iota .tc S1024x1024 32 [1] iota_S1024x1024_d1_w32)) s
    (broadcast S1024x1024 (Named.named κ "mask" 0xF149F2CA#32 : F .f32))

def s3 (s : FVec F S1024x1024 .f32) : FVec F S128x8x1024 .f32 := shapeCast S128x8x1024 s shapeCasts_S1024x1024_S128x8x1024

/-- The product with the weights, rounded as the matrix unit takes them. -/
def pv (v : Vec F S128x1024 .bf16) (p : FVec F S128x8x1024 .f32) : FVec F S128x1024 .f32 :=
  matmul dot_S128x1024_S1024x1024_S128x1024_1_0_0_1_n_n none (shapeCast S128x1024 v shapeCasts_S128x1024_S128x1024)
    (truncf .bf16 (shapeCast S1024x1024 p shapeCasts_S128x8x1024_S1024x1024) bitsLt_bf16_f32) (constant S128x1024 .f32 0x00000000#32)

def sL (s : FVec F S1024x1024 .f32) (l : Vec F S1x8x1024 .f32) : FVec F S1x8x1024 .f32 :=
  shapeCast S1x8x1024 (addf (shapeCast S8x1024 l shapeCasts_S1x8x1024_S8x1024)
    (multiReduction .add [0] S8x1024 (exp2 (s3 s)) 0x00000000#32 reduces_S128x8x1024_S8x1024 (.inl rfl) rfl)) shapeCasts_S8x1024_S1x8x1024

def sA (s : FVec F S1024x1024 .f32) (v : Vec F S128x1024 .bf16) (a : Vec F S1x128x1024 .f32) : FVec F S1x128x1024 .f32 :=
  shapeCast S1x128x1024 (addf (shapeCast S128x1024 a shapeCasts_S1x128x1024_S128x1024) (pv v (exp2 (s3 s)))) shapeCasts_S128x1024_S1x128x1024

def nM (s : FVec F S1024x1024 .f32) (m : Vec F S1x8x1024 .f32) : FVec F S8x1024 .f32 :=
  maximumf (shapeCast S8x1024 m shapeCasts_S1x8x1024_S8x1024)
    (broadcastTo S8x1024 (shapeCast S1x1024 (multiReduction .maximumf [0] S1024
      (multiReduction .maximumf [0] S8x1024 (s3 s) 0xFF800000#32 reduces_S128x8x1024_S8x1024 (.inl rfl) rfl)
      0xFF800000#32 reduces_S8x1024_S1024 (.inl rfl) rfl) shapeCasts_S1024_S1x1024) broadcasts_S1x1024_S8x1024)

def nM1 (s : FVec F S1024x1024 .f32) (m : Vec F S1x8x1024 .f32) : FVec F S1x8x1024 .f32 := shapeCast S1x8x1024 (nM s m) shapeCasts_S8x1024_S1x8x1024

def nP (s : FVec F S1024x1024 .f32) (m : Vec F S1x8x1024 .f32) : FVec F S128x8x1024 .f32 :=
  exp2 (subf (s3 s) (broadcastTo S128x8x1024 (nM1 s m) broadcasts_S1x8x1024_S128x8x1024))

def nAl (s : FVec F S1024x1024 .f32) (m : Vec F S1x8x1024 .f32) : FVec F S8x1024 .f32 :=
  exp2 (subf (shapeCast S8x1024 m shapeCasts_S1x8x1024_S8x1024) (nM s m))

def nL (s : FVec F S1024x1024 .f32) (m l : Vec F S1x8x1024 .f32) : FVec F S1x8x1024 .f32 :=
  shapeCast S1x8x1024 (addf (mulf (nAl s m) (shapeCast S8x1024 l shapeCasts_S1x8x1024_S8x1024))
    (multiReduction .add [0] S8x1024 (nP s m) 0x00000000#32 reduces_S128x8x1024_S8x1024 (.inl rfl) rfl)) shapeCasts_S8x1024_S1x8x1024

def nA (s : FVec F S1024x1024 .f32) (v : Vec F S128x1024 .bf16) (m : Vec F S1x8x1024 .f32) (a : Vec F S1x128x1024 .f32) : FVec F S1x128x1024 .f32 :=
  shapeCast S1x128x1024 (addf (shapeCast S128x1024
      (mulf (shapeCast S16x8x1024 (shapeCast S128x1024 a shapeCasts_S1x128x1024_S128x1024) shapeCasts_S128x1024_S16x8x1024)
        (broadcastTo S16x8x1024 (shapeCast S1x8x1024 (nAl s m) shapeCasts_S8x1024_S1x8x1024) broadcasts_S1x8x1024_S16x8x1024))
      shapeCasts_S16x8x1024_S128x1024) (pv v (nP s m))) shapeCasts_S128x1024_S1x128x1024

def fin (l : Vec F S1x8x1024 .f32) (a : Vec F S1x128x1024 .f32) : FVec F S1024x128 .bf16 :=
  truncf .bf16 (transpose S1024x128 [1, 0] (divf (shapeCast S128x1024 a shapeCasts_S1x128x1024_S128x1024)
    (broadcastTo S128x1024 (shapeCast S1x1024 (multiReduction .add [0] S1024 (shapeCast S8x1024 l shapeCasts_S1x8x1024_S8x1024)
      0x00000000#32 reduces_S8x1024_S1024 (.inl rfl) rfl) shapeCasts_S1024_S1x1024) broadcasts_S1x1024_S128x1024))
    transposes_S128x1024_p1_0_S1024x128) bitsLt_bf16_f32

/-- The scores of head `h` on the `c`-th half of the key block; on the diagonal half, masked. -/
def scF (c h : Fin 2) (x0 : S1024x512.Idx → Elt F .bf16) (x1 : S2048x512.Idx → Elt F .bf16) : FVec F S1024x1024 .f32 :=
  sc (View.ld x1 (rk c h)) (View.ld x0 (rq h))
def scD (c h : Fin 2) (x0 : S1024x512.Idx → Elt F .bf16) (x1 : S2048x512.Idx → Elt F .bf16) : FVec F S1024x1024 .f32 := mk (scF c h x0 x1)

/-- The arrays that the body puts in the scratch buffers at the first step of a query block. -/
def iM : S2x8x1024.Idx → Elt F .f32 := k0_pay158
def iL : S2x8x1024.Idx → Elt F .f32 := k0_pay159
def iA : S2x128x1024.Idx → Elt F .f32 := k0_pay160

/-- One head's maxima, denominators and accumulator. -/
structure St (F : FTy → Type) where
  m : S1x8x1024.Idx → Elt F .f32
  l : S1x8x1024.Idx → Elt F .f32
  a : S1x128x1024.Idx → Elt F .f32

/-- One block of keys, on the safe path or with the running maximum. -/
def U (sf : Bool) (s : FVec F S1024x1024 .f32) (v : Vec F S128x1024 .bf16) (x : St F) : St F :=
  match sf with
  | true => ⟨x.m, sL s x.l, sA s v x.a⟩
  | false => ⟨nM1 s x.m, nL s x.m x.l, nA s v x.m x.a⟩

theorem St.ext' {x y : St F} (hm : x.m = y.m) (hl : x.l = y.l) (ha : x.a = y.a) : x = y := by
  cases x; cases y; cases hm; cases hl; cases ha; rfl

/-- Head `h` of the three buffers. -/
def st (m l : S2x8x1024.Idx → Elt F .f32) (a : S2x128x1024.Idx → Elt F .f32) (h : Fin 2) : St F :=
  ⟨View.ld m (rl h), View.ld l (rl h), View.ld a (ra h)⟩

theorem st_congr {m m' l l' : S2x8x1024.Idx → Elt F .f32} {a a' : S2x128x1024.Idx → Elt F .f32} (hm : m = m') (hl : l = l') (ha : a = a') (h : Fin 2) :
    st m l a h = st m' l' a' h := by subst hm hl ha; rfl

theorem out_congr {arg8 : Memref sig .tc .vmem S1024x256 .bf16} {L L' : List (View.Piece (Elt F) S1024x256 .bf16)} (e : L = L') (h : Fin 2) (X : FVec F S1024x128 .bf16)
    (hX : ∀ f, View.ld (arg8.view.read (Elt F) (arg8.view.writes (Elt F) f L')) (ro h) = X) :
    ∀ f, View.ld (arg8.view.read (Elt F) (arg8.view.writes (Elt F) f L)) (ro h) = X := by subst e; exact hX

theorem stM {L : List (View.Piece (Elt F) S2x8x1024 .f32)} {l : S2x8x1024.Idx → Elt F .f32} {a : S2x128x1024.Idx → Elt F .f32} {h : Fin 2}
    {x : S1x8x1024.Idx → Elt F .f32} (e : scM.view.readCov L (rl h).toLoadRect = x) : (st (scM.view.writes (Elt F) scM.view.junk L) l a h).m = x := e
theorem stL {L : List (View.Piece (Elt F) S2x8x1024 .f32)} {m : S2x8x1024.Idx → Elt F .f32} {a : S2x128x1024.Idx → Elt F .f32} {h : Fin 2}
    {x : S1x8x1024.Idx → Elt F .f32} (e : scL.view.readCov L (rl h).toLoadRect = x) : (st m (scL.view.writes (Elt F) scL.view.junk L) a h).l = x := e
theorem stA {L : List (View.Piece (Elt F) S2x128x1024 .f32)} {m l : S2x8x1024.Idx → Elt F .f32} {h : Fin 2}
    {x : S1x128x1024.Idx → Elt F .f32} (e : scA.view.readCov L (ra h).toLoadRect = x) : (st m l (scA.view.writes (Elt F) scA.view.junk L) h).a = x := e

/-- Where head `h` starts: the buffers as the step finds them, or as it sets them at the first step of a query block. -/
def st0 (ini : Bool) (m l : S2x8x1024.Idx → Elt F .f32) (a : S2x128x1024.Idx → Elt F .f32) (h : Fin 2) : St F :=
  match ini with
  | true => st iM iL iA h
  | false => st m l a h

/-- The `c`-th half of the key block, unmasked and masked. -/
def UF (sf : Bool) (c h : Fin 2) (x0 : S1024x512.Idx → Elt F .bf16) (x1 : S2048x512.Idx → Elt F .bf16) (x2 : S256x2048.Idx → Elt F .bf16) (x : St F) : St F :=
  U sf (scF c h x0 x1) (View.ld x2 (rv c h)) x
def UD (sf : Bool) (c h : Fin 2) (x0 : S1024x512.Idx → Elt F .bf16) (x1 : S2048x512.Idx → Elt F .bf16) (x2 : S256x2048.Idx → Elt F .bf16) (x : St F) : St F :=
  U sf (scD c h x0 x1) (View.ld x2 (rv c h)) x

/-- A step that does not finish, one that finishes on its first half, one that finishes on its second. -/
def W2 (sf : Bool) (h : Fin 2) (x0 : S1024x512.Idx → Elt F .bf16) (x1 : S2048x512.Idx → Elt F .bf16) (x2 : S256x2048.Idx → Elt F .bf16) (x : St F) : St F :=
  UF sf 1 h x0 x1 x2 (UF sf 0 h x0 x1 x2 x)
def W0 (sf : Bool) (h : Fin 2) (x0 : S1024x512.Idx → Elt F .bf16) (x1 : S2048x512.Idx → Elt F .bf16) (x2 : S256x2048.Idx → Elt F .bf16) (x : St F) : St F :=
  UD sf 0 h x0 x1 x2 x
def W1 (sf : Bool) (h : Fin 2) (x0 : S1024x512.Idx → Elt F .bf16) (x1 : S2048x512.Idx → Elt F .bf16) (x2 : S256x2048.Idx → Elt F .bf16) (x : St F) : St F :=
  UD sf 1 h x0 x1 x2 (UF sf 0 h x0 x1 x2 x)

/-- The output block from its two stored halves. -/
theorem ld_out {arg8 : Memref sig .tc .vmem S1024x256 .bf16} (f : arg8.view.ty.Contents (Elt F)) (X0 X1 : S1024x128.Idx → Elt F .bf16)
    (i0 : ∀ a, (![0, 0] : Fin 2 → ℕ) a + S1024x128.size a ≤ S1024x256.size a) (i1 : ∀ a, (![0, 128] : Fin 2 → ℕ) a + S1024x128.size a ≤ S1024x256.size a) :
    View.ld (arg8.view.read (Elt F) (arg8.view.writes (Elt F) f [⟨Rect.unit ![0, 128] S1024x128.size i1, X1⟩, ⟨Rect.unit ![0, 0] S1024x128.size i0, X0⟩])) (ro 0) = X0
    ∧ View.ld (arg8.view.read (Elt F) (arg8.view.writes (Elt F) f [⟨Rect.unit ![0, 128] S1024x128.size i1, X1⟩, ⟨Rect.unit ![0, 0] S1024x128.size i0, X0⟩])) (ro 1) = X1 := by
  refine ⟨funext fun x => ?_, funext fun x => ?_⟩
  · refine (View.read_writes_cons_miss_of_axis _ _ _ _ _ (1 : Fin 2) 128 128 rfl rfl rfl ?_).trans ?_
    · left
      have h : (x 1).val < 128 := (x 1).isLt
      show 128 * (0 : Fin 2).val + 1 * (x 1).val < 128
      simpa using h
    · exact View.read_writes_cons_emb _ _ (Rect.unit (s := S1024x256) ![0, 0] S1024x128.size i0) X0 [] x
  · exact View.read_writes_cons_emb _ _ (Rect.unit (s := S1024x256) ![0, 128] S1024x128.size i1) X1 _ x

end Cert.KernelIdeal.Attn

end
-- ==== Proof.Attn.Elem.lean ====
module

public import proofs.«01_k».proof.Proof.Attn.Canon
public import Idealize.ShloMosaic.Lib.Pointwise

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The vector expressions of `Canon` over the extended reals, entry by entry. -/

theorem sc_apply (k q : Vec Ideal S1024x256 .bf16) (a b : Fin 1024) :
    sc (F := Ideal) k q (ix2 a b) = ∑ d : Fin 256, (k (ix2 a d) : EReal) * q (ix2 b d) := by
  pointwise [sc]

theorem le_word (a b : Fin 1024) : IntOp.cmpi CmpIPredicate.sle (BitVec.ofNat 32 a.val) (BitVec.ofNat 32 b.val) = if a.val ≤ b.val then 1#1 else 0#1 := by
  have ha := a.isLt
  have hb := b.isLt
  have ea : (BitVec.ofNat 32 a.val).toInt = a.val := by rw [BitVec.toInt_eq_toNat_of_lt (by simp; omega)]; simp; omega
  have eb : (BitVec.ofNat 32 b.val).toInt = b.val := by rw [BitVec.toInt_eq_toNat_of_lt (by simp; omega)]; simp; omega
  simp only [IntOp.cmpi, BitVec.sle, ea, eb]
  by_cases h : a.val ≤ b.val <;> simp [h]

theorem mk_apply (s : FVec Ideal S1024x1024 .f32) (a b : Fin 1024) :
    mk (F := Ideal) s (ix2 a b) = if a.val ≤ b.val then s (ix2 a b) else (⊥ : EReal) := by
  pointwise [mk]
  rw [le_word]
  split
  · rfl
  · exact IdealRules.named_const.ideal_named_scalar _ _ _ _ rfl

theorem sL_apply (s : FVec Ideal S1024x1024 .f32) (l : Vec Ideal S1x8x1024 .f32) (r : Fin 8) (j : Fin 1024) :
    sL (F := Ideal) s l (ix3 0 r j) = (l (ix3 0 r j) : EReal) + ∑ b : Fin 128, Ideal.exp2 (s (ix2 ⟨b.val * 8 + r.val, by omega⟩ j)) := by
  pointwise [sL, s3]
  rfl

theorem pv_apply (v : Vec Ideal S128x1024 .bf16) (p : FVec Ideal S128x8x1024 .f32) (d : Fin 128) (j : Fin 1024) :
    pv (F := Ideal) v p (ix2 d j) = ∑ k : Fin 1024, (v (ix2 d k) : EReal) * p (ix3 ⟨k.val / 8, by omega⟩ ⟨k.val % 8, by omega⟩ j) := by
  pointwise [pv]

theorem s3_apply (s : FVec Ideal S1024x1024 .f32) (b : Fin 128) (r : Fin 8) (j : Fin 1024) :
    s3 (F := Ideal) s (ix3 b r j) = s (ix2 ⟨b.val * 8 + r.val, by omega⟩ j) := by
  pointwise [s3]

theorem s3_exp2_apply (s : FVec Ideal S1024x1024 .f32) (k j : Fin 1024) :
    exp2 (s3 (F := Ideal) s) (ix3 ⟨k.val / 8, by omega⟩ ⟨k.val % 8, by omega⟩ j) = Ideal.exp2 (s (ix2 k j)) := by
  show Ideal.exp2 _ = _
  rw [s3_apply]
  exact congrArg (fun z => Ideal.exp2 (s (ix2 z j))) (Fin.ext (by show k.val / 8 * 8 + k.val % 8 = k.val; omega))

theorem sA_apply (s : FVec Ideal S1024x1024 .f32) (v : Vec Ideal S128x1024 .bf16) (a : Vec Ideal S1x128x1024 .f32) (d : Fin 128) (j : Fin 1024) :
    sA (F := Ideal) s v a (ix3 0 d j) = (a (ix3 0 d j) : EReal) + ∑ k : Fin 1024, (v (ix2 d k) : EReal) * Ideal.exp2 (s (ix2 k j)) := by
  unfold sA
  generalize hp : exp2 (s3 (F := Ideal) s) = p
  pointwise
  rw [pv_apply]
  subst hp
  simp only [s3_exp2_apply]

theorem fin_apply (l : Vec Ideal S1x8x1024 .f32) (a : Vec Ideal S1x128x1024 .f32) (j : Fin 1024) (d : Fin 128) :
    fin (F := Ideal) l a (ix2 j d) = Ideal.div (a (ix3 0 d j)) (∑ r : Fin 8, (l (ix3 0 r j) : EReal)) := by
  pointwise [fin]

theorem nM1_apply (s : FVec Ideal S1024x1024 .f32) (m : Vec Ideal S1x8x1024 .f32) (r : Fin 8) (j : Fin 1024) :
    nM1 (F := Ideal) s m (ix3 0 r j) = nM (F := Ideal) s m (ix2 r j) := by
  pointwise [nM1]

theorem nP_apply (s : FVec Ideal S1024x1024 .f32) (m : Vec Ideal S1x8x1024 .f32) (b : Fin 128) (r : Fin 8) (j : Fin 1024) :
    nP (F := Ideal) s m (ix3 b r j) = Ideal.exp2 ((s (ix2 ⟨b.val * 8 + r.val, by omega⟩ j) : EReal) - nM (F := Ideal) s m (ix2 r j)) := by
  pointwise [nP, s3, nM1]
  rfl

theorem nAl_apply (s : FVec Ideal S1024x1024 .f32) (m : Vec Ideal S1x8x1024 .f32) (r : Fin 8) (j : Fin 1024) :
    nAl (F := Ideal) s m (ix2 r j) = Ideal.exp2 ((m (ix3 0 r j) : EReal) - nM (F := Ideal) s m (ix2 r j)) := by
  pointwise [nAl]
  rfl

theorem nL_apply (s : FVec Ideal S1024x1024 .f32) (m l : Vec Ideal S1x8x1024 .f32) (r : Fin 8) (j : Fin 1024) :
    nL (F := Ideal) s m l (ix3 0 r j) = (nAl (F := Ideal) s m (ix2 r j) : EReal) * l (ix3 0 r j)
      + ∑ b : Fin 128, (nP (F := Ideal) s m (ix3 b r j) : EReal) := by
  pointwise [nL]

theorem nA_apply (s : FVec Ideal S1024x1024 .f32) (v : Vec Ideal S128x1024 .bf16) (m : Vec Ideal S1x8x1024 .f32) (a : Vec Ideal S1x128x1024 .f32) (d : Fin 128) (j : Fin 1024) :
    nA (F := Ideal) s v m a (ix3 0 d j) = (a (ix3 0 d j) : EReal) * nAl (F := Ideal) s m (ix2 ⟨d.val % 8, by omega⟩ j)
      + pv (F := Ideal) v (nP (F := Ideal) s m) (ix2 d j) := by
  pointwise [nA]

/-- The maximum of a column. -/
def mx (s : FVec Ideal S1024x1024 .f32) (j : Fin 1024) : EReal :=
  Finset.fold max (Ideal.ofBits FTy.f32 0xFF800000#32)
    (fun r : Fin 8 => Finset.fold max (Ideal.ofBits FTy.f32 0xFF800000#32) (fun b : Fin 128 => (s (ix2 ⟨b.val * 8 + r.val, by omega⟩ j) : EReal)) Finset.univ) Finset.univ

theorem nM_apply (s : FVec Ideal S1024x1024 .f32) (m : Vec Ideal S1x8x1024 .f32) (r : Fin 8) (j : Fin 1024) :
    nM (F := Ideal) s m (ix2 r j) = max (m (ix3 0 r j)) (mx s j) := by
  pointwise [nM, s3]
  rfl

theorem inf_bits : Ideal.ofBits FTy.f32 0xFF800000#32 = (⊥ : EReal) := by simp [Ideal.ofBits, Ideal.ieee]

theorem le_mx (s : FVec Ideal S1024x1024 .f32) (k j : Fin 1024) : (s (ix2 k j) : EReal) ≤ mx s j := by
  unfold mx
  refine (Finset.le_fold_max _).2 (Or.inr ⟨⟨k.val % 8, by omega⟩, Finset.mem_univ _, (Finset.le_fold_max _).2 (Or.inr ⟨⟨k.val / 8, by omega⟩, Finset.mem_univ _, ?_⟩)⟩)
  exact le_of_eq (congrArg (fun z => (s (ix2 z j) : EReal)) (Fin.ext (by show k.val = k.val / 8 * 8 + k.val % 8; omega)))

theorem mx_lt (s : FVec Ideal S1024x1024 .f32) (j : Fin 1024) (h : ∀ k : Fin 1024, (s (ix2 k j) : EReal) < ⊤) : mx s j < ⊤ := by
  unfold mx
  rw [inf_bits]
  exact (Finset.fold_max_lt _).2 ⟨bot_lt_top, fun r _ => (Finset.fold_max_lt _).2 ⟨bot_lt_top, fun b _ => h _⟩⟩

end Cert.KernelIdeal.Attn

end
-- ==== Proof.Attn.Soft.lean ====
module

public import proofs.«01_k».proof.Proof.Attn.Elem

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The running sums of the attention over the extended reals: what a block of keys adds, on either path, and the quotient at
    the end as a softmax. -/

theorem ereal_mul_add {c : ℝ} (hc : 0 ≤ c) (x y : EReal) : (c : EReal) * (x + y) = c * x + c * y :=
  EReal.left_distrib_of_nonneg_of_ne_top (by exact_mod_cast hc) (EReal.coe_ne_top c) x y

theorem ereal_mul_sum {ι : Type} {c : ℝ} (hc : 0 ≤ c) (S : Finset ι) (f : ι → EReal) :
    (c : EReal) * ∑ i ∈ S, f i = ∑ i ∈ S, (c : EReal) * f i := by
  classical
  induction S using Finset.induction_on with
  | empty => simp
  | insert a S ha ih => rw [Finset.sum_insert ha, Finset.sum_insert ha, ereal_mul_add hc, ih]

theorem ereal_coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A key's weight: two to its score less the offset `M`, and zero past the query. -/
def wt (M : ℝ) (q : ℕ) (S : ℕ → ℝ) (k : ℕ) : ℝ := if k ≤ q then Real.rpow 2 (S k - M) else 0

theorem wt_nonneg (M : ℝ) (q : ℕ) (S : ℕ → ℝ) (k : ℕ) : 0 ≤ wt M q S k := by
  unfold wt; split
  · exact Real.rpow_nonneg (by norm_num) _
  · exact le_refl _

theorem wt_shift (M M' : ℝ) (q : ℕ) (S : ℕ → ℝ) (k : ℕ) : Real.rpow 2 (M - M') * wt M q S k = wt M' q S k := by
  unfold wt; split
  · show (2:ℝ) ^ (M - M') * (2:ℝ) ^ (S k - M) = (2:ℝ) ^ (S k - M')
    rw [← Real.rpow_add (by norm_num)]; congr 1; ring
  · simp

/-- A head's column `j` after `t` blocks of keys, with the offset `M`. -/
structure At (t : ℕ) (M : ℝ) (q : ℕ) (S : ℕ → ℝ) (V : Fin 128 → ℕ → EReal) (j : Fin 1024) (x : St Ideal) : Prop where
  l : ∀ r : Fin 8, (x.l (ix3 0 r j) : EReal) = ∑ b ∈ Finset.range (128 * t), (wt M q S (b * 8 + r.val) : EReal)
  a : ∀ d : Fin 128, (x.a (ix3 0 d j) : EReal) = ∑ k ∈ Finset.range (1024 * t), V d k * (wt M q S k : EReal)

theorem sum_block (n m : ℕ) (f : ℕ → EReal) : ∑ k ∈ Finset.range (n + m), f k = ∑ k ∈ Finset.range n, f k + ∑ k : Fin m, f (n + k.val) := by
  rw [Finset.sum_range_add, Finset.sum_range (fun k => f (n + k))]

/-- The scores of a block of keys: those of the keys up to the query, and minus infinity. -/
def Scores (t q : ℕ) (S : ℕ → ℝ) (j : Fin 1024) (s : FVec Ideal S1024x1024 .f32) : Prop :=
  ∀ k : Fin 1024, (s (ix2 k j) : EReal) = if 1024 * t + k.val ≤ q then (S (1024 * t + k.val) : EReal) else ⊥

theorem exp2_score {t q : ℕ} {S : ℕ → ℝ} {j : Fin 1024} {s : FVec Ideal S1024x1024 .f32} (h : Scores t q S j s) (M : ℝ) (k : Fin 1024) :
    Ideal.exp2 ((s (ix2 k j) : EReal) - (M : EReal)) = (wt M q S (1024 * t + k.val) : EReal) := by
  rw [h k]; unfold wt
  split
  · rw [← EReal.coe_sub]; exact Ideal.exp2_coe _
  · rw [EReal.bot_sub]; simp

theorem exp2_score0 {t q : ℕ} {S : ℕ → ℝ} {j : Fin 1024} {s : FVec Ideal S1024x1024 .f32} (h : Scores t q S j s) (k : Fin 1024) :
    Ideal.exp2 (s (ix2 k j) : EReal) = (wt 0 q S (1024 * t + k.val) : EReal) := by
  rw [← exp2_score h 0 k]; simp

/-- A block on the safe path. -/
theorem safe_block {t q : ℕ} {S : ℕ → ℝ} {V : Fin 128 → ℕ → EReal} {j : Fin 1024} {s : FVec Ideal S1024x1024 .f32} {v : Vec Ideal S128x1024 .bf16} {x : St Ideal}
    (hs : Scores t q S j s) (hv : ∀ d (k : Fin 1024), (v (ix2 d k) : EReal) = V d (1024 * t + k.val)) (hx : At t 0 q S V j x) :
    At (t + 1) 0 q S V j (U true s v x) where
  l r := by
    show sL (F := Ideal) s x.l (ix3 0 r j) = _
    rw [sL_apply, hx.l r, show 128 * (t + 1) = 128 * t + 128 by ring, sum_block]
    refine congrArg (_ + ·) (Finset.sum_congr rfl fun b _ => ?_)
    rw [exp2_score0 hs]
    refine congrArg (fun n : ℕ => (wt 0 q S n : EReal)) ?_
    show 1024 * t + (b.val * 8 + r.val) = (128 * t + b.val) * 8 + r.val
    ring
  a d := by
    show sA (F := Ideal) s v x.a (ix3 0 d j) = _
    rw [sA_apply, hx.a d, show 1024 * (t + 1) = 1024 * t + 1024 by ring, sum_block]
    refine congrArg (_ + ·) (Finset.sum_congr rfl fun k _ => ?_)
    rw [exp2_score0 hs, hv]

/-- A block with the running maximum. -/
theorem online_block {t q : ℕ} {S : ℕ → ℝ} {V : Fin 128 → ℕ → EReal} {j : Fin 1024} {s : FVec Ideal S1024x1024 .f32} {v : Vec Ideal S128x1024 .bf16} {x : St Ideal} {M : ℝ}
    (hs : Scores t q S j s) (hv : ∀ d (k : Fin 1024), (v (ix2 d k) : EReal) = V d (1024 * t + k.val)) (hx : At t M q S V j x)
    (hm : (t = 0 ∧ ∀ r : Fin 8, (x.m (ix3 0 r j) : EReal) = ⊥) ∨ ∀ r : Fin 8, (x.m (ix3 0 r j) : EReal) = (M : EReal)) :
    ∃ M' : ℝ, (∀ r : Fin 8, ((U false s v x).m (ix3 0 r j) : EReal) = (M' : EReal)) ∧ At (t + 1) M' q S V j (U false s v x) := by
  have htop : mx s j < ⊤ := mx_lt s j fun k => by
    rw [hs k]; split
    · exact EReal.coe_lt_top _
    · exact bot_lt_top
  obtain ⟨M', hM'⟩ : ∃ M' : ℝ, ∀ r : Fin 8, (nM (F := Ideal) s x.m (ix2 r j) : EReal) = (M' : EReal) := by
    rcases hm with ⟨h0, hm⟩ | hm
    · have hb : (⊥ : EReal) < mx s j := by
        refine lt_of_lt_of_le ?_ (le_mx s 0 j)
        rw [hs 0, if_pos (by simp [h0])]
        exact EReal.bot_lt_coe _
      refine ⟨(mx s j).toReal, fun r => ?_⟩
      rw [nM_apply, hm r, EReal.coe_toReal htop.ne hb.ne', max_eq_right bot_le]
    · refine ⟨(max (M : EReal) (mx s j)).toReal, fun r => ?_⟩
      rw [nM_apply, hm r, EReal.coe_toReal (max_lt (EReal.coe_lt_top _) htop).ne (lt_of_lt_of_le (EReal.bot_lt_coe M) (le_max_left _ _)).ne']
  obtain ⟨A, hA0, hA, hAw⟩ : ∃ A : ℝ, 0 ≤ A ∧ (∀ r : Fin 8, (nAl (F := Ideal) s x.m (ix2 r j) : EReal) = (A : EReal)) ∧ (t = 0 ∨ ∀ k, A * wt M q S k = wt M' q S k) := by
    rcases hm with ⟨h0, hm⟩ | hm
    · refine ⟨0, le_refl _, fun r => ?_, Or.inl h0⟩
      rw [nAl_apply, hm r, hM' r, EReal.bot_sub]; simp
    · refine ⟨Real.rpow 2 (M - M'), Real.rpow_nonneg (by norm_num) _, fun r => ?_, Or.inr fun k => wt_shift M M' q S k⟩
      rw [nAl_apply, hm r, hM' r, ← EReal.coe_sub]; exact Ideal.exp2_coe _
  refine ⟨M', fun r => ?_, ⟨fun r => ?_, fun d => ?_⟩⟩
  · show (nM1 (F := Ideal) s x.m (ix3 0 r j) : EReal) = _
    rw [nM1_apply, hM' r]
  · show (nL (F := Ideal) s x.m x.l (ix3 0 r j) : EReal) = _
    rw [nL_apply, hA r, hx.l r, ereal_mul_sum hA0, show 128 * (t + 1) = 128 * t + 128 by ring, sum_block]
    refine congrArg₂ (· + ·) (Finset.sum_congr rfl fun b hb => ?_) (Finset.sum_congr rfl fun b _ => ?_)
    · rcases hAw with h0 | h
      · subst h0; simp at hb
      · rw [← EReal.coe_mul, h]
    · rw [nP_apply, hM' r, exp2_score hs]
      refine congrArg (fun n : ℕ => (wt M' q S n : EReal)) ?_
      show 1024 * t + (b.val * 8 + r.val) = (128 * t + b.val) * 8 + r.val
      ring
  · show (nA (F := Ideal) s v x.m x.a (ix3 0 d j) : EReal) = _
    rw [nA_apply, hA, hx.a d, mul_comm, ereal_mul_sum hA0, show 1024 * (t + 1) = 1024 * t + 1024 by ring, sum_block, pv_apply]
    refine congrArg₂ (· + ·) (Finset.sum_congr rfl fun k hk => ?_) (Finset.sum_congr rfl fun k _ => ?_)
    · rcases hAw with h0 | h
      · subst h0; simp at hk
      · rw [mul_left_comm, ← EReal.coe_mul, h]
    · rw [hv, nP_apply, hM', ← exp2_score hs M' k]
      refine congrArg (fun z => V d (1024 * t + k.val) * Ideal.exp2 ((s (ix2 z j) : EReal) - M')) (Fin.ext ?_)
      show k.val / 8 * 8 + k.val % 8 = k.val
      omega

theorem sum_eight (n : ℕ) (f : ℕ → EReal) : ∑ r : Fin 8, ∑ b ∈ Finset.range n, f (b * 8 + r.val) = ∑ k ∈ Finset.range (8 * n), f k := by
  induction n with
  | zero => simp
  | succ n ih =>
    rw [show 8 * (n + 1) = 8 * n + 8 by ring, sum_block, ← ih, ← Finset.sum_add_distrib]
    refine Finset.sum_congr rfl fun r _ => ?_
    rw [Finset.sum_range_succ, mul_comm n 8]

/-- The block that the last step writes. -/
theorem fin_at {t : ℕ} {M : ℝ} {q : ℕ} {S : ℕ → ℝ} {V : Fin 128 → ℕ → EReal} {j : Fin 1024} {x : St Ideal} (hx : At t M q S V j x) (d : Fin 128) :
    (fin (F := Ideal) x.l x.a (ix2 j d) : EReal)
      = Ideal.div (∑ k ∈ Finset.range (1024 * t), V d k * (wt M q S k : EReal)) (∑ k ∈ Finset.range (1024 * t), (wt M q S k : EReal)) := by
  rw [fin_apply, hx.a d]
  refine congrArg (Ideal.div _) ?_
  rw [Finset.sum_congr rfl fun r _ => hx.l r, show 1024 * t = 8 * (128 * t) by ring]
  exact sum_eight (128 * t) fun k => (wt M q S k : EReal)

/-- The quotient is the softmax of the scores taken to the base `e`, whatever the two offsets. -/
theorem quotient_softmax {n q N : ℕ} (hqn : q < n) (hn : n ≤ N) (M X γ : ℝ) (S x : ℕ → ℝ) (V : ℕ → EReal)
    (hγ : 0 < γ) (hw : ∀ k, k ≤ q → Real.rpow 2 (S k - M) = γ * Real.exp (x k - X)) :
    Ideal.div (∑ k ∈ Finset.range n, V k * (wt M q S k : EReal)) (∑ k ∈ Finset.range n, (wt M q S k : EReal))
      = ∑ k : Fin N, Ideal.div (((if k.val ≤ q then Real.exp (x k.val - X) else 0 : ℝ)) : EReal)
          (∑ k : Fin N, (((if k.val ≤ q then Real.exp (x k.val - X) else 0 : ℝ)) : EReal)) * V k.val := by
  set p : ℕ → ℝ := fun k => if k ≤ q then Real.exp (x k - X) else 0 with hp
  have hwp : ∀ k, wt M q S k = γ * p k := fun k => by
    unfold wt; simp only [hp]; split
    · exact hw k ‹_›
    · simp
  have hp0 : ∀ k, 0 ≤ p k := fun k => by simp only [hp]; split; exacts [(Real.exp_pos _).le, le_refl _]
  have hpq : ∀ k, ¬ k < n → p k = 0 := fun k hk => by simp only [hp]; rw [if_neg (by omega)]
  have hZr : ∑ k ∈ Finset.range n, p k = ∑ k ∈ Finset.range N, p k :=
    Finset.sum_subset (fun k hk => by simp only [Finset.mem_range] at *; omega) (fun k _ hk => hpq k (by simpa using hk))
  have hZ : 0 < ∑ k ∈ Finset.range N, p k := by
    refine Finset.sum_pos' (fun k _ => hp0 k) ⟨0, by simp; omega, ?_⟩
    simp only [hp]; rw [if_pos (Nat.zero_le _)]; exact Real.exp_pos _
  rw [show (∑ k : Fin N, ((p k.val : ℝ) : EReal)) = ((∑ k ∈ Finset.range N, p k : ℝ) : EReal) by
    rw [ereal_coe_sum, Finset.sum_range (fun k => (p k : EReal))]]
  rw [← ereal_coe_sum, Finset.sum_congr rfl fun k _ => hwp k, ← Finset.mul_sum, hZr]
  set Z := ∑ k ∈ Finset.range N, p k
  rw [Ideal.div_coe (mul_pos hγ hZ).ne', mul_comm, ereal_mul_sum (by positivity)]
  rw [← Finset.sum_range (fun k => Ideal.div ((p k : ℝ) : EReal) ((Z : ℝ) : EReal) * V k)]
  have step : ∀ k, ((1 / (γ * Z) : ℝ) : EReal) * (V k * (wt M q S k : EReal)) = Ideal.div ((p k : ℝ) : EReal) ((Z : ℝ) : EReal) * V k := fun k => by
    rw [Ideal.div_coe hZ.ne', ← EReal.coe_mul, mul_left_comm, ← EReal.coe_mul, hwp, mul_comm (V k)]
    refine congrArg (fun r : ℝ => (r : EReal) * V k) ?_
    field_simp
  rw [Finset.sum_congr rfl fun k _ => step k]
  refine Finset.sum_subset (fun k hk => by simp only [Finset.mem_range] at *; omega) (fun k _ hk => ?_)
  rw [hpq k (by simpa using hk), Ideal.div_coe hZ.ne']
  simp

end Cert.KernelIdeal.Attn

end
-- ==== Proof.Attn.HdS2.lean ====
module

public import proofs.«01_k».proof.Proof.Attn.Canon
public import proofs.«01_k».proof.Proof.Attn.RunS2

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The steps of the run `RunS2` head by head, as the vector expressions of `Canon`. -/

variable (arg5 : Memref sig .tc .vmem S1024x512 .bf16) (arg6 : Memref sig .tc .vmem S2048x512 .bf16) (arg7 : Memref sig .tc .vmem S256x2048 .bf16)
  (x0 : S1024x512.Idx → Elt F .bf16) (x1 : S2048x512.Idx → Elt F .bf16) (x2 : S256x2048.Idx → Elt F .bf16)
  (xa0 xa1 : S2x8x1024.Idx → Elt F .f32) (xa2 : S2x128x1024.Idx → Elt F .f32)

include arg5 arg6 arg7 x0 x1 x2 xa0 xa1 xa2
theorem runS2.hdv103 :
    (runS2.sl.v103 (F := F) arg5 arg6 x0 x1 xa1) = (UF true 0 0 x0 x1 x2 (st0 false xa0 xa1 xa2 0)).l := by
  refine (View.readCov_skip _ _ _ _ _ (by decide)).trans ?_
  refine (View.readCov_cons_toLoadRect _ _ _ _).trans ?_
  simp only [runS2.sl.v69, runS2.sl.v66, runS2.sl.v64, runS2.sl.v65, runS2.sl.v62, runS2.sl.v59, runS2.sl.v43, runS2.sl.v40, runS2.sl.v42, runS2.sl.cst, View.readAt_rep]
  rfl

theorem runS2.top10 :
    (scL.view.readCov (runS2.sl.HS1_4 (F := F) arg5 arg6 x0 x1 xa1) (rl 0).toLoadRect) = (UF true 1 0 x0 x1 x2 (UF true 0 0 x0 x1 x2 (st0 false xa0 xa1 xa2 0))).l := by
  refine (View.readCov_skip _ _ _ _ _ (by decide)).trans ?_
  refine (View.readCov_cons_toLoadRect _ _ _ _).trans ?_
  simp only [runS2.sl.v109, runS2.sl.v106, runS2.sl.v104, runS2.sl.v105, runS2.sl.v102, runS2.sl.v99, runS2.sl.v53, runS2.sl.v50, runS2.sl.v42, runS2.sl.cst, (runS2.hdv103 arg5 arg6 arg7 x0 x1 x2 xa0 xa1 xa2), View.readAt_rep]
  rfl

theorem runS2.hdv123 :
    (runS2.sl.v123 (F := F) arg5 arg6 x0 x1 xa1) = (UF true 0 1 x0 x1 x2 (st0 false xa0 xa1 xa2 1)).l := by
  refine (View.readCov_skip _ _ _ _ _ (by decide)).trans ?_
  refine (View.readCov_cons_toLoadRect _ _ _ _).trans ?_
  simp only [runS2.sl.v89, runS2.sl.v86, runS2.sl.v84, runS2.sl.v85, runS2.sl.v82, runS2.sl.v79, runS2.sl.v48, runS2.sl.v45, runS2.sl.v47, runS2.sl.cst, runS2.sl.v83, View.readAt_rep]
  rfl

theorem runS2.top11 :
    (scL.view.readCov (runS2.sl.HS1_4 (F := F) arg5 arg6 x0 x1 xa1) (rl 1).toLoadRect) = (UF true 1 1 x0 x1 x2 (UF true 0 1 x0 x1 x2 (st0 false xa0 xa1 xa2 1))).l := by
  refine (View.readCov_cons_toLoadRect _ _ _ _).trans ?_
  simp only [runS2.sl.v129, runS2.sl.v126, runS2.sl.v124, runS2.sl.v125, runS2.sl.v122, runS2.sl.v119, runS2.sl.v58, runS2.sl.v55, runS2.sl.v47, runS2.sl.cst, (runS2.hdv123 arg5 arg6 arg7 x0 x1 x2 xa0 xa1 xa2), View.readAt_rep]
  rfl

theorem runS2.hdv110 :
    (runS2.sl.v110 (F := F) arg5 arg6 arg7 x0 x1 x2 xa2) = (UF true 0 0 x0 x1 x2 (st0 false xa0 xa1 xa2 0)).a := by
  refine (View.readCov_skip _ _ _ _ _ (by decide)).trans ?_
  refine (View.readCov_cons_toLoadRect _ _ _ _).trans ?_
  simp only [runS2.sl.v78, runS2.sl.v75, runS2.sl.v71, runS2.sl.v74, runS2.sl.v61, runS2.sl.v73, runS2.sl.cst_41, runS2.sl.v72, runS2.sl.v62, runS2.sl.v59, runS2.sl.v43, runS2.sl.v40, runS2.sl.v42, runS2.sl.cst, View.readAt_rep]
  rfl

theorem runS2.top20 :
    (scA.view.readCov (runS2.sl.HS2_4 (F := F) arg5 arg6 arg7 x0 x1 x2 xa2) (ra 0).toLoadRect) = (UF true 1 0 x0 x1 x2 (UF true 0 0 x0 x1 x2 (st0 false xa0 xa1 xa2 0))).a := by
  refine (View.readCov_skip _ _ _ _ _ (by decide)).trans ?_
  refine (View.readCov_cons_toLoadRect _ _ _ _).trans ?_
  simp only [runS2.sl.v118, runS2.sl.v115, runS2.sl.v111, runS2.sl.v114, runS2.sl.v101, runS2.sl.v113, runS2.sl.cst_41, runS2.sl.v112, runS2.sl.v102, runS2.sl.v99, runS2.sl.v53, runS2.sl.v50, runS2.sl.v42, runS2.sl.cst, runS2.sl.r_3, (runS2.hdv110 arg5 arg6 arg7 x0 x1 x2 xa0 xa1 xa2), View.readAt_rep]
  rfl

theorem runS2.hdv130 :
    (runS2.sl.v130 (F := F) arg5 arg6 arg7 x0 x1 x2 xa2) = (UF true 0 1 x0 x1 x2 (st0 false xa0 xa1 xa2 1)).a := by
  refine (View.readCov_skip _ _ _ _ _ (by decide)).trans ?_
  refine (View.readCov_cons_toLoadRect _ _ _ _).trans ?_
  simp only [runS2.sl.v98, runS2.sl.v95, runS2.sl.v91, runS2.sl.v94, runS2.sl.v81, runS2.sl.v93, runS2.sl.cst_41, runS2.sl.v92, runS2.sl.v82, runS2.sl.v79, runS2.sl.v48, runS2.sl.v45, runS2.sl.v47, runS2.sl.cst, runS2.sl.v90, View.readAt_rep]
  rfl

theorem runS2.top21 :
    (scA.view.readCov (runS2.sl.HS2_4 (F := F) arg5 arg6 arg7 x0 x1 x2 xa2) (ra 1).toLoadRect) = (UF true 1 1 x0 x1 x2 (UF true 0 1 x0 x1 x2 (st0 false xa0 xa1 xa2 1))).a := by
  refine (View.readCov_cons_toLoadRect _ _ _ _).trans ?_
  simp only [runS2.sl.v121, runS2.sl.v122, runS2.sl.v131, runS2.sl.v119, runS2.sl.v58, runS2.sl.v55, runS2.sl.v47, runS2.sl.cst, (runS2.hdv130 arg5 arg6 arg7 x0 x1 x2 xa0 xa1 xa2), k0_pay161, View.readAt_rep]
  rfl

theorem runS2i.hdv63 :
    (runS2i.sl.v63 (F := F) ) = (st0 true xa0 xa1 xa2 0).l := by
  refine (View.readCov_fill _ _ _ _ _ (by decide)).trans ?_
  rfl

theorem runS2i.hdv103 :
    (runS2i.sl.v103 (F := F) arg5 arg6 x0 x1) = (UF true 0 0 x0 x1 x2 (st0 true xa0 xa1 xa2 0)).l := by
  refine (View.readCov_skip _ _ _ _ _ (by decide)).trans ?_
  refine (View.readCov_cons_toLoadRect _ _ _ _).trans ?_
  simp only [runS2i.sl.v69, runS2i.sl.v66, runS2i.sl.v64, runS2i.sl.v65, runS2i.sl.v62, runS2i.sl.v59, runS2i.sl.v43, runS2i.sl.v40, runS2i.sl.v42, runS2i.sl.cst, (runS2i.hdv63 arg5 arg6 arg7 x0 x1 x2 xa0 xa1 xa2), View.readAt_rep]
  rfl

theorem runS2i.top10 :
    (scL.view.readCov (runS2i.sl.HS1_5 (F := F) arg5 arg6 x0 x1) (rl 0).toLoadRect) = (UF true 1 0 x0 x1 x2 (UF true 0 0 x0 x1 x2 (st0 true xa0 xa1 xa2 0))).l := by
  refine (View.readCov_skip _ _ _ _ _ (by decide)).trans ?_
  refine (View.readCov_cons_toLoadRect _ _ _ _).trans ?_
  simp only [runS2i.sl.v109, runS2i.sl.v106, runS2i.sl.v104, runS2i.sl.v105, runS2i.sl.v102, runS2i.sl.v99, runS2i.sl.v53, runS2i.sl.v50, runS2i.sl.v42, runS2i.sl.cst, (runS2i.hdv103 arg5 arg6 arg7 x0 x1 x2 xa0 xa1 xa2), View.readAt_rep]
  rfl

theorem runS2i.hdv83 :
    (runS2i.sl.v83 (F := F) arg5 arg6 x0 x1) = (st0 true xa0 xa1 xa2 1).l := by
  refine (View.readCov_skip _ _ _ _ _ (by decide)).trans ?_
  refine (View.readCov_fill _ _ _ _ _ (by decide)).trans ?_
  rfl

theorem runS2i.hdv123 :
    (runS2i.sl.v123 (F := F) arg5 arg6 x0 x1) = (UF true 0 1 x0 x1 x2 (st0 true xa0 xa1 xa2 1)).l := by
  refine (View.readCov_skip _ _ _ _ _ (by decide)).trans ?_
  refine (View.readCov_cons_toLoadRect _ _ _ _).trans ?_
  simp only [runS2i.sl.v89, runS2i.sl.v86, runS2i.sl.v84, runS2i.sl.v85, runS2i.sl.v82, runS2i.sl.v79, runS2i.sl.v48, runS2i.sl.v45, runS2i.sl.v47, runS2i.sl.cst, (runS2i.hdv83 arg5 arg6 arg7 x0 x1 x2 xa0 xa1 xa2), View.readAt_rep]
  rfl

theorem runS2i.top11 :
    (scL.view.readCov (runS2i.sl.HS1_5 (F := F) arg5 arg6 x0 x1) (rl 1).toLoadRect) = (UF true 1 1 x0 x1 x2 (UF true 0 1 x0 x1 x2 (st0 true xa0 xa1 xa2 1))).l := by
  refine (View.readCov_cons_toLoadRect _ _ _ _).trans ?_
  simp only [runS2i.sl.v129, runS2i.sl.v126, runS2i.sl.v124, runS2i.sl.v125, runS2i.sl.v122, runS2i.sl.v119, runS2i.sl.v58, runS2i.sl.v55, runS2i.sl.v47, runS2i.sl.cst, (runS2i.hdv123 arg5 arg6 arg7 x0 x1 x2 xa0 xa1 xa2), View.readAt_rep]
  rfl

theorem runS2i.hdv70 :
    (runS2i.sl.v70 (F := F) ) = (st0 true xa0 xa1 xa2 0).a := by
  refine (View.readCov_fill _ _ _ _ _ (by decide)).trans ?_
  rfl

theorem runS2i.hdv110 :
    (runS2i.sl.v110 (F := F) arg5 arg6 arg7 x0 x1 x2) = (UF true 0 0 x0 x1 x2 (st0 true xa0 xa1 xa2 0)).a := by
  refine (View.readCov_skip _ _ _ _ _ (by decide)).trans ?_
  refine (View.readCov_cons_toLoadRect _ _ _ _).trans ?_
  simp only [runS2i.sl.v78, runS2i.sl.v75, runS2i.sl.v71, runS2i.sl.v74, runS2i.sl.v61, runS2i.sl.v73, runS2i.sl.cst_41, runS2i.sl.v72, runS2i.sl.v62, runS2i.sl.v59, runS2i.sl.v43, runS2i.sl.v40, runS2i.sl.v42, runS2i.sl.cst, (runS2i.hdv70 arg5 arg6 arg7 x0 x1 x2 xa0 xa1 xa2), View.readAt_rep]
  rfl

theorem runS2i.top20 :
    (scA.view.readCov (runS2i.sl.HS2_5 (F := F) arg5 arg6 arg7 x0 x1 x2) (ra 0).toLoadRect) = (UF true 1 0 x0 x1 x2 (UF true 0 0 x0 x1 x2 (st0 true xa0 xa1 xa2 0))).a := by
  refine (View.readCov_skip _ _ _ _ _ (by decide)).trans ?_
  refine (View.readCov_cons_toLoadRect _ _ _ _).trans ?_
  simp only [runS2i.sl.v118, runS2i.sl.v115, runS2i.sl.v111, runS2i.sl.v114, runS2i.sl.v101, runS2i.sl.v113, runS2i.sl.cst_41, runS2i.sl.v112, runS2i.sl.v102, runS2i.sl.v99, runS2i.sl.v53, runS2i.sl.v50, runS2i.sl.v42, runS2i.sl.cst, runS2i.sl.r_3, (runS2i.hdv110 arg5 arg6 arg7 x0 x1 x2 xa0 xa1 xa2), View.readAt_rep]
  rfl

theorem runS2i.hdv90 :
    (runS2i.sl.v90 (F := F) arg5 arg6 arg7 x0 x1 x2) = (st0 true xa0 xa1 xa2 1).a := by
  refine (View.readCov_skip _ _ _ _ _ (by decide)).trans ?_
  refine (View.readCov_fill _ _ _ _ _ (by decide)).trans ?_
  rfl

theorem runS2i.hdv130 :
    (runS2i.sl.v130 (F := F) arg5 arg6 arg7 x0 x1 x2) = (UF true 0 1 x0 x1 x2 (st0 true xa0 xa1 xa2 1)).a := by
  refine (View.readCov_skip _ _ _ _ _ (by decide)).trans ?_
  refine (View.readCov_cons_toLoadRect _ _ _ _).trans ?_
  simp only [runS2i.sl.v98, runS2i.sl.v95, runS2i.sl.v91, runS2i.sl.v94, runS2i.sl.v81, runS2i.sl.v93, runS2i.sl.cst_41, runS2i.sl.v92, runS2i.sl.v82, runS2i.sl.v79, runS2i.sl.v48, runS2i.sl.v45, runS2i.sl.v47, runS2i.sl.cst, (runS2i.hdv90 arg5 arg6 arg7 x0 x1 x2 xa0 xa1 xa2), View.readAt_rep]
  rfl

theorem runS2i.top21 :
    (scA.view.readCov (runS2i.sl.HS2_5 (F := F) arg5 arg6 arg7 x0 x1 x2) (ra 1).toLoadRect) = (UF true 1 1 x0 x1 x2 (UF true 0 1 x0 x1 x2 (st0 true xa0 xa1 xa2 1))).a := by
  refine (View.readCov_cons_toLoadRect _ _ _ _).trans ?_
  simp only [runS2i.sl.v121, runS2i.sl.v122, runS2i.sl.v131, runS2i.sl.v119, runS2i.sl.v58, runS2i.sl.v55, runS2i.sl.v47, runS2i.sl.cst, (runS2i.hdv130 arg5 arg6 arg7 x0 x1 x2 xa0 xa1 xa2), k0_pay161, View.readAt_rep]
  rfl

end Cert.KernelIdeal.Attn

end
-- ==== Proof.Attn.EqS2.lean ====
module

public import proofs.«01_k».proof.Proof.Attn.HdS2

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The outputs of the runs, as those. -/

variable (c : Dev nD) (i : grid0.Coords) (arg5 : Memref sig .tc .vmem S1024x512 .bf16) (harg5 : arg5.IsWhole) (arg6 : Memref sig .tc .vmem S2048x512 .bf16) (harg6 : arg6.IsWhole)
  (arg7 : Memref sig .tc .vmem S256x2048 .bf16) (harg7 : arg7.IsWhole) (arg8 : Memref sig .tc .vmem S1024x256 .bf16) (harg8 : arg8.IsWhole)
  (T0 T1 : S72.Idx → Elt F .i32) (T2 : S576.Idx → Elt F .i32) (x0 : S1024x512.Idx → Elt F .bf16) (x1 : S2048x512.Idx → Elt F .bf16) (x2 : S256x2048.Idx → Elt F .bf16) (xa0 : S2x8x1024.Idx → Elt F .f32) (xa1 : S2x8x1024.Idx → Elt F .f32) (xa2 : S2x128x1024.Idx → Elt F .f32)

set_option maxHeartbeats 1000000 in
theorem runS2.eqs (h1 : ¬C1 (rdK (F := F) i T1)) (h2 : C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) :
    (runS2 c i arg5 harg5 arg6 harg6 arg7 harg7 arg8 harg8 T0 T1 T2 x0 x1 x2 xa0 xa1 xa2 h1 h2 h3 h4 h5 h6 h7).1 = xa0
    ∧ (runS2 c i arg5 harg5 arg6 harg6 arg7 harg7 arg8 harg8 T0 T1 T2 x0 x1 x2 xa0 xa1 xa2 h1 h2 h3 h4 h5 h6 h7).2.1 = scL.view.writes (Elt F) scL.view.junk (runS2.sl.HS1_4 (F := F) arg5 arg6 x0 x1 xa1)
    ∧ (runS2 c i arg5 harg5 arg6 harg6 arg7 harg7 arg8 harg8 T0 T1 T2 x0 x1 x2 xa0 xa1 xa2 h1 h2 h3 h4 h5 h6 h7).2.2.1 = scA.view.writes (Elt F) scA.view.junk (runS2.sl.HS2_4 (F := F) arg5 arg6 arg7 x0 x1 x2 xa2) := by
  delta runS2
  exact ⟨by with_reducible rfl, by with_reducible rfl, by with_reducible rfl⟩

set_option maxHeartbeats 1000000 in
theorem runS2.heads (h1 : ¬C1 (rdK (F := F) i T1)) (h2 : C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) (h : Fin 2) :
    st (runS2 c i arg5 harg5 arg6 harg6 arg7 harg7 arg8 harg8 T0 T1 T2 x0 x1 x2 xa0 xa1 xa2 h1 h2 h3 h4 h5 h6 h7).1 (runS2 c i arg5 harg5 arg6 harg6 arg7 harg7 arg8 harg8 T0 T1 T2 x0 x1 x2 xa0 xa1 xa2 h1 h2 h3 h4 h5 h6 h7).2.1 (runS2 c i arg5 harg5 arg6 harg6 arg7 harg7 arg8 harg8 T0 T1 T2 x0 x1 x2 xa0 xa1 xa2 h1 h2 h3 h4 h5 h6 h7).2.2.1 h = W2 true h x0 x1 x2 (st0 false xa0 xa1 xa2 h) := by
  obtain ⟨em, el, ea⟩ := runS2.eqs c i arg5 harg5 arg6 harg6 arg7 harg7 arg8 harg8 T0 T1 T2 x0 x1 x2 xa0 xa1 xa2 h1 h2 h3 h4 h5 h6 h7
  match h with
  | 0 => exact (st_congr em el ea 0).trans (St.ext' (rfl) (stL (runS2.top10 arg5 arg6 arg7 x0 x1 x2 xa0 xa1 xa2)) (stA (runS2.top20 arg5 arg6 arg7 x0 x1 x2 xa0 xa1 xa2)))
  | 1 => exact (st_congr em el ea 1).trans (St.ext' (rfl) (stL (runS2.top11 arg5 arg6 arg7 x0 x1 x2 xa0 xa1 xa2)) (stA (runS2.top21 arg5 arg6 arg7 x0 x1 x2 xa0 xa1 xa2)))

set_option maxHeartbeats 1000000 in
theorem runS2i.eqs (h1 : C1 (rdK (F := F) i T1)) (h2 : C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) :
    (runS2i c i arg5 harg5 arg6 harg6 arg7 harg7 arg8 harg8 T0 T1 T2 x0 x1 x2 xa0 xa1 xa2 h1 h2 h3 h4 h5 h6 h7).1 = scM.view.writes (Elt F) scM.view.junk (runS2i.sl.HS0_1 (F := F))
    ∧ (runS2i c i arg5 harg5 arg6 harg6 arg7 harg7 arg8 harg8 T0 T1 T2 x0 x1 x2 xa0 xa1 xa2 h1 h2 h3 h4 h5 h6 h7).2.1 = scL.view.writes (Elt F) scL.view.junk (runS2i.sl.HS1_5 (F := F) arg5 arg6 x0 x1)
    ∧ (runS2i c i arg5 harg5 arg6 harg6 arg7 harg7 arg8 harg8 T0 T1 T2 x0 x1 x2 xa0 xa1 xa2 h1 h2 h3 h4 h5 h6 h7).2.2.1 = scA.view.writes (Elt F) scA.view.junk (runS2i.sl.HS2_5 (F := F) arg5 arg6 arg7 x0 x1 x2) := by
  delta runS2i
  exact ⟨by with_reducible rfl, by with_reducible rfl, by with_reducible rfl⟩

set_option maxHeartbeats 1000000 in
theorem runS2i.heads (h1 : C1 (rdK (F := F) i T1)) (h2 : C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) (h : Fin 2) :
    st (runS2i c i arg5 harg5 arg6 harg6 arg7 harg7 arg8 harg8 T0 T1 T2 x0 x1 x2 xa0 xa1 xa2 h1 h2 h3 h4 h5 h6 h7).1 (runS2i c i arg5 harg5 arg6 harg6 arg7 harg7 arg8 harg8 T0 T1 T2 x0 x1 x2 xa0 xa1 xa2 h1 h2 h3 h4 h5 h6 h7).2.1 (runS2i c i arg5 harg5 arg6 harg6 arg7 harg7 arg8 harg8 T0 T1 T2 x0 x1 x2 xa0 xa1 xa2 h1 h2 h3 h4 h5 h6 h7).2.2.1 h = W2 true h x0 x1 x2 (st0 true xa0 xa1 xa2 h) := by
  obtain ⟨em, el, ea⟩ := runS2i.eqs c i arg5 harg5 arg6 harg6 arg7 harg7 arg8 harg8 T0 T1 T2 x0 x1 x2 xa0 xa1 xa2 h1 h2 h3 h4 h5 h6 h7
  match h with
  | 0 => exact (st_congr em el ea 0).trans (St.ext' (stM (View.readCov_fill scM.view _ _ _ _ (by decide))) (stL (runS2i.top10 arg5 arg6 arg7 x0 x1 x2 xa0 xa1 xa2)) (stA (runS2i.top20 arg5 arg6 arg7 x0 x1 x2 xa0 xa1 xa2)))
  | 1 => exact (st_congr em el ea 1).trans (St.ext' (stM (View.readCov_fill scM.view _ _ _ _ (by decide))) (stL (runS2i.top11 arg5 arg6 arg7 x0 x1 x2 xa0 xa1 xa2)) (stA (runS2i.top21 arg5 arg6 arg7 x0 x1 x2 xa0 xa1 xa2)))

end Cert.KernelIdeal.Attn

end
-- ==== Proof.Attn.HdS0.lean ====
module

public import proofs.«01_k».proof.Proof.Attn.Canon
public import proofs.«01_k».proof.Proof.Attn.RunS0

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The steps of the run `RunS0` head by head, as the vector expressions of `Canon`. -/

variable (arg5 : Memref sig .tc .vmem S1024x512 .bf16) (arg6 : Memref sig .tc .vmem S2048x512 .bf16) (arg7 : Memref sig .tc .vmem S256x2048 .bf16)
  (x0 : S1024x512.Idx → Elt F .bf16) (x1 : S2048x512.Idx → Elt F .bf16) (x2 : S256x2048.Idx → Elt F .bf16)
  (xa0 xa1 : S2x8x1024.Idx → Elt F .f32) (xa2 : S2x128x1024.Idx → Elt F .f32)

include arg5 arg6 arg7 x0 x1 x2 xa0 xa1 xa2
theorem runS0.top10 :
    (scL.view.readCov (runS0.sl.HS1_2 (F := F) arg5 arg6 x0 x1 xa1) (rl 0).toLoadRect) = (UD true 0 0 x0 x1 x2 (st0 false xa0 xa1 xa2 0)).l := by
  refine (View.readCov_skip _ _ _ _ _ (by decide)).trans ?_
  refine (View.readCov_cons_toLoadRect _ _ _ _).trans ?_
  simp only [k0_pay22, View.readAt_rep]
  rfl

theorem runS0.top11 :
    (scL.view.readCov (runS0.sl.HS1_2 (F := F) arg5 arg6 x0 x1 xa1) (rl 1).toLoadRect) = (UD true 0 1 x0 x1 x2 (st0 false xa0 xa1 xa2 1)).l := by
  refine (View.readCov_cons_toLoadRect _ _ _ _).trans ?_
  simp only [runS0.sl.r_3, runS0.sl.v80, k0_pay26, k0_pay20, k0_pay19, View.readAt_rep]
  rfl

theorem runS0.top20 :
    (scA.view.readCov (runS0.sl.HS2_2 (F := F) arg5 arg6 arg7 x0 x1 x2 xa2) (ra 0).toLoadRect) = (UD true 0 0 x0 x1 x2 (st0 false xa0 xa1 xa2 0)).a := by
  refine (View.readCov_skip _ _ _ _ _ (by decide)).trans ?_
  refine (View.readCov_cons_toLoadRect _ _ _ _).trans ?_
  simp only [runS0.sl.r_4, k0_pay24, k0_pay23, View.readAt_rep]
  rfl

theorem runS0.top21 :
    (scA.view.readCov (runS0.sl.HS2_2 (F := F) arg5 arg6 arg7 x0 x1 x2 xa2) (ra 1).toLoadRect) = (UD true 0 1 x0 x1 x2 (st0 false xa0 xa1 xa2 1)).a := by
  refine (View.readCov_cons_toLoadRect _ _ _ _).trans ?_
  simp only [runS0.sl.r_3, runS0.sl.v87, k0_pay27, k0_pay20, k0_pay19, View.readAt_rep]
  rfl

theorem runS0.hdv107 :
    (runS0.sl.v107 (F := F) arg5 arg6 x0 x1 xa1) = (UD true 0 1 x0 x1 x2 (st0 false xa0 xa1 xa2 1)).l := by
  refine (View.readCov_cons_toLoadRect _ _ _ _).trans ?_
  simp only [runS0.sl.r_3, runS0.sl.v80, k0_pay26, k0_pay20, k0_pay19, View.readAt_rep]
  rfl

theorem runS0.hdv111 :
    (runS0.sl.v111 (F := F) arg5 arg6 arg7 x0 x1 x2 xa2) = (UD true 0 1 x0 x1 x2 (st0 false xa0 xa1 xa2 1)).a := by
  refine (View.readCov_cons_toLoadRect _ _ _ _).trans ?_
  simp only [runS0.sl.r_3, runS0.sl.v87, k0_pay27, k0_pay20, k0_pay19, View.readAt_rep]
  rfl

theorem runS0.out1 :
    (@id (FVec F S1024x128 .bf16) (k0_pay163 (runS0.sl.v107 arg5 arg6 x0 x1 xa1) (runS0.sl.v111 arg5 arg6 arg7 x0 x1 x2 xa2))) = fin (UD true 0 1 x0 x1 x2 (st0 false xa0 xa1 xa2 1)).l (UD true 0 1 x0 x1 x2 (st0 false xa0 xa1 xa2 1)).a := by
  simp only [id, (runS0.hdv107 arg5 arg6 arg7 x0 x1 x2 xa0 xa1 xa2), (runS0.hdv111 arg5 arg6 arg7 x0 x1 x2 xa0 xa1 xa2), k0_pay163, View.readAt_rep]
  rfl

theorem runS0.hdv96 :
    (runS0.sl.v96 (F := F) arg5 arg6 x0 x1 xa1) = (UD true 0 0 x0 x1 x2 (st0 false xa0 xa1 xa2 0)).l := by
  refine (View.readCov_skip _ _ _ _ _ (by decide)).trans ?_
  refine (View.readCov_cons_toLoadRect _ _ _ _).trans ?_
  simp only [k0_pay22, View.readAt_rep]
  rfl

theorem runS0.hdv100 :
    (runS0.sl.v100 (F := F) arg5 arg6 arg7 x0 x1 x2 xa2) = (UD true 0 0 x0 x1 x2 (st0 false xa0 xa1 xa2 0)).a := by
  refine (View.readCov_skip _ _ _ _ _ (by decide)).trans ?_
  refine (View.readCov_cons_toLoadRect _ _ _ _).trans ?_
  simp only [runS0.sl.r_4, k0_pay24, k0_pay23, View.readAt_rep]
  rfl

theorem runS0.out0 :
    (@id (FVec F S1024x128 .bf16) (k0_pay162 (runS0.sl.r_5 arg5 arg6 arg7 x0 x1 x2 xa1 xa2))) = fin (UD true 0 0 x0 x1 x2 (st0 false xa0 xa1 xa2 0)).l (UD true 0 0 x0 x1 x2 (st0 false xa0 xa1 xa2 0)).a := by
  simp only [id, runS0.sl.r_5, (runS0.hdv96 arg5 arg6 arg7 x0 x1 x2 xa0 xa1 xa2), (runS0.hdv100 arg5 arg6 arg7 x0 x1 x2 xa0 xa1 xa2), k0_pay162, k0_pay28, View.readAt_rep]
  rfl

theorem runS0i.hdv58 :
    (runS0i.sl.v58 (F := F) ) = (st0 true xa0 xa1 xa2 0).l := by
  refine (View.readCov_fill _ _ _ _ _ (by decide)).trans ?_
  rfl

theorem runS0i.top10 :
    (scL.view.readCov (runS0i.sl.HS1_3 (F := F) arg5 arg6 x0 x1) (rl 0).toLoadRect) = (UD true 0 0 x0 x1 x2 (st0 true xa0 xa1 xa2 0)).l := by
  refine (View.readCov_skip _ _ _ _ _ (by decide)).trans ?_
  refine (View.readCov_cons_toLoadRect _ _ _ _).trans ?_
  simp only [(runS0i.hdv58 arg5 arg6 arg7 x0 x1 x2 xa0 xa1 xa2), k0_pay22, View.readAt_rep]
  rfl

theorem runS0i.hdv80 :
    (runS0i.sl.v80 (F := F) arg5 arg6 x0 x1) = (st0 true xa0 xa1 xa2 1).l := by
  refine (View.readCov_skip _ _ _ _ _ (by decide)).trans ?_
  refine (View.readCov_fill _ _ _ _ _ (by decide)).trans ?_
  rfl

theorem runS0i.top11 :
    (scL.view.readCov (runS0i.sl.HS1_3 (F := F) arg5 arg6 x0 x1) (rl 1).toLoadRect) = (UD true 0 1 x0 x1 x2 (st0 true xa0 xa1 xa2 1)).l := by
  refine (View.readCov_cons_toLoadRect _ _ _ _).trans ?_
  simp only [runS0i.sl.r_3, (runS0i.hdv80 arg5 arg6 arg7 x0 x1 x2 xa0 xa1 xa2), k0_pay26, k0_pay20, k0_pay19, View.readAt_rep]
  rfl

theorem runS0i.hdv65 :
    (runS0i.sl.v65 (F := F) ) = (st0 true xa0 xa1 xa2 0).a := by
  refine (View.readCov_fill _ _ _ _ _ (by decide)).trans ?_
  rfl

theorem runS0i.top20 :
    (scA.view.readCov (runS0i.sl.HS2_3 (F := F) arg5 arg6 arg7 x0 x1 x2) (ra 0).toLoadRect) = (UD true 0 0 x0 x1 x2 (st0 true xa0 xa1 xa2 0)).a := by
  refine (View.readCov_skip _ _ _ _ _ (by decide)).trans ?_
  refine (View.readCov_cons_toLoadRect _ _ _ _).trans ?_
  simp only [runS0i.sl.r_4, (runS0i.hdv65 arg5 arg6 arg7 x0 x1 x2 xa0 xa1 xa2), k0_pay24, k0_pay23, View.readAt_rep]
  rfl

theorem runS0i.hdv87 :
    (runS0i.sl.v87 (F := F) arg5 arg6 arg7 x0 x1 x2) = (st0 true xa0 xa1 xa2 1).a := by
  refine (View.readCov_skip _ _ _ _ _ (by decide)).trans ?_
  refine (View.readCov_fill _ _ _ _ _ (by decide)).trans ?_
  rfl

theorem runS0i.top21 :
    (scA.view.readCov (runS0i.sl.HS2_3 (F := F) arg5 arg6 arg7 x0 x1 x2) (ra 1).toLoadRect) = (UD true 0 1 x0 x1 x2 (st0 true xa0 xa1 xa2 1)).a := by
  refine (View.readCov_cons_toLoadRect _ _ _ _).trans ?_
  simp only [runS0i.sl.r_3, (runS0i.hdv87 arg5 arg6 arg7 x0 x1 x2 xa0 xa1 xa2), k0_pay27, k0_pay20, k0_pay19, View.readAt_rep]
  rfl

theorem runS0i.hdv107 :
    (runS0i.sl.v107 (F := F) arg5 arg6 x0 x1) = (UD true 0 1 x0 x1 x2 (st0 true xa0 xa1 xa2 1)).l := by
  refine (View.readCov_cons_toLoadRect _ _ _ _).trans ?_
  simp only [runS0i.sl.r_3, (runS0i.hdv80 arg5 arg6 arg7 x0 x1 x2 xa0 xa1 xa2), k0_pay26, k0_pay20, k0_pay19, View.readAt_rep]
  rfl

theorem runS0i.hdv111 :
    (runS0i.sl.v111 (F := F) arg5 arg6 arg7 x0 x1 x2) = (UD true 0 1 x0 x1 x2 (st0 true xa0 xa1 xa2 1)).a := by
  refine (View.readCov_cons_toLoadRect _ _ _ _).trans ?_
  simp only [runS0i.sl.r_3, (runS0i.hdv87 arg5 arg6 arg7 x0 x1 x2 xa0 xa1 xa2), k0_pay27, k0_pay20, k0_pay19, View.readAt_rep]
  rfl

theorem runS0i.out1 :
    (@id (FVec F S1024x128 .bf16) (k0_pay163 (runS0i.sl.v107 arg5 arg6 x0 x1) (runS0i.sl.v111 arg5 arg6 arg7 x0 x1 x2))) = fin (UD true 0 1 x0 x1 x2 (st0 true xa0 xa1 xa2 1)).l (UD true 0 1 x0 x1 x2 (st0 true xa0 xa1 xa2 1)).a := by
  simp only [id, (runS0i.hdv107 arg5 arg6 arg7 x0 x1 x2 xa0 xa1 xa2), (runS0i.hdv111 arg5 arg6 arg7 x0 x1 x2 xa0 xa1 xa2), k0_pay163, View.readAt_rep]
  rfl

theorem runS0i.hdv96 :
    (runS0i.sl.v96 (F := F) arg5 arg6 x0 x1) = (UD true 0 0 x0 x1 x2 (st0 true xa0 xa1 xa2 0)).l := by
  refine (View.readCov_skip _ _ _ _ _ (by decide)).trans ?_
  refine (View.readCov_cons_toLoadRect _ _ _ _).trans ?_
  simp only [(runS0i.hdv58 arg5 arg6 arg7 x0 x1 x2 xa0 xa1 xa2), k0_pay22, View.readAt_rep]
  rfl

theorem runS0i.hdv100 :
    (runS0i.sl.v100 (F := F) arg5 arg6 arg7 x0 x1 x2) = (UD true 0 0 x0 x1 x2 (st0 true xa0 xa1 xa2 0)).a := by
  refine (View.readCov_skip _ _ _ _ _ (by decide)).trans ?_
  refine (View.readCov_cons_toLoadRect _ _ _ _).trans ?_
  simp only [runS0i.sl.r_4, (runS0i.hdv65 arg5 arg6 arg7 x0 x1 x2 xa0 xa1 xa2), k0_pay24, k0_pay23, View.readAt_rep]
  rfl

theorem runS0i.out0 :
    (@id (FVec F S1024x128 .bf16) (k0_pay162 (runS0i.sl.r_5 arg5 arg6 arg7 x0 x1 x2))) = fin (UD true 0 0 x0 x1 x2 (st0 true xa0 xa1 xa2 0)).l (UD true 0 0 x0 x1 x2 (st0 true xa0 xa1 xa2 0)).a := by
  simp only [id, runS0i.sl.r_5, (runS0i.hdv96 arg5 arg6 arg7 x0 x1 x2 xa0 xa1 xa2), (runS0i.hdv100 arg5 arg6 arg7 x0 x1 x2 xa0 xa1 xa2), k0_pay162, k0_pay28, View.readAt_rep]
  rfl

end Cert.KernelIdeal.Attn

end
-- ==== Proof.Attn.EqS0.lean ====
module

public import proofs.«01_k».proof.Proof.Attn.HdS0

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The outputs of the runs, as those. -/

variable (c : Dev nD) (i : grid0.Coords) (arg5 : Memref sig .tc .vmem S1024x512 .bf16) (harg5 : arg5.IsWhole) (arg6 : Memref sig .tc .vmem S2048x512 .bf16) (harg6 : arg6.IsWhole)
  (arg7 : Memref sig .tc .vmem S256x2048 .bf16) (harg7 : arg7.IsWhole) (arg8 : Memref sig .tc .vmem S1024x256 .bf16) (harg8 : arg8.IsWhole)
  (T0 T1 : S72.Idx → Elt F .i32) (T2 : S576.Idx → Elt F .i32) (x0 : S1024x512.Idx → Elt F .bf16) (x1 : S2048x512.Idx → Elt F .bf16) (x2 : S256x2048.Idx → Elt F .bf16) (xa0 : S2x8x1024.Idx → Elt F .f32) (xa1 : S2x8x1024.Idx → Elt F .f32) (xa2 : S2x128x1024.Idx → Elt F .f32)

set_option maxHeartbeats 1000000 in
theorem runS0.eqs (h1 : ¬C1 (rdK (F := F) i T1)) (h2 : ¬C2 (rdQ (F := F) i T0) (rdK (F := F) i T1) (rdS (F := F) i T2)) (h3 : C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) :
    (runS0 c i arg5 harg5 arg6 harg6 arg7 harg7 arg8 harg8 T0 T1 T2 x0 x1 x2 xa0 xa1 xa2 h1 h2 h3 h4 h5 h6 h7).1 = runS0.sl.HO3_2 (F := F) arg5 arg6 arg7 x0 x1 x2 xa1 xa2 ∧ (runS0 c i arg5 harg5 arg6 harg6 arg7 harg7 arg8 harg8 T0 T1 T2 x0 x1 x2 xa0 xa1 xa2 h1 h2 h3 h4 h5 h6 h7).2.1 = xa0
    ∧ (runS0 c i arg5 harg5 arg6 harg6 arg7 harg7 arg8 harg8 T0 T1 T2 x0 x1 x2 xa0 xa1 xa2 h1 h2 h3 h4 h5 h6 h7).2.2.1 = scL.view.writes (Elt F) scL.view.junk (runS0.sl.HS1_2 (F := F) arg5 arg6 x0 x1 xa1)
    ∧ (runS0 c i arg5 harg5 arg6 harg6 arg7 harg7 arg8 harg8 T0 T1 T2 x0 x1 x2 xa0 xa1 xa2 h1 h2 h3 h4 h5 h6 h7).2.2.2.1 = scA.view.writes (Elt F) scA.view.junk (runS0.sl.HS2_2 (F := F) arg5 arg6 arg7 x0 x1 x2 xa2) := by
  delta runS0
  exact ⟨by with_reducible rfl, by with_reducible rfl, by with_reducible rfl, by with_reducible rfl⟩

set_option maxHeartbeats 1000000 in
theorem runS0.heads (h1 : ¬C1 (rdK (F := F) i T1)) (h2 : ¬C2 (rdQ (F := F) i T0) (rdK (F := F) i T1) (rdS (F := F) i T2)) (h3 : C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) (h : Fin 2) :
    st (runS0 c i arg5 harg5 arg6 harg6 arg7 harg7 arg8 harg8 T0 T1 T2 x0 x1 x2 xa0 xa1 xa2 h1 h2 h3 h4 h5 h6 h7).2.1 (runS0 c i arg5 harg5 arg6 harg6 arg7 harg7 arg8 harg8 T0 T1 T2 x0 x1 x2 xa0 xa1 xa2 h1 h2 h3 h4 h5 h6 h7).2.2.1 (runS0 c i arg5 harg5 arg6 harg6 arg7 harg7 arg8 harg8 T0 T1 T2 x0 x1 x2 xa0 xa1 xa2 h1 h2 h3 h4 h5 h6 h7).2.2.2.1 h = W0 true h x0 x1 x2 (st0 false xa0 xa1 xa2 h)
    ∧ ∀ f, View.ld (arg8.view.read (Elt F) (arg8.view.writes (Elt F) f (runS0 c i arg5 harg5 arg6 harg6 arg7 harg7 arg8 harg8 T0 T1 T2 x0 x1 x2 xa0 xa1 xa2 h1 h2 h3 h4 h5 h6 h7).1)) (ro h)
      = fin (W0 true h x0 x1 x2 (st0 false xa0 xa1 xa2 h)).l (W0 true h x0 x1 x2 (st0 false xa0 xa1 xa2 h)).a := by
  obtain ⟨eo, em, el, ea⟩ := runS0.eqs c i arg5 harg5 arg6 harg6 arg7 harg7 arg8 harg8 T0 T1 T2 x0 x1 x2 xa0 xa1 xa2 h1 h2 h3 h4 h5 h6 h7
  match h with
  | 0 => exact ⟨(st_congr em el ea 0).trans (St.ext' (rfl) (stL (runS0.top10 arg5 arg6 arg7 x0 x1 x2 xa0 xa1 xa2)) (stA (runS0.top20 arg5 arg6 arg7 x0 x1 x2 xa0 xa1 xa2))), out_congr eo 0 _ fun f => (ld_out f _ _ _ _).1.trans (runS0.out0 arg5 arg6 arg7 x0 x1 x2 xa0 xa1 xa2)⟩
  | 1 => exact ⟨(st_congr em el ea 1).trans (St.ext' (rfl) (stL (runS0.top11 arg5 arg6 arg7 x0 x1 x2 xa0 xa1 xa2)) (stA (runS0.top21 arg5 arg6 arg7 x0 x1 x2 xa0 xa1 xa2))), out_congr eo 1 _ fun f => (ld_out f _ _ _ _).2.trans (runS0.out1 arg5 arg6 arg7 x0 x1 x2 xa0 xa1 xa2)⟩

set_option maxHeartbeats 1000000 in
theorem runS0i.eqs (h1 : C1 (rdK (F := F) i T1)) (h2 : ¬C2 (rdQ (F := F) i T0) (rdK (F := F) i T1) (rdS (F := F) i T2)) (h3 : C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) :
    (runS0i c i arg5 harg5 arg6 harg6 arg7 harg7 arg8 harg8 T0 T1 T2 x0 x1 x2 xa0 xa1 xa2 h1 h2 h3 h4 h5 h6 h7).1 = runS0i.sl.HO3_2 (F := F) arg5 arg6 arg7 x0 x1 x2 ∧ (runS0i c i arg5 harg5 arg6 harg6 arg7 harg7 arg8 harg8 T0 T1 T2 x0 x1 x2 xa0 xa1 xa2 h1 h2 h3 h4 h5 h6 h7).2.1 = scM.view.writes (Elt F) scM.view.junk (runS0i.sl.HS0_1 (F := F))
    ∧ (runS0i c i arg5 harg5 arg6 harg6 arg7 harg7 arg8 harg8 T0 T1 T2 x0 x1 x2 xa0 xa1 xa2 h1 h2 h3 h4 h5 h6 h7).2.2.1 = scL.view.writes (Elt F) scL.view.junk (runS0i.sl.HS1_3 (F := F) arg5 arg6 x0 x1)
    ∧ (runS0i c i arg5 harg5 arg6 harg6 arg7 harg7 arg8 harg8 T0 T1 T2 x0 x1 x2 xa0 xa1 xa2 h1 h2 h3 h4 h5 h6 h7).2.2.2.1 = scA.view.writes (Elt F) scA.view.junk (runS0i.sl.HS2_3 (F := F) arg5 arg6 arg7 x0 x1 x2) := by
  delta runS0i
  exact ⟨by with_reducible rfl, by with_reducible rfl, by with_reducible rfl, by with_reducible rfl⟩

set_option maxHeartbeats 1000000 in
theorem runS0i.heads (h1 : C1 (rdK (F := F) i T1)) (h2 : ¬C2 (rdQ (F := F) i T0) (rdK (F := F) i T1) (rdS (F := F) i T2)) (h3 : C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) (h : Fin 2) :
    st (runS0i c i arg5 harg5 arg6 harg6 arg7 harg7 arg8 harg8 T0 T1 T2 x0 x1 x2 xa0 xa1 xa2 h1 h2 h3 h4 h5 h6 h7).2.1 (runS0i c i arg5 harg5 arg6 harg6 arg7 harg7 arg8 harg8 T0 T1 T2 x0 x1 x2 xa0 xa1 xa2 h1 h2 h3 h4 h5 h6 h7).2.2.1 (runS0i c i arg5 harg5 arg6 harg6 arg7 harg7 arg8 harg8 T0 T1 T2 x0 x1 x2 xa0 xa1 xa2 h1 h2 h3 h4 h5 h6 h7).2.2.2.1 h = W0 true h x0 x1 x2 (st0 true xa0 xa1 xa2 h)
    ∧ ∀ f, View.ld (arg8.view.read (Elt F) (arg8.view.writes (Elt F) f (runS0i c i arg5 harg5 arg6 harg6 arg7 harg7 arg8 harg8 T0 T1 T2 x0 x1 x2 xa0 xa1 xa2 h1 h2 h3 h4 h5 h6 h7).1)) (ro h)
      = fin (W0 true h x0 x1 x2 (st0 true xa0 xa1 xa2 h)).l (W0 true h x0 x1 x2 (st0 true xa0 xa1 xa2 h)).a := by
  obtain ⟨eo, em, el, ea⟩ := runS0i.eqs c i arg5 harg5 arg6 harg6 arg7 harg7 arg8 harg8 T0 T1 T2 x0 x1 x2 xa0 xa1 xa2 h1 h2 h3 h4 h5 h6 h7
  match h with
  | 0 => exact ⟨(st_congr em el ea 0).trans (St.ext' (stM (View.readCov_fill scM.view _ _ _ _ (by decide))) (stL (runS0i.top10 arg5 arg6 arg7 x0 x1 x2 xa0 xa1 xa2)) (stA (runS0i.top20 arg5 arg6 arg7 x0 x1 x2 xa0 xa1 xa2))), out_congr eo 0 _ fun f => (ld_out f _ _ _ _).1.trans (runS0i.out0 arg5 arg6 arg7 x0 x1 x2 xa0 xa1 xa2)⟩
  | 1 => exact ⟨(st_congr em el ea 1).trans (St.ext' (stM (View.readCov_fill scM.view _ _ _ _ (by decide))) (stL (runS0i.top11 arg5 arg6 arg7 x0 x1 x2 xa0 xa1 xa2)) (stA (runS0i.top21 arg5 arg6 arg7 x0 x1 x2 xa0 xa1 xa2))), out_congr eo 1 _ fun f => (ld_out f _ _ _ _).2.trans (runS0i.out1 arg5 arg6 arg7 x0 x1 x2 xa0 xa1 xa2)⟩

end Cert.KernelIdeal.Attn

end
-- ==== Proof.Attn.HdS1.lean ====
module

public import proofs.«01_k».proof.Proof.Attn.Canon
public import proofs.«01_k».proof.Proof.Attn.RunS1

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The steps of the run `RunS1` head by head, as the vector expressions of `Canon`. -/

variable (arg5 : Memref sig .tc .vmem S1024x512 .bf16) (arg6 : Memref sig .tc .vmem S2048x512 .bf16) (arg7 : Memref sig .tc .vmem S256x2048 .bf16)
  (x0 : S1024x512.Idx → Elt F .bf16) (x1 : S2048x512.Idx → Elt F .bf16) (x2 : S256x2048.Idx → Elt F .bf16)
  (xa0 xa1 : S2x8x1024.Idx → Elt F .f32) (xa2 : S2x128x1024.Idx → Elt F .f32)

include arg5 arg6 arg7 x0 x1 x2 xa0 xa1 xa2
theorem runS1.hdv108 :
    (runS1.sl.v108 (F := F) arg5 arg6 x0 x1 xa1) = (UF true 0 0 x0 x1 x2 (st0 false xa0 xa1 xa2 0)).l := by
  refine (View.readCov_skip _ _ _ _ _ (by decide)).trans ?_
  refine (View.readCov_cons_toLoadRect _ _ _ _).trans ?_
  simp only [runS1.sl.v69, runS1.sl.v66, runS1.sl.v64, runS1.sl.v65, runS1.sl.v62, runS1.sl.v59, runS1.sl.v43, runS1.sl.v40, runS1.sl.v42, runS1.sl.cst, View.readAt_rep]
  rfl

theorem runS1.top10 :
    (scL.view.readCov (runS1.sl.HS1_4 (F := F) arg5 arg6 x0 x1 xa1) (rl 0).toLoadRect) = (UD true 1 0 x0 x1 x2 (UF true 0 0 x0 x1 x2 (st0 false xa0 xa1 xa2 0))).l := by
  refine (View.readCov_skip _ _ _ _ _ (by decide)).trans ?_
  refine (View.readCov_cons_toLoadRect _ _ _ _).trans ?_
  simp only [runS1.sl.v53, runS1.sl.cst_59, runS1.sl.v50, runS1.sl.v42, runS1.sl.cst, (runS1.hdv108 arg5 arg6 arg7 x0 x1 x2 xa0 xa1 xa2), k0_pay41, k0_pay39, View.readAt_rep]
  rfl

theorem runS1.hdv130 :
    (runS1.sl.v130 (F := F) arg5 arg6 x0 x1 xa1) = (UF true 0 1 x0 x1 x2 (st0 false xa0 xa1 xa2 1)).l := by
  refine (View.readCov_skip _ _ _ _ _ (by decide)).trans ?_
  refine (View.readCov_cons_toLoadRect _ _ _ _).trans ?_
  simp only [runS1.sl.v48, runS1.sl.v83, runS1.sl.v45, runS1.sl.v47, runS1.sl.cst, k0_pay37, View.readAt_rep]
  rfl

theorem runS1.top11 :
    (scL.view.readCov (runS1.sl.HS1_4 (F := F) arg5 arg6 x0 x1 xa1) (rl 1).toLoadRect) = (UD true 1 1 x0 x1 x2 (UF true 0 1 x0 x1 x2 (st0 false xa0 xa1 xa2 1))).l := by
  refine (View.readCov_cons_toLoadRect _ _ _ _).trans ?_
  simp only [runS1.sl.v136, runS1.sl.r_5, runS1.sl.v58, runS1.sl.v55, runS1.sl.v47, runS1.sl.cst, (runS1.hdv130 arg5 arg6 arg7 x0 x1 x2 xa0 xa1 xa2), k0_pay45, k0_pay39, View.readAt_rep]
  rfl

theorem runS1.hdv115 :
    (runS1.sl.v115 (F := F) arg5 arg6 arg7 x0 x1 x2 xa2) = (UF true 0 0 x0 x1 x2 (st0 false xa0 xa1 xa2 0)).a := by
  refine (View.readCov_skip _ _ _ _ _ (by decide)).trans ?_
  refine (View.readCov_cons_toLoadRect _ _ _ _).trans ?_
  simp only [runS1.sl.v61, runS1.sl.v62, runS1.sl.v59, runS1.sl.v43, runS1.sl.v40, runS1.sl.v42, runS1.sl.cst, k0_pay35, View.readAt_rep]
  rfl

theorem runS1.top20 :
    (scA.view.readCov (runS1.sl.HS2_4 (F := F) arg5 arg6 arg7 x0 x1 x2 xa2) (ra 0).toLoadRect) = (UD true 1 0 x0 x1 x2 (UF true 0 0 x0 x1 x2 (st0 false xa0 xa1 xa2 0))).a := by
  refine (View.readCov_skip _ _ _ _ _ (by decide)).trans ?_
  refine (View.readCov_cons_toLoadRect _ _ _ _).trans ?_
  simp only [runS1.sl.v53, runS1.sl.cst_59, runS1.sl.v50, runS1.sl.v42, runS1.sl.cst, (runS1.hdv115 arg5 arg6 arg7 x0 x1 x2 xa0 xa1 xa2), k0_pay42, k0_pay39, View.readAt_rep]
  rfl

theorem runS1.hdv137 :
    (runS1.sl.v137 (F := F) arg5 arg6 arg7 x0 x1 x2 xa2) = (UF true 0 1 x0 x1 x2 (st0 false xa0 xa1 xa2 1)).a := by
  refine (View.readCov_skip _ _ _ _ _ (by decide)).trans ?_
  refine (View.readCov_cons_toLoadRect _ _ _ _).trans ?_
  simp only [runS1.sl.v48, runS1.sl.v90, runS1.sl.v45, runS1.sl.v47, runS1.sl.cst, k0_pay38, View.readAt_rep]
  rfl

theorem runS1.top21 :
    (scA.view.readCov (runS1.sl.HS2_4 (F := F) arg5 arg6 arg7 x0 x1 x2 xa2) (ra 1).toLoadRect) = (UD true 1 1 x0 x1 x2 (UF true 0 1 x0 x1 x2 (st0 false xa0 xa1 xa2 1))).a := by
  refine (View.readCov_cons_toLoadRect _ _ _ _).trans ?_
  simp only [runS1.sl.v145, runS1.sl.v142, runS1.sl.v138, runS1.sl.v141, runS1.sl.r_3, runS1.sl.v140, runS1.sl.cst_89, runS1.sl.v139, runS1.sl.r_4, runS1.sl.v58, runS1.sl.v55, runS1.sl.v47, runS1.sl.cst, (runS1.hdv137 arg5 arg6 arg7 x0 x1 x2 xa0 xa1 xa2), k0_pay44, k0_pay39, k0_pay43, View.readAt_rep]
  rfl

theorem runS1.hdv157 :
    (runS1.sl.v157 (F := F) arg5 arg6 x0 x1 xa1) = (UD true 1 1 x0 x1 x2 (UF true 0 1 x0 x1 x2 (st0 false xa0 xa1 xa2 1))).l := by
  refine (View.readCov_cons_toLoadRect _ _ _ _).trans ?_
  simp only [runS1.sl.v136, runS1.sl.r_5, runS1.sl.v58, runS1.sl.v55, runS1.sl.v47, runS1.sl.cst, (runS1.hdv130 arg5 arg6 arg7 x0 x1 x2 xa0 xa1 xa2), k0_pay45, k0_pay39, View.readAt_rep]
  rfl

theorem runS1.hdv161 :
    (runS1.sl.v161 (F := F) arg5 arg6 arg7 x0 x1 x2 xa2) = (UD true 1 1 x0 x1 x2 (UF true 0 1 x0 x1 x2 (st0 false xa0 xa1 xa2 1))).a := by
  refine (View.readCov_cons_toLoadRect _ _ _ _).trans ?_
  simp only [runS1.sl.v145, runS1.sl.v142, runS1.sl.v138, runS1.sl.v141, runS1.sl.r_3, runS1.sl.v140, runS1.sl.cst_89, runS1.sl.v139, runS1.sl.r_4, runS1.sl.v58, runS1.sl.v55, runS1.sl.v47, runS1.sl.cst, (runS1.hdv137 arg5 arg6 arg7 x0 x1 x2 xa0 xa1 xa2), k0_pay44, k0_pay39, k0_pay43, View.readAt_rep]
  rfl

theorem runS1.out1 :
    (@id (FVec F S1024x128 .bf16) (runS1.sl.v166 arg5 arg6 arg7 x0 x1 x2 xa1 xa2)) = fin (UD true 1 1 x0 x1 x2 (UF true 0 1 x0 x1 x2 (st0 false xa0 xa1 xa2 1))).l (UD true 1 1 x0 x1 x2 (UF true 0 1 x0 x1 x2 (st0 false xa0 xa1 xa2 1))).a := by
  simp only [id, runS1.sl.v166, runS1.sl.v165, runS1.sl.v164, runS1.sl.v162, runS1.sl.v163, runS1.sl.v160, runS1.sl.v159, runS1.sl.v158, (runS1.hdv157 arg5 arg6 arg7 x0 x1 x2 xa0 xa1 xa2), (runS1.hdv161 arg5 arg6 arg7 x0 x1 x2 xa0 xa1 xa2), View.readAt_rep]
  rfl

theorem runS1.hdv146 :
    (runS1.sl.v146 (F := F) arg5 arg6 x0 x1 xa1) = (UD true 1 0 x0 x1 x2 (UF true 0 0 x0 x1 x2 (st0 false xa0 xa1 xa2 0))).l := by
  refine (View.readCov_skip _ _ _ _ _ (by decide)).trans ?_
  refine (View.readCov_cons_toLoadRect _ _ _ _).trans ?_
  simp only [runS1.sl.v53, runS1.sl.cst_59, runS1.sl.v50, runS1.sl.v42, runS1.sl.cst, (runS1.hdv108 arg5 arg6 arg7 x0 x1 x2 xa0 xa1 xa2), k0_pay41, k0_pay39, View.readAt_rep]
  rfl

theorem runS1.hdv150 :
    (runS1.sl.v150 (F := F) arg5 arg6 arg7 x0 x1 x2 xa2) = (UD true 1 0 x0 x1 x2 (UF true 0 0 x0 x1 x2 (st0 false xa0 xa1 xa2 0))).a := by
  refine (View.readCov_skip _ _ _ _ _ (by decide)).trans ?_
  refine (View.readCov_cons_toLoadRect _ _ _ _).trans ?_
  simp only [runS1.sl.v53, runS1.sl.cst_59, runS1.sl.v50, runS1.sl.v42, runS1.sl.cst, (runS1.hdv115 arg5 arg6 arg7 x0 x1 x2 xa0 xa1 xa2), k0_pay42, k0_pay39, View.readAt_rep]
  rfl

theorem runS1.out0 :
    (@id (FVec F S1024x128 .bf16) (runS1.sl.v155 arg5 arg6 arg7 x0 x1 x2 xa1 xa2)) = fin (UD true 1 0 x0 x1 x2 (UF true 0 0 x0 x1 x2 (st0 false xa0 xa1 xa2 0))).l (UD true 1 0 x0 x1 x2 (UF true 0 0 x0 x1 x2 (st0 false xa0 xa1 xa2 0))).a := by
  simp only [id, runS1.sl.v155, runS1.sl.v154, runS1.sl.v153, runS1.sl.v151, runS1.sl.v152, runS1.sl.v149, runS1.sl.v148, runS1.sl.v147, (runS1.hdv146 arg5 arg6 arg7 x0 x1 x2 xa0 xa1 xa2), (runS1.hdv150 arg5 arg6 arg7 x0 x1 x2 xa0 xa1 xa2), View.readAt_rep]
  rfl

theorem runS1i.hdv63 :
    (runS1i.sl.v63 (F := F) ) = (st0 true xa0 xa1 xa2 0).l := by
  refine (View.readCov_fill _ _ _ _ _ (by decide)).trans ?_
  rfl

theorem runS1i.hdv108 :
    (runS1i.sl.v108 (F := F) arg5 arg6 x0 x1) = (UF true 0 0 x0 x1 x2 (st0 true xa0 xa1 xa2 0)).l := by
  refine (View.readCov_skip _ _ _ _ _ (by decide)).trans ?_
  refine (View.readCov_cons_toLoadRect _ _ _ _).trans ?_
  simp only [runS1i.sl.v69, runS1i.sl.v66, runS1i.sl.v64, runS1i.sl.v65, runS1i.sl.v62, runS1i.sl.v59, runS1i.sl.v43, runS1i.sl.v40, runS1i.sl.v42, runS1i.sl.cst, (runS1i.hdv63 arg5 arg6 arg7 x0 x1 x2 xa0 xa1 xa2), View.readAt_rep]
  rfl

theorem runS1i.top10 :
    (scL.view.readCov (runS1i.sl.HS1_5 (F := F) arg5 arg6 x0 x1) (rl 0).toLoadRect) = (UD true 1 0 x0 x1 x2 (UF true 0 0 x0 x1 x2 (st0 true xa0 xa1 xa2 0))).l := by
  refine (View.readCov_skip _ _ _ _ _ (by decide)).trans ?_
  refine (View.readCov_cons_toLoadRect _ _ _ _).trans ?_
  simp only [runS1i.sl.v53, runS1i.sl.cst_59, runS1i.sl.v50, runS1i.sl.v42, runS1i.sl.cst, (runS1i.hdv108 arg5 arg6 arg7 x0 x1 x2 xa0 xa1 xa2), k0_pay41, k0_pay39, View.readAt_rep]
  rfl

theorem runS1i.hdv83 :
    (runS1i.sl.v83 (F := F) arg5 arg6 x0 x1) = (st0 true xa0 xa1 xa2 1).l := by
  refine (View.readCov_skip _ _ _ _ _ (by decide)).trans ?_
  refine (View.readCov_fill _ _ _ _ _ (by decide)).trans ?_
  rfl

theorem runS1i.hdv130 :
    (runS1i.sl.v130 (F := F) arg5 arg6 x0 x1) = (UF true 0 1 x0 x1 x2 (st0 true xa0 xa1 xa2 1)).l := by
  refine (View.readCov_skip _ _ _ _ _ (by decide)).trans ?_
  refine (View.readCov_cons_toLoadRect _ _ _ _).trans ?_
  simp only [runS1i.sl.v48, runS1i.sl.v45, runS1i.sl.v47, runS1i.sl.cst, (runS1i.hdv83 arg5 arg6 arg7 x0 x1 x2 xa0 xa1 xa2), k0_pay37, View.readAt_rep]
  rfl

theorem runS1i.top11 :
    (scL.view.readCov (runS1i.sl.HS1_5 (F := F) arg5 arg6 x0 x1) (rl 1).toLoadRect) = (UD true 1 1 x0 x1 x2 (UF true 0 1 x0 x1 x2 (st0 true xa0 xa1 xa2 1))).l := by
  refine (View.readCov_cons_toLoadRect _ _ _ _).trans ?_
  simp only [runS1i.sl.v136, runS1i.sl.r_5, runS1i.sl.v58, runS1i.sl.v55, runS1i.sl.v47, runS1i.sl.cst, (runS1i.hdv130 arg5 arg6 arg7 x0 x1 x2 xa0 xa1 xa2), k0_pay45, k0_pay39, View.readAt_rep]
  rfl

theorem runS1i.hdv70 :
    (runS1i.sl.v70 (F := F) ) = (st0 true xa0 xa1 xa2 0).a := by
  refine (View.readCov_fill _ _ _ _ _ (by decide)).trans ?_
  rfl

theorem runS1i.hdv115 :
    (runS1i.sl.v115 (F := F) arg5 arg6 arg7 x0 x1 x2) = (UF true 0 0 x0 x1 x2 (st0 true xa0 xa1 xa2 0)).a := by
  refine (View.readCov_skip _ _ _ _ _ (by decide)).trans ?_
  refine (View.readCov_cons_toLoadRect _ _ _ _).trans ?_
  simp only [runS1i.sl.v61, runS1i.sl.v62, runS1i.sl.v59, runS1i.sl.v43, runS1i.sl.v40, runS1i.sl.v42, runS1i.sl.cst, (runS1i.hdv70 arg5 arg6 arg7 x0 x1 x2 xa0 xa1 xa2), k0_pay35, View.readAt_rep]
  rfl

theorem runS1i.top20 :
    (scA.view.readCov (runS1i.sl.HS2_5 (F := F) arg5 arg6 arg7 x0 x1 x2) (ra 0).toLoadRect) = (UD true 1 0 x0 x1 x2 (UF true 0 0 x0 x1 x2 (st0 true xa0 xa1 xa2 0))).a := by
  refine (View.readCov_skip _ _ _ _ _ (by decide)).trans ?_
  refine (View.readCov_cons_toLoadRect _ _ _ _).trans ?_
  simp only [runS1i.sl.v53, runS1i.sl.cst_59, runS1i.sl.v50, runS1i.sl.v42, runS1i.sl.cst, (runS1i.hdv115 arg5 arg6 arg7 x0 x1 x2 xa0 xa1 xa2), k0_pay42, k0_pay39, View.readAt_rep]
  rfl

theorem runS1i.hdv90 :
    (runS1i.sl.v90 (F := F) arg5 arg6 arg7 x0 x1 x2) = (st0 true xa0 xa1 xa2 1).a := by
  refine (View.readCov_skip _ _ _ _ _ (by decide)).trans ?_
  refine (View.readCov_fill _ _ _ _ _ (by decide)).trans ?_
  rfl

theorem runS1i.hdv137 :
    (runS1i.sl.v137 (F := F) arg5 arg6 arg7 x0 x1 x2) = (UF true 0 1 x0 x1 x2 (st0 true xa0 xa1 xa2 1)).a := by
  refine (View.readCov_skip _ _ _ _ _ (by decide)).trans ?_
  refine (View.readCov_cons_toLoadRect _ _ _ _).trans ?_
  simp only [runS1i.sl.v48, runS1i.sl.v45, runS1i.sl.v47, runS1i.sl.cst, (runS1i.hdv90 arg5 arg6 arg7 x0 x1 x2 xa0 xa1 xa2), k0_pay38, View.readAt_rep]
  rfl

theorem runS1i.top21 :
    (scA.view.readCov (runS1i.sl.HS2_5 (F := F) arg5 arg6 arg7 x0 x1 x2) (ra 1).toLoadRect) = (UD true 1 1 x0 x1 x2 (UF true 0 1 x0 x1 x2 (st0 true xa0 xa1 xa2 1))).a := by
  refine (View.readCov_cons_toLoadRect _ _ _ _).trans ?_
  simp only [runS1i.sl.v145, runS1i.sl.v142, runS1i.sl.v138, runS1i.sl.v141, runS1i.sl.r_3, runS1i.sl.v140, runS1i.sl.cst_89, runS1i.sl.v139, runS1i.sl.r_4, runS1i.sl.v58, runS1i.sl.v55, runS1i.sl.v47, runS1i.sl.cst, (runS1i.hdv137 arg5 arg6 arg7 x0 x1 x2 xa0 xa1 xa2), k0_pay44, k0_pay39, k0_pay43, View.readAt_rep]
  rfl

theorem runS1i.hdv157 :
    (runS1i.sl.v157 (F := F) arg5 arg6 x0 x1) = (UD true 1 1 x0 x1 x2 (UF true 0 1 x0 x1 x2 (st0 true xa0 xa1 xa2 1))).l := by
  refine (View.readCov_cons_toLoadRect _ _ _ _).trans ?_
  simp only [runS1i.sl.v136, runS1i.sl.r_5, runS1i.sl.v58, runS1i.sl.v55, runS1i.sl.v47, runS1i.sl.cst, (runS1i.hdv130 arg5 arg6 arg7 x0 x1 x2 xa0 xa1 xa2), k0_pay45, k0_pay39, View.readAt_rep]
  rfl

theorem runS1i.hdv161 :
    (runS1i.sl.v161 (F := F) arg5 arg6 arg7 x0 x1 x2) = (UD true 1 1 x0 x1 x2 (UF true 0 1 x0 x1 x2 (st0 true xa0 xa1 xa2 1))).a := by
  refine (View.readCov_cons_toLoadRect _ _ _ _).trans ?_
  simp only [runS1i.sl.v145, runS1i.sl.v142, runS1i.sl.v138, runS1i.sl.v141, runS1i.sl.r_3, runS1i.sl.v140, runS1i.sl.cst_89, runS1i.sl.v139, runS1i.sl.r_4, runS1i.sl.v58, runS1i.sl.v55, runS1i.sl.v47, runS1i.sl.cst, (runS1i.hdv137 arg5 arg6 arg7 x0 x1 x2 xa0 xa1 xa2), k0_pay44, k0_pay39, k0_pay43, View.readAt_rep]
  rfl

theorem runS1i.out1 :
    (@id (FVec F S1024x128 .bf16) (runS1i.sl.v166 arg5 arg6 arg7 x0 x1 x2)) = fin (UD true 1 1 x0 x1 x2 (UF true 0 1 x0 x1 x2 (st0 true xa0 xa1 xa2 1))).l (UD true 1 1 x0 x1 x2 (UF true 0 1 x0 x1 x2 (st0 true xa0 xa1 xa2 1))).a := by
  simp only [id, runS1i.sl.v166, runS1i.sl.v165, runS1i.sl.v164, runS1i.sl.v162, runS1i.sl.v163, runS1i.sl.v160, runS1i.sl.v159, runS1i.sl.v158, (runS1i.hdv157 arg5 arg6 arg7 x0 x1 x2 xa0 xa1 xa2), (runS1i.hdv161 arg5 arg6 arg7 x0 x1 x2 xa0 xa1 xa2), View.readAt_rep]
  rfl

theorem runS1i.hdv146 :
    (runS1i.sl.v146 (F := F) arg5 arg6 x0 x1) = (UD true 1 0 x0 x1 x2 (UF true 0 0 x0 x1 x2 (st0 true xa0 xa1 xa2 0))).l := by
  refine (View.readCov_skip _ _ _ _ _ (by decide)).trans ?_
  refine (View.readCov_cons_toLoadRect _ _ _ _).trans ?_
  simp only [runS1i.sl.v53, runS1i.sl.cst_59, runS1i.sl.v50, runS1i.sl.v42, runS1i.sl.cst, (runS1i.hdv108 arg5 arg6 arg7 x0 x1 x2 xa0 xa1 xa2), k0_pay41, k0_pay39, View.readAt_rep]
  rfl

theorem runS1i.hdv150 :
    (runS1i.sl.v150 (F := F) arg5 arg6 arg7 x0 x1 x2) = (UD true 1 0 x0 x1 x2 (UF true 0 0 x0 x1 x2 (st0 true xa0 xa1 xa2 0))).a := by
  refine (View.readCov_skip _ _ _ _ _ (by decide)).trans ?_
  refine (View.readCov_cons_toLoadRect _ _ _ _).trans ?_
  simp only [runS1i.sl.v53, runS1i.sl.cst_59, runS1i.sl.v50, runS1i.sl.v42, runS1i.sl.cst, (runS1i.hdv115 arg5 arg6 arg7 x0 x1 x2 xa0 xa1 xa2), k0_pay42, k0_pay39, View.readAt_rep]
  rfl

theorem runS1i.out0 :
    (@id (FVec F S1024x128 .bf16) (runS1i.sl.v155 arg5 arg6 arg7 x0 x1 x2)) = fin (UD true 1 0 x0 x1 x2 (UF true 0 0 x0 x1 x2 (st0 true xa0 xa1 xa2 0))).l (UD true 1 0 x0 x1 x2 (UF true 0 0 x0 x1 x2 (st0 true xa0 xa1 xa2 0))).a := by
  simp only [id, runS1i.sl.v155, runS1i.sl.v154, runS1i.sl.v153, runS1i.sl.v151, runS1i.sl.v152, runS1i.sl.v149, runS1i.sl.v148, runS1i.sl.v147, (runS1i.hdv146 arg5 arg6 arg7 x0 x1 x2 xa0 xa1 xa2), (runS1i.hdv150 arg5 arg6 arg7 x0 x1 x2 xa0 xa1 xa2), View.readAt_rep]
  rfl

end Cert.KernelIdeal.Attn

end
-- ==== Proof.Attn.EqS1.lean ====
module

public import proofs.«01_k».proof.Proof.Attn.HdS1

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The outputs of the runs, as those. -/

variable (c : Dev nD) (i : grid0.Coords) (arg5 : Memref sig .tc .vmem S1024x512 .bf16) (harg5 : arg5.IsWhole) (arg6 : Memref sig .tc .vmem S2048x512 .bf16) (harg6 : arg6.IsWhole)
  (arg7 : Memref sig .tc .vmem S256x2048 .bf16) (harg7 : arg7.IsWhole) (arg8 : Memref sig .tc .vmem S1024x256 .bf16) (harg8 : arg8.IsWhole)
  (T0 T1 : S72.Idx → Elt F .i32) (T2 : S576.Idx → Elt F .i32) (x0 : S1024x512.Idx → Elt F .bf16) (x1 : S2048x512.Idx → Elt F .bf16) (x2 : S256x2048.Idx → Elt F .bf16) (xa0 : S2x8x1024.Idx → Elt F .f32) (xa1 : S2x8x1024.Idx → Elt F .f32) (xa2 : S2x128x1024.Idx → Elt F .f32)

set_option maxHeartbeats 1000000 in
theorem runS1.eqs (h1 : ¬C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) :
    (runS1 c i arg5 harg5 arg6 harg6 arg7 harg7 arg8 harg8 T0 T1 T2 x0 x1 x2 xa0 xa1 xa2 h1 h2 h3 h4 h5 h6 h7).1 = runS1.sl.HO3_2 (F := F) arg5 arg6 arg7 x0 x1 x2 xa1 xa2 ∧ (runS1 c i arg5 harg5 arg6 harg6 arg7 harg7 arg8 harg8 T0 T1 T2 x0 x1 x2 xa0 xa1 xa2 h1 h2 h3 h4 h5 h6 h7).2.1 = xa0
    ∧ (runS1 c i arg5 harg5 arg6 harg6 arg7 harg7 arg8 harg8 T0 T1 T2 x0 x1 x2 xa0 xa1 xa2 h1 h2 h3 h4 h5 h6 h7).2.2.1 = scL.view.writes (Elt F) scL.view.junk (runS1.sl.HS1_4 (F := F) arg5 arg6 x0 x1 xa1)
    ∧ (runS1 c i arg5 harg5 arg6 harg6 arg7 harg7 arg8 harg8 T0 T1 T2 x0 x1 x2 xa0 xa1 xa2 h1 h2 h3 h4 h5 h6 h7).2.2.2.1 = scA.view.writes (Elt F) scA.view.junk (runS1.sl.HS2_4 (F := F) arg5 arg6 arg7 x0 x1 x2 xa2) := by
  delta runS1
  exact ⟨by with_reducible rfl, by with_reducible rfl, by with_reducible rfl, by with_reducible rfl⟩

set_option maxHeartbeats 1000000 in
theorem runS1.heads (h1 : ¬C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) (h : Fin 2) :
    st (runS1 c i arg5 harg5 arg6 harg6 arg7 harg7 arg8 harg8 T0 T1 T2 x0 x1 x2 xa0 xa1 xa2 h1 h2 h3 h4 h5 h6 h7).2.1 (runS1 c i arg5 harg5 arg6 harg6 arg7 harg7 arg8 harg8 T0 T1 T2 x0 x1 x2 xa0 xa1 xa2 h1 h2 h3 h4 h5 h6 h7).2.2.1 (runS1 c i arg5 harg5 arg6 harg6 arg7 harg7 arg8 harg8 T0 T1 T2 x0 x1 x2 xa0 xa1 xa2 h1 h2 h3 h4 h5 h6 h7).2.2.2.1 h = W1 true h x0 x1 x2 (st0 false xa0 xa1 xa2 h)
    ∧ ∀ f, View.ld (arg8.view.read (Elt F) (arg8.view.writes (Elt F) f (runS1 c i arg5 harg5 arg6 harg6 arg7 harg7 arg8 harg8 T0 T1 T2 x0 x1 x2 xa0 xa1 xa2 h1 h2 h3 h4 h5 h6 h7).1)) (ro h)
      = fin (W1 true h x0 x1 x2 (st0 false xa0 xa1 xa2 h)).l (W1 true h x0 x1 x2 (st0 false xa0 xa1 xa2 h)).a := by
  obtain ⟨eo, em, el, ea⟩ := runS1.eqs c i arg5 harg5 arg6 harg6 arg7 harg7 arg8 harg8 T0 T1 T2 x0 x1 x2 xa0 xa1 xa2 h1 h2 h3 h4 h5 h6 h7
  match h with
  | 0 => exact ⟨(st_congr em el ea 0).trans (St.ext' (rfl) (stL (runS1.top10 arg5 arg6 arg7 x0 x1 x2 xa0 xa1 xa2)) (stA (runS1.top20 arg5 arg6 arg7 x0 x1 x2 xa0 xa1 xa2))), out_congr eo 0 _ fun f => (ld_out f _ _ _ _).1.trans (runS1.out0 arg5 arg6 arg7 x0 x1 x2 xa0 xa1 xa2)⟩
  | 1 => exact ⟨(st_congr em el ea 1).trans (St.ext' (rfl) (stL (runS1.top11 arg5 arg6 arg7 x0 x1 x2 xa0 xa1 xa2)) (stA (runS1.top21 arg5 arg6 arg7 x0 x1 x2 xa0 xa1 xa2))), out_congr eo 1 _ fun f => (ld_out f _ _ _ _).2.trans (runS1.out1 arg5 arg6 arg7 x0 x1 x2 xa0 xa1 xa2)⟩

set_option maxHeartbeats 1000000 in
theorem runS1i.eqs (h1 : C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) :
    (runS1i c i arg5 harg5 arg6 harg6 arg7 harg7 arg8 harg8 T0 T1 T2 x0 x1 x2 xa0 xa1 xa2 h1 h2 h3 h4 h5 h6 h7).1 = runS1i.sl.HO3_2 (F := F) arg5 arg6 arg7 x0 x1 x2 ∧ (runS1i c i arg5 harg5 arg6 harg6 arg7 harg7 arg8 harg8 T0 T1 T2 x0 x1 x2 xa0 xa1 xa2 h1 h2 h3 h4 h5 h6 h7).2.1 = scM.view.writes (Elt F) scM.view.junk (runS1i.sl.HS0_1 (F := F))
    ∧ (runS1i c i arg5 harg5 arg6 harg6 arg7 harg7 arg8 harg8 T0 T1 T2 x0 x1 x2 xa0 xa1 xa2 h1 h2 h3 h4 h5 h6 h7).2.2.1 = scL.view.writes (Elt F) scL.view.junk (runS1i.sl.HS1_5 (F := F) arg5 arg6 x0 x1)
    ∧ (runS1i c i arg5 harg5 arg6 harg6 arg7 harg7 arg8 harg8 T0 T1 T2 x0 x1 x2 xa0 xa1 xa2 h1 h2 h3 h4 h5 h6 h7).2.2.2.1 = scA.view.writes (Elt F) scA.view.junk (runS1i.sl.HS2_5 (F := F) arg5 arg6 arg7 x0 x1 x2) := by
  delta runS1i
  exact ⟨by with_reducible rfl, by with_reducible rfl, by with_reducible rfl, by with_reducible rfl⟩

set_option maxHeartbeats 1000000 in
theorem runS1i.heads (h1 : C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) (h : Fin 2) :
    st (runS1i c i arg5 harg5 arg6 harg6 arg7 harg7 arg8 harg8 T0 T1 T2 x0 x1 x2 xa0 xa1 xa2 h1 h2 h3 h4 h5 h6 h7).2.1 (runS1i c i arg5 harg5 arg6 harg6 arg7 harg7 arg8 harg8 T0 T1 T2 x0 x1 x2 xa0 xa1 xa2 h1 h2 h3 h4 h5 h6 h7).2.2.1 (runS1i c i arg5 harg5 arg6 harg6 arg7 harg7 arg8 harg8 T0 T1 T2 x0 x1 x2 xa0 xa1 xa2 h1 h2 h3 h4 h5 h6 h7).2.2.2.1 h = W1 true h x0 x1 x2 (st0 true xa0 xa1 xa2 h)
    ∧ ∀ f, View.ld (arg8.view.read (Elt F) (arg8.view.writes (Elt F) f (runS1i c i arg5 harg5 arg6 harg6 arg7 harg7 arg8 harg8 T0 T1 T2 x0 x1 x2 xa0 xa1 xa2 h1 h2 h3 h4 h5 h6 h7).1)) (ro h)
      = fin (W1 true h x0 x1 x2 (st0 true xa0 xa1 xa2 h)).l (W1 true h x0 x1 x2 (st0 true xa0 xa1 xa2 h)).a := by
  obtain ⟨eo, em, el, ea⟩ := runS1i.eqs c i arg5 harg5 arg6 harg6 arg7 harg7 arg8 harg8 T0 T1 T2 x0 x1 x2 xa0 xa1 xa2 h1 h2 h3 h4 h5 h6 h7
  match h with
  | 0 => exact ⟨(st_congr em el ea 0).trans (St.ext' (stM (View.readCov_fill scM.view _ _ _ _ (by decide))) (stL (runS1i.top10 arg5 arg6 arg7 x0 x1 x2 xa0 xa1 xa2)) (stA (runS1i.top20 arg5 arg6 arg7 x0 x1 x2 xa0 xa1 xa2))), out_congr eo 0 _ fun f => (ld_out f _ _ _ _).1.trans (runS1i.out0 arg5 arg6 arg7 x0 x1 x2 xa0 xa1 xa2)⟩
  | 1 => exact ⟨(st_congr em el ea 1).trans (St.ext' (stM (View.readCov_fill scM.view _ _ _ _ (by decide))) (stL (runS1i.top11 arg5 arg6 arg7 x0 x1 x2 xa0 xa1 xa2)) (stA (runS1i.top21 arg5 arg6 arg7 x0 x1 x2 xa0 xa1 xa2))), out_congr eo 1 _ fun f => (ld_out f _ _ _ _).2.trans (runS1i.out1 arg5 arg6 arg7 x0 x1 x2 xa0 xa1 xa2)⟩

end Cert.KernelIdeal.Attn

end
-- ==== Proof.Attn.HdN2.lean ====
module

public import proofs.«01_k».proof.Proof.Attn.Canon
public import proofs.«01_k».proof.Proof.Attn.RunN2

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The steps of the run `RunN2` head by head, as the vector expressions of `Canon`. -/

variable (arg5 : Memref sig .tc .vmem S1024x512 .bf16) (arg6 : Memref sig .tc .vmem S2048x512 .bf16) (arg7 : Memref sig .tc .vmem S256x2048 .bf16)
  (x0 : S1024x512.Idx → Elt F .bf16) (x1 : S2048x512.Idx → Elt F .bf16) (x2 : S256x2048.Idx → Elt F .bf16)
  (xa0 xa1 : S2x8x1024.Idx → Elt F .f32) (xa2 : S2x128x1024.Idx → Elt F .f32)

include arg5 arg6 arg7 x0 x1 x2 xa0 xa1 xa2
theorem runN2.hdv144 :
    (runN2.sl.v144 (F := F) arg5 arg6 x0 x1 xa0) = (UF false 0 0 x0 x1 x2 (st0 false xa0 xa1 xa2 0)).m := by
  refine (View.readCov_skip _ _ _ _ _ (by decide)).trans ?_
  refine (View.readCov_cons_toLoadRect _ _ _ _).trans ?_
  simp only [runN2.sl.v69, runN2.sl.v68, runN2.sl.v63, runN2.sl.v67, runN2.sl.v66, runN2.sl.v65, runN2.sl.v64, runN2.sl.v59, runN2.sl.v43, runN2.sl.v40, runN2.sl.v42, runN2.sl.cst, View.readAt_rep]
  rfl

theorem runN2.top00 :
    (scM.view.readCov (runN2.sl.HS0_4 (F := F) arg5 arg6 x0 x1 xa0) (rl 0).toLoadRect) = (UF false 1 0 x0 x1 x2 (UF false 0 0 x0 x1 x2 (st0 false xa0 xa1 xa2 0))).m := by
  refine (View.readCov_skip _ _ _ _ _ (by decide)).trans ?_
  refine (View.readCov_cons_toLoadRect _ _ _ _).trans ?_
  simp only [runN2.sl.v151, runN2.sl.v150, runN2.sl.v145, runN2.sl.v149, runN2.sl.v148, runN2.sl.v147, runN2.sl.v146, runN2.sl.v141, runN2.sl.v53, runN2.sl.v50, runN2.sl.v42, runN2.sl.cst, (runN2.hdv144 arg5 arg6 arg7 x0 x1 x2 xa0 xa1 xa2), View.readAt_rep]
  rfl

theorem runN2.hdv185 :
    (runN2.sl.v185 (F := F) arg5 arg6 x0 x1 xa0) = (UF false 0 1 x0 x1 x2 (st0 false xa0 xa1 xa2 1)).m := by
  refine (View.readCov_skip _ _ _ _ _ (by decide)).trans ?_
  refine (View.readCov_cons_toLoadRect _ _ _ _).trans ?_
  simp only [runN2.sl.v110, runN2.sl.v109, runN2.sl.v104, runN2.sl.v108, runN2.sl.v107, runN2.sl.v106, runN2.sl.v105, runN2.sl.v100, runN2.sl.v48, runN2.sl.v45, runN2.sl.v47, runN2.sl.cst, runN2.sl.v103, View.readAt_rep]
  rfl

theorem runN2.top01 :
    (scM.view.readCov (runN2.sl.HS0_4 (F := F) arg5 arg6 x0 x1 xa0) (rl 1).toLoadRect) = (UF false 1 1 x0 x1 x2 (UF false 0 1 x0 x1 x2 (st0 false xa0 xa1 xa2 1))).m := by
  refine (View.readCov_cons_toLoadRect _ _ _ _).trans ?_
  simp only [runN2.sl.v192, runN2.sl.v191, runN2.sl.v186, runN2.sl.v190, runN2.sl.v189, runN2.sl.v188, runN2.sl.v187, runN2.sl.v182, runN2.sl.v58, runN2.sl.v55, runN2.sl.v47, runN2.sl.cst, (runN2.hdv185 arg5 arg6 arg7 x0 x1 x2 xa0 xa1 xa2), View.readAt_rep]
  rfl

theorem runN2.hdv160 :
    (runN2.sl.v160 (F := F) arg5 arg6 x0 x1 xa0 xa1) = (UF false 0 0 x0 x1 x2 (st0 false xa0 xa1 xa2 0)).l := by
  refine (View.readCov_skip _ _ _ _ _ (by decide)).trans ?_
  refine (View.readCov_cons_toLoadRect _ _ _ _).trans ?_
  simp only [runN2.sl.v85, runN2.sl.v82, runN2.sl.v80, runN2.sl.v81, runN2.sl.v72, runN2.sl.v71, runN2.sl.v59, runN2.sl.v70, runN2.sl.v69, runN2.sl.v68, runN2.sl.v63, runN2.sl.v67, runN2.sl.v66, runN2.sl.v65, runN2.sl.v64, runN2.sl.v43, runN2.sl.v40, runN2.sl.v42, runN2.sl.cst, runN2.sl.v74, runN2.sl.v79, runN2.sl.v73, View.readAt_rep]
  rfl

theorem runN2.top10 :
    (scL.view.readCov (runN2.sl.HS1_4 (F := F) arg5 arg6 x0 x1 xa0 xa1) (rl 0).toLoadRect) = (UF false 1 0 x0 x1 x2 (UF false 0 0 x0 x1 x2 (st0 false xa0 xa1 xa2 0))).l := by
  refine (View.readCov_skip _ _ _ _ _ (by decide)).trans ?_
  refine (View.readCov_cons_toLoadRect _ _ _ _).trans ?_
  simp only [runN2.sl.v167, runN2.sl.v164, runN2.sl.v162, runN2.sl.v163, runN2.sl.v154, runN2.sl.v153, runN2.sl.v141, runN2.sl.v152, runN2.sl.v151, runN2.sl.v150, runN2.sl.v145, runN2.sl.v149, runN2.sl.v148, runN2.sl.v147, runN2.sl.v146, runN2.sl.v53, runN2.sl.v50, runN2.sl.v42, runN2.sl.cst, runN2.sl.v156, runN2.sl.v161, runN2.sl.v155, (runN2.hdv144 arg5 arg6 arg7 x0 x1 x2 xa0 xa1 xa2), (runN2.hdv160 arg5 arg6 arg7 x0 x1 x2 xa0 xa1 xa2), View.readAt_rep]
  rfl

theorem runN2.hdv201 :
    (runN2.sl.v201 (F := F) arg5 arg6 x0 x1 xa0 xa1) = (UF false 0 1 x0 x1 x2 (st0 false xa0 xa1 xa2 1)).l := by
  refine (View.readCov_skip _ _ _ _ _ (by decide)).trans ?_
  refine (View.readCov_cons_toLoadRect _ _ _ _).trans ?_
  simp only [runN2.sl.v126, runN2.sl.v123, runN2.sl.v121, runN2.sl.v122, runN2.sl.v113, runN2.sl.v112, runN2.sl.v100, runN2.sl.v111, runN2.sl.v110, runN2.sl.v109, runN2.sl.v104, runN2.sl.v108, runN2.sl.v107, runN2.sl.v106, runN2.sl.v105, runN2.sl.v103, runN2.sl.v48, runN2.sl.v45, runN2.sl.v47, runN2.sl.cst, runN2.sl.v115, runN2.sl.v120, runN2.sl.v119, runN2.sl.v114, View.readAt_rep]
  rfl

theorem runN2.top11 :
    (scL.view.readCov (runN2.sl.HS1_4 (F := F) arg5 arg6 x0 x1 xa0 xa1) (rl 1).toLoadRect) = (UF false 1 1 x0 x1 x2 (UF false 0 1 x0 x1 x2 (st0 false xa0 xa1 xa2 1))).l := by
  refine (View.readCov_cons_toLoadRect _ _ _ _).trans ?_
  simp only [runN2.sl.v208, runN2.sl.v205, runN2.sl.v203, runN2.sl.v204, runN2.sl.v195, runN2.sl.v194, runN2.sl.v182, runN2.sl.v193, runN2.sl.v192, runN2.sl.v191, runN2.sl.v186, runN2.sl.v190, runN2.sl.v189, runN2.sl.v188, runN2.sl.v187, runN2.sl.v58, runN2.sl.v55, runN2.sl.v47, runN2.sl.cst, runN2.sl.v197, runN2.sl.v202, runN2.sl.v196, (runN2.hdv185 arg5 arg6 arg7 x0 x1 x2 xa0 xa1 xa2), (runN2.hdv201 arg5 arg6 arg7 x0 x1 x2 xa0 xa1 xa2), View.readAt_rep]
  rfl

theorem runN2.hdv168 :
    (runN2.sl.v168 (F := F) arg5 arg6 arg7 x0 x1 x2 xa0 xa2) = (UF false 0 0 x0 x1 x2 (st0 false xa0 xa1 xa2 0)).a := by
  refine (View.readCov_skip _ _ _ _ _ (by decide)).trans ?_
  refine (View.readCov_cons_toLoadRect _ _ _ _).trans ?_
  simp only [runN2.sl.v99, runN2.sl.v96, runN2.sl.v92, runN2.sl.v95, runN2.sl.v61, runN2.sl.v94, runN2.sl.cst_49, runN2.sl.v93, runN2.sl.v72, runN2.sl.v71, runN2.sl.v59, runN2.sl.v70, runN2.sl.v69, runN2.sl.v68, runN2.sl.v63, runN2.sl.v67, runN2.sl.v66, runN2.sl.v65, runN2.sl.v64, runN2.sl.v43, runN2.sl.v40, runN2.sl.v42, runN2.sl.cst, runN2.sl.v91, runN2.sl.v88, runN2.sl.v90, runN2.sl.v89, runN2.sl.v74, runN2.sl.v73, runN2.sl.v87, View.readAt_rep]
  rfl

theorem runN2.top20 :
    (scA.view.readCov (runN2.sl.HS2_4 (F := F) arg5 arg6 arg7 x0 x1 x2 xa0 xa2) (ra 0).toLoadRect) = (UF false 1 0 x0 x1 x2 (UF false 0 0 x0 x1 x2 (st0 false xa0 xa1 xa2 0))).a := by
  refine (View.readCov_skip _ _ _ _ _ (by decide)).trans ?_
  refine (View.readCov_cons_toLoadRect _ _ _ _).trans ?_
  simp only [runN2.sl.v181, runN2.sl.v178, runN2.sl.v174, runN2.sl.v177, runN2.sl.v143, runN2.sl.v176, runN2.sl.cst_49, runN2.sl.v175, runN2.sl.v154, runN2.sl.v153, runN2.sl.v141, runN2.sl.v152, runN2.sl.v151, runN2.sl.v150, runN2.sl.v145, runN2.sl.v149, runN2.sl.v148, runN2.sl.v147, runN2.sl.v146, runN2.sl.v53, runN2.sl.v50, runN2.sl.v42, runN2.sl.cst, runN2.sl.r_3, runN2.sl.v173, runN2.sl.v170, runN2.sl.v172, runN2.sl.v171, runN2.sl.v156, runN2.sl.v155, runN2.sl.v169, (runN2.hdv144 arg5 arg6 arg7 x0 x1 x2 xa0 xa1 xa2), (runN2.hdv168 arg5 arg6 arg7 x0 x1 x2 xa0 xa1 xa2), View.readAt_rep]
  rfl

theorem runN2.hdv209 :
    (runN2.sl.v209 (F := F) arg5 arg6 arg7 x0 x1 x2 xa0 xa2) = (UF false 0 1 x0 x1 x2 (st0 false xa0 xa1 xa2 1)).a := by
  refine (View.readCov_skip _ _ _ _ _ (by decide)).trans ?_
  refine (View.readCov_cons_toLoadRect _ _ _ _).trans ?_
  simp only [runN2.sl.v140, runN2.sl.v137, runN2.sl.v133, runN2.sl.v136, runN2.sl.v102, runN2.sl.v135, runN2.sl.cst_49, runN2.sl.v134, runN2.sl.v113, runN2.sl.v112, runN2.sl.v100, runN2.sl.v111, runN2.sl.v110, runN2.sl.v109, runN2.sl.v104, runN2.sl.v108, runN2.sl.v107, runN2.sl.v106, runN2.sl.v105, runN2.sl.v103, runN2.sl.v48, runN2.sl.v45, runN2.sl.v47, runN2.sl.cst, runN2.sl.v132, runN2.sl.v129, runN2.sl.v131, runN2.sl.v130, runN2.sl.v115, runN2.sl.v114, runN2.sl.v128, runN2.sl.v127, View.readAt_rep]
  rfl

theorem runN2.top21 :
    (scA.view.readCov (runN2.sl.HS2_4 (F := F) arg5 arg6 arg7 x0 x1 x2 xa0 xa2) (ra 1).toLoadRect) = (UF false 1 1 x0 x1 x2 (UF false 0 1 x0 x1 x2 (st0 false xa0 xa1 xa2 1))).a := by
  refine (View.readCov_cons_toLoadRect _ _ _ _).trans ?_
  simp only [runN2.sl.v184, runN2.sl.v195, runN2.sl.v215, runN2.sl.v214, runN2.sl.v211, runN2.sl.v213, runN2.sl.v212, runN2.sl.v197, runN2.sl.v196, runN2.sl.v186, runN2.sl.v191, runN2.sl.v190, runN2.sl.v189, runN2.sl.v188, runN2.sl.v187, runN2.sl.v182, runN2.sl.v58, runN2.sl.v55, runN2.sl.v47, runN2.sl.cst, runN2.sl.v210, runN2.sl.v194, runN2.sl.v193, runN2.sl.v192, (runN2.hdv185 arg5 arg6 arg7 x0 x1 x2 xa0 xa1 xa2), (runN2.hdv209 arg5 arg6 arg7 x0 x1 x2 xa0 xa1 xa2), k0_pay164, View.readAt_rep]
  rfl

theorem runN2i.hdv62 :
    (runN2i.sl.v62 (F := F) ) = (st0 true xa0 xa1 xa2 0).m := by
  refine (View.readCov_fill _ _ _ _ _ (by decide)).trans ?_
  rfl

theorem runN2i.hdv144 :
    (runN2i.sl.v144 (F := F) arg5 arg6 x0 x1) = (UF false 0 0 x0 x1 x2 (st0 true xa0 xa1 xa2 0)).m := by
  refine (View.readCov_skip _ _ _ _ _ (by decide)).trans ?_
  refine (View.readCov_cons_toLoadRect _ _ _ _).trans ?_
  simp only [runN2i.sl.v69, runN2i.sl.v68, runN2i.sl.v63, runN2i.sl.v67, runN2i.sl.v66, runN2i.sl.v65, runN2i.sl.v64, runN2i.sl.v59, runN2i.sl.v43, runN2i.sl.v40, runN2i.sl.v42, runN2i.sl.cst, (runN2i.hdv62 arg5 arg6 arg7 x0 x1 x2 xa0 xa1 xa2), View.readAt_rep]
  rfl

theorem runN2i.top00 :
    (scM.view.readCov (runN2i.sl.HS0_5 (F := F) arg5 arg6 x0 x1) (rl 0).toLoadRect) = (UF false 1 0 x0 x1 x2 (UF false 0 0 x0 x1 x2 (st0 true xa0 xa1 xa2 0))).m := by
  refine (View.readCov_skip _ _ _ _ _ (by decide)).trans ?_
  refine (View.readCov_cons_toLoadRect _ _ _ _).trans ?_
  simp only [runN2i.sl.v151, runN2i.sl.v150, runN2i.sl.v145, runN2i.sl.v149, runN2i.sl.v148, runN2i.sl.v147, runN2i.sl.v146, runN2i.sl.v141, runN2i.sl.v53, runN2i.sl.v50, runN2i.sl.v42, runN2i.sl.cst, (runN2i.hdv144 arg5 arg6 arg7 x0 x1 x2 xa0 xa1 xa2), View.readAt_rep]
  rfl

theorem runN2i.hdv103 :
    (runN2i.sl.v103 (F := F) arg5 arg6 x0 x1) = (st0 true xa0 xa1 xa2 1).m := by
  refine (View.readCov_skip _ _ _ _ _ (by decide)).trans ?_
  refine (View.readCov_fill _ _ _ _ _ (by decide)).trans ?_
  rfl

theorem runN2i.hdv185 :
    (runN2i.sl.v185 (F := F) arg5 arg6 x0 x1) = (UF false 0 1 x0 x1 x2 (st0 true xa0 xa1 xa2 1)).m := by
  refine (View.readCov_skip _ _ _ _ _ (by decide)).trans ?_
  refine (View.readCov_cons_toLoadRect _ _ _ _).trans ?_
  simp only [runN2i.sl.v110, runN2i.sl.v109, runN2i.sl.v104, runN2i.sl.v108, runN2i.sl.v107, runN2i.sl.v106, runN2i.sl.v105, runN2i.sl.v100, runN2i.sl.v48, runN2i.sl.v45, runN2i.sl.v47, runN2i.sl.cst, (runN2i.hdv103 arg5 arg6 arg7 x0 x1 x2 xa0 xa1 xa2), View.readAt_rep]
  rfl

theorem runN2i.top01 :
    (scM.view.readCov (runN2i.sl.HS0_5 (F := F) arg5 arg6 x0 x1) (rl 1).toLoadRect) = (UF false 1 1 x0 x1 x2 (UF false 0 1 x0 x1 x2 (st0 true xa0 xa1 xa2 1))).m := by
  refine (View.readCov_cons_toLoadRect _ _ _ _).trans ?_
  simp only [runN2i.sl.v192, runN2i.sl.v191, runN2i.sl.v186, runN2i.sl.v190, runN2i.sl.v189, runN2i.sl.v188, runN2i.sl.v187, runN2i.sl.v182, runN2i.sl.v58, runN2i.sl.v55, runN2i.sl.v47, runN2i.sl.cst, (runN2i.hdv185 arg5 arg6 arg7 x0 x1 x2 xa0 xa1 xa2), View.readAt_rep]
  rfl

theorem runN2i.hdv78 :
    (runN2i.sl.v78 (F := F) ) = (st0 true xa0 xa1 xa2 0).l := by
  refine (View.readCov_fill _ _ _ _ _ (by decide)).trans ?_
  rfl

theorem runN2i.hdv160 :
    (runN2i.sl.v160 (F := F) arg5 arg6 x0 x1) = (UF false 0 0 x0 x1 x2 (st0 true xa0 xa1 xa2 0)).l := by
  refine (View.readCov_skip _ _ _ _ _ (by decide)).trans ?_
  refine (View.readCov_cons_toLoadRect _ _ _ _).trans ?_
  simp only [runN2i.sl.v85, runN2i.sl.v82, runN2i.sl.v80, runN2i.sl.v81, runN2i.sl.v72, runN2i.sl.v71, runN2i.sl.v59, runN2i.sl.v70, runN2i.sl.v69, runN2i.sl.v68, runN2i.sl.v63, runN2i.sl.v67, runN2i.sl.v66, runN2i.sl.v65, runN2i.sl.v64, runN2i.sl.v43, runN2i.sl.v40, runN2i.sl.v42, runN2i.sl.cst, runN2i.sl.v74, runN2i.sl.v79, runN2i.sl.v73, (runN2i.hdv62 arg5 arg6 arg7 x0 x1 x2 xa0 xa1 xa2), (runN2i.hdv78 arg5 arg6 arg7 x0 x1 x2 xa0 xa1 xa2), View.readAt_rep]
  rfl

theorem runN2i.top10 :
    (scL.view.readCov (runN2i.sl.HS1_5 (F := F) arg5 arg6 x0 x1) (rl 0).toLoadRect) = (UF false 1 0 x0 x1 x2 (UF false 0 0 x0 x1 x2 (st0 true xa0 xa1 xa2 0))).l := by
  refine (View.readCov_skip _ _ _ _ _ (by decide)).trans ?_
  refine (View.readCov_cons_toLoadRect _ _ _ _).trans ?_
  simp only [runN2i.sl.v167, runN2i.sl.v164, runN2i.sl.v162, runN2i.sl.v163, runN2i.sl.v154, runN2i.sl.v153, runN2i.sl.v141, runN2i.sl.v152, runN2i.sl.v151, runN2i.sl.v150, runN2i.sl.v145, runN2i.sl.v149, runN2i.sl.v148, runN2i.sl.v147, runN2i.sl.v146, runN2i.sl.v53, runN2i.sl.v50, runN2i.sl.v42, runN2i.sl.cst, runN2i.sl.v156, runN2i.sl.v161, runN2i.sl.v155, (runN2i.hdv144 arg5 arg6 arg7 x0 x1 x2 xa0 xa1 xa2), (runN2i.hdv160 arg5 arg6 arg7 x0 x1 x2 xa0 xa1 xa2), View.readAt_rep]
  rfl

theorem runN2i.hdv119 :
    (runN2i.sl.v119 (F := F) arg5 arg6 x0 x1) = (st0 true xa0 xa1 xa2 1).l := by
  refine (View.readCov_skip _ _ _ _ _ (by decide)).trans ?_
  refine (View.readCov_fill _ _ _ _ _ (by decide)).trans ?_
  rfl

theorem runN2i.hdv201 :
    (runN2i.sl.v201 (F := F) arg5 arg6 x0 x1) = (UF false 0 1 x0 x1 x2 (st0 true xa0 xa1 xa2 1)).l := by
  refine (View.readCov_skip _ _ _ _ _ (by decide)).trans ?_
  refine (View.readCov_cons_toLoadRect _ _ _ _).trans ?_
  simp only [runN2i.sl.v126, runN2i.sl.v123, runN2i.sl.v121, runN2i.sl.v122, runN2i.sl.v113, runN2i.sl.v112, runN2i.sl.v100, runN2i.sl.v111, runN2i.sl.v110, runN2i.sl.v109, runN2i.sl.v104, runN2i.sl.v108, runN2i.sl.v107, runN2i.sl.v106, runN2i.sl.v105, runN2i.sl.v48, runN2i.sl.v45, runN2i.sl.v47, runN2i.sl.cst, runN2i.sl.v115, runN2i.sl.v120, runN2i.sl.v114, (runN2i.hdv103 arg5 arg6 arg7 x0 x1 x2 xa0 xa1 xa2), (runN2i.hdv119 arg5 arg6 arg7 x0 x1 x2 xa0 xa1 xa2), View.readAt_rep]
  rfl

theorem runN2i.top11 :
    (scL.view.readCov (runN2i.sl.HS1_5 (F := F) arg5 arg6 x0 x1) (rl 1).toLoadRect) = (UF false 1 1 x0 x1 x2 (UF false 0 1 x0 x1 x2 (st0 true xa0 xa1 xa2 1))).l := by
  refine (View.readCov_cons_toLoadRect _ _ _ _).trans ?_
  simp only [runN2i.sl.v208, runN2i.sl.v205, runN2i.sl.v203, runN2i.sl.v204, runN2i.sl.v195, runN2i.sl.v194, runN2i.sl.v182, runN2i.sl.v193, runN2i.sl.v192, runN2i.sl.v191, runN2i.sl.v186, runN2i.sl.v190, runN2i.sl.v189, runN2i.sl.v188, runN2i.sl.v187, runN2i.sl.v58, runN2i.sl.v55, runN2i.sl.v47, runN2i.sl.cst, runN2i.sl.v197, runN2i.sl.v202, runN2i.sl.v196, (runN2i.hdv185 arg5 arg6 arg7 x0 x1 x2 xa0 xa1 xa2), (runN2i.hdv201 arg5 arg6 arg7 x0 x1 x2 xa0 xa1 xa2), View.readAt_rep]
  rfl

theorem runN2i.hdv86 :
    (runN2i.sl.v86 (F := F) ) = (st0 true xa0 xa1 xa2 0).a := by
  refine (View.readCov_fill _ _ _ _ _ (by decide)).trans ?_
  rfl

theorem runN2i.hdv168 :
    (runN2i.sl.v168 (F := F) arg5 arg6 arg7 x0 x1 x2) = (UF false 0 0 x0 x1 x2 (st0 true xa0 xa1 xa2 0)).a := by
  refine (View.readCov_skip _ _ _ _ _ (by decide)).trans ?_
  refine (View.readCov_cons_toLoadRect _ _ _ _).trans ?_
  simp only [runN2i.sl.v99, runN2i.sl.v96, runN2i.sl.v92, runN2i.sl.v95, runN2i.sl.v61, runN2i.sl.v94, runN2i.sl.cst_49, runN2i.sl.v93, runN2i.sl.v72, runN2i.sl.v71, runN2i.sl.v59, runN2i.sl.v70, runN2i.sl.v69, runN2i.sl.v68, runN2i.sl.v63, runN2i.sl.v67, runN2i.sl.v66, runN2i.sl.v65, runN2i.sl.v64, runN2i.sl.v43, runN2i.sl.v40, runN2i.sl.v42, runN2i.sl.cst, runN2i.sl.v91, runN2i.sl.v88, runN2i.sl.v90, runN2i.sl.v89, runN2i.sl.v74, runN2i.sl.v73, runN2i.sl.v87, (runN2i.hdv62 arg5 arg6 arg7 x0 x1 x2 xa0 xa1 xa2), (runN2i.hdv86 arg5 arg6 arg7 x0 x1 x2 xa0 xa1 xa2), View.readAt_rep]
  rfl

theorem runN2i.top20 :
    (scA.view.readCov (runN2i.sl.HS2_5 (F := F) arg5 arg6 arg7 x0 x1 x2) (ra 0).toLoadRect) = (UF false 1 0 x0 x1 x2 (UF false 0 0 x0 x1 x2 (st0 true xa0 xa1 xa2 0))).a := by
  refine (View.readCov_skip _ _ _ _ _ (by decide)).trans ?_
  refine (View.readCov_cons_toLoadRect _ _ _ _).trans ?_
  simp only [runN2i.sl.v181, runN2i.sl.v178, runN2i.sl.v174, runN2i.sl.v177, runN2i.sl.v143, runN2i.sl.v176, runN2i.sl.cst_49, runN2i.sl.v175, runN2i.sl.v154, runN2i.sl.v153, runN2i.sl.v141, runN2i.sl.v152, runN2i.sl.v151, runN2i.sl.v150, runN2i.sl.v145, runN2i.sl.v149, runN2i.sl.v148, runN2i.sl.v147, runN2i.sl.v146, runN2i.sl.v53, runN2i.sl.v50, runN2i.sl.v42, runN2i.sl.cst, runN2i.sl.r_3, runN2i.sl.v173, runN2i.sl.v170, runN2i.sl.v172, runN2i.sl.v171, runN2i.sl.v156, runN2i.sl.v155, runN2i.sl.v169, (runN2i.hdv144 arg5 arg6 arg7 x0 x1 x2 xa0 xa1 xa2), (runN2i.hdv168 arg5 arg6 arg7 x0 x1 x2 xa0 xa1 xa2), View.readAt_rep]
  rfl

theorem runN2i.hdv127 :
    (runN2i.sl.v127 (F := F) arg5 arg6 arg7 x0 x1 x2) = (st0 true xa0 xa1 xa2 1).a := by
  refine (View.readCov_skip _ _ _ _ _ (by decide)).trans ?_
  refine (View.readCov_fill _ _ _ _ _ (by decide)).trans ?_
  rfl

theorem runN2i.hdv209 :
    (runN2i.sl.v209 (F := F) arg5 arg6 arg7 x0 x1 x2) = (UF false 0 1 x0 x1 x2 (st0 true xa0 xa1 xa2 1)).a := by
  refine (View.readCov_skip _ _ _ _ _ (by decide)).trans ?_
  refine (View.readCov_cons_toLoadRect _ _ _ _).trans ?_
  simp only [runN2i.sl.v140, runN2i.sl.v137, runN2i.sl.v133, runN2i.sl.v136, runN2i.sl.v102, runN2i.sl.v135, runN2i.sl.cst_49, runN2i.sl.v134, runN2i.sl.v113, runN2i.sl.v112, runN2i.sl.v100, runN2i.sl.v111, runN2i.sl.v110, runN2i.sl.v109, runN2i.sl.v104, runN2i.sl.v108, runN2i.sl.v107, runN2i.sl.v106, runN2i.sl.v105, runN2i.sl.v48, runN2i.sl.v45, runN2i.sl.v47, runN2i.sl.cst, runN2i.sl.v132, runN2i.sl.v129, runN2i.sl.v131, runN2i.sl.v130, runN2i.sl.v115, runN2i.sl.v114, runN2i.sl.v128, (runN2i.hdv103 arg5 arg6 arg7 x0 x1 x2 xa0 xa1 xa2), (runN2i.hdv127 arg5 arg6 arg7 x0 x1 x2 xa0 xa1 xa2), View.readAt_rep]
  rfl

theorem runN2i.top21 :
    (scA.view.readCov (runN2i.sl.HS2_5 (F := F) arg5 arg6 arg7 x0 x1 x2) (ra 1).toLoadRect) = (UF false 1 1 x0 x1 x2 (UF false 0 1 x0 x1 x2 (st0 true xa0 xa1 xa2 1))).a := by
  refine (View.readCov_cons_toLoadRect _ _ _ _).trans ?_
  simp only [runN2i.sl.v184, runN2i.sl.v195, runN2i.sl.v215, runN2i.sl.v214, runN2i.sl.v211, runN2i.sl.v213, runN2i.sl.v212, runN2i.sl.v197, runN2i.sl.v196, runN2i.sl.v186, runN2i.sl.v191, runN2i.sl.v190, runN2i.sl.v189, runN2i.sl.v188, runN2i.sl.v187, runN2i.sl.v182, runN2i.sl.v58, runN2i.sl.v55, runN2i.sl.v47, runN2i.sl.cst, runN2i.sl.v210, runN2i.sl.v194, runN2i.sl.v193, runN2i.sl.v192, (runN2i.hdv185 arg5 arg6 arg7 x0 x1 x2 xa0 xa1 xa2), (runN2i.hdv209 arg5 arg6 arg7 x0 x1 x2 xa0 xa1 xa2), k0_pay164, View.readAt_rep]
  rfl

end Cert.KernelIdeal.Attn

end
-- ==== Proof.Attn.EqN2.lean ====
module

public import proofs.«01_k».proof.Proof.Attn.HdN2

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The outputs of the runs, as those. -/

variable (c : Dev nD) (i : grid0.Coords) (arg5 : Memref sig .tc .vmem S1024x512 .bf16) (harg5 : arg5.IsWhole) (arg6 : Memref sig .tc .vmem S2048x512 .bf16) (harg6 : arg6.IsWhole)
  (arg7 : Memref sig .tc .vmem S256x2048 .bf16) (harg7 : arg7.IsWhole) (arg8 : Memref sig .tc .vmem S1024x256 .bf16) (harg8 : arg8.IsWhole)
  (T0 T1 : S72.Idx → Elt F .i32) (T2 : S576.Idx → Elt F .i32) (x0 : S1024x512.Idx → Elt F .bf16) (x1 : S2048x512.Idx → Elt F .bf16) (x2 : S256x2048.Idx → Elt F .bf16) (xa0 : S2x8x1024.Idx → Elt F .f32) (xa1 : S2x8x1024.Idx → Elt F .f32) (xa2 : S2x128x1024.Idx → Elt F .f32)

set_option maxHeartbeats 1000000 in
theorem runN2.eqs (h1 : ¬C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) :
    (runN2 c i arg5 harg5 arg6 harg6 arg7 harg7 arg8 harg8 T0 T1 T2 x0 x1 x2 xa0 xa1 xa2 h1 h2 h3 h4 h5 h6 h7).1 = scM.view.writes (Elt F) scM.view.junk (runN2.sl.HS0_4 (F := F) arg5 arg6 x0 x1 xa0)
    ∧ (runN2 c i arg5 harg5 arg6 harg6 arg7 harg7 arg8 harg8 T0 T1 T2 x0 x1 x2 xa0 xa1 xa2 h1 h2 h3 h4 h5 h6 h7).2.1 = scL.view.writes (Elt F) scL.view.junk (runN2.sl.HS1_4 (F := F) arg5 arg6 x0 x1 xa0 xa1)
    ∧ (runN2 c i arg5 harg5 arg6 harg6 arg7 harg7 arg8 harg8 T0 T1 T2 x0 x1 x2 xa0 xa1 xa2 h1 h2 h3 h4 h5 h6 h7).2.2.1 = scA.view.writes (Elt F) scA.view.junk (runN2.sl.HS2_4 (F := F) arg5 arg6 arg7 x0 x1 x2 xa0 xa2) := by
  delta runN2
  exact ⟨by with_reducible rfl, by with_reducible rfl, by with_reducible rfl⟩

set_option maxHeartbeats 1000000 in
theorem runN2.heads (h1 : ¬C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) (h : Fin 2) :
    st (runN2 c i arg5 harg5 arg6 harg6 arg7 harg7 arg8 harg8 T0 T1 T2 x0 x1 x2 xa0 xa1 xa2 h1 h2 h3 h4 h5 h6 h7).1 (runN2 c i arg5 harg5 arg6 harg6 arg7 harg7 arg8 harg8 T0 T1 T2 x0 x1 x2 xa0 xa1 xa2 h1 h2 h3 h4 h5 h6 h7).2.1 (runN2 c i arg5 harg5 arg6 harg6 arg7 harg7 arg8 harg8 T0 T1 T2 x0 x1 x2 xa0 xa1 xa2 h1 h2 h3 h4 h5 h6 h7).2.2.1 h = W2 false h x0 x1 x2 (st0 false xa0 xa1 xa2 h) := by
  obtain ⟨em, el, ea⟩ := runN2.eqs c i arg5 harg5 arg6 harg6 arg7 harg7 arg8 harg8 T0 T1 T2 x0 x1 x2 xa0 xa1 xa2 h1 h2 h3 h4 h5 h6 h7
  match h with
  | 0 => exact (st_congr em el ea 0).trans (St.ext' (stM (runN2.top00 arg5 arg6 arg7 x0 x1 x2 xa0 xa1 xa2)) (stL (runN2.top10 arg5 arg6 arg7 x0 x1 x2 xa0 xa1 xa2)) (stA (runN2.top20 arg5 arg6 arg7 x0 x1 x2 xa0 xa1 xa2)))
  | 1 => exact (st_congr em el ea 1).trans (St.ext' (stM (runN2.top01 arg5 arg6 arg7 x0 x1 x2 xa0 xa1 xa2)) (stL (runN2.top11 arg5 arg6 arg7 x0 x1 x2 xa0 xa1 xa2)) (stA (runN2.top21 arg5 arg6 arg7 x0 x1 x2 xa0 xa1 xa2)))

set_option maxHeartbeats 1000000 in
theorem runN2i.eqs (h1 : C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) :
    (runN2i c i arg5 harg5 arg6 harg6 arg7 harg7 arg8 harg8 T0 T1 T2 x0 x1 x2 xa0 xa1 xa2 h1 h2 h3 h4 h5 h6 h7).1 = scM.view.writes (Elt F) scM.view.junk (runN2i.sl.HS0_5 (F := F) arg5 arg6 x0 x1)
    ∧ (runN2i c i arg5 harg5 arg6 harg6 arg7 harg7 arg8 harg8 T0 T1 T2 x0 x1 x2 xa0 xa1 xa2 h1 h2 h3 h4 h5 h6 h7).2.1 = scL.view.writes (Elt F) scL.view.junk (runN2i.sl.HS1_5 (F := F) arg5 arg6 x0 x1)
    ∧ (runN2i c i arg5 harg5 arg6 harg6 arg7 harg7 arg8 harg8 T0 T1 T2 x0 x1 x2 xa0 xa1 xa2 h1 h2 h3 h4 h5 h6 h7).2.2.1 = scA.view.writes (Elt F) scA.view.junk (runN2i.sl.HS2_5 (F := F) arg5 arg6 arg7 x0 x1 x2) := by
  delta runN2i
  exact ⟨by with_reducible rfl, by with_reducible rfl, by with_reducible rfl⟩

set_option maxHeartbeats 1000000 in
theorem runN2i.heads (h1 : C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : C5 (rdQ (F := F) i T0) (rdK (F := F) i T1) (rdS (F := F) i T2)) (h6 : ¬C6 (rdQ (F := F) i T0) (rdK (F := F) i T1) (rdS (F := F) i T2)) (h7 : ¬C7 (rdQ (F := F) i T0) (rdK (F := F) i T1) (rdS (F := F) i T2)) (h : Fin 2) :
    st (runN2i c i arg5 harg5 arg6 harg6 arg7 harg7 arg8 harg8 T0 T1 T2 x0 x1 x2 xa0 xa1 xa2 h1 h2 h3 h4 h5 h6 h7).1 (runN2i c i arg5 harg5 arg6 harg6 arg7 harg7 arg8 harg8 T0 T1 T2 x0 x1 x2 xa0 xa1 xa2 h1 h2 h3 h4 h5 h6 h7).2.1 (runN2i c i arg5 harg5 arg6 harg6 arg7 harg7 arg8 harg8 T0 T1 T2 x0 x1 x2 xa0 xa1 xa2 h1 h2 h3 h4 h5 h6 h7).2.2.1 h = W2 false h x0 x1 x2 (st0 true xa0 xa1 xa2 h) := by
  obtain ⟨em, el, ea⟩ := runN2i.eqs c i arg5 harg5 arg6 harg6 arg7 harg7 arg8 harg8 T0 T1 T2 x0 x1 x2 xa0 xa1 xa2 h1 h2 h3 h4 h5 h6 h7
  match h with
  | 0 => exact (st_congr em el ea 0).trans (St.ext' (stM (runN2i.top00 arg5 arg6 arg7 x0 x1 x2 xa0 xa1 xa2)) (stL (runN2i.top10 arg5 arg6 arg7 x0 x1 x2 xa0 xa1 xa2)) (stA (runN2i.top20 arg5 arg6 arg7 x0 x1 x2 xa0 xa1 xa2)))
  | 1 => exact (st_congr em el ea 1).trans (St.ext' (stM (runN2i.top01 arg5 arg6 arg7 x0 x1 x2 xa0 xa1 xa2)) (stL (runN2i.top11 arg5 arg6 arg7 x0 x1 x2 xa0 xa1 xa2)) (stA (runN2i.top21 arg5 arg6 arg7 x0 x1 x2 xa0 xa1 xa2)))

end Cert.KernelIdeal.Attn

end
-- ==== Proof.Attn.HdN0.lean ====
module

public import proofs.«01_k».proof.Proof.Attn.Canon
public import proofs.«01_k».proof.Proof.Attn.RunN0

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The steps of the run `RunN0` head by head, as the vector expressions of `Canon`. -/

variable (arg5 : Memref sig .tc .vmem S1024x512 .bf16) (arg6 : Memref sig .tc .vmem S2048x512 .bf16) (arg7 : Memref sig .tc .vmem S256x2048 .bf16)
  (x0 : S1024x512.Idx → Elt F .bf16) (x1 : S2048x512.Idx → Elt F .bf16) (x2 : S256x2048.Idx → Elt F .bf16)
  (xa0 xa1 : S2x8x1024.Idx → Elt F .f32) (xa2 : S2x128x1024.Idx → Elt F .f32)

include arg5 arg6 arg7 x0 x1 x2 xa0 xa1 xa2
theorem runN0.top00 :
    (scM.view.readCov (runN0.sl.HS0_2 (F := F) arg5 arg6 x0 x1 xa0) (rl 0).toLoadRect) = (UD false 0 0 x0 x1 x2 (st0 false xa0 xa1 xa2 0)).m := by
  refine (View.readCov_skip _ _ _ _ _ (by decide)).trans ?_
  refine (View.readCov_cons_toLoadRect _ _ _ _).trans ?_
  simp only [k0_pay99, View.readAt_rep]
  rfl

theorem runN0.top01 :
    (scM.view.readCov (runN0.sl.HS0_2 (F := F) arg5 arg6 x0 x1 xa0) (rl 1).toLoadRect) = (UD false 0 1 x0 x1 x2 (st0 false xa0 xa1 xa2 1)).m := by
  refine (View.readCov_cons_toLoadRect _ _ _ _).trans ?_
  simp only [runN0.sl.v115, runN0.sl.r_9, runN0.sl.r_3, runN0.sl.v100, k0_pay105, k0_pay92, k0_pay91, View.readAt_rep]
  rfl

theorem runN0.top10 :
    (scL.view.readCov (runN0.sl.HS1_2 (F := F) arg5 arg6 x0 x1 xa0 xa1) (rl 0).toLoadRect) = (UD false 0 0 x0 x1 x2 (st0 false xa0 xa1 xa2 0)).l := by
  refine (View.readCov_skip _ _ _ _ _ (by decide)).trans ?_
  refine (View.readCov_cons_toLoadRect _ _ _ _).trans ?_
  simp only [runN0.sl.r_5, runN0.sl.r_6, runN0.sl.r_7, k0_pay100, k0_pay98, k0_pay97, View.readAt_rep]
  rfl

theorem runN0.top11 :
    (scL.view.readCov (runN0.sl.HS1_2 (F := F) arg5 arg6 x0 x1 xa0 xa1) (rl 1).toLoadRect) = (UD false 0 1 x0 x1 x2 (st0 false xa0 xa1 xa2 1)).l := by
  refine (View.readCov_cons_toLoadRect _ _ _ _).trans ?_
  simp only [runN0.sl.v123, runN0.sl.v120, runN0.sl.v118, runN0.sl.v119, runN0.sl.r_10, runN0.sl.r_3, runN0.sl.v100, runN0.sl.r_11, runN0.sl.v117, runN0.sl.v116, k0_pay106, k0_pay92, k0_pay91, k0_pay107, View.readAt_rep]
  rfl

theorem runN0.top20 :
    (scA.view.readCov (runN0.sl.HS2_2 (F := F) arg5 arg6 arg7 x0 x1 x2 xa0 xa2) (ra 0).toLoadRect) = (UD false 0 0 x0 x1 x2 (st0 false xa0 xa1 xa2 0)).a := by
  refine (View.readCov_skip _ _ _ _ _ (by decide)).trans ?_
  refine (View.readCov_cons_toLoadRect _ _ _ _).trans ?_
  simp only [runN0.sl.r_4, runN0.sl.r_5, runN0.sl.r_6, k0_pay101, k0_pay98, k0_pay97, k0_pay94, View.readAt_rep]
  rfl

theorem runN0.top21 :
    (scA.view.readCov (runN0.sl.HS2_2 (F := F) arg5 arg6 arg7 x0 x1 x2 xa0 xa2) (ra 1).toLoadRect) = (UD false 0 1 x0 x1 x2 (st0 false xa0 xa1 xa2 1)).a := by
  refine (View.readCov_cons_toLoadRect _ _ _ _).trans ?_
  simp only [runN0.sl.v137, runN0.sl.v134, runN0.sl.v130, runN0.sl.v133, runN0.sl.r_8, runN0.sl.v132, runN0.sl.cst_64, runN0.sl.v131, runN0.sl.r_10, runN0.sl.r_3, runN0.sl.v100, runN0.sl.v129, runN0.sl.v126, runN0.sl.v128, runN0.sl.v127, runN0.sl.r_11, runN0.sl.v125, runN0.sl.v124, k0_pay106, k0_pay92, k0_pay91, k0_pay103, k0_pay107, View.readAt_rep]
  rfl

theorem runN0.hdv149 :
    (runN0.sl.v149 (F := F) arg5 arg6 x0 x1 xa0 xa1) = (UD false 0 1 x0 x1 x2 (st0 false xa0 xa1 xa2 1)).l := by
  refine (View.readCov_cons_toLoadRect _ _ _ _).trans ?_
  simp only [runN0.sl.v123, runN0.sl.v120, runN0.sl.v118, runN0.sl.v119, runN0.sl.r_10, runN0.sl.r_3, runN0.sl.v100, runN0.sl.r_11, runN0.sl.v117, runN0.sl.v116, k0_pay106, k0_pay92, k0_pay91, k0_pay107, View.readAt_rep]
  rfl

theorem runN0.hdv153 :
    (runN0.sl.v153 (F := F) arg5 arg6 arg7 x0 x1 x2 xa0 xa2) = (UD false 0 1 x0 x1 x2 (st0 false xa0 xa1 xa2 1)).a := by
  refine (View.readCov_cons_toLoadRect _ _ _ _).trans ?_
  simp only [runN0.sl.v137, runN0.sl.v134, runN0.sl.v130, runN0.sl.v133, runN0.sl.r_8, runN0.sl.v132, runN0.sl.cst_64, runN0.sl.v131, runN0.sl.r_10, runN0.sl.r_3, runN0.sl.v100, runN0.sl.v129, runN0.sl.v126, runN0.sl.v128, runN0.sl.v127, runN0.sl.r_11, runN0.sl.v125, runN0.sl.v124, k0_pay106, k0_pay92, k0_pay91, k0_pay103, k0_pay107, View.readAt_rep]
  rfl

theorem runN0.out1 :
    (@id (FVec F S1024x128 .bf16) (k0_pay166 (runN0.sl.v149 arg5 arg6 x0 x1 xa0 xa1) (runN0.sl.v153 arg5 arg6 arg7 x0 x1 x2 xa0 xa2))) = fin (UD false 0 1 x0 x1 x2 (st0 false xa0 xa1 xa2 1)).l (UD false 0 1 x0 x1 x2 (st0 false xa0 xa1 xa2 1)).a := by
  simp only [id, (runN0.hdv149 arg5 arg6 arg7 x0 x1 x2 xa0 xa1 xa2), (runN0.hdv153 arg5 arg6 arg7 x0 x1 x2 xa0 xa1 xa2), k0_pay166, View.readAt_rep]
  rfl

theorem runN0.hdv138 :
    (runN0.sl.v138 (F := F) arg5 arg6 x0 x1 xa0 xa1) = (UD false 0 0 x0 x1 x2 (st0 false xa0 xa1 xa2 0)).l := by
  refine (View.readCov_skip _ _ _ _ _ (by decide)).trans ?_
  refine (View.readCov_cons_toLoadRect _ _ _ _).trans ?_
  simp only [runN0.sl.r_5, runN0.sl.r_6, runN0.sl.r_7, k0_pay100, k0_pay98, k0_pay97, View.readAt_rep]
  rfl

theorem runN0.hdv142 :
    (runN0.sl.v142 (F := F) arg5 arg6 arg7 x0 x1 x2 xa0 xa2) = (UD false 0 0 x0 x1 x2 (st0 false xa0 xa1 xa2 0)).a := by
  refine (View.readCov_skip _ _ _ _ _ (by decide)).trans ?_
  refine (View.readCov_cons_toLoadRect _ _ _ _).trans ?_
  simp only [runN0.sl.r_4, runN0.sl.r_5, runN0.sl.r_6, k0_pay101, k0_pay98, k0_pay97, k0_pay94, View.readAt_rep]
  rfl

theorem runN0.out0 :
    (@id (FVec F S1024x128 .bf16) (k0_pay165 (runN0.sl.v145 arg5 arg6 arg7 x0 x1 x2 xa0 xa1 xa2))) = fin (UD false 0 0 x0 x1 x2 (st0 false xa0 xa1 xa2 0)).l (UD false 0 0 x0 x1 x2 (st0 false xa0 xa1 xa2 0)).a := by
  simp only [id, runN0.sl.v145, runN0.sl.v143, runN0.sl.v144, runN0.sl.v141, runN0.sl.v140, runN0.sl.v139, (runN0.hdv138 arg5 arg6 arg7 x0 x1 x2 xa0 xa1 xa2), (runN0.hdv142 arg5 arg6 arg7 x0 x1 x2 xa0 xa1 xa2), k0_pay165, View.readAt_rep]
  rfl

theorem runN0i.hdv57 :
    (runN0i.sl.v57 (F := F) ) = (st0 true xa0 xa1 xa2 0).m := by
  refine (View.readCov_fill _ _ _ _ _ (by decide)).trans ?_
  rfl

theorem runN0i.top00 :
    (scM.view.readCov (runN0i.sl.HS0_3 (F := F) arg5 arg6 x0 x1) (rl 0).toLoadRect) = (UD false 0 0 x0 x1 x2 (st0 true xa0 xa1 xa2 0)).m := by
  refine (View.readCov_skip _ _ _ _ _ (by decide)).trans ?_
  refine (View.readCov_cons_toLoadRect _ _ _ _).trans ?_
  simp only [(runN0i.hdv57 arg5 arg6 arg7 x0 x1 x2 xa0 xa1 xa2), k0_pay99, View.readAt_rep]
  rfl

theorem runN0i.hdv100 :
    (runN0i.sl.v100 (F := F) arg5 arg6 x0 x1) = (st0 true xa0 xa1 xa2 1).m := by
  refine (View.readCov_skip _ _ _ _ _ (by decide)).trans ?_
  refine (View.readCov_fill _ _ _ _ _ (by decide)).trans ?_
  rfl

theorem runN0i.top01 :
    (scM.view.readCov (runN0i.sl.HS0_3 (F := F) arg5 arg6 x0 x1) (rl 1).toLoadRect) = (UD false 0 1 x0 x1 x2 (st0 true xa0 xa1 xa2 1)).m := by
  refine (View.readCov_cons_toLoadRect _ _ _ _).trans ?_
  simp only [runN0i.sl.v115, runN0i.sl.r_8, runN0i.sl.r_3, (runN0i.hdv100 arg5 arg6 arg7 x0 x1 x2 xa0 xa1 xa2), k0_pay105, k0_pay92, k0_pay91, View.readAt_rep]
  rfl

theorem runN0i.hdv73 :
    (runN0i.sl.v73 (F := F) ) = (st0 true xa0 xa1 xa2 0).l := by
  refine (View.readCov_fill _ _ _ _ _ (by decide)).trans ?_
  rfl

theorem runN0i.top10 :
    (scL.view.readCov (runN0i.sl.HS1_3 (F := F) arg5 arg6 x0 x1) (rl 0).toLoadRect) = (UD false 0 0 x0 x1 x2 (st0 true xa0 xa1 xa2 0)).l := by
  refine (View.readCov_skip _ _ _ _ _ (by decide)).trans ?_
  refine (View.readCov_cons_toLoadRect _ _ _ _).trans ?_
  simp only [runN0i.sl.r_5, runN0i.sl.r_6, (runN0i.hdv73 arg5 arg6 arg7 x0 x1 x2 xa0 xa1 xa2), (runN0i.hdv57 arg5 arg6 arg7 x0 x1 x2 xa0 xa1 xa2), k0_pay100, k0_pay98, k0_pay97, View.readAt_rep]
  rfl

theorem runN0i.hdv116 :
    (runN0i.sl.v116 (F := F) arg5 arg6 x0 x1) = (st0 true xa0 xa1 xa2 1).l := by
  refine (View.readCov_skip _ _ _ _ _ (by decide)).trans ?_
  refine (View.readCov_fill _ _ _ _ _ (by decide)).trans ?_
  rfl

theorem runN0i.top11 :
    (scL.view.readCov (runN0i.sl.HS1_3 (F := F) arg5 arg6 x0 x1) (rl 1).toLoadRect) = (UD false 0 1 x0 x1 x2 (st0 true xa0 xa1 xa2 1)).l := by
  refine (View.readCov_cons_toLoadRect _ _ _ _).trans ?_
  simp only [runN0i.sl.v123, runN0i.sl.v120, runN0i.sl.v118, runN0i.sl.v119, runN0i.sl.r_9, runN0i.sl.r_3, runN0i.sl.r_10, runN0i.sl.v117, (runN0i.hdv100 arg5 arg6 arg7 x0 x1 x2 xa0 xa1 xa2), (runN0i.hdv116 arg5 arg6 arg7 x0 x1 x2 xa0 xa1 xa2), k0_pay106, k0_pay92, k0_pay91, k0_pay107, View.readAt_rep]
  rfl

theorem runN0i.hdv81 :
    (runN0i.sl.v81 (F := F) ) = (st0 true xa0 xa1 xa2 0).a := by
  refine (View.readCov_fill _ _ _ _ _ (by decide)).trans ?_
  rfl

theorem runN0i.top20 :
    (scA.view.readCov (runN0i.sl.HS2_3 (F := F) arg5 arg6 arg7 x0 x1 x2) (ra 0).toLoadRect) = (UD false 0 0 x0 x1 x2 (st0 true xa0 xa1 xa2 0)).a := by
  refine (View.readCov_skip _ _ _ _ _ (by decide)).trans ?_
  refine (View.readCov_cons_toLoadRect _ _ _ _).trans ?_
  simp only [runN0i.sl.r_4, runN0i.sl.r_5, runN0i.sl.r_6, (runN0i.hdv81 arg5 arg6 arg7 x0 x1 x2 xa0 xa1 xa2), (runN0i.hdv57 arg5 arg6 arg7 x0 x1 x2 xa0 xa1 xa2), k0_pay101, k0_pay98, k0_pay97, k0_pay94, View.readAt_rep]
  rfl

theorem runN0i.hdv124 :
    (runN0i.sl.v124 (F := F) arg5 arg6 arg7 x0 x1 x2) = (st0 true xa0 xa1 xa2 1).a := by
  refine (View.readCov_skip _ _ _ _ _ (by decide)).trans ?_
  refine (View.readCov_fill _ _ _ _ _ (by decide)).trans ?_
  rfl

theorem runN0i.top21 :
    (scA.view.readCov (runN0i.sl.HS2_3 (F := F) arg5 arg6 arg7 x0 x1 x2) (ra 1).toLoadRect) = (UD false 0 1 x0 x1 x2 (st0 true xa0 xa1 xa2 1)).a := by
  refine (View.readCov_cons_toLoadRect _ _ _ _).trans ?_
  simp only [runN0i.sl.v137, runN0i.sl.v134, runN0i.sl.v130, runN0i.sl.v133, runN0i.sl.r_7, runN0i.sl.v132, runN0i.sl.cst_64, runN0i.sl.v131, runN0i.sl.r_9, runN0i.sl.r_3, runN0i.sl.v129, runN0i.sl.v126, runN0i.sl.v128, runN0i.sl.v127, runN0i.sl.r_10, runN0i.sl.v125, (runN0i.hdv100 arg5 arg6 arg7 x0 x1 x2 xa0 xa1 xa2), (runN0i.hdv124 arg5 arg6 arg7 x0 x1 x2 xa0 xa1 xa2), k0_pay106, k0_pay92, k0_pay91, k0_pay103, k0_pay107, View.readAt_rep]
  rfl

theorem runN0i.hdv149 :
    (runN0i.sl.v149 (F := F) arg5 arg6 x0 x1) = (UD false 0 1 x0 x1 x2 (st0 true xa0 xa1 xa2 1)).l := by
  refine (View.readCov_cons_toLoadRect _ _ _ _).trans ?_
  simp only [runN0i.sl.v123, runN0i.sl.v120, runN0i.sl.v118, runN0i.sl.v119, runN0i.sl.r_9, runN0i.sl.r_3, runN0i.sl.r_10, runN0i.sl.v117, (runN0i.hdv100 arg5 arg6 arg7 x0 x1 x2 xa0 xa1 xa2), (runN0i.hdv116 arg5 arg6 arg7 x0 x1 x2 xa0 xa1 xa2), k0_pay106, k0_pay92, k0_pay91, k0_pay107, View.readAt_rep]
  rfl

theorem runN0i.hdv153 :
    (runN0i.sl.v153 (F := F) arg5 arg6 arg7 x0 x1 x2) = (UD false 0 1 x0 x1 x2 (st0 true xa0 xa1 xa2 1)).a := by
  refine (View.readCov_cons_toLoadRect _ _ _ _).trans ?_
  simp only [runN0i.sl.v137, runN0i.sl.v134, runN0i.sl.v130, runN0i.sl.v133, runN0i.sl.r_7, runN0i.sl.v132, runN0i.sl.cst_64, runN0i.sl.v131, runN0i.sl.r_9, runN0i.sl.r_3, runN0i.sl.v129, runN0i.sl.v126, runN0i.sl.v128, runN0i.sl.v127, runN0i.sl.r_10, runN0i.sl.v125, (runN0i.hdv100 arg5 arg6 arg7 x0 x1 x2 xa0 xa1 xa2), (runN0i.hdv124 arg5 arg6 arg7 x0 x1 x2 xa0 xa1 xa2), k0_pay106, k0_pay92, k0_pay91, k0_pay103, k0_pay107, View.readAt_rep]
  rfl

theorem runN0i.out1 :
    (@id (FVec F S1024x128 .bf16) (k0_pay166 (runN0i.sl.v149 arg5 arg6 x0 x1) (runN0i.sl.v153 arg5 arg6 arg7 x0 x1 x2))) = fin (UD false 0 1 x0 x1 x2 (st0 true xa0 xa1 xa2 1)).l (UD false 0 1 x0 x1 x2 (st0 true xa0 xa1 xa2 1)).a := by
  simp only [id, (runN0i.hdv149 arg5 arg6 arg7 x0 x1 x2 xa0 xa1 xa2), (runN0i.hdv153 arg5 arg6 arg7 x0 x1 x2 xa0 xa1 xa2), k0_pay166, View.readAt_rep]
  rfl

theorem runN0i.hdv138 :
    (runN0i.sl.v138 (F := F) arg5 arg6 x0 x1) = (UD false 0 0 x0 x1 x2 (st0 true xa0 xa1 xa2 0)).l := by
  refine (View.readCov_skip _ _ _ _ _ (by decide)).trans ?_
  refine (View.readCov_cons_toLoadRect _ _ _ _).trans ?_
  simp only [runN0i.sl.r_5, runN0i.sl.r_6, (runN0i.hdv73 arg5 arg6 arg7 x0 x1 x2 xa0 xa1 xa2), (runN0i.hdv57 arg5 arg6 arg7 x0 x1 x2 xa0 xa1 xa2), k0_pay100, k0_pay98, k0_pay97, View.readAt_rep]
  rfl

theorem runN0i.hdv142 :
    (runN0i.sl.v142 (F := F) arg5 arg6 arg7 x0 x1 x2) = (UD false 0 0 x0 x1 x2 (st0 true xa0 xa1 xa2 0)).a := by
  refine (View.readCov_skip _ _ _ _ _ (by decide)).trans ?_
  refine (View.readCov_cons_toLoadRect _ _ _ _).trans ?_
  simp only [runN0i.sl.r_4, runN0i.sl.r_5, runN0i.sl.r_6, (runN0i.hdv81 arg5 arg6 arg7 x0 x1 x2 xa0 xa1 xa2), (runN0i.hdv57 arg5 arg6 arg7 x0 x1 x2 xa0 xa1 xa2), k0_pay101, k0_pay98, k0_pay97, k0_pay94, View.readAt_rep]
  rfl

theorem runN0i.out0 :
    (@id (FVec F S1024x128 .bf16) (k0_pay165 (runN0i.sl.v145 arg5 arg6 arg7 x0 x1 x2))) = fin (UD false 0 0 x0 x1 x2 (st0 true xa0 xa1 xa2 0)).l (UD false 0 0 x0 x1 x2 (st0 true xa0 xa1 xa2 0)).a := by
  simp only [id, runN0i.sl.v145, runN0i.sl.v143, runN0i.sl.v144, runN0i.sl.v141, runN0i.sl.v140, runN0i.sl.v139, (runN0i.hdv138 arg5 arg6 arg7 x0 x1 x2 xa0 xa1 xa2), (runN0i.hdv142 arg5 arg6 arg7 x0 x1 x2 xa0 xa1 xa2), k0_pay165, View.readAt_rep]
  rfl

end Cert.KernelIdeal.Attn

end
-- ==== Proof.Attn.EqN0.lean ====
module

public import proofs.«01_k».proof.Proof.Attn.HdN0

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The outputs of the runs, as those. -/

variable (c : Dev nD) (i : grid0.Coords) (arg5 : Memref sig .tc .vmem S1024x512 .bf16) (harg5 : arg5.IsWhole) (arg6 : Memref sig .tc .vmem S2048x512 .bf16) (harg6 : arg6.IsWhole)
  (arg7 : Memref sig .tc .vmem S256x2048 .bf16) (harg7 : arg7.IsWhole) (arg8 : Memref sig .tc .vmem S1024x256 .bf16) (harg8 : arg8.IsWhole)
  (T0 T1 : S72.Idx → Elt F .i32) (T2 : S576.Idx → Elt F .i32) (x0 : S1024x512.Idx → Elt F .bf16) (x1 : S2048x512.Idx → Elt F .bf16) (x2 : S256x2048.Idx → Elt F .bf16) (xa0 : S2x8x1024.Idx → Elt F .f32) (xa1 : S2x8x1024.Idx → Elt F .f32) (xa2 : S2x128x1024.Idx → Elt F .f32)

set_option maxHeartbeats 1000000 in
theorem runN0.eqs (h1 : ¬C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : C6 (rdQ (F := F) i T0) (rdK (F := F) i T1) (rdS (F := F) i T2)) (h7 : ¬C7 (rdQ (F := F) i T0) (rdK (F := F) i T1) (rdS (F := F) i T2)) :
    (runN0 c i arg5 harg5 arg6 harg6 arg7 harg7 arg8 harg8 T0 T1 T2 x0 x1 x2 xa0 xa1 xa2 h1 h2 h3 h4 h5 h6 h7).1 = runN0.sl.HO3_2 (F := F) arg5 arg6 arg7 x0 x1 x2 xa0 xa1 xa2 ∧ (runN0 c i arg5 harg5 arg6 harg6 arg7 harg7 arg8 harg8 T0 T1 T2 x0 x1 x2 xa0 xa1 xa2 h1 h2 h3 h4 h5 h6 h7).2.1 = scM.view.writes (Elt F) scM.view.junk (runN0.sl.HS0_2 (F := F) arg5 arg6 x0 x1 xa0)
    ∧ (runN0 c i arg5 harg5 arg6 harg6 arg7 harg7 arg8 harg8 T0 T1 T2 x0 x1 x2 xa0 xa1 xa2 h1 h2 h3 h4 h5 h6 h7).2.2.1 = scL.view.writes (Elt F) scL.view.junk (runN0.sl.HS1_2 (F := F) arg5 arg6 x0 x1 xa0 xa1)
    ∧ (runN0 c i arg5 harg5 arg6 harg6 arg7 harg7 arg8 harg8 T0 T1 T2 x0 x1 x2 xa0 xa1 xa2 h1 h2 h3 h4 h5 h6 h7).2.2.2.1 = scA.view.writes (Elt F) scA.view.junk (runN0.sl.HS2_2 (F := F) arg5 arg6 arg7 x0 x1 x2 xa0 xa2) := by
  delta runN0
  exact ⟨by with_reducible rfl, by with_reducible rfl, by with_reducible rfl, by with_reducible rfl⟩

set_option maxHeartbeats 1000000 in
theorem runN0.heads (h1 : ¬C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : C6 (rdQ (F := F) i T0) (rdK (F := F) i T1) (rdS (F := F) i T2)) (h7 : ¬C7 (rdQ (F := F) i T0) (rdK (F := F) i T1) (rdS (F := F) i T2)) (h : Fin 2) :
    st (runN0 c i arg5 harg5 arg6 harg6 arg7 harg7 arg8 harg8 T0 T1 T2 x0 x1 x2 xa0 xa1 xa2 h1 h2 h3 h4 h5 h6 h7).2.1 (runN0 c i arg5 harg5 arg6 harg6 arg7 harg7 arg8 harg8 T0 T1 T2 x0 x1 x2 xa0 xa1 xa2 h1 h2 h3 h4 h5 h6 h7).2.2.1 (runN0 c i arg5 harg5 arg6 harg6 arg7 harg7 arg8 harg8 T0 T1 T2 x0 x1 x2 xa0 xa1 xa2 h1 h2 h3 h4 h5 h6 h7).2.2.2.1 h = W0 false h x0 x1 x2 (st0 false xa0 xa1 xa2 h)
    ∧ ∀ f, View.ld (arg8.view.read (Elt F) (arg8.view.writes (Elt F) f (runN0 c i arg5 harg5 arg6 harg6 arg7 harg7 arg8 harg8 T0 T1 T2 x0 x1 x2 xa0 xa1 xa2 h1 h2 h3 h4 h5 h6 h7).1)) (ro h)
      = fin (W0 false h x0 x1 x2 (st0 false xa0 xa1 xa2 h)).l (W0 false h x0 x1 x2 (st0 false xa0 xa1 xa2 h)).a := by
  obtain ⟨eo, em, el, ea⟩ := runN0.eqs c i arg5 harg5 arg6 harg6 arg7 harg7 arg8 harg8 T0 T1 T2 x0 x1 x2 xa0 xa1 xa2 h1 h2 h3 h4 h5 h6 h7
  match h with
  | 0 => exact ⟨(st_congr em el ea 0).trans (St.ext' (stM (runN0.top00 arg5 arg6 arg7 x0 x1 x2 xa0 xa1 xa2)) (stL (runN0.top10 arg5 arg6 arg7 x0 x1 x2 xa0 xa1 xa2)) (stA (runN0.top20 arg5 arg6 arg7 x0 x1 x2 xa0 xa1 xa2))), out_congr eo 0 _ fun f => (ld_out f _ _ _ _).1.trans (runN0.out0 arg5 arg6 arg7 x0 x1 x2 xa0 xa1 xa2)⟩
  | 1 => exact ⟨(st_congr em el ea 1).trans (St.ext' (stM (runN0.top01 arg5 arg6 arg7 x0 x1 x2 xa0 xa1 xa2)) (stL (runN0.top11 arg5 arg6 arg7 x0 x1 x2 xa0 xa1 xa2)) (stA (runN0.top21 arg5 arg6 arg7 x0 x1 x2 xa0 xa1 xa2))), out_congr eo 1 _ fun f => (ld_out f _ _ _ _).2.trans (runN0.out1 arg5 arg6 arg7 x0 x1 x2 xa0 xa1 xa2)⟩

set_option maxHeartbeats 1000000 in
theorem runN0i.eqs (h1 : C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : C6 (rdQ (F := F) i T0) (rdK (F := F) i T1) (rdS (F := F) i T2)) (h7 : ¬C7 (rdQ (F := F) i T0) (rdK (F := F) i T1) (rdS (F := F) i T2)) :
    (runN0i c i arg5 harg5 arg6 harg6 arg7 harg7 arg8 harg8 T0 T1 T2 x0 x1 x2 xa0 xa1 xa2 h1 h2 h3 h4 h5 h6 h7).1 = runN0i.sl.HO3_2 (F := F) arg5 arg6 arg7 x0 x1 x2 ∧ (runN0i c i arg5 harg5 arg6 harg6 arg7 harg7 arg8 harg8 T0 T1 T2 x0 x1 x2 xa0 xa1 xa2 h1 h2 h3 h4 h5 h6 h7).2.1 = scM.view.writes (Elt F) scM.view.junk (runN0i.sl.HS0_3 (F := F) arg5 arg6 x0 x1)
    ∧ (runN0i c i arg5 harg5 arg6 harg6 arg7 harg7 arg8 harg8 T0 T1 T2 x0 x1 x2 xa0 xa1 xa2 h1 h2 h3 h4 h5 h6 h7).2.2.1 = scL.view.writes (Elt F) scL.view.junk (runN0i.sl.HS1_3 (F := F) arg5 arg6 x0 x1)
    ∧ (runN0i c i arg5 harg5 arg6 harg6 arg7 harg7 arg8 harg8 T0 T1 T2 x0 x1 x2 xa0 xa1 xa2 h1 h2 h3 h4 h5 h6 h7).2.2.2.1 = scA.view.writes (Elt F) scA.view.junk (runN0i.sl.HS2_3 (F := F) arg5 arg6 arg7 x0 x1 x2) := by
  delta runN0i
  exact ⟨by with_reducible rfl, by with_reducible rfl, by with_reducible rfl, by with_reducible rfl⟩

set_option maxHeartbeats 1000000 in
theorem runN0i.heads (h1 : C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : C6 (rdQ (F := F) i T0) (rdK (F := F) i T1) (rdS (F := F) i T2)) (h7 : ¬C7 (rdQ (F := F) i T0) (rdK (F := F) i T1) (rdS (F := F) i T2)) (h : Fin 2) :
    st (runN0i c i arg5 harg5 arg6 harg6 arg7 harg7 arg8 harg8 T0 T1 T2 x0 x1 x2 xa0 xa1 xa2 h1 h2 h3 h4 h5 h6 h7).2.1 (runN0i c i arg5 harg5 arg6 harg6 arg7 harg7 arg8 harg8 T0 T1 T2 x0 x1 x2 xa0 xa1 xa2 h1 h2 h3 h4 h5 h6 h7).2.2.1 (runN0i c i arg5 harg5 arg6 harg6 arg7 harg7 arg8 harg8 T0 T1 T2 x0 x1 x2 xa0 xa1 xa2 h1 h2 h3 h4 h5 h6 h7).2.2.2.1 h = W0 false h x0 x1 x2 (st0 true xa0 xa1 xa2 h)
    ∧ ∀ f, View.ld (arg8.view.read (Elt F) (arg8.view.writes (Elt F) f (runN0i c i arg5 harg5 arg6 harg6 arg7 harg7 arg8 harg8 T0 T1 T2 x0 x1 x2 xa0 xa1 xa2 h1 h2 h3 h4 h5 h6 h7).1)) (ro h)
      = fin (W0 false h x0 x1 x2 (st0 true xa0 xa1 xa2 h)).l (W0 false h x0 x1 x2 (st0 true xa0 xa1 xa2 h)).a := by
  obtain ⟨eo, em, el, ea⟩ := runN0i.eqs c i arg5 harg5 arg6 harg6 arg7 harg7 arg8 harg8 T0 T1 T2 x0 x1 x2 xa0 xa1 xa2 h1 h2 h3 h4 h5 h6 h7
  match h with
  | 0 => exact ⟨(st_congr em el ea 0).trans (St.ext' (stM (runN0i.top00 arg5 arg6 arg7 x0 x1 x2 xa0 xa1 xa2)) (stL (runN0i.top10 arg5 arg6 arg7 x0 x1 x2 xa0 xa1 xa2)) (stA (runN0i.top20 arg5 arg6 arg7 x0 x1 x2 xa0 xa1 xa2))), out_congr eo 0 _ fun f => (ld_out f _ _ _ _).1.trans (runN0i.out0 arg5 arg6 arg7 x0 x1 x2 xa0 xa1 xa2)⟩
  | 1 => exact ⟨(st_congr em el ea 1).trans (St.ext' (stM (runN0i.top01 arg5 arg6 arg7 x0 x1 x2 xa0 xa1 xa2)) (stL (runN0i.top11 arg5 arg6 arg7 x0 x1 x2 xa0 xa1 xa2)) (stA (runN0i.top21 arg5 arg6 arg7 x0 x1 x2 xa0 xa1 xa2))), out_congr eo 1 _ fun f => (ld_out f _ _ _ _).2.trans (runN0i.out1 arg5 arg6 arg7 x0 x1 x2 xa0 xa1 xa2)⟩

end Cert.KernelIdeal.Attn

end
-- ==== Proof.Attn.HdN1.lean ====
module

public import proofs.«01_k».proof.Proof.Attn.Canon
public import proofs.«01_k».proof.Proof.Attn.RunN1

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The steps of the run `RunN1` head by head, as the vector expressions of `Canon`. -/

variable (arg5 : Memref sig .tc .vmem S1024x512 .bf16) (arg6 : Memref sig .tc .vmem S2048x512 .bf16) (arg7 : Memref sig .tc .vmem S256x2048 .bf16)
  (x0 : S1024x512.Idx → Elt F .bf16) (x1 : S2048x512.Idx → Elt F .bf16) (x2 : S256x2048.Idx → Elt F .bf16)
  (xa0 xa1 : S2x8x1024.Idx → Elt F .f32) (xa2 : S2x128x1024.Idx → Elt F .f32)

include arg5 arg6 arg7 x0 x1 x2 xa0 xa1 xa2
theorem runN1.hdv149 :
    (runN1.sl.v149 (F := F) arg5 arg6 x0 x1 xa0) = (UF false 0 0 x0 x1 x2 (st0 false xa0 xa1 xa2 0)).m := by
  refine (View.readCov_skip _ _ _ _ _ (by decide)).trans ?_
  refine (View.readCov_cons_toLoadRect _ _ _ _).trans ?_
  simp only [runN1.sl.v69, runN1.sl.v68, runN1.sl.v63, runN1.sl.v67, runN1.sl.v66, runN1.sl.v65, runN1.sl.v64, runN1.sl.v59, runN1.sl.v43, runN1.sl.v40, runN1.sl.v42, runN1.sl.cst, View.readAt_rep]
  rfl

theorem runN1.top00 :
    (scM.view.readCov (runN1.sl.HS0_4 (F := F) arg5 arg6 x0 x1 xa0) (rl 0).toLoadRect) = (UD false 1 0 x0 x1 x2 (UF false 0 0 x0 x1 x2 (st0 false xa0 xa1 xa2 0))).m := by
  refine (View.readCov_skip _ _ _ _ _ (by decide)).trans ?_
  refine (View.readCov_cons_toLoadRect _ _ _ _).trans ?_
  simp only [runN1.sl.v156, runN1.sl.v155, runN1.sl.v150, runN1.sl.v154, runN1.sl.v153, runN1.sl.v152, runN1.sl.v151, runN1.sl.v146, runN1.sl.v145, runN1.sl.v53, runN1.sl.v144, runN1.sl.cst_75, runN1.sl.v50, runN1.sl.v42, runN1.sl.cst, (runN1.hdv149 arg5 arg6 arg7 x0 x1 x2 xa0 xa1 xa2), k0_pay135, View.readAt_rep]
  rfl

theorem runN1.hdv192 :
    (runN1.sl.v192 (F := F) arg5 arg6 x0 x1 xa0) = (UF false 0 1 x0 x1 x2 (st0 false xa0 xa1 xa2 1)).m := by
  refine (View.readCov_skip _ _ _ _ _ (by decide)).trans ?_
  refine (View.readCov_cons_toLoadRect _ _ _ _).trans ?_
  simp only [runN1.sl.v104, runN1.sl.v105, runN1.sl.v100, runN1.sl.v48, runN1.sl.v45, runN1.sl.v47, runN1.sl.cst, runN1.sl.v103, k0_pay132, View.readAt_rep]
  rfl

theorem runN1.top01 :
    (scM.view.readCov (runN1.sl.HS0_4 (F := F) arg5 arg6 x0 x1 xa0) (rl 1).toLoadRect) = (UD false 1 1 x0 x1 x2 (UF false 0 1 x0 x1 x2 (st0 false xa0 xa1 xa2 1))).m := by
  refine (View.readCov_cons_toLoadRect _ _ _ _).trans ?_
  simp only [runN1.sl.v58, runN1.sl.v55, runN1.sl.v47, runN1.sl.cst, (runN1.hdv192 arg5 arg6 arg7 x0 x1 x2 xa0 xa1 xa2), k0_pay153, k0_pay135, View.readAt_rep]
  rfl

theorem runN1.hdv165 :
    (runN1.sl.v165 (F := F) arg5 arg6 x0 x1 xa0 xa1) = (UF false 0 0 x0 x1 x2 (st0 false xa0 xa1 xa2 0)).l := by
  refine (View.readCov_skip _ _ _ _ _ (by decide)).trans ?_
  refine (View.readCov_cons_toLoadRect _ _ _ _).trans ?_
  simp only [runN1.sl.v85, runN1.sl.v82, runN1.sl.v80, runN1.sl.v81, runN1.sl.v72, runN1.sl.v71, runN1.sl.v59, runN1.sl.v70, runN1.sl.v69, runN1.sl.v68, runN1.sl.v63, runN1.sl.v67, runN1.sl.v66, runN1.sl.v65, runN1.sl.v64, runN1.sl.v43, runN1.sl.v40, runN1.sl.v42, runN1.sl.cst, runN1.sl.v74, runN1.sl.v79, runN1.sl.v73, View.readAt_rep]
  rfl

theorem runN1.top10 :
    (scL.view.readCov (runN1.sl.HS1_4 (F := F) arg5 arg6 x0 x1 xa0 xa1) (rl 0).toLoadRect) = (UD false 1 0 x0 x1 x2 (UF false 0 0 x0 x1 x2 (st0 false xa0 xa1 xa2 0))).l := by
  refine (View.readCov_skip _ _ _ _ _ (by decide)).trans ?_
  refine (View.readCov_cons_toLoadRect _ _ _ _).trans ?_
  simp only [runN1.sl.v172, runN1.sl.v169, runN1.sl.v167, runN1.sl.v168, runN1.sl.v159, runN1.sl.v158, runN1.sl.v146, runN1.sl.v157, runN1.sl.v156, runN1.sl.v155, runN1.sl.v150, runN1.sl.v154, runN1.sl.v153, runN1.sl.v152, runN1.sl.v151, runN1.sl.v145, runN1.sl.v53, runN1.sl.v144, runN1.sl.cst_75, runN1.sl.v50, runN1.sl.v42, runN1.sl.cst, runN1.sl.v161, runN1.sl.v166, runN1.sl.v160, (runN1.hdv149 arg5 arg6 arg7 x0 x1 x2 xa0 xa1 xa2), (runN1.hdv165 arg5 arg6 arg7 x0 x1 x2 xa0 xa1 xa2), k0_pay135, View.readAt_rep]
  rfl

theorem runN1.hdv208 :
    (runN1.sl.v208 (F := F) arg5 arg6 x0 x1 xa0 xa1) = (UF false 0 1 x0 x1 x2 (st0 false xa0 xa1 xa2 1)).l := by
  refine (View.readCov_skip _ _ _ _ _ (by decide)).trans ?_
  refine (View.readCov_cons_toLoadRect _ _ _ _).trans ?_
  simp only [runN1.sl.v100, runN1.sl.v104, runN1.sl.v105, runN1.sl.v119, runN1.sl.v103, runN1.sl.v48, runN1.sl.v45, runN1.sl.v47, runN1.sl.cst, k0_pay133, View.readAt_rep]
  rfl

theorem runN1.top11 :
    (scL.view.readCov (runN1.sl.HS1_4 (F := F) arg5 arg6 x0 x1 xa0 xa1) (rl 1).toLoadRect) = (UD false 1 1 x0 x1 x2 (UF false 0 1 x0 x1 x2 (st0 false xa0 xa1 xa2 1))).l := by
  refine (View.readCov_cons_toLoadRect _ _ _ _).trans ?_
  simp only [runN1.sl.v58, runN1.sl.v55, runN1.sl.v47, runN1.sl.cst, (runN1.hdv192 arg5 arg6 arg7 x0 x1 x2 xa0 xa1 xa2), (runN1.hdv208 arg5 arg6 arg7 x0 x1 x2 xa0 xa1 xa2), k0_pay154, k0_pay135, View.readAt_rep]
  rfl

theorem runN1.hdv173 :
    (runN1.sl.v173 (F := F) arg5 arg6 arg7 x0 x1 x2 xa0 xa2) = (UF false 0 0 x0 x1 x2 (st0 false xa0 xa1 xa2 0)).a := by
  refine (View.readCov_skip _ _ _ _ _ (by decide)).trans ?_
  refine (View.readCov_cons_toLoadRect _ _ _ _).trans ?_
  simp only [runN1.sl.v99, runN1.sl.v96, runN1.sl.v92, runN1.sl.v95, runN1.sl.v61, runN1.sl.v94, runN1.sl.cst_49, runN1.sl.v93, runN1.sl.v72, runN1.sl.v71, runN1.sl.v59, runN1.sl.v70, runN1.sl.v69, runN1.sl.v68, runN1.sl.v63, runN1.sl.v67, runN1.sl.v66, runN1.sl.v65, runN1.sl.v64, runN1.sl.v43, runN1.sl.v40, runN1.sl.v42, runN1.sl.cst, runN1.sl.v91, runN1.sl.v88, runN1.sl.v90, runN1.sl.v89, runN1.sl.v74, runN1.sl.v73, runN1.sl.v87, View.readAt_rep]
  rfl

theorem runN1.top20 :
    (scA.view.readCov (runN1.sl.HS2_4 (F := F) arg5 arg6 arg7 x0 x1 x2 xa0 xa2) (ra 0).toLoadRect) = (UD false 1 0 x0 x1 x2 (UF false 0 0 x0 x1 x2 (st0 false xa0 xa1 xa2 0))).a := by
  refine (View.readCov_skip _ _ _ _ _ (by decide)).trans ?_
  refine (View.readCov_cons_toLoadRect _ _ _ _).trans ?_
  simp only [runN1.sl.v148, runN1.sl.v179, runN1.sl.v181, runN1.sl.v180, runN1.sl.v159, runN1.sl.v158, runN1.sl.v146, runN1.sl.v157, runN1.sl.v156, runN1.sl.v155, runN1.sl.v150, runN1.sl.v154, runN1.sl.v153, runN1.sl.v152, runN1.sl.v151, runN1.sl.v145, runN1.sl.v53, runN1.sl.v144, runN1.sl.cst_75, runN1.sl.v50, runN1.sl.v42, runN1.sl.cst, runN1.sl.v178, runN1.sl.v175, runN1.sl.v177, runN1.sl.v176, runN1.sl.v161, runN1.sl.v160, runN1.sl.v174, (runN1.hdv149 arg5 arg6 arg7 x0 x1 x2 xa0 xa1 xa2), (runN1.hdv173 arg5 arg6 arg7 x0 x1 x2 xa0 xa1 xa2), k0_pay146, k0_pay135, View.readAt_rep]
  rfl

theorem runN1.hdv216 :
    (runN1.sl.v216 (F := F) arg5 arg6 arg7 x0 x1 x2 xa0 xa2) = (UF false 0 1 x0 x1 x2 (st0 false xa0 xa1 xa2 1)).a := by
  refine (View.readCov_skip _ _ _ _ _ (by decide)).trans ?_
  refine (View.readCov_cons_toLoadRect _ _ _ _).trans ?_
  simp only [runN1.sl.v100, runN1.sl.v102, runN1.sl.v104, runN1.sl.v105, runN1.sl.v127, runN1.sl.v103, runN1.sl.v48, runN1.sl.v45, runN1.sl.v47, runN1.sl.cst, k0_pay134, View.readAt_rep]
  rfl

theorem runN1.top21 :
    (scA.view.readCov (runN1.sl.HS2_4 (F := F) arg5 arg6 arg7 x0 x1 x2 xa0 xa2) (ra 1).toLoadRect) = (UD false 1 1 x0 x1 x2 (UF false 0 1 x0 x1 x2 (st0 false xa0 xa1 xa2 1))).a := by
  refine (View.readCov_cons_toLoadRect _ _ _ _).trans ?_
  simp only [runN1.sl.v229, runN1.sl.v226, runN1.sl.v222, runN1.sl.v225, runN1.sl.r_3, runN1.sl.v224, runN1.sl.cst_49, runN1.sl.v223, runN1.sl.r_4, runN1.sl.v58, runN1.sl.v55, runN1.sl.v47, runN1.sl.cst, runN1.sl.v221, runN1.sl.v218, runN1.sl.v220, runN1.sl.v219, runN1.sl.r_5, runN1.sl.v217, (runN1.hdv192 arg5 arg6 arg7 x0 x1 x2 xa0 xa1 xa2), (runN1.hdv216 arg5 arg6 arg7 x0 x1 x2 xa0 xa1 xa2), k0_pay151, k0_pay135, k0_pay148, k0_pay152, View.readAt_rep]
  rfl

theorem runN1.hdv241 :
    (runN1.sl.v241 (F := F) arg5 arg6 x0 x1 xa0 xa1) = (UD false 1 1 x0 x1 x2 (UF false 0 1 x0 x1 x2 (st0 false xa0 xa1 xa2 1))).l := by
  refine (View.readCov_cons_toLoadRect _ _ _ _).trans ?_
  simp only [runN1.sl.v58, runN1.sl.v55, runN1.sl.v47, runN1.sl.cst, (runN1.hdv192 arg5 arg6 arg7 x0 x1 x2 xa0 xa1 xa2), (runN1.hdv208 arg5 arg6 arg7 x0 x1 x2 xa0 xa1 xa2), k0_pay154, k0_pay135, View.readAt_rep]
  rfl

theorem runN1.hdv245 :
    (runN1.sl.v245 (F := F) arg5 arg6 arg7 x0 x1 x2 xa0 xa2) = (UD false 1 1 x0 x1 x2 (UF false 0 1 x0 x1 x2 (st0 false xa0 xa1 xa2 1))).a := by
  refine (View.readCov_cons_toLoadRect _ _ _ _).trans ?_
  simp only [runN1.sl.v229, runN1.sl.v226, runN1.sl.v222, runN1.sl.v225, runN1.sl.r_3, runN1.sl.v224, runN1.sl.cst_49, runN1.sl.v223, runN1.sl.r_4, runN1.sl.v58, runN1.sl.v55, runN1.sl.v47, runN1.sl.cst, runN1.sl.v221, runN1.sl.v218, runN1.sl.v220, runN1.sl.v219, runN1.sl.r_5, runN1.sl.v217, (runN1.hdv192 arg5 arg6 arg7 x0 x1 x2 xa0 xa1 xa2), (runN1.hdv216 arg5 arg6 arg7 x0 x1 x2 xa0 xa1 xa2), k0_pay151, k0_pay135, k0_pay148, k0_pay152, View.readAt_rep]
  rfl

theorem runN1.out1 :
    (@id (FVec F S1024x128 .bf16) (runN1.sl.v250 arg5 arg6 arg7 x0 x1 x2 xa0 xa1 xa2)) = fin (UD false 1 1 x0 x1 x2 (UF false 0 1 x0 x1 x2 (st0 false xa0 xa1 xa2 1))).l (UD false 1 1 x0 x1 x2 (UF false 0 1 x0 x1 x2 (st0 false xa0 xa1 xa2 1))).a := by
  simp only [id, runN1.sl.v250, runN1.sl.v249, runN1.sl.v248, runN1.sl.v246, runN1.sl.v247, runN1.sl.v244, runN1.sl.v243, runN1.sl.v242, (runN1.hdv241 arg5 arg6 arg7 x0 x1 x2 xa0 xa1 xa2), (runN1.hdv245 arg5 arg6 arg7 x0 x1 x2 xa0 xa1 xa2), View.readAt_rep]
  rfl

theorem runN1.hdv230 :
    (runN1.sl.v230 (F := F) arg5 arg6 x0 x1 xa0 xa1) = (UD false 1 0 x0 x1 x2 (UF false 0 0 x0 x1 x2 (st0 false xa0 xa1 xa2 0))).l := by
  refine (View.readCov_skip _ _ _ _ _ (by decide)).trans ?_
  refine (View.readCov_cons_toLoadRect _ _ _ _).trans ?_
  simp only [runN1.sl.v172, runN1.sl.v169, runN1.sl.v167, runN1.sl.v168, runN1.sl.v159, runN1.sl.v158, runN1.sl.v146, runN1.sl.v157, runN1.sl.v156, runN1.sl.v155, runN1.sl.v150, runN1.sl.v154, runN1.sl.v153, runN1.sl.v152, runN1.sl.v151, runN1.sl.v145, runN1.sl.v53, runN1.sl.v144, runN1.sl.cst_75, runN1.sl.v50, runN1.sl.v42, runN1.sl.cst, runN1.sl.v161, runN1.sl.v166, runN1.sl.v160, (runN1.hdv149 arg5 arg6 arg7 x0 x1 x2 xa0 xa1 xa2), (runN1.hdv165 arg5 arg6 arg7 x0 x1 x2 xa0 xa1 xa2), k0_pay135, View.readAt_rep]
  rfl

theorem runN1.hdv234 :
    (runN1.sl.v234 (F := F) arg5 arg6 arg7 x0 x1 x2 xa0 xa2) = (UD false 1 0 x0 x1 x2 (UF false 0 0 x0 x1 x2 (st0 false xa0 xa1 xa2 0))).a := by
  refine (View.readCov_skip _ _ _ _ _ (by decide)).trans ?_
  refine (View.readCov_cons_toLoadRect _ _ _ _).trans ?_
  simp only [runN1.sl.v148, runN1.sl.v179, runN1.sl.v181, runN1.sl.v180, runN1.sl.v159, runN1.sl.v158, runN1.sl.v146, runN1.sl.v157, runN1.sl.v156, runN1.sl.v155, runN1.sl.v150, runN1.sl.v154, runN1.sl.v153, runN1.sl.v152, runN1.sl.v151, runN1.sl.v145, runN1.sl.v53, runN1.sl.v144, runN1.sl.cst_75, runN1.sl.v50, runN1.sl.v42, runN1.sl.cst, runN1.sl.v178, runN1.sl.v175, runN1.sl.v177, runN1.sl.v176, runN1.sl.v161, runN1.sl.v160, runN1.sl.v174, (runN1.hdv149 arg5 arg6 arg7 x0 x1 x2 xa0 xa1 xa2), (runN1.hdv173 arg5 arg6 arg7 x0 x1 x2 xa0 xa1 xa2), k0_pay146, k0_pay135, View.readAt_rep]
  rfl

theorem runN1.out0 :
    (@id (FVec F S1024x128 .bf16) (runN1.sl.v239 arg5 arg6 arg7 x0 x1 x2 xa0 xa1 xa2)) = fin (UD false 1 0 x0 x1 x2 (UF false 0 0 x0 x1 x2 (st0 false xa0 xa1 xa2 0))).l (UD false 1 0 x0 x1 x2 (UF false 0 0 x0 x1 x2 (st0 false xa0 xa1 xa2 0))).a := by
  simp only [id, runN1.sl.v239, runN1.sl.v238, runN1.sl.v237, runN1.sl.v235, runN1.sl.v236, runN1.sl.v233, runN1.sl.v232, runN1.sl.v231, (runN1.hdv230 arg5 arg6 arg7 x0 x1 x2 xa0 xa1 xa2), (runN1.hdv234 arg5 arg6 arg7 x0 x1 x2 xa0 xa1 xa2), View.readAt_rep]
  rfl

theorem runN1i.hdv62 :
    (runN1i.sl.v62 (F := F) ) = (st0 true xa0 xa1 xa2 0).m := by
  refine (View.readCov_fill _ _ _ _ _ (by decide)).trans ?_
  rfl

theorem runN1i.hdv149 :
    (runN1i.sl.v149 (F := F) arg5 arg6 x0 x1) = (UF false 0 0 x0 x1 x2 (st0 true xa0 xa1 xa2 0)).m := by
  refine (View.readCov_skip _ _ _ _ _ (by decide)).trans ?_
  refine (View.readCov_cons_toLoadRect _ _ _ _).trans ?_
  simp only [runN1i.sl.v69, runN1i.sl.v68, runN1i.sl.v63, runN1i.sl.v67, runN1i.sl.v66, runN1i.sl.v65, runN1i.sl.v64, runN1i.sl.v59, runN1i.sl.v43, runN1i.sl.v40, runN1i.sl.v42, runN1i.sl.cst, (runN1i.hdv62 arg5 arg6 arg7 x0 x1 x2 xa0 xa1 xa2), View.readAt_rep]
  rfl

theorem runN1i.top00 :
    (scM.view.readCov (runN1i.sl.HS0_5 (F := F) arg5 arg6 x0 x1) (rl 0).toLoadRect) = (UD false 1 0 x0 x1 x2 (UF false 0 0 x0 x1 x2 (st0 true xa0 xa1 xa2 0))).m := by
  refine (View.readCov_skip _ _ _ _ _ (by decide)).trans ?_
  refine (View.readCov_cons_toLoadRect _ _ _ _).trans ?_
  simp only [runN1i.sl.v156, runN1i.sl.v155, runN1i.sl.v150, runN1i.sl.v154, runN1i.sl.v153, runN1i.sl.v152, runN1i.sl.v151, runN1i.sl.v146, runN1i.sl.v145, runN1i.sl.v53, runN1i.sl.v144, runN1i.sl.cst_75, runN1i.sl.v50, runN1i.sl.v42, runN1i.sl.cst, (runN1i.hdv149 arg5 arg6 arg7 x0 x1 x2 xa0 xa1 xa2), k0_pay135, View.readAt_rep]
  rfl

theorem runN1i.hdv103 :
    (runN1i.sl.v103 (F := F) arg5 arg6 x0 x1) = (st0 true xa0 xa1 xa2 1).m := by
  refine (View.readCov_skip _ _ _ _ _ (by decide)).trans ?_
  refine (View.readCov_fill _ _ _ _ _ (by decide)).trans ?_
  rfl

theorem runN1i.hdv192 :
    (runN1i.sl.v192 (F := F) arg5 arg6 x0 x1) = (UF false 0 1 x0 x1 x2 (st0 true xa0 xa1 xa2 1)).m := by
  refine (View.readCov_skip _ _ _ _ _ (by decide)).trans ?_
  refine (View.readCov_cons_toLoadRect _ _ _ _).trans ?_
  simp only [runN1i.sl.v104, runN1i.sl.v105, runN1i.sl.v100, runN1i.sl.v48, runN1i.sl.v45, runN1i.sl.v47, runN1i.sl.cst, (runN1i.hdv103 arg5 arg6 arg7 x0 x1 x2 xa0 xa1 xa2), k0_pay132, View.readAt_rep]
  rfl

theorem runN1i.top01 :
    (scM.view.readCov (runN1i.sl.HS0_5 (F := F) arg5 arg6 x0 x1) (rl 1).toLoadRect) = (UD false 1 1 x0 x1 x2 (UF false 0 1 x0 x1 x2 (st0 true xa0 xa1 xa2 1))).m := by
  refine (View.readCov_cons_toLoadRect _ _ _ _).trans ?_
  simp only [runN1i.sl.v58, runN1i.sl.v55, runN1i.sl.v47, runN1i.sl.cst, (runN1i.hdv192 arg5 arg6 arg7 x0 x1 x2 xa0 xa1 xa2), k0_pay153, k0_pay135, View.readAt_rep]
  rfl

theorem runN1i.hdv78 :
    (runN1i.sl.v78 (F := F) ) = (st0 true xa0 xa1 xa2 0).l := by
  refine (View.readCov_fill _ _ _ _ _ (by decide)).trans ?_
  rfl

theorem runN1i.hdv165 :
    (runN1i.sl.v165 (F := F) arg5 arg6 x0 x1) = (UF false 0 0 x0 x1 x2 (st0 true xa0 xa1 xa2 0)).l := by
  refine (View.readCov_skip _ _ _ _ _ (by decide)).trans ?_
  refine (View.readCov_cons_toLoadRect _ _ _ _).trans ?_
  simp only [runN1i.sl.v85, runN1i.sl.v82, runN1i.sl.v80, runN1i.sl.v81, runN1i.sl.v72, runN1i.sl.v71, runN1i.sl.v59, runN1i.sl.v70, runN1i.sl.v69, runN1i.sl.v68, runN1i.sl.v63, runN1i.sl.v67, runN1i.sl.v66, runN1i.sl.v65, runN1i.sl.v64, runN1i.sl.v43, runN1i.sl.v40, runN1i.sl.v42, runN1i.sl.cst, runN1i.sl.v74, runN1i.sl.v79, runN1i.sl.v73, (runN1i.hdv62 arg5 arg6 arg7 x0 x1 x2 xa0 xa1 xa2), (runN1i.hdv78 arg5 arg6 arg7 x0 x1 x2 xa0 xa1 xa2), View.readAt_rep]
  rfl

theorem runN1i.top10 :
    (scL.view.readCov (runN1i.sl.HS1_5 (F := F) arg5 arg6 x0 x1) (rl 0).toLoadRect) = (UD false 1 0 x0 x1 x2 (UF false 0 0 x0 x1 x2 (st0 true xa0 xa1 xa2 0))).l := by
  refine (View.readCov_skip _ _ _ _ _ (by decide)).trans ?_
  refine (View.readCov_cons_toLoadRect _ _ _ _).trans ?_
  simp only [runN1i.sl.v172, runN1i.sl.v169, runN1i.sl.v167, runN1i.sl.v168, runN1i.sl.v159, runN1i.sl.v158, runN1i.sl.v146, runN1i.sl.v157, runN1i.sl.v156, runN1i.sl.v155, runN1i.sl.v150, runN1i.sl.v154, runN1i.sl.v153, runN1i.sl.v152, runN1i.sl.v151, runN1i.sl.v145, runN1i.sl.v53, runN1i.sl.v144, runN1i.sl.cst_75, runN1i.sl.v50, runN1i.sl.v42, runN1i.sl.cst, runN1i.sl.v161, runN1i.sl.v166, runN1i.sl.v160, (runN1i.hdv149 arg5 arg6 arg7 x0 x1 x2 xa0 xa1 xa2), (runN1i.hdv165 arg5 arg6 arg7 x0 x1 x2 xa0 xa1 xa2), k0_pay135, View.readAt_rep]
  rfl

theorem runN1i.hdv119 :
    (runN1i.sl.v119 (F := F) arg5 arg6 x0 x1) = (st0 true xa0 xa1 xa2 1).l := by
  refine (View.readCov_skip _ _ _ _ _ (by decide)).trans ?_
  refine (View.readCov_fill _ _ _ _ _ (by decide)).trans ?_
  rfl

theorem runN1i.hdv208 :
    (runN1i.sl.v208 (F := F) arg5 arg6 x0 x1) = (UF false 0 1 x0 x1 x2 (st0 true xa0 xa1 xa2 1)).l := by
  refine (View.readCov_skip _ _ _ _ _ (by decide)).trans ?_
  refine (View.readCov_cons_toLoadRect _ _ _ _).trans ?_
  simp only [runN1i.sl.v100, runN1i.sl.v104, runN1i.sl.v105, runN1i.sl.v48, runN1i.sl.v45, runN1i.sl.v47, runN1i.sl.cst, (runN1i.hdv119 arg5 arg6 arg7 x0 x1 x2 xa0 xa1 xa2), (runN1i.hdv103 arg5 arg6 arg7 x0 x1 x2 xa0 xa1 xa2), k0_pay133, View.readAt_rep]
  rfl

theorem runN1i.top11 :
    (scL.view.readCov (runN1i.sl.HS1_5 (F := F) arg5 arg6 x0 x1) (rl 1).toLoadRect) = (UD false 1 1 x0 x1 x2 (UF false 0 1 x0 x1 x2 (st0 true xa0 xa1 xa2 1))).l := by
  refine (View.readCov_cons_toLoadRect _ _ _ _).trans ?_
  simp only [runN1i.sl.v58, runN1i.sl.v55, runN1i.sl.v47, runN1i.sl.cst, (runN1i.hdv192 arg5 arg6 arg7 x0 x1 x2 xa0 xa1 xa2), (runN1i.hdv208 arg5 arg6 arg7 x0 x1 x2 xa0 xa1 xa2), k0_pay154, k0_pay135, View.readAt_rep]
  rfl

theorem runN1i.hdv86 :
    (runN1i.sl.v86 (F := F) ) = (st0 true xa0 xa1 xa2 0).a := by
  refine (View.readCov_fill _ _ _ _ _ (by decide)).trans ?_
  rfl

theorem runN1i.hdv173 :
    (runN1i.sl.v173 (F := F) arg5 arg6 arg7 x0 x1 x2) = (UF false 0 0 x0 x1 x2 (st0 true xa0 xa1 xa2 0)).a := by
  refine (View.readCov_skip _ _ _ _ _ (by decide)).trans ?_
  refine (View.readCov_cons_toLoadRect _ _ _ _).trans ?_
  simp only [runN1i.sl.v99, runN1i.sl.v96, runN1i.sl.v92, runN1i.sl.v95, runN1i.sl.v61, runN1i.sl.v94, runN1i.sl.cst_49, runN1i.sl.v93, runN1i.sl.v72, runN1i.sl.v71, runN1i.sl.v59, runN1i.sl.v70, runN1i.sl.v69, runN1i.sl.v68, runN1i.sl.v63, runN1i.sl.v67, runN1i.sl.v66, runN1i.sl.v65, runN1i.sl.v64, runN1i.sl.v43, runN1i.sl.v40, runN1i.sl.v42, runN1i.sl.cst, runN1i.sl.v91, runN1i.sl.v88, runN1i.sl.v90, runN1i.sl.v89, runN1i.sl.v74, runN1i.sl.v73, runN1i.sl.v87, (runN1i.hdv62 arg5 arg6 arg7 x0 x1 x2 xa0 xa1 xa2), (runN1i.hdv86 arg5 arg6 arg7 x0 x1 x2 xa0 xa1 xa2), View.readAt_rep]
  rfl

theorem runN1i.top20 :
    (scA.view.readCov (runN1i.sl.HS2_5 (F := F) arg5 arg6 arg7 x0 x1 x2) (ra 0).toLoadRect) = (UD false 1 0 x0 x1 x2 (UF false 0 0 x0 x1 x2 (st0 true xa0 xa1 xa2 0))).a := by
  refine (View.readCov_skip _ _ _ _ _ (by decide)).trans ?_
  refine (View.readCov_cons_toLoadRect _ _ _ _).trans ?_
  simp only [runN1i.sl.v148, runN1i.sl.v179, runN1i.sl.v181, runN1i.sl.v180, runN1i.sl.v159, runN1i.sl.v158, runN1i.sl.v146, runN1i.sl.v157, runN1i.sl.v156, runN1i.sl.v155, runN1i.sl.v150, runN1i.sl.v154, runN1i.sl.v153, runN1i.sl.v152, runN1i.sl.v151, runN1i.sl.v145, runN1i.sl.v53, runN1i.sl.v144, runN1i.sl.cst_75, runN1i.sl.v50, runN1i.sl.v42, runN1i.sl.cst, runN1i.sl.v178, runN1i.sl.v175, runN1i.sl.v177, runN1i.sl.v176, runN1i.sl.v161, runN1i.sl.v160, runN1i.sl.v174, (runN1i.hdv149 arg5 arg6 arg7 x0 x1 x2 xa0 xa1 xa2), (runN1i.hdv173 arg5 arg6 arg7 x0 x1 x2 xa0 xa1 xa2), k0_pay146, k0_pay135, View.readAt_rep]
  rfl

theorem runN1i.hdv127 :
    (runN1i.sl.v127 (F := F) arg5 arg6 arg7 x0 x1 x2) = (st0 true xa0 xa1 xa2 1).a := by
  refine (View.readCov_skip _ _ _ _ _ (by decide)).trans ?_
  refine (View.readCov_fill _ _ _ _ _ (by decide)).trans ?_
  rfl

theorem runN1i.hdv216 :
    (runN1i.sl.v216 (F := F) arg5 arg6 arg7 x0 x1 x2) = (UF false 0 1 x0 x1 x2 (st0 true xa0 xa1 xa2 1)).a := by
  refine (View.readCov_skip _ _ _ _ _ (by decide)).trans ?_
  refine (View.readCov_cons_toLoadRect _ _ _ _).trans ?_
  simp only [runN1i.sl.v100, runN1i.sl.v102, runN1i.sl.v104, runN1i.sl.v105, runN1i.sl.v48, runN1i.sl.v45, runN1i.sl.v47, runN1i.sl.cst, (runN1i.hdv127 arg5 arg6 arg7 x0 x1 x2 xa0 xa1 xa2), (runN1i.hdv103 arg5 arg6 arg7 x0 x1 x2 xa0 xa1 xa2), k0_pay134, View.readAt_rep]
  rfl

theorem runN1i.top21 :
    (scA.view.readCov (runN1i.sl.HS2_5 (F := F) arg5 arg6 arg7 x0 x1 x2) (ra 1).toLoadRect) = (UD false 1 1 x0 x1 x2 (UF false 0 1 x0 x1 x2 (st0 true xa0 xa1 xa2 1))).a := by
  refine (View.readCov_cons_toLoadRect _ _ _ _).trans ?_
  simp only [runN1i.sl.v229, runN1i.sl.v226, runN1i.sl.v222, runN1i.sl.v225, runN1i.sl.r_3, runN1i.sl.v224, runN1i.sl.cst_49, runN1i.sl.v223, runN1i.sl.r_4, runN1i.sl.v58, runN1i.sl.v55, runN1i.sl.v47, runN1i.sl.cst, runN1i.sl.v221, runN1i.sl.v218, runN1i.sl.v220, runN1i.sl.v219, runN1i.sl.r_5, runN1i.sl.v217, (runN1i.hdv192 arg5 arg6 arg7 x0 x1 x2 xa0 xa1 xa2), (runN1i.hdv216 arg5 arg6 arg7 x0 x1 x2 xa0 xa1 xa2), k0_pay151, k0_pay135, k0_pay148, k0_pay152, View.readAt_rep]
  rfl

theorem runN1i.hdv241 :
    (runN1i.sl.v241 (F := F) arg5 arg6 x0 x1) = (UD false 1 1 x0 x1 x2 (UF false 0 1 x0 x1 x2 (st0 true xa0 xa1 xa2 1))).l := by
  refine (View.readCov_cons_toLoadRect _ _ _ _).trans ?_
  simp only [runN1i.sl.v58, runN1i.sl.v55, runN1i.sl.v47, runN1i.sl.cst, (runN1i.hdv192 arg5 arg6 arg7 x0 x1 x2 xa0 xa1 xa2), (runN1i.hdv208 arg5 arg6 arg7 x0 x1 x2 xa0 xa1 xa2), k0_pay154, k0_pay135, View.readAt_rep]
  rfl

theorem runN1i.hdv245 :
    (runN1i.sl.v245 (F := F) arg5 arg6 arg7 x0 x1 x2) = (UD false 1 1 x0 x1 x2 (UF false 0 1 x0 x1 x2 (st0 true xa0 xa1 xa2 1))).a := by
  refine (View.readCov_cons_toLoadRect _ _ _ _).trans ?_
  simp only [runN1i.sl.v229, runN1i.sl.v226, runN1i.sl.v222, runN1i.sl.v225, runN1i.sl.r_3, runN1i.sl.v224, runN1i.sl.cst_49, runN1i.sl.v223, runN1i.sl.r_4, runN1i.sl.v58, runN1i.sl.v55, runN1i.sl.v47, runN1i.sl.cst, runN1i.sl.v221, runN1i.sl.v218, runN1i.sl.v220, runN1i.sl.v219, runN1i.sl.r_5, runN1i.sl.v217, (runN1i.hdv192 arg5 arg6 arg7 x0 x1 x2 xa0 xa1 xa2), (runN1i.hdv216 arg5 arg6 arg7 x0 x1 x2 xa0 xa1 xa2), k0_pay151, k0_pay135, k0_pay148, k0_pay152, View.readAt_rep]
  rfl

theorem runN1i.out1 :
    (@id (FVec F S1024x128 .bf16) (runN1i.sl.v250 arg5 arg6 arg7 x0 x1 x2)) = fin (UD false 1 1 x0 x1 x2 (UF false 0 1 x0 x1 x2 (st0 true xa0 xa1 xa2 1))).l (UD false 1 1 x0 x1 x2 (UF false 0 1 x0 x1 x2 (st0 true xa0 xa1 xa2 1))).a := by
  simp only [id, runN1i.sl.v250, runN1i.sl.v249, runN1i.sl.v248, runN1i.sl.v246, runN1i.sl.v247, runN1i.sl.v244, runN1i.sl.v243, runN1i.sl.v242, (runN1i.hdv241 arg5 arg6 arg7 x0 x1 x2 xa0 xa1 xa2), (runN1i.hdv245 arg5 arg6 arg7 x0 x1 x2 xa0 xa1 xa2), View.readAt_rep]
  rfl

theorem runN1i.hdv230 :
    (runN1i.sl.v230 (F := F) arg5 arg6 x0 x1) = (UD false 1 0 x0 x1 x2 (UF false 0 0 x0 x1 x2 (st0 true xa0 xa1 xa2 0))).l := by
  refine (View.readCov_skip _ _ _ _ _ (by decide)).trans ?_
  refine (View.readCov_cons_toLoadRect _ _ _ _).trans ?_
  simp only [runN1i.sl.v172, runN1i.sl.v169, runN1i.sl.v167, runN1i.sl.v168, runN1i.sl.v159, runN1i.sl.v158, runN1i.sl.v146, runN1i.sl.v157, runN1i.sl.v156, runN1i.sl.v155, runN1i.sl.v150, runN1i.sl.v154, runN1i.sl.v153, runN1i.sl.v152, runN1i.sl.v151, runN1i.sl.v145, runN1i.sl.v53, runN1i.sl.v144, runN1i.sl.cst_75, runN1i.sl.v50, runN1i.sl.v42, runN1i.sl.cst, runN1i.sl.v161, runN1i.sl.v166, runN1i.sl.v160, (runN1i.hdv149 arg5 arg6 arg7 x0 x1 x2 xa0 xa1 xa2), (runN1i.hdv165 arg5 arg6 arg7 x0 x1 x2 xa0 xa1 xa2), k0_pay135, View.readAt_rep]
  rfl

theorem runN1i.hdv234 :
    (runN1i.sl.v234 (F := F) arg5 arg6 arg7 x0 x1 x2) = (UD false 1 0 x0 x1 x2 (UF false 0 0 x0 x1 x2 (st0 true xa0 xa1 xa2 0))).a := by
  refine (View.readCov_skip _ _ _ _ _ (by decide)).trans ?_
  refine (View.readCov_cons_toLoadRect _ _ _ _).trans ?_
  simp only [runN1i.sl.v148, runN1i.sl.v179, runN1i.sl.v181, runN1i.sl.v180, runN1i.sl.v159, runN1i.sl.v158, runN1i.sl.v146, runN1i.sl.v157, runN1i.sl.v156, runN1i.sl.v155, runN1i.sl.v150, runN1i.sl.v154, runN1i.sl.v153, runN1i.sl.v152, runN1i.sl.v151, runN1i.sl.v145, runN1i.sl.v53, runN1i.sl.v144, runN1i.sl.cst_75, runN1i.sl.v50, runN1i.sl.v42, runN1i.sl.cst, runN1i.sl.v178, runN1i.sl.v175, runN1i.sl.v177, runN1i.sl.v176, runN1i.sl.v161, runN1i.sl.v160, runN1i.sl.v174, (runN1i.hdv149 arg5 arg6 arg7 x0 x1 x2 xa0 xa1 xa2), (runN1i.hdv173 arg5 arg6 arg7 x0 x1 x2 xa0 xa1 xa2), k0_pay146, k0_pay135, View.readAt_rep]
  rfl

theorem runN1i.out0 :
    (@id (FVec F S1024x128 .bf16) (runN1i.sl.v239 arg5 arg6 arg7 x0 x1 x2)) = fin (UD false 1 0 x0 x1 x2 (UF false 0 0 x0 x1 x2 (st0 true xa0 xa1 xa2 0))).l (UD false 1 0 x0 x1 x2 (UF false 0 0 x0 x1 x2 (st0 true xa0 xa1 xa2 0))).a := by
  simp only [id, runN1i.sl.v239, runN1i.sl.v238, runN1i.sl.v237, runN1i.sl.v235, runN1i.sl.v236, runN1i.sl.v233, runN1i.sl.v232, runN1i.sl.v231, (runN1i.hdv230 arg5 arg6 arg7 x0 x1 x2 xa0 xa1 xa2), (runN1i.hdv234 arg5 arg6 arg7 x0 x1 x2 xa0 xa1 xa2), View.readAt_rep]
  rfl

end Cert.KernelIdeal.Attn

end
-- ==== Proof.Attn.EqN1.lean ====
module

public import proofs.«01_k».proof.Proof.Attn.HdN1

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-! The outputs of the runs, as those. -/

variable (c : Dev nD) (i : grid0.Coords) (arg5 : Memref sig .tc .vmem S1024x512 .bf16) (harg5 : arg5.IsWhole) (arg6 : Memref sig .tc .vmem S2048x512 .bf16) (harg6 : arg6.IsWhole)
  (arg7 : Memref sig .tc .vmem S256x2048 .bf16) (harg7 : arg7.IsWhole) (arg8 : Memref sig .tc .vmem S1024x256 .bf16) (harg8 : arg8.IsWhole)
  (T0 T1 : S72.Idx → Elt F .i32) (T2 : S576.Idx → Elt F .i32) (x0 : S1024x512.Idx → Elt F .bf16) (x1 : S2048x512.Idx → Elt F .bf16) (x2 : S256x2048.Idx → Elt F .bf16) (xa0 : S2x8x1024.Idx → Elt F .f32) (xa1 : S2x8x1024.Idx → Elt F .f32) (xa2 : S2x128x1024.Idx → Elt F .f32)

set_option maxHeartbeats 1000000 in
theorem runN1.eqs (h1 : ¬C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : C7 (rdQ (F := F) i T0) (rdK (F := F) i T1) (rdS (F := F) i T2)) :
    (runN1 c i arg5 harg5 arg6 harg6 arg7 harg7 arg8 harg8 T0 T1 T2 x0 x1 x2 xa0 xa1 xa2 h1 h2 h3 h4 h5 h6 h7).1 = runN1.sl.HO3_2 (F := F) arg5 arg6 arg7 x0 x1 x2 xa0 xa1 xa2 ∧ (runN1 c i arg5 harg5 arg6 harg6 arg7 harg7 arg8 harg8 T0 T1 T2 x0 x1 x2 xa0 xa1 xa2 h1 h2 h3 h4 h5 h6 h7).2.1 = scM.view.writes (Elt F) scM.view.junk (runN1.sl.HS0_4 (F := F) arg5 arg6 x0 x1 xa0)
    ∧ (runN1 c i arg5 harg5 arg6 harg6 arg7 harg7 arg8 harg8 T0 T1 T2 x0 x1 x2 xa0 xa1 xa2 h1 h2 h3 h4 h5 h6 h7).2.2.1 = scL.view.writes (Elt F) scL.view.junk (runN1.sl.HS1_4 (F := F) arg5 arg6 x0 x1 xa0 xa1)
    ∧ (runN1 c i arg5 harg5 arg6 harg6 arg7 harg7 arg8 harg8 T0 T1 T2 x0 x1 x2 xa0 xa1 xa2 h1 h2 h3 h4 h5 h6 h7).2.2.2.1 = scA.view.writes (Elt F) scA.view.junk (runN1.sl.HS2_4 (F := F) arg5 arg6 arg7 x0 x1 x2 xa0 xa2) := by
  delta runN1
  exact ⟨by with_reducible rfl, by with_reducible rfl, by with_reducible rfl, by with_reducible rfl⟩

set_option maxHeartbeats 1000000 in
theorem runN1.heads (h1 : ¬C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : C7 (rdQ (F := F) i T0) (rdK (F := F) i T1) (rdS (F := F) i T2)) (h : Fin 2) :
    st (runN1 c i arg5 harg5 arg6 harg6 arg7 harg7 arg8 harg8 T0 T1 T2 x0 x1 x2 xa0 xa1 xa2 h1 h2 h3 h4 h5 h6 h7).2.1 (runN1 c i arg5 harg5 arg6 harg6 arg7 harg7 arg8 harg8 T0 T1 T2 x0 x1 x2 xa0 xa1 xa2 h1 h2 h3 h4 h5 h6 h7).2.2.1 (runN1 c i arg5 harg5 arg6 harg6 arg7 harg7 arg8 harg8 T0 T1 T2 x0 x1 x2 xa0 xa1 xa2 h1 h2 h3 h4 h5 h6 h7).2.2.2.1 h = W1 false h x0 x1 x2 (st0 false xa0 xa1 xa2 h)
    ∧ ∀ f, View.ld (arg8.view.read (Elt F) (arg8.view.writes (Elt F) f (runN1 c i arg5 harg5 arg6 harg6 arg7 harg7 arg8 harg8 T0 T1 T2 x0 x1 x2 xa0 xa1 xa2 h1 h2 h3 h4 h5 h6 h7).1)) (ro h)
      = fin (W1 false h x0 x1 x2 (st0 false xa0 xa1 xa2 h)).l (W1 false h x0 x1 x2 (st0 false xa0 xa1 xa2 h)).a := by
  obtain ⟨eo, em, el, ea⟩ := runN1.eqs c i arg5 harg5 arg6 harg6 arg7 harg7 arg8 harg8 T0 T1 T2 x0 x1 x2 xa0 xa1 xa2 h1 h2 h3 h4 h5 h6 h7
  match h with
  | 0 => exact ⟨(st_congr em el ea 0).trans (St.ext' (stM (runN1.top00 arg5 arg6 arg7 x0 x1 x2 xa0 xa1 xa2)) (stL (runN1.top10 arg5 arg6 arg7 x0 x1 x2 xa0 xa1 xa2)) (stA (runN1.top20 arg5 arg6 arg7 x0 x1 x2 xa0 xa1 xa2))), out_congr eo 0 _ fun f => (ld_out f _ _ _ _).1.trans (runN1.out0 arg5 arg6 arg7 x0 x1 x2 xa0 xa1 xa2)⟩
  | 1 => exact ⟨(st_congr em el ea 1).trans (St.ext' (stM (runN1.top01 arg5 arg6 arg7 x0 x1 x2 xa0 xa1 xa2)) (stL (runN1.top11 arg5 arg6 arg7 x0 x1 x2 xa0 xa1 xa2)) (stA (runN1.top21 arg5 arg6 arg7 x0 x1 x2 xa0 xa1 xa2))), out_congr eo 1 _ fun f => (ld_out f _ _ _ _).2.trans (runN1.out1 arg5 arg6 arg7 x0 x1 x2 xa0 xa1 xa2)⟩

set_option maxHeartbeats 1000000 in
theorem runN1i.eqs (h1 : C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : C7 (rdQ (F := F) i T0) (rdK (F := F) i T1) (rdS (F := F) i T2)) :
    (runN1i c i arg5 harg5 arg6 harg6 arg7 harg7 arg8 harg8 T0 T1 T2 x0 x1 x2 xa0 xa1 xa2 h1 h2 h3 h4 h5 h6 h7).1 = runN1i.sl.HO3_2 (F := F) arg5 arg6 arg7 x0 x1 x2 ∧ (runN1i c i arg5 harg5 arg6 harg6 arg7 harg7 arg8 harg8 T0 T1 T2 x0 x1 x2 xa0 xa1 xa2 h1 h2 h3 h4 h5 h6 h7).2.1 = scM.view.writes (Elt F) scM.view.junk (runN1i.sl.HS0_5 (F := F) arg5 arg6 x0 x1)
    ∧ (runN1i c i arg5 harg5 arg6 harg6 arg7 harg7 arg8 harg8 T0 T1 T2 x0 x1 x2 xa0 xa1 xa2 h1 h2 h3 h4 h5 h6 h7).2.2.1 = scL.view.writes (Elt F) scL.view.junk (runN1i.sl.HS1_5 (F := F) arg5 arg6 x0 x1)
    ∧ (runN1i c i arg5 harg5 arg6 harg6 arg7 harg7 arg8 harg8 T0 T1 T2 x0 x1 x2 xa0 xa1 xa2 h1 h2 h3 h4 h5 h6 h7).2.2.2.1 = scA.view.writes (Elt F) scA.view.junk (runN1i.sl.HS2_5 (F := F) arg5 arg6 arg7 x0 x1 x2) := by
  delta runN1i
  exact ⟨by with_reducible rfl, by with_reducible rfl, by with_reducible rfl, by with_reducible rfl⟩

set_option maxHeartbeats 1000000 in
theorem runN1i.heads (h1 : C1 (rdK (F := F) i T1)) (h2 : ¬C2 (rdQ (F := F) i T0) (rdK (F := F) i T1) (rdS (F := F) i T2)) (h3 : ¬C3 (rdQ (F := F) i T0) (rdK (F := F) i T1) (rdS (F := F) i T2)) (h4 : ¬C4 (rdQ (F := F) i T0) (rdK (F := F) i T1) (rdS (F := F) i T2)) (h5 : ¬C5 (rdQ (F := F) i T0) (rdK (F := F) i T1) (rdS (F := F) i T2)) (h6 : ¬C6 (rdQ (F := F) i T0) (rdK (F := F) i T1) (rdS (F := F) i T2)) (h7 : C7 (rdQ (F := F) i T0) (rdK (F := F) i T1) (rdS (F := F) i T2)) (h : Fin 2) :
    st (runN1i c i arg5 harg5 arg6 harg6 arg7 harg7 arg8 harg8 T0 T1 T2 x0 x1 x2 xa0 xa1 xa2 h1 h2 h3 h4 h5 h6 h7).2.1 (runN1i c i arg5 harg5 arg6 harg6 arg7 harg7 arg8 harg8 T0 T1 T2 x0 x1 x2 xa0 xa1 xa2 h1 h2 h3 h4 h5 h6 h7).2.2.1 (runN1i c i arg5 harg5 arg6 harg6 arg7 harg7 arg8 harg8 T0 T1 T2 x0 x1 x2 xa0 xa1 xa2 h1 h2 h3 h4 h5 h6 h7).2.2.2.1 h = W1 false h x0 x1 x2 (st0 true xa0 xa1 xa2 h)
    ∧ ∀ f, View.ld (arg8.view.read (Elt F) (arg8.view.writes (Elt F) f (runN1i c i arg5 harg5 arg6 harg6 arg7 harg7 arg8 harg8 T0 T1 T2 x0 x1 x2 xa0 xa1 xa2 h1 h2 h3 h4 h5 h6 h7).1)) (ro h)
      = fin (W1 false h x0 x1 x2 (st0 true xa0 xa1 xa2 h)).l (W1 false h x0 x1 x2 (st0 true xa0 xa1 xa2 h)).a := by
  obtain ⟨eo, em, el, ea⟩ := runN1i.eqs c i arg5 harg5 arg6 harg6 arg7 harg7 arg8 harg8 T0 T1 T2 x0 x1 x2 xa0 xa1 xa2 h1 h2 h3 h4 h5 h6 h7
  match h with
  | 0 => exact ⟨(st_congr em el ea 0).trans (St.ext' (stM (runN1i.top00 arg5 arg6 arg7 x0 x1 x2 xa0 xa1 xa2)) (stL (runN1i.top10 arg5 arg6 arg7 x0 x1 x2 xa0 xa1 xa2)) (stA (runN1i.top20 arg5 arg6 arg7 x0 x1 x2 xa0 xa1 xa2))), out_congr eo 0 _ fun f => (ld_out f _ _ _ _).1.trans (runN1i.out0 arg5 arg6 arg7 x0 x1 x2 xa0 xa1 xa2)⟩
  | 1 => exact ⟨(st_congr em el ea 1).trans (St.ext' (stM (runN1i.top01 arg5 arg6 arg7 x0 x1 x2 xa0 xa1 xa2)) (stL (runN1i.top11 arg5 arg6 arg7 x0 x1 x2 xa0 xa1 xa2)) (stA (runN1i.top21 arg5 arg6 arg7 x0 x1 x2 xa0 xa1 xa2))), out_congr eo 1 _ fun f => (ld_out f _ _ _ _).2.trans (runN1i.out1 arg5 arg6 arg7 x0 x1 x2 xa0 xa1 xa2)⟩

end Cert.KernelIdeal.Attn

end
-- ==== Proof.Attn.Heads.lean ====
module

public import proofs.«01_k».proof.Proof.Attn.Step
public import proofs.«01_k».proof.Proof.Attn.EqS2
public import proofs.«01_k».proof.Proof.Attn.EqS0
public import proofs.«01_k».proof.Proof.Attn.EqS1
public import proofs.«01_k».proof.Proof.Attn.EqN2
public import proofs.«01_k».proof.Proof.Attn.EqN0
public import proofs.«01_k».proof.Proof.Attn.EqN1

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! A step of the schedule, head by head. -/

/-- What a step does to a head, by its distance from the diagonal. -/
def W (sf : Bool) (d : ℕ) (h : Fin 2) (x0 : S1024x512.Idx → Elt F .bf16) (x1 : S2048x512.Idx → Elt F .bf16) (x2 : S256x2048.Idx → Elt F .bf16) (x : St F) : St F :=
  if 2 ≤ d then W2 sf h x0 x1 x2 x else if d = 0 then W0 sf h x0 x1 x2 x else W1 sf h x0 x1 x2 x

theorem path_S2 {s : BitVec 32} {j : Fin 72} (h : C2 (lit0 j) (lit1 j) s) : s ≠ 0#32 ∧ 2 ≤ dn j := by
  by_cases hs : s = 0#32
  · subst hs
    rcases (by omega : 2 ≤ dn j ∨ dn j = 0 ∨ dn j = 1) with hd | hd | hd
    · obtain ⟨h2, h3, h4, h5, h6, h7⟩ := conds_N2 j hd
      exact absurd h h2
    · obtain ⟨h2, h3, h4, h5, h6, h7⟩ := conds_N0 j hd
      exact absurd h h2
    · obtain ⟨h2, h3, h4, h5, h6, h7⟩ := conds_N1 j hd
      exact absurd h h2
  · rcases (by omega : 2 ≤ dn j ∨ dn j = 0 ∨ dn j = 1) with hd | hd | hd
    · obtain ⟨h2, h3, h4, h5, h6, h7⟩ := conds_S2 hs j hd
      exact ⟨hs, hd⟩
    · obtain ⟨h2, h3, h4, h5, h6, h7⟩ := conds_S0 hs j hd
      exact absurd h h2
    · obtain ⟨h2, h3, h4, h5, h6, h7⟩ := conds_S1 hs j hd
      exact absurd h h2

theorem path_S0 {s : BitVec 32} {j : Fin 72} (h : C3 (lit0 j) (lit1 j) s) : s ≠ 0#32 ∧ dn j = 0 := by
  by_cases hs : s = 0#32
  · subst hs
    rcases (by omega : 2 ≤ dn j ∨ dn j = 0 ∨ dn j = 1) with hd | hd | hd
    · obtain ⟨h2, h3, h4, h5, h6, h7⟩ := conds_N2 j hd
      exact absurd h h3
    · obtain ⟨h2, h3, h4, h5, h6, h7⟩ := conds_N0 j hd
      exact absurd h h3
    · obtain ⟨h2, h3, h4, h5, h6, h7⟩ := conds_N1 j hd
      exact absurd h h3
  · rcases (by omega : 2 ≤ dn j ∨ dn j = 0 ∨ dn j = 1) with hd | hd | hd
    · obtain ⟨h2, h3, h4, h5, h6, h7⟩ := conds_S2 hs j hd
      exact absurd h h3
    · obtain ⟨h2, h3, h4, h5, h6, h7⟩ := conds_S0 hs j hd
      exact ⟨hs, hd⟩
    · obtain ⟨h2, h3, h4, h5, h6, h7⟩ := conds_S1 hs j hd
      exact absurd h h3

theorem path_S1 {s : BitVec 32} {j : Fin 72} (h : C4 (lit0 j) (lit1 j) s) : s ≠ 0#32 ∧ dn j = 1 := by
  by_cases hs : s = 0#32
  · subst hs
    rcases (by omega : 2 ≤ dn j ∨ dn j = 0 ∨ dn j = 1) with hd | hd | hd
    · obtain ⟨h2, h3, h4, h5, h6, h7⟩ := conds_N2 j hd
      exact absurd h h4
    · obtain ⟨h2, h3, h4, h5, h6, h7⟩ := conds_N0 j hd
      exact absurd h h4
    · obtain ⟨h2, h3, h4, h5, h6, h7⟩ := conds_N1 j hd
      exact absurd h h4
  · rcases (by omega : 2 ≤ dn j ∨ dn j = 0 ∨ dn j = 1) with hd | hd | hd
    · obtain ⟨h2, h3, h4, h5, h6, h7⟩ := conds_S2 hs j hd
      exact absurd h h4
    · obtain ⟨h2, h3, h4, h5, h6, h7⟩ := conds_S0 hs j hd
      exact absurd h h4
    · obtain ⟨h2, h3, h4, h5, h6, h7⟩ := conds_S1 hs j hd
      exact ⟨hs, hd⟩

theorem path_N2 {s : BitVec 32} {j : Fin 72} (h : C5 (lit0 j) (lit1 j) s) : s = 0#32 ∧ 2 ≤ dn j := by
  by_cases hs : s = 0#32
  · subst hs
    rcases (by omega : 2 ≤ dn j ∨ dn j = 0 ∨ dn j = 1) with hd | hd | hd
    · obtain ⟨h2, h3, h4, h5, h6, h7⟩ := conds_N2 j hd
      exact ⟨rfl, hd⟩
    · obtain ⟨h2, h3, h4, h5, h6, h7⟩ := conds_N0 j hd
      exact absurd h h5
    · obtain ⟨h2, h3, h4, h5, h6, h7⟩ := conds_N1 j hd
      exact absurd h h5
  · rcases (by omega : 2 ≤ dn j ∨ dn j = 0 ∨ dn j = 1) with hd | hd | hd
    · obtain ⟨h2, h3, h4, h5, h6, h7⟩ := conds_S2 hs j hd
      exact absurd h h5
    · obtain ⟨h2, h3, h4, h5, h6, h7⟩ := conds_S0 hs j hd
      exact absurd h h5
    · obtain ⟨h2, h3, h4, h5, h6, h7⟩ := conds_S1 hs j hd
      exact absurd h h5

theorem path_N0 {s : BitVec 32} {j : Fin 72} (h : C6 (lit0 j) (lit1 j) s) : s = 0#32 ∧ dn j = 0 := by
  by_cases hs : s = 0#32
  · subst hs
    rcases (by omega : 2 ≤ dn j ∨ dn j = 0 ∨ dn j = 1) with hd | hd | hd
    · obtain ⟨h2, h3, h4, h5, h6, h7⟩ := conds_N2 j hd
      exact absurd h h6
    · obtain ⟨h2, h3, h4, h5, h6, h7⟩ := conds_N0 j hd
      exact ⟨rfl, hd⟩
    · obtain ⟨h2, h3, h4, h5, h6, h7⟩ := conds_N1 j hd
      exact absurd h h6
  · rcases (by omega : 2 ≤ dn j ∨ dn j = 0 ∨ dn j = 1) with hd | hd | hd
    · obtain ⟨h2, h3, h4, h5, h6, h7⟩ := conds_S2 hs j hd
      exact absurd h h6
    · obtain ⟨h2, h3, h4, h5, h6, h7⟩ := conds_S0 hs j hd
      exact absurd h h6
    · obtain ⟨h2, h3, h4, h5, h6, h7⟩ := conds_S1 hs j hd
      exact absurd h h6

theorem path_N1 {s : BitVec 32} {j : Fin 72} (h : C7 (lit0 j) (lit1 j) s) : s = 0#32 ∧ dn j = 1 := by
  by_cases hs : s = 0#32
  · subst hs
    rcases (by omega : 2 ≤ dn j ∨ dn j = 0 ∨ dn j = 1) with hd | hd | hd
    · obtain ⟨h2, h3, h4, h5, h6, h7⟩ := conds_N2 j hd
      exact absurd h h7
    · obtain ⟨h2, h3, h4, h5, h6, h7⟩ := conds_N0 j hd
      exact absurd h h7
    · obtain ⟨h2, h3, h4, h5, h6, h7⟩ := conds_N1 j hd
      exact ⟨rfl, hd⟩
  · rcases (by omega : 2 ≤ dn j ∨ dn j = 0 ∨ dn j = 1) with hd | hd | hd
    · obtain ⟨h2, h3, h4, h5, h6, h7⟩ := conds_S2 hs j hd
      exact absurd h h7
    · obtain ⟨h2, h3, h4, h5, h6, h7⟩ := conds_S0 hs j hd
      exact absurd h h7
    · obtain ⟨h2, h3, h4, h5, h6, h7⟩ := conds_S1 hs j hd
      exact absurd h h7

theorem W_2 {sf : Bool} {d : ℕ} (hd : 2 ≤ d) (h : Fin 2) (x0 : S1024x512.Idx → Elt F .bf16) (x1 : S2048x512.Idx → Elt F .bf16) (x2 : S256x2048.Idx → Elt F .bf16) (x : St F) :
    W sf d h x0 x1 x2 x = W2 sf h x0 x1 x2 x := if_pos hd
theorem W_0 {sf : Bool} {d : ℕ} (hd : d = 0) (h : Fin 2) (x0 : S1024x512.Idx → Elt F .bf16) (x1 : S2048x512.Idx → Elt F .bf16) (x2 : S256x2048.Idx → Elt F .bf16) (x : St F) :
    W sf d h x0 x1 x2 x = W0 sf h x0 x1 x2 x := by subst hd; rfl
theorem W_1 {sf : Bool} {d : ℕ} (hd : d = 1) (h : Fin 2) (x0 : S1024x512.Idx → Elt F .bf16) (x1 : S2048x512.Idx → Elt F .bf16) (x2 : S256x2048.Idx → Elt F .bf16) (x : St F) :
    W sf d h x0 x1 x2 x = W1 sf h x0 x1 x2 x := by subst hd; rfl

set_option maxHeartbeats 8000000 in
/-- A step of the schedule, head by head: the word `safe` chooses the path, the key block whether the head starts afresh. -/
theorem step_heads {c : Dev nD} {i : grid0.Coords} {arg5 : Memref sig .tc .vmem S1024x512 .bf16} {harg5 : arg5.IsWhole}
    {arg6 : Memref sig .tc .vmem S2048x512 .bf16} {harg6 : arg6.IsWhole} {arg7 : Memref sig .tc .vmem S256x2048 .bf16} {harg7 : arg7.IsWhole}
    {arg8 : Memref sig .tc .vmem S1024x256 .bf16} {harg8 : arg8.IsWhole} {T2 : S576.Idx → Elt F .i32}
    {x0 : S1024x512.Idx → Elt F .bf16} {x1 : S2048x512.Idx → Elt F .bf16} {x2 : S256x2048.Idx → Elt F .bf16}
    {xa0 : S2x8x1024.Idx → Elt F .f32} {xa1 : S2x8x1024.Idx → Elt F .f32} {xa2 : S2x128x1024.Idx → Elt F .f32}
    {o : Option (List (View.Piece (Elt F) S1024x256 .bf16))} {m' l' : S2x8x1024.Idx → Elt F .f32} {a' : S2x128x1024.Idx → Elt F .f32}
    (H : Step c i arg5 harg5 arg6 harg6 arg7 harg7 arg8 harg8 T2 x0 x1 x2 xa0 xa1 xa2 o m' l' a') :
    ∃ sf ini : Bool, (ini = true ↔ kn (i 1) = 0) ∧ (sf = true ↔ ¬ (T2 (posS i) : BitVec 32) = 0#32) ∧ ∀ h : Fin 2,
      st m' l' a' h = W sf (dn (i 1)) h x0 x1 x2 (st0 ini xa0 xa1 xa2 h) ∧
      ∀ L, o = some L → ∀ f, View.ld (arg8.view.read (Elt F) (arg8.view.writes (Elt F) f L)) (ro h)
        = fin (st m' l' a' h).l (st m' l' a' h).a := by
  cases H with
  | pS2 h1 h2 h3 h4 h5 h6 h7 =>
    have hc := h2
    rw [rdQ_eq, rdK_eq, rdS_eq] at hc
    have h1' := h1
    rw [rdK_eq] at h1
    obtain ⟨hs, hd⟩ := path_S2 hc
    refine ⟨true, false, iff_of_false (by decide) (fun e => h1 ((C1_iff _).2 e)), iff_of_true rfl hs, fun h => ?_⟩
    exact ⟨(runS2.heads c i arg5 harg5 arg6 harg6 arg7 harg7 arg8 harg8 (tabQ (F := F)) (tabK (F := F)) T2 x0 x1 x2 xa0 xa1 xa2 h1' h2 h3 h4 h5 h6 h7 h).trans (W_2 hd h x0 x1 x2 _).symm, fun L hL => by cases hL⟩
  | pS2i h1 h2 h3 h4 h5 h6 h7 =>
    have hc := h2
    rw [rdQ_eq, rdK_eq, rdS_eq] at hc
    have h1' := h1
    rw [rdK_eq] at h1
    obtain ⟨hs, hd⟩ := path_S2 hc
    refine ⟨true, true, iff_of_true rfl ((C1_iff _).1 h1), iff_of_true rfl hs, fun h => ?_⟩
    exact ⟨(runS2i.heads c i arg5 harg5 arg6 harg6 arg7 harg7 arg8 harg8 (tabQ (F := F)) (tabK (F := F)) T2 x0 x1 x2 xa0 xa1 xa2 h1' h2 h3 h4 h5 h6 h7 h).trans (W_2 hd h x0 x1 x2 _).symm, fun L hL => by cases hL⟩
  | pS0 h1 h2 h3 h4 h5 h6 h7 =>
    have hc := h3
    rw [rdQ_eq, rdK_eq, rdS_eq] at hc
    have h1' := h1
    rw [rdK_eq] at h1
    obtain ⟨hs, hd⟩ := path_S0 hc
    refine ⟨true, false, iff_of_false (by decide) (fun e => h1 ((C1_iff _).2 e)), iff_of_true rfl hs, fun h => ?_⟩
    have e := runS0.heads c i arg5 harg5 arg6 harg6 arg7 harg7 arg8 harg8 (tabQ (F := F)) (tabK (F := F)) T2 x0 x1 x2 xa0 xa1 xa2 h1' h2 h3 h4 h5 h6 h7 h
    refine ⟨e.1.trans (W_0 hd h x0 x1 x2 _).symm, fun L hL f => ?_⟩
    obtain rfl := Option.some.inj hL
    exact (e.2 f).trans (congrArg (fun y : St F => fin y.l y.a) e.1.symm)
  | pS0i h1 h2 h3 h4 h5 h6 h7 =>
    have hc := h3
    rw [rdQ_eq, rdK_eq, rdS_eq] at hc
    have h1' := h1
    rw [rdK_eq] at h1
    obtain ⟨hs, hd⟩ := path_S0 hc
    refine ⟨true, true, iff_of_true rfl ((C1_iff _).1 h1), iff_of_true rfl hs, fun h => ?_⟩
    have e := runS0i.heads c i arg5 harg5 arg6 harg6 arg7 harg7 arg8 harg8 (tabQ (F := F)) (tabK (F := F)) T2 x0 x1 x2 xa0 xa1 xa2 h1' h2 h3 h4 h5 h6 h7 h
    refine ⟨e.1.trans (W_0 hd h x0 x1 x2 _).symm, fun L hL f => ?_⟩
    obtain rfl := Option.some.inj hL
    exact (e.2 f).trans (congrArg (fun y : St F => fin y.l y.a) e.1.symm)
  | pS1 h1 h2 h3 h4 h5 h6 h7 =>
    have hc := h4
    rw [rdQ_eq, rdK_eq, rdS_eq] at hc
    have h1' := h1
    rw [rdK_eq] at h1
    obtain ⟨hs, hd⟩ := path_S1 hc
    refine ⟨true, false, iff_of_false (by decide) (fun e => h1 ((C1_iff _).2 e)), iff_of_true rfl hs, fun h => ?_⟩
    have e := runS1.heads c i arg5 harg5 arg6 harg6 arg7 harg7 arg8 harg8 (tabQ (F := F)) (tabK (F := F)) T2 x0 x1 x2 xa0 xa1 xa2 h1' h2 h3 h4 h5 h6 h7 h
    refine ⟨e.1.trans (W_1 hd h x0 x1 x2 _).symm, fun L hL f => ?_⟩
    obtain rfl := Option.some.inj hL
    exact (e.2 f).trans (congrArg (fun y : St F => fin y.l y.a) e.1.symm)
  | pS1i h1 h2 h3 h4 h5 h6 h7 =>
    have hc := h4
    rw [rdQ_eq, rdK_eq, rdS_eq] at hc
    have h1' := h1
    rw [rdK_eq] at h1
    obtain ⟨hs, hd⟩ := path_S1 hc
    refine ⟨true, true, iff_of_true rfl ((C1_iff _).1 h1), iff_of_true rfl hs, fun h => ?_⟩
    have e := runS1i.heads c i arg5 harg5 arg6 harg6 arg7 harg7 arg8 harg8 (tabQ (F := F)) (tabK (F := F)) T2 x0 x1 x2 xa0 xa1 xa2 h1' h2 h3 h4 h5 h6 h7 h
    refine ⟨e.1.trans (W_1 hd h x0 x1 x2 _).symm, fun L hL f => ?_⟩
    obtain rfl := Option.some.inj hL
    exact (e.2 f).trans (congrArg (fun y : St F => fin y.l y.a) e.1.symm)
  | pN2 h1 h2 h3 h4 h5 h6 h7 =>
    have hc := h5
    rw [rdQ_eq, rdK_eq, rdS_eq] at hc
    have h1' := h1
    rw [rdK_eq] at h1
    obtain ⟨hs, hd⟩ := path_N2 hc
    refine ⟨false, false, iff_of_false (by decide) (fun e => h1 ((C1_iff _).2 e)), iff_of_false (by decide) (fun e => e hs), fun h => ?_⟩
    exact ⟨(runN2.heads c i arg5 harg5 arg6 harg6 arg7 harg7 arg8 harg8 (tabQ (F := F)) (tabK (F := F)) T2 x0 x1 x2 xa0 xa1 xa2 h1' h2 h3 h4 h5 h6 h7 h).trans (W_2 hd h x0 x1 x2 _).symm, fun L hL => by cases hL⟩
  | pN2i h1 h2 h3 h4 h5 h6 h7 =>
    have hc := h5
    rw [rdQ_eq, rdK_eq, rdS_eq] at hc
    have h1' := h1
    rw [rdK_eq] at h1
    obtain ⟨hs, hd⟩ := path_N2 hc
    refine ⟨false, true, iff_of_true rfl ((C1_iff _).1 h1), iff_of_false (by decide) (fun e => e hs), fun h => ?_⟩
    exact ⟨(runN2i.heads c i arg5 harg5 arg6 harg6 arg7 harg7 arg8 harg8 (tabQ (F := F)) (tabK (F := F)) T2 x0 x1 x2 xa0 xa1 xa2 h1' h2 h3 h4 h5 h6 h7 h).trans (W_2 hd h x0 x1 x2 _).symm, fun L hL => by cases hL⟩
  | pN0 h1 h2 h3 h4 h5 h6 h7 =>
    have hc := h6
    rw [rdQ_eq, rdK_eq, rdS_eq] at hc
    have h1' := h1
    rw [rdK_eq] at h1
    obtain ⟨hs, hd⟩ := path_N0 hc
    refine ⟨false, false, iff_of_false (by decide) (fun e => h1 ((C1_iff _).2 e)), iff_of_false (by decide) (fun e => e hs), fun h => ?_⟩
    have e := runN0.heads c i arg5 harg5 arg6 harg6 arg7 harg7 arg8 harg8 (tabQ (F := F)) (tabK (F := F)) T2 x0 x1 x2 xa0 xa1 xa2 h1' h2 h3 h4 h5 h6 h7 h
    refine ⟨e.1.trans (W_0 hd h x0 x1 x2 _).symm, fun L hL f => ?_⟩
    obtain rfl := Option.some.inj hL
    exact (e.2 f).trans (congrArg (fun y : St F => fin y.l y.a) e.1.symm)
  | pN0i h1 h2 h3 h4 h5 h6 h7 =>
    have hc := h6
    rw [rdQ_eq, rdK_eq, rdS_eq] at hc
    have h1' := h1
    rw [rdK_eq] at h1
    obtain ⟨hs, hd⟩ := path_N0 hc
    refine ⟨false, true, iff_of_true rfl ((C1_iff _).1 h1), iff_of_false (by decide) (fun e => e hs), fun h => ?_⟩
    have e := runN0i.heads c i arg5 harg5 arg6 harg6 arg7 harg7 arg8 harg8 (tabQ (F := F)) (tabK (F := F)) T2 x0 x1 x2 xa0 xa1 xa2 h1' h2 h3 h4 h5 h6 h7 h
    refine ⟨e.1.trans (W_0 hd h x0 x1 x2 _).symm, fun L hL f => ?_⟩
    obtain rfl := Option.some.inj hL
    exact (e.2 f).trans (congrArg (fun y : St F => fin y.l y.a) e.1.symm)
  | pN1 h1 h2 h3 h4 h5 h6 h7 =>
    have hc := h7
    rw [rdQ_eq, rdK_eq, rdS_eq] at hc
    have h1' := h1
    rw [rdK_eq] at h1
    obtain ⟨hs, hd⟩ := path_N1 hc
    refine ⟨false, false, iff_of_false (by decide) (fun e => h1 ((C1_iff _).2 e)), iff_of_false (by decide) (fun e => e hs), fun h => ?_⟩
    have e := runN1.heads c i arg5 harg5 arg6 harg6 arg7 harg7 arg8 harg8 (tabQ (F := F)) (tabK (F := F)) T2 x0 x1 x2 xa0 xa1 xa2 h1' h2 h3 h4 h5 h6 h7 h
    refine ⟨e.1.trans (W_1 hd h x0 x1 x2 _).symm, fun L hL f => ?_⟩
    obtain rfl := Option.some.inj hL
    exact (e.2 f).trans (congrArg (fun y : St F => fin y.l y.a) e.1.symm)
  | pN1i h1 h2 h3 h4 h5 h6 h7 =>
    have hc := h7
    rw [rdQ_eq, rdK_eq, rdS_eq] at hc
    have h1' := h1
    rw [rdK_eq] at h1
    obtain ⟨hs, hd⟩ := path_N1 hc
    refine ⟨false, true, iff_of_true rfl ((C1_iff _).1 h1), iff_of_false (by decide) (fun e => e hs), fun h => ?_⟩
    have e := runN1i.heads c i arg5 harg5 arg6 harg6 arg7 harg7 arg8 harg8 (tabQ (F := F)) (tabK (F := F)) T2 x0 x1 x2 xa0 xa1 xa2 h1' h2 h3 h4 h5 h6 h7 h
    refine ⟨e.1.trans (W_1 hd h x0 x1 x2 _).symm, fun L hL f => ?_⟩
    obtain rfl := Option.some.inj hL
    exact (e.2 f).trans (congrArg (fun y : St F => fin y.l y.a) e.1.symm)

end Cert.KernelIdeal.Attn

end
-- ==== Proof.Attn.Blocks.lean ====
module

public import proofs.«01_k».proof.Proof.Attn.Launch
public import proofs.«01_k».proof.Proof.Attn.Soft
public import proofs.«01_k».proof.Proof.Attn.Heads

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (q : Idealize.ShloMosaic.Loc nD τ sig) → Buf (Elt Ideal) q)

/-- The place of a number among `n`, the rest of the division for a number that is too large. -/
abbrev fo (n : ℕ) [NeZero n] (a : ℕ) : Fin n := Fin.ofNat n a

theorem fo_val {n : ℕ} [NeZero n] {a : ℕ} (h : a < n) : (fo n a).val = a := Nat.mod_eq_of_lt h

/-- Entry `(k, l)` of the packed queries, of the packed keys and of the transposed values. -/
def aQ (c : Dev nD) (k l : ℕ) : EReal := V m c main_v22 (ix2 (fo 16384 k) (fo 4096 l))
def aK (c : Dev nD) (k l : ℕ) : EReal := V m c main_v24 (ix2 (fo 16384 k) (fo 4096 l))
def aV (c : Dev nD) (k l : ℕ) : EReal := V m c main_v25 (ix2 (fo 2048 k) (fo 16384 l))

/-- A point's group of heads and its step. -/
abbrev gx (t : Fin (cfgM m).N) : Fin 8 := (crd m t) 0
abbrev jx (t : Fin (cfgM m).N) : Fin 72 := (crd m t) 1

theorem index0 (t : Fin (cfgM m).N) : ((cfgM m).win 0).index t = ![qn (jx m t), (gx m t).val] := tr0_eq _ _
theorem index1 (t : Fin (cfgM m).N) : ((cfgM m).win 1).index t = ![kn (jx m t), (gx m t).val] := tr1_eq _ _
theorem index2 (t : Fin (cfgM m).N) : ((cfgM m).win 2).index t = ![(gx m t).val, kn (jx m t)] := tr2_eq _ _
theorem index3 (t : Fin (cfgM m).N) : ((cfgM m).win 3).index t = ![qn (jx m t), (gx m t).val] := tr3_eq _ _

theorem g_lt (t : Fin (cfgM m).N) : (gx m t).val < 8 := (gx m t).isLt

theorem blk0 (c : Dev nD) (t : Fin (cfgM m).N) (a : Fin 1024) (b : Fin 512) :
    blkAt m c 0 t (ix2 a b) = aQ m c (1024 * qn (jx m t) + a.val) (512 * (gx m t).val + b.val) := by
  have h1 := qn_lt (jx m t)
  have h2 := g_lt m t
  unfold blkAt aQ
  show V m c main_v22 _ = _
  congr 1
  funext x
  apply Fin.ext
  refine (Pipeline.Window.rect_emb_val ((cfgM m).win 0) t (ix2 a b) x rfl).trans ?_
  rw [index0]
  fin_cases x
  · show qn (jx m t) * 1024 + a.val = (fo 16384 (1024 * qn (jx m t) + a.val)).val
    rw [fo_val (by omega)]; omega
  · show (gx m t).val * 512 + b.val = (fo 4096 (512 * (gx m t).val + b.val)).val
    rw [fo_val (by omega)]; omega

theorem blk1 (c : Dev nD) (t : Fin (cfgM m).N) (a : Fin 2048) (b : Fin 512) :
    blkAt m c 1 t (ix2 a b) = aK m c (2048 * kn (jx m t) + a.val) (512 * (gx m t).val + b.val) := by
  have h1 := kn_lt (jx m t)
  have h2 := g_lt m t
  unfold blkAt aK
  show V m c main_v24 _ = _
  congr 1
  funext x
  apply Fin.ext
  refine (Pipeline.Window.rect_emb_val ((cfgM m).win 1) t (ix2 a b) x rfl).trans ?_
  rw [index1]
  fin_cases x
  · show kn (jx m t) * 2048 + a.val = (fo 16384 (2048 * kn (jx m t) + a.val)).val
    rw [fo_val (by omega)]; omega
  · show (gx m t).val * 512 + b.val = (fo 4096 (512 * (gx m t).val + b.val)).val
    rw [fo_val (by omega)]; omega

theorem blk2 (c : Dev nD) (t : Fin (cfgM m).N) (a : Fin 256) (b : Fin 2048) :
    blkAt m c 2 t (ix2 a b) = aV m c (256 * (gx m t).val + a.val) (2048 * kn (jx m t) + b.val) := by
  have h1 := kn_lt (jx m t)
  have h2 := g_lt m t
  unfold blkAt aV
  show V m c main_v25 _ = _
  congr 1
  funext x
  apply Fin.ext
  refine (Pipeline.Window.rect_emb_val ((cfgM m).win 2) t (ix2 a b) x rfl).trans ?_
  rw [index2]
  fin_cases x
  · show (gx m t).val * 256 + a.val = (fo 2048 (256 * (gx m t).val + a.val)).val
    rw [fo_val (by omega)]; omega
  · show kn (jx m t) * 2048 + b.val = (fo 16384 (2048 * kn (jx m t) + b.val)).val
    rw [fo_val (by omega)]; omega

theorem ld_rq (h : Fin 2) (X : S1024x512.Idx → Elt Ideal .bf16) (a : Fin 1024) (b : Fin 256) :
    View.ld X (rq h) (ix2 a b) = X (ix2 a ⟨256 * h.val + b.val, by omega⟩) := by
  show X _ = X _
  congr 1
  funext x
  fin_cases x
  · exact Fin.ext (show 0 + 1 * a.val = a.val by omega)
  · exact Fin.ext (show 256 * h.val + 1 * b.val = 256 * h.val + b.val by omega)

theorem ld_rk (c h : Fin 2) (X : S2048x512.Idx → Elt Ideal .bf16) (a : Fin 1024) (b : Fin 256) :
    View.ld X (rk c h) (ix2 a b) = X (ix2 ⟨1024 * c.val + a.val, by omega⟩ ⟨256 * h.val + b.val, by omega⟩) := by
  show X _ = X _
  congr 1
  funext x
  fin_cases x
  · exact Fin.ext (show 1024 * c.val + 1 * a.val = 1024 * c.val + a.val by omega)
  · exact Fin.ext (show 256 * h.val + 1 * b.val = 256 * h.val + b.val by omega)

theorem ld_rv (c h : Fin 2) (X : S256x2048.Idx → Elt Ideal .bf16) (a : Fin 128) (b : Fin 1024) :
    View.ld X (rv c h) (ix2 a b) = X (ix2 ⟨128 * h.val + a.val, by omega⟩ ⟨1024 * c.val + b.val, by omega⟩) := by
  show X _ = X _
  congr 1
  funext x
  fin_cases x
  · exact Fin.ext (show 128 * h.val + 1 * a.val = 128 * h.val + a.val by omega)
  · exact Fin.ext (show 1024 * c.val + 1 * b.val = 1024 * c.val + b.val by omega)

theorem ld_ro (h : Fin 2) (X : S1024x256.Idx → Elt Ideal .bf16) (a : Fin 1024) (b : Fin 128) :
    View.ld X (ro h) (ix2 a b) = X (ix2 a ⟨128 * h.val + b.val, by omega⟩) := by
  show X _ = X _
  congr 1
  funext x
  fin_cases x
  · exact Fin.ext (show 0 + 1 * a.val = a.val by omega)
  · exact Fin.ext (show 128 * h.val + 1 * b.val = 128 * h.val + b.val by omega)

/-- What the score of query `q` against key `k` is in head `n`, before the mask. -/
def scr (c : Dev nD) (n q k : ℕ) : EReal := ∑ d : Fin 256, aK m c k (256 * n + d.val) * aQ m c q (256 * n + d.val)

/-- Lane `d` of the values of head `n`. -/
def vals (c : Dev nD) (n : ℕ) (d : Fin 128) (k : ℕ) : EReal := aV m c (128 * n + d.val) k

/-- The head of a point and a half. -/
abbrev hd (t : Fin (cfgM m).N) (h : Fin 2) : ℕ := 2 * (gx m t).val + h.val

theorem scF_blk (c : Dev nD) (t : Fin (cfgM m).N) (b h : Fin 2) (k j : Fin 1024) :
    scF b h (blkAt m c 0 t) (blkAt m c 1 t) (ix2 k j)
      = scr m c (hd m t h) (1024 * qn (jx m t) + j.val) (1024 * (2 * kn (jx m t) + b.val) + k.val) := by
  unfold scF scr
  refine (sc_apply _ _ _ _).trans (Finset.sum_congr rfl fun d _ => ?_)
  have e1 := (ld_rk b h (blkAt m c 1 t) k d).trans (blk1 m c t _ _)
  have e2 := (ld_rq h (blkAt m c 0 t) j d).trans (blk0 m c t _ _)
  refine (congrArg₂ (· * ·) e1 e2).trans ?_
  show aK m c (2048 * kn (jx m t) + (1024 * b.val + k.val)) (512 * (gx m t).val + (256 * h.val + d.val))
    * aQ m c (1024 * qn (jx m t) + j.val) (512 * (gx m t).val + (256 * h.val + d.val)) = _
  rw [show 2048 * kn (jx m t) + (1024 * b.val + k.val) = 1024 * (2 * kn (jx m t) + b.val) + k.val by ring,
    show 512 * (gx m t).val + (256 * h.val + d.val) = 256 * hd m t h + d.val by unfold hd; ring]

theorem rv_blk (c : Dev nD) (t : Fin (cfgM m).N) (b h : Fin 2) (d : Fin 128) (k : Fin 1024) :
    View.ld (blkAt m c 2 t : S256x2048.Idx → Elt Ideal .bf16) (rv b h) (ix2 d k) = vals m c (hd m t h) d (1024 * (2 * kn (jx m t) + b.val) + k.val) := by
  unfold vals
  refine ((ld_rv b h (blkAt m c 2 t) d k).trans (blk2 m c t _ _)).trans ?_
  show aV m c (256 * (gx m t).val + (128 * h.val + d.val)) (2048 * kn (jx m t) + (1024 * b.val + k.val)) = _
  rw [show 2048 * kn (jx m t) + (1024 * b.val + k.val) = 1024 * (2 * kn (jx m t) + b.val) + k.val by ring,
    show 256 * (gx m t).val + (128 * h.val + d.val) = 128 * hd m t h + d.val by unfold hd; ring]

end Cert.KernelIdeal.Attn

end
-- ==== Proof.Attn.Host.lean ====
module

public import proofs.«01_k».proof.Proof.Attn.Blocks

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The arrays that the host code prepares, entry by entry. -/

/-- The host's constant: one over the square root of 192, over the natural logarithm of two. -/
def sclT : FVec Ideal S_ .f32 := Host.divf (F := Ideal) (constant S_ .f32 0x3D93CD3A#32) (Host.log (F := Ideal) (constant S_ .f32 0x40000000#32))
/-- Queries, scaled, with the negated shift and zeros behind them. -/
def pkQ (a0 : S1x16384x16x128.Idx → Elt Ideal .f32) (a1 : S1x16384x16x64.Idx → Elt Ideal .f32) (a5 : S16384x16.Idx → Elt Ideal .f32) : FVec Ideal S16384x16x256 .f32 :=
  concatenate S16384x16x256 2
    [⟨S16384x16x128, mulf (shapeCast S16384x16x128 a0 shapeCasts_S1x16384x16x128_S16384x16x128) (broadcastInDim S16384x16x128 ![] bcast_S_S16384x16x128 sclT)⟩,
     ⟨S16384x16x64, mulf (shapeCast S16384x16x64 a1 shapeCasts_S1x16384x16x64_S16384x16x64) (broadcastInDim S16384x16x64 ![] bcast_S_S16384x16x64 sclT)⟩,
     ⟨S16384x16x1, Host.negf (F := Ideal) (shapeCast S16384x16x1 a5 shapeCasts_S16384x16_S16384x16x1)⟩,
     ⟨S16384x16x63, broadcastInDim S16384x16x63 ![] bcast_S_S16384x16x63 (constant (F := Ideal) S_ .f32 0x00000000#32)⟩] concatenates_S16384x16x128_S16384x16x64_S16384x16x1_S16384x16x63_S16384x16x256_d2
/-- Keys, with a one and zeros behind them. -/
def pkK (a2 : S1x16384x16x128.Idx → Elt Ideal .f32) (a3 : S1x16384x64.Idx → Elt Ideal .f32) : FVec Ideal S16384x16x256 .f32 :=
  concatenate S16384x16x256 2
    [⟨S16384x16x128, shapeCast S16384x16x128 a2 shapeCasts_S1x16384x16x128_S16384x16x128⟩,
     ⟨S16384x16x64, broadcastInDim S16384x16x64 ![0, 1, 2] bcast_S16384x1x64_S16384x16x64_0_1_2
        (broadcastInDim S16384x1x64 ![0, 2] bcast_S16384x64_S16384x1x64_0_2 (shapeCast S16384x64 a3 shapeCasts_S1x16384x64_S16384x64))⟩,
     ⟨S16384x16x1, broadcastInDim S16384x16x1 ![] bcast_S_S16384x16x1 (constant (F := Ideal) S_ .f32 0x3F800000#32)⟩,
     ⟨S16384x16x63, broadcastInDim S16384x16x63 ![] bcast_S_S16384x16x63 (constant (F := Ideal) S_ .f32 0x00000000#32)⟩] concatenates_S16384x16x128_S16384x16x64_S16384x16x1_S16384x16x63_S16384x16x256_d2

variable (m : (q : Idealize.ShloMosaic.Loc nD τ sig) → Buf (Elt Ideal) q)

/-- An argument's contents. -/
abbrev arg (c : Dev nD) (b : Ref sig .tc) : Buf (Elt Ideal) ((c.tc : Thread nD τ).loc b) := m ((c.tc : Thread nD τ).loc b)

set_option maxHeartbeats 2000000 in
theorem V22 (c : Dev nD) : V m c main_v22 = truncf (F := Ideal) .bf16 (shapeCast S16384x4096 (pkQ (arg m c main_arg0) (arg m c main_arg1) (arg m c main_arg5)) shapeCasts_S16384x16x256_S16384x4096) bitsLt_bf16_f32 := by
  show StableHlo.after hostOps0 (fun b => m (c, b)) main_v22 = _
  after_results
  first | done | rfl
set_option maxHeartbeats 2000000 in
theorem V24 (c : Dev nD) : V m c main_v24 = truncf (F := Ideal) .bf16 (shapeCast S16384x4096 (pkK (arg m c main_arg2) (arg m c main_arg3)) shapeCasts_S16384x16x256_S16384x4096) bitsLt_bf16_f32 := by
  show StableHlo.after hostOps0 (fun b => m (c, b)) main_v24 = _
  after_results
  first | done | rfl
set_option maxHeartbeats 2000000 in
theorem V25 (c : Dev nD) : V m c main_v25 = truncf (F := Ideal) .bf16 (transpose S2048x16384 [1, 0] (shapeCast S16384x2048 (shapeCast S16384x16x128 (arg m c main_arg4) shapeCasts_S1x16384x16x128_S16384x16x128) shapeCasts_S16384x16x128_S16384x2048) transposes_S16384x2048_S2048x16384_1_0) bitsLt_bf16_f32 := by
  show StableHlo.after hostOps0 (fun b => m (c, b)) main_v25 = _
  after_results
  first | done | rfl

/-- The arguments, entry by entry. -/
abbrev A0 (c : Dev nD) (i : S1x16384x16x128.Idx) : EReal := m ((c.tc : Thread nD τ).loc main_arg0) i
abbrev A1 (c : Dev nD) (i : S1x16384x16x64.Idx) : EReal := m ((c.tc : Thread nD τ).loc main_arg1) i
abbrev A2 (c : Dev nD) (i : S1x16384x16x128.Idx) : EReal := m ((c.tc : Thread nD τ).loc main_arg2) i
abbrev A3 (c : Dev nD) (i : S1x16384x64.Idx) : EReal := m ((c.tc : Thread nD τ).loc main_arg3) i
abbrev A4 (c : Dev nD) (i : S1x16384x16x128.Idx) : EReal := m ((c.tc : Thread nD τ).loc main_arg4) i
abbrev A5 (c : Dev nD) (i : S16384x16.Idx) : EReal := m ((c.tc : Thread nD τ).loc main_arg5) i

/-- The scale, as a number. -/
abbrev scl : EReal := sclT Idealize.ShloMosaic.ix0

theorem pkQ_apply (a0 : S1x16384x16x128.Idx → Elt Ideal .f32) (a1 : S1x16384x16x64.Idx → Elt Ideal .f32) (a5 : S16384x16.Idx → Elt Ideal .f32) (q : Fin 16384) (n : Fin 16) (d : Fin 256) :
    (pkQ a0 a1 a5 (ix3 q n d) : EReal) = if h : d.val < 128 then (a0 (ix4 0 q n ⟨d.val, h⟩) : EReal) * scl
      else if h : d.val - 128 < 64 then (a1 (ix4 0 q n ⟨d.val - 128, h⟩) : EReal) * scl
      else if d.val - 128 - 64 < 1 then - (a5 (ix2 q n) : EReal) else 0 := by
  pointwise [pkQ]
  rfl

theorem pkK_apply (a2 : S1x16384x16x128.Idx → Elt Ideal .f32) (a3 : S1x16384x64.Idx → Elt Ideal .f32) (k : Fin 16384) (n : Fin 16) (d : Fin 256) :
    (pkK a2 a3 (ix3 k n d) : EReal) = if h : d.val < 128 then (a2 (ix4 0 k n ⟨d.val, h⟩) : EReal)
      else if h : d.val - 128 < 64 then (a3 (ix3 0 k ⟨d.val - 128, h⟩) : EReal)
      else if d.val - 128 - 64 < 1 then 1 else 0 := by
  pointwise [pkK]
  rfl

theorem cast_4096 (X : FVec Ideal S16384x16x256 .f32) (q : Fin 16384) (n : Fin 16) (d : Fin 256) (l : Fin 4096) (hl : l.val = 256 * n.val + d.val) :
    (truncf (F := Ideal) .bf16 (shapeCast S16384x4096 X shapeCasts_S16384x16x256_S16384x4096) bitsLt_bf16_f32 (ix2 q l) : EReal) = X (ix3 q n d) := by
  pointwise
  congr 2 <;> apply Fin.ext <;> simp only [] <;> omega

theorem cast_2048 (X : S1x16384x16x128.Idx → Elt Ideal .f32) (k : Fin 16384) (n : Fin 16) (d : Fin 128) (l : Fin 2048) (hl : l.val = 128 * n.val + d.val) :
    (truncf (F := Ideal) .bf16 (transpose S2048x16384 [1, 0] (shapeCast S16384x2048 (shapeCast S16384x16x128 X shapeCasts_S1x16384x16x128_S16384x16x128) shapeCasts_S16384x16x128_S16384x2048) transposes_S16384x2048_S2048x16384_1_0) bitsLt_bf16_f32 (ix2 l k) : EReal)
      = X (ix4 0 k n d) := by
  pointwise
  congr 2 <;> apply Fin.ext <;> simp only [] <;> omega

theorem aQ_eq (c : Dev nD) (q : Fin 16384) (n : Fin 16) (d : Fin 256) :
    aQ m c q.val (256 * n.val + d.val) = pkQ (arg m c main_arg0) (arg m c main_arg1) (arg m c main_arg5) (ix3 q n d) := by
  unfold aQ
  rw [V22]
  have e : fo 16384 q.val = q := Fin.ext (fo_val q.isLt)
  rw [e]
  exact cast_4096 _ q n d _ (fo_val (by omega))
theorem aK_eq (c : Dev nD) (q : Fin 16384) (n : Fin 16) (d : Fin 256) :
    aK m c q.val (256 * n.val + d.val) = pkK (arg m c main_arg2) (arg m c main_arg3) (ix3 q n d) := by
  unfold aK
  rw [V24]
  have e : fo 16384 q.val = q := Fin.ext (fo_val q.isLt)
  rw [e]
  exact cast_4096 _ q n d _ (fo_val (by omega))
theorem vals_eq (c : Dev nD) (k : Fin 16384) (n : Fin 16) (d : Fin 128) :
    vals m c n.val d k.val = A4 m c (ix4 0 k n d) := by
  unfold vals aV
  rw [V25]
  have e : fo 16384 k.val = k := Fin.ext (fo_val k.isLt)
  rw [e]
  exact cast_2048 _ k n d _ (fo_val (by omega))

/-- The 256 lanes of a head: 128 without a rotary part, 64 with one, the shift's lane and 63 lanes of zeros. -/
theorem sum_lanes (f : Fin 256 → EReal) :
    ∑ d, f d = (∑ d : Fin 128, f ⟨d.val, by omega⟩) + ((∑ d : Fin 64, f ⟨128 + d.val, by omega⟩) + (f ⟨192, by omega⟩ + ∑ d : Fin 63, f ⟨193 + d.val, by omega⟩)) := by
  have e1 := Fin.sum_univ_add (a := 128) (b := 128) f
  have e2 := Fin.sum_univ_add (a := 64) (b := 64) (fun d : Fin 128 => f ⟨128 + d.val, by omega⟩)
  have e3 := Fin.sum_univ_succ (n := 63) (fun d : Fin 64 => f ⟨128 + (64 + d.val), by omega⟩)
  refine e1.trans (congrArg₂ (· + ·) rfl (e2.trans (congrArg₂ (· + ·) rfl (e3.trans (congrArg₂ (· + ·) rfl ?_)))))
  refine Finset.sum_congr rfl fun d _ => congrArg f (Fin.ext ?_)
  show 128 + (64 + (d.val + 1)) = 193 + d.val
  omega

theorem scr_eq (c : Dev nD) (q k : Fin 16384) (n : Fin 16) :
    scr m c n.val q.val k.val
      = (∑ d : Fin 128, (A2 m c (ix4 0 k n d) : EReal) * ((A0 m c (ix4 0 q n d) : EReal) * scl))
      + ((∑ d : Fin 64, (A3 m c (ix3 0 k d) : EReal) * ((A1 m c (ix4 0 q n d) : EReal) * scl))
        + - (A5 m c (ix2 q n) : EReal)) := by
  unfold scr
  rw [Finset.sum_congr rfl fun d _ => congrArg₂ (· * ·) (aK_eq m c k n d) (aQ_eq m c q n d), sum_lanes]
  simp only [pkQ_apply, pkK_apply]
  refine congrArg₂ (· + ·) (Finset.sum_congr rfl fun d _ => ?_) (congrArg₂ (· + ·) (Finset.sum_congr rfl fun d _ => ?_) ?_)
  · rw [dif_pos d.isLt, dif_pos d.isLt]
  · have z : ¬ (128 + d.val < 128) ∧ 128 + d.val - 128 < 64 := by omega
    rw [dif_neg z.1, dif_neg z.1, dif_pos z.2, dif_pos z.2]
    have e : ∀ h, (⟨128 + d.val - 128, h⟩ : Fin 64) = d := fun h => Fin.ext (by show 128 + d.val - 128 = d.val; omega)
    rw [e]
  · have z : ∀ d : Fin 63, ¬ (193 + d.val - 128 - 64 < 1) ∧ ¬ (193 + d.val - 128 < 64) ∧ ¬ (193 + d.val < 128) := fun d => by omega
    rw [Finset.sum_congr rfl fun d _ => show _ = (0 : EReal) by rw [dif_neg (z d).2.2, dif_neg (z d).2.2, dif_neg (z d).2.1, dif_neg (z d).2.1, if_neg (z d).1, if_neg (z d).1, zero_mul]]
    simp

/-- The index column of the host's gather: the query block of each step. -/
def gIx : IVec S72 32 :=
  select (cmpi .slt (fun i => lit0 (S72.rowMajor i)) (broadcastInDim S72 ![] bcast_S_S72 (constantI S_ 32 0#32)))
    (addi (fun i => lit0 (S72.rowMajor i)) (broadcastInDim S72 ![] bcast_S_S72 (constantI S_ 32 16#32))) (fun i => lit0 (S72.rowMajor i))

set_option maxHeartbeats 2000000 in
theorem V40 (c : Dev nD) : V m c main_v40
    = shapeCast S576 (Host.gather gather_S8x16_S72x1_S8x72_0_1_n_n_1_1_81 (V m c main_v32 : IVec S8x16 32) (broadcastInDim S72x1 ![0] bcast_S72_S72x1_0 gIx)) shapeCasts_S8x72_S576 := by
  show StableHlo.after hostOps0 (fun b => m (c, b)) main_v40 = shapeCast S576 (Host.gather gather_S8x16_S72x1_S8x72_0_1_n_n_1_1_81 (StableHlo.after hostOps0 (fun b => m (c, b)) main_v32 : IVec S8x16 32) (broadcastInDim S72x1 ![0] bcast_S72_S72x1_0 gIx)) shapeCasts_S8x72_S576
  after_results
  first | done | rfl

theorem gather_cong (X : IVec S8x16 32) (I : IVec S72x1 32) (g : Fin 8) (j j' : Fin 72) (h : I (ix2 j 0) = I (ix2 j' 0)) :
    Host.gather gather_S8x16_S72x1_S8x72_0_1_n_n_1_1_81 X I (ix2 g j) = Host.gather gather_S8x16_S72x1_S8x72_0_1_n_n_1_1_81 X I (ix2 g j') := by
  unfold Host.gather
  congr 1
  funext a
  refine Fin.ext ?_
  generalize hd : gather_S8x16_S72x1_S8x72_0_1_n_n_1_1_81 = d
  show d.start (ix2 g j) I a + d.batchCoord (ix2 g j) a + d.offCoord (ix2 g j) a = d.start (ix2 g j') I a + d.batchCoord (ix2 g j') a + d.offCoord (ix2 g j') a
  subst hd
  rw [GatherDims.batchCoord_eq_zero _ _ _ List.not_mem_nil, GatherDims.batchCoord_eq_zero _ _ _ List.not_mem_nil]
  match a with
  | ⟨0, _⟩ =>
    have hs : ∀ y, gather_S8x16_S72x1_S8x72_0_1_n_n_1_1_81.start y I (0 : Fin 2) = 0 := fun y => by
      unfold GatherDims.start
      exact dif_neg (show ¬ (0 : Fin 2) ∈ [(1 : Fin 2)] by decide)
    refine congrArg₂ (· + ·) (congrArg (· + 0) ((hs _).trans (hs _).symm)) ?_
    rfl
  | ⟨1, _⟩ =>
    refine congrArg₂ (· + ·) (congrArg (· + 0) ?_) ?_
    · have hs : ∀ j : Fin 72, gather_S8x16_S72x1_S8x72_0_1_n_n_1_1_81.siIdx (ix2 g j) ⟨List.idxOf (1 : Fin 2) gather_S8x16_S72x1_S8x72_0_1_n_n_1_1_81.startIndexMap,
          List.idxOf_lt_length_iff.2 (List.mem_singleton.mpr rfl)⟩ = ix2 j 0 := fun j => by
        funext b; refine Fin.ext ?_
        match b with
        | ⟨0, _⟩ => rfl
        | ⟨1, _⟩ => rfl
      unfold GatherDims.start
      refine (dif_pos (show (1 : Fin 2) ∈ gather_S8x16_S72x1_S8x72_0_1_n_n_1_1_81.startIndexMap from List.mem_singleton.mpr rfl)).trans ?_
      refine Eq.trans ?_ (dif_pos (show (1 : Fin 2) ∈ gather_S8x16_S72x1_S8x72_0_1_n_n_1_1_81.startIndexMap from List.mem_singleton.mpr rfl)).symm
      refine congrArg (fun w : BitVec 32 => min w.toInt.toNat 15) ?_
      exact (congrArg I (hs j)).trans (h.trans (congrArg I (hs j')).symm)
    · rw [GatherDims.offCoord_eq_zero _ _ _ (fun h => ((GatherDims.mem_sKept _ _).mp h).1 (List.mem_singleton.mpr rfl)),
        GatherDims.offCoord_eq_zero _ _ _ (fun h => ((GatherDims.mem_sKept _ _).mp h).1 (List.mem_singleton.mpr rfl))]

theorem lit0_eq (j j' : Fin 72) (h : qn j = qn j') : lit0 j = lit0 j' := BitVec.eq_of_toNat_eq h

theorem gIx_eq (j j' : Fin 72) (h : qn j = qn j') : (broadcastInDim S72x1 ![0] bcast_S72_S72x1_0 gIx) (ix2 j 0) = (broadcastInDim S72x1 ![0] bcast_S72_S72x1_0 gIx) (ix2 j' 0) := by
  have e : ∀ j : Fin 72, (broadcastInDim S72x1 ![0] bcast_S72_S72x1_0 gIx) (ix2 j 0)
      = Scalar.select (IntOp.cmpi .slt (lit0 j) 0#32) (IntOp.addi (lit0 j) 16#32) (lit0 j) := fun j => by
    have hr : S72.rowMajor (ix1 j) = j := Fin.ext (Shape.rowMajor_val_one _)
    pointwise [gIx]
    rw [hr]
  rw [e, e, lit0_eq j j' h]

theorem cast_576 (X : IVec S8x72 32) (g : Fin 8) (j : Fin 72) (p : Fin 576) (hp : p.val = 72 * g.val + j.val) :
    shapeCast S576 X shapeCasts_S8x72_S576 (ix1 p) = X (ix2 g j) := by
  pointwise
  congr 2 <;> apply Fin.ext <;> simp only [] <;> omega

/-- The word `safe` is the same along a query block. -/
theorem word_eq (t t' : Fin (cfgM m).N) (hg : gx m t = gx m t') (hq : qn (jx m t) = qn (jx m t')) : T2m m (posS (crd m t)) = T2m m (posS (crd m t')) := by
  have e : ∀ t : Fin (cfgM m).N, T2m m (posS (crd m t)) = Host.gather gather_S8x16_S72x1_S8x72_0_1_n_n_1_1_81 (V m 0 main_v32 : IVec S8x16 32) (broadcastInDim S72x1 ![0] bcast_S72_S72x1_0 gIx) (ix2 (gx m t) (jx m t)) := fun t => by
    unfold T2m
    rw [V40]
    have ep : posS (crd m t) = ix1 (⟨72 * (gx m t).val + (jx m t).val, by have := (gx m t).isLt; have := (jx m t).isLt; omega⟩ : Fin 576) := by
      funext a
      match a with
      | ⟨0, _⟩ => rfl
    rw [ep]
    exact cast_576 _ _ _ _ rfl
  rw [e, e, hg]
  exact gather_cong _ _ _ _ _ (gIx_eq _ _ hq)

end Cert.KernelIdeal.Attn

end
-- ==== Proof.Attn.Inv.lean ====
module

public import proofs.«01_k».proof.Proof.Attn.Blocks

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! What the scratch buffers hold between two points, and that every point keeps it. -/

/-- A head's state after `t` blocks of keys, at one query: on the safe path the offset is nought, on the other it is the
    maximum that is kept (minus infinity before the first block). -/
def Good (sf : Bool) (t q : ℕ) (S : ℕ → ℝ) (V : Fin 128 → ℕ → EReal) (j : Fin 1024) (x : St Ideal) : Prop :=
  ∃ M : ℝ, At t M q S V j x ∧ (sf = true → M = 0) ∧
    (sf = false → (t = 0 ∧ ∀ r : Fin 8, (x.m (ix3 0 r j) : EReal) = ⊥) ∨ ∀ r : Fin 8, (x.m (ix3 0 r j) : EReal) = (M : EReal))

theorem Good.step {sf : Bool} {t q : ℕ} {S : ℕ → ℝ} {V : Fin 128 → ℕ → EReal} {j : Fin 1024} {s : FVec Ideal S1024x1024 .f32} {v : Vec Ideal S128x1024 .bf16} {x : St Ideal}
    (hx : Good sf t q S V j x) (hs : Scores t q S j s) (hv : ∀ d (k : Fin 1024), (v (ix2 d k) : EReal) = V d (1024 * t + k.val)) :
    Good sf (t + 1) q S V j (U sf s v x) := by
  obtain ⟨M, hM, h1, h2⟩ := hx
  cases sf with
  | true =>
    obtain rfl := h1 rfl
    exact ⟨0, safe_block hs hv hM, fun _ => rfl, fun h => absurd h (by decide)⟩
  | false =>
    obtain ⟨M', hm, h⟩ := online_block hs hv hM (h2 rfl)
    exact ⟨M', h, fun h => absurd h (by decide), fun _ => .inr hm⟩

theorem ini_m (h : Fin 2) (r : Fin 8) (j : Fin 1024) : ((st (F := Ideal) iM iL iA h).m (ix3 0 r j) : EReal) = ⊥ :=
  IdealRules.named_const.ideal_named_scalar _ _ _ _ rfl
theorem ini_l (h : Fin 2) (r : Fin 8) (j : Fin 1024) : ((st (F := Ideal) iM iL iA h).l (ix3 0 r j) : EReal) = 0 := by
  show Ideal.ofBits FTy.f32 0x00000000#32 = 0
  simp [Ideal.ofBits, Ideal.ieee]
theorem ini_a (h : Fin 2) (d : Fin 128) (j : Fin 1024) : ((st (F := Ideal) iM iL iA h).a (ix3 0 d j) : EReal) = 0 := by
  show Ideal.ofBits FTy.f32 0x00000000#32 = 0
  simp [Ideal.ofBits, Ideal.ieee]

theorem Good.init (sf : Bool) (q : ℕ) (S : ℕ → ℝ) (V : Fin 128 → ℕ → EReal) (j : Fin 1024) (h : Fin 2) : Good sf 0 q S V j (st iM iL iA h) :=
  ⟨0, ⟨fun r => (ini_l h r j).trans (by simp), fun d => (ini_a h d j).trans (by simp)⟩, fun _ => rfl, fun _ => .inl ⟨rfl, fun r => ini_m h r j⟩⟩

variable (m : (q : Idealize.ShloMosaic.Loc nD τ sig) → Buf (Elt Ideal) q)
variable (S : Dev nD → ℕ → ℕ → ℕ → ℝ)

/-- The scores are real numbers, and the word `safe` of a point is that of its query block and its group. -/
structure Reals (c : Dev nD) : Prop where
  scr : ∀ n q k, n < 16 → q < 16384 → k < 16384 → scr m c n q k = (S c n q k : EReal)
  word : ∀ t t' : Fin (cfgM m).N, gx m t = gx m t' → qn (jx m t) = qn (jx m t') → T2m m (posS (crd m t)) = T2m m (posS (crd m t'))

theorem hd_lt (t : Fin (cfgM m).N) (h : Fin 2) : hd m t h < 16 := by
  have := g_lt m t
  unfold hd
  omega

/-- The query of a row of a point's block. -/
abbrev qx (t : Fin (cfgM m).N) (j : Fin 1024) : ℕ := 1024 * qn (jx m t) + j.val

variable {m S}

theorem scores_full {c : Dev nD} (R : Reals m S c) (t : Fin (cfgM m).N) (b h : Fin 2) (j : Fin 1024) (hb : 2 * kn (jx m t) + b.val < qn (jx m t)) :
    Scores (2 * kn (jx m t) + b.val) (qx m t j) (S c (hd m t h) (qx m t j)) j (scF b h (blkAt m c 0 t) (blkAt m c 1 t)) := by
  intro k
  have h1 := qn_lt (jx m t)
  rw [if_pos (by unfold qx; omega)]
  exact (scF_blk m c t b h k j).trans (R.scr _ _ _ (hd_lt m t h) (by omega) (by omega))

theorem scores_diag {c : Dev nD} (R : Reals m S c) (t : Fin (cfgM m).N) (b h : Fin 2) (j : Fin 1024) (hb : 2 * kn (jx m t) + b.val = qn (jx m t)) :
    Scores (2 * kn (jx m t) + b.val) (qx m t j) (S c (hd m t h) (qx m t j)) j (scD b h (blkAt m c 0 t) (blkAt m c 1 t)) := by
  intro k
  have h1 := qn_lt (jx m t)
  refine (mk_apply _ k j).trans ?_
  by_cases hk : k.val ≤ j.val
  · rw [if_pos hk, if_pos (by unfold qx; omega)]
    exact (scF_blk m c t b h k j).trans (R.scr _ _ _ (hd_lt m t h) (by omega) (by omega))
  · rw [if_neg hk, if_neg (by unfold qx; omega)]

/-- A point's step, for one head and one query. -/
theorem good_W {c : Dev nD} (R : Reals m S c) (t : Fin (cfgM m).N) (sf : Bool) (h : Fin 2) (j : Fin 1024) (x : St Ideal)
    (hx : Good sf (2 * kn (jx m t)) (qx m t j) (S c (hd m t h) (qx m t j)) (vals m c (hd m t h)) j x) :
    Good sf (if dn (jx m t) = 0 then 2 * kn (jx m t) + 1 else 2 * kn (jx m t) + 2) (qx m t j) (S c (hd m t h) (qx m t j)) (vals m c (hd m t h)) j
      (W sf (dn (jx m t)) h (blkAt m c 0 t) (blkAt m c 1 t) (blkAt m c 2 t) x) := by
  have h1 := kq_le (jx m t)
  have hd : dn (jx m t) = qn (jx m t) - 2 * kn (jx m t) := rfl
  by_cases d2 : 2 ≤ dn (jx m t)
  · rw [W_2 d2, if_neg (by omega)]
    exact (hx.step (scores_full R t 0 h j (show 2 * kn (jx m t) + 0 < _ by omega)) (fun d k => rv_blk m c t 0 h d k)).step
      (scores_full R t 1 h j (show 2 * kn (jx m t) + 1 < _ by omega)) (fun d k => rv_blk m c t 1 h d k)
  · by_cases d0 : dn (jx m t) = 0
    · rw [W_0 d0, if_pos d0]
      exact hx.step (scores_diag R t 0 h j (show 2 * kn (jx m t) + 0 = _ by omega)) (fun d k => rv_blk m c t 0 h d k)
    · rw [W_1 (by omega), if_neg d0]
      exact (hx.step (scores_full R t 0 h j (show 2 * kn (jx m t) + 0 < _ by omega)) (fun d k => rv_blk m c t 0 h d k)).step
        (scores_diag R t 1 h j (show 2 * kn (jx m t) + 1 = _ by omega)) (fun d k => rv_blk m c t 1 h d k)

variable (m S)

/-- Whether a point's word `safe` is set. -/
def sfAt (t : Fin (cfgM m).N) : Bool := decide (¬ (T2m m (posS (crd m t)) : BitVec 32) = 0#32)

/-- What the scratch buffers hold before a point that does not start afresh. -/
def InvA (c : Dev nD) : Inv3 m := fun t a0 a1 a2 => ∀ u : Fin (cfgM m).N, u.val = t.val → kn (jx m u) ≠ 0 → ∀ (h : Fin 2) (j : Fin 1024),
  Good (sfAt m u) (2 * kn (jx m u)) (qx m u j) (S c (hd m u h) (qx m u j)) (vals m c (hd m u h)) j (st a0 a1 a2 h)

theorem InvA.at {m} {S} {c : Dev nD} {t a0 a1 a2} (H : InvA m S c t a0 a1 a2) (u : Fin (cfgM m).N) (hu : u.val = t.val) (hk : kn (jx m u) ≠ 0) (h : Fin 2) (j : Fin 1024) :
    Good (sfAt m u) (2 * kn (jx m u)) (qx m u j) (S c (hd m u h) (qx m u j)) (vals m c (hd m u h)) j (st0 false a0 a1 a2 h) := H u hu hk h j

/-- What a point that finishes leaves in the output block. -/
def OutA (res : Dev nD → ℕ → ℕ → Fin 128 → EReal) (c : Dev nD) (t : Fin (cfgM m).N) (X : S1024x256.Idx → Elt Ideal .bf16) : Prop :=
  dn (jx m t) < 2 → ∀ (h : Fin 2) (j : Fin 1024) (d : Fin 128),
    (X (ix2 j ⟨128 * h.val + d.val, by omega⟩) : EReal) = res c (hd m t h) (qx m t j) d

theorem gx_val (t : Fin (cfgM m).N) : (gx m t).val = t.val / 72 := by
  have hN : t.val < 576 := t.isLt
  refine (Pipeline.Grid.coords_val (G := grid0) t 0 (S := 72) (B := 8) (by decide) rfl).trans ?_
  omega
theorem jx_val (t : Fin (cfgM m).N) : (jx m t).val = t.val % 72 := by
  refine (Pipeline.Grid.coords_val (G := grid0) t 1 (S := 1) (B := 72) (by decide) rfl).trans ?_
  omega

theorem sched_next : ∀ j j' : Fin 72, j'.val = j.val + 1 → kn j' ≠ 0 → 2 ≤ dn j ∧ qn j' = qn j ∧ kn j' = kn j + 1 := by decide +kernel
theorem sched_start : ∀ j : Fin 72, j.val = 0 → kn j = 0 := by decide +kernel

set_option maxHeartbeats 1000000 in
theorem keepsA (res : Dev nD → ℕ → ℕ → Fin 128 → EReal) (c : Dev nD) (R : Reals m S c)
    (hres : ∀ (M : ℝ) n q d, n < 16 → q < 16384 →
      Ideal.div (∑ k ∈ Finset.range (1024 * (q / 1024 + 1)), vals m c n d k * (wt M q (S c n q) k : EReal))
        (∑ k ∈ Finset.range (1024 * (q / 1024 + 1)), (wt M q (S c n q) k : EReal)) = res c n q d) :
    Keeps m (InvA m S) (OutA m res) c := by
  intro t a0 a1 a2 o m' l' a' hI H
  obtain ⟨sf, ini, hini, hsf, hh⟩ := step_heads H
  have esf : sf = sfAt m t := by
    unfold sfAt
    by_cases h0 : (T2m m (posS (crd m t)) : BitVec 32) = 0#32
    · rw [decide_eq_false (not_not.mpr h0)]
      cases sf with
      | true => exact absurd h0 (hsf.1 rfl)
      | false => rfl
    · rw [decide_eq_true h0]; exact hsf.2 h0
  have hst : ∀ (h : Fin 2) (j : Fin 1024), Good sf (2 * kn (jx m t)) (qx m t j) (S c (hd m t h) (qx m t j)) (vals m c (hd m t h)) j (st0 ini a0 a1 a2 h) := by
    intro h j
    cases ini with
    | true =>
      have e : kn (jx m t) = 0 := hini.1 rfl
      rw [e]
      exact Good.init sf _ _ _ j h
    | false =>
      have e : kn (jx m t) ≠ 0 := fun e => absurd (hini.2 e) (by decide)
      have e2 := InvA.at hI t (Fin.val_castSucc t).symm e h j
      rw [esf]
      exact e2
  have hgo := fun (h : Fin 2) (j : Fin 1024) => good_W R t sf h j _ (hst h j)
  have hq := kq_le (jx m t)
  have hdn : dn (jx m t) = qn (jx m t) - 2 * kn (jx m t) := rfl
  refine ⟨?_, ?_⟩
  · intro u hu hk h j
    replace hu : u.val = t.val + 1 := hu
    have e1 : (jx m u).val = (t.val + 1) % 72 := by rw [← hu]; exact jx_val m u
    have e2 : (gx m u).val = (t.val + 1) / 72 := by rw [← hu]; exact gx_val m u
    have f1 := jx_val m t
    have f2 := gx_val m t
    have hne : (t.val + 1) % 72 ≠ 0 := fun h0 => hk (sched_start _ (e1.trans h0))
    have hjx : (jx m u).val = (jx m t).val + 1 := by omega
    have hgx : gx m u = gx m t := Fin.ext (by omega)
    obtain ⟨hd2, hqe, hke⟩ := sched_next _ _ hjx hk
    have ehd : hd m u h = hd m t h := by unfold hd; rw [hgx]
    have eqx : qx m u j = qx m t j := by unfold qx; rw [hqe]
    have esf' : sfAt m u = sf := by
      rw [esf]; unfold sfAt
      rw [R.word _ t hgx hqe]
    rw [ehd, eqx, esf', hke, (hh h).1]
    have := hgo h j
    rw [if_neg (by omega)] at this
    exact this
  · intro L hL f hd2 h j d
    have e := congrFun ((hh h).2 L hL f) (ix2 j d)
    refine ((ld_ro h _ j d).symm.trans e).trans ?_
    obtain ⟨M, hM, -, -⟩ := hgo h j
    rw [(hh h).1, fin_at hM d, ← hres M (hd m t h) (qx m t j) d (hd_lt m t h) (by have := qn_lt (jx m t); unfold qx; omega)]
    have eb : (if dn (jx m t) = 0 then 2 * kn (jx m t) + 1 else 2 * kn (jx m t) + 2) = qx m t j / 1024 + 1 := by
      unfold qx; split <;> omega
    rw [eb]

end Cert.KernelIdeal.Attn

end
-- ==== Proof.Attn.OutArr.lean ====
module

public import proofs.«01_k».proof.Proof.Attn.Inv
public import Idealize.ShloMosaic.Lib.Pipeline.ArrRel
public import Idealize.ShloMosaic.Lib.Pipeline.Covers

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The output array at the end of the run, from what the finishing points leave. -/

variable (m : (q : Idealize.ShloMosaic.Loc nD τ sig) → Buf (Elt Ideal) q)
variable (res : Dev nD → ℕ → ℕ → Fin 128 → EReal)

/-- The output array: the result of head `n` at query `q` lies at row `q`, in lanes `128 n` to `128 n + 127`. -/
def outA (c : Dev nD) : S16384x2048.Idx → Elt Ideal .bf16 := fun i =>
  res c ((i (1 : Fin 2)).val / 128) (i (0 : Fin 2)).val ⟨(i (1 : Fin 2)).val % 128, Nat.mod_lt _ (by decide)⟩

theorem qn_surj : ∀ x : Fin 16, ∃ j : Fin 72, qn j = x.val := by decide +kernel
theorem sched_stay : ∀ j : Fin 72, 2 ≤ dn j → j.val + 1 < 72 ∧ ∀ j' : Fin 72, j'.val = j.val + 1 → qn j' = qn j := by decide +kernel

theorem covers3 : ((cfgM m).win 3).Covers :=
  ((cfgM m).win 3).covers_of_indexMap_surj rfl (fun a => by match a with
    | ⟨0, _⟩ => exact (by decide : 0 < 1024)
    | ⟨1, _⟩ => exact (by decide : 0 < 256)) fun β => by
    have hb0 : ((cfgM m).win 3).nblk (0 : Fin 2) = 16 := by show (16384 + 1024 - 1) / 1024 = 16; rfl
    have hb1 : ((cfgM m).win 3).nblk (1 : Fin 2) = 8 := by show (2048 + 256 - 1) / 256 = 8; rfl
    have b0 : (β (0 : Fin 2)).val < 16 := lt_of_lt_of_eq (β (0 : Fin 2)).isLt hb0
    have b1 : (β (1 : Fin 2)).val < 8 := lt_of_lt_of_eq (β (1 : Fin 2)).isLt hb1
    obtain ⟨j, hj⟩ := qn_surj ⟨(β (0 : Fin 2)).val, b0⟩
    let i : grid0.Coords := fun a => match a with
      | ⟨0, _⟩ => (⟨(β (1 : Fin 2)).val, b1⟩ : Fin 8)
      | ⟨1, _⟩ => j
    refine ⟨i, fun a => ?_⟩
    have e := congrFun (tr3_eq (F := Ideal) (T2m m) i) a
    refine e.trans ?_
    match a with
    | ⟨0, _⟩ => exact hj
    | ⟨1, _⟩ => rfl

theorem flush3 (t : Fin (cfgM m).N) (hf : ((cfgM m).win 3).flush t = true) : dn (jx m t) < 2 := by
  by_contra hd
  have hd2 : 2 ≤ dn (jx m t) := not_lt.mp hd
  obtain ⟨hj, hs⟩ := sched_stay _ hd2
  have f1 := jx_val m t
  have f2 := gx_val m t
  have hN : t.val < 576 := t.isLt
  have hlt : t.val + 1 < (cfgM m).N := show t.val + 1 < 576 by omega
  have e1 := jx_val m ⟨t.val + 1, hlt⟩
  have e2 := gx_val m ⟨t.val + 1, hlt⟩
  have hq := hs (jx m ⟨t.val + 1, hlt⟩) (by rw [e1]; show (t.val + 1) % 72 = _; omega)
  have hg : (gx m ⟨t.val + 1, hlt⟩).val = (gx m t).val := by rw [e2, f2]; show (t.val + 1) / 72 = _; omega
  rw [Pipeline.Window.flush_eq_flushF] at hf
  unfold Pipeline.Window.flushF at hf
  have hf' := (Bool.and_eq_true_iff.mp hf).2
  rcases Bool.or_eq_true_iff.mp hf' with h | h
  · have : t.val + 1 = 576 := of_decide_eq_true h
    have h' : t.val + 1 < 576 := hlt
    omega
  · obtain ⟨h', a, ha⟩ := of_decide_eq_true h
    apply ha
    have i1 := congrFun (index3 m ⟨t.val + 1, h'⟩) a
    have i2 := congrFun (index3 m t) a
    refine i1.trans (Eq.trans ?_ i2.symm)
    rw [hq, hg]

theorem emb3_0 (t : Fin (cfgM m).N) (y : (((cfgM m).win 3).xblock (crd m t)).Idx) :
    (((((cfgM m).win 3).blk t).view.emb y) (0 : Fin 2)).val = qn (jx m t) * 1024 + (y (0 : Fin 2)).val := by
  refine (Pipeline.Window.rect_emb_val ((cfgM m).win 3) t y (0 : Fin 2) rfl).trans ?_
  rw [index3]; rfl
theorem emb3_1 (t : Fin (cfgM m).N) (y : (((cfgM m).win 3).xblock (crd m t)).Idx) :
    (((((cfgM m).win 3).blk t).view.emb y) (1 : Fin 2)).val = (gx m t).val * 256 + (y (1 : Fin 2)).val := by
  refine (Pipeline.Window.rect_emb_val ((cfgM m).win 3) t y (1 : Fin 2) rfl).trans ?_
  rw [index3]; rfl

theorem outA_emb (c : Dev nD) (t : Fin (cfgM m).N) (X : S1024x256.Idx → Elt Ideal .bf16) (hX : OutA m res c t X) (hd : dn (jx m t) < 2)
    (y : S1024x256.Idx) (i : S16384x2048.Idx) (h0 : (i (0 : Fin 2)).val = qn (jx m t) * 1024 + (y (0 : Fin 2)).val)
    (h1 : (i (1 : Fin 2)).val = (gx m t).val * 256 + (y (1 : Fin 2)).val) : X y = outA res c i := by
  have hy0 : (y (0 : Fin 2)).val < 1024 := (y (0 : Fin 2)).isLt
  have hy1 : (y (1 : Fin 2)).val < 256 := (y (1 : Fin 2)).isLt
  generalize ey0 : (y (0 : Fin 2)).val = y0 at *
  generalize ey1 : (y (1 : Fin 2)).val = y1 at *
  have e := hX hd ⟨y1 / 128, by omega⟩ ⟨y0, hy0⟩ ⟨y1 % 128, by omega⟩
  have ey : y = ix2 (⟨y0, hy0⟩ : Fin 1024) (⟨128 * (y1 / 128) + y1 % 128, by omega⟩ : Fin 256) := by
    funext a
    match a with
    | ⟨0, _⟩ => exact Fin.ext ey0
    | ⟨1, _⟩ => exact Fin.ext (ey1.trans (by show y1 = 128 * (y1 / 128) + y1 % 128; omega))
  rw [ey]
  refine e.trans ?_
  unfold outA
  show res c (2 * (gx m t).val + y1 / 128) (1024 * qn (jx m t) + y0) _ = _
  have a1 : 2 * (gx m t).val + y1 / 128 = (i (1 : Fin 2)).val / 128 := by rw [h1]; omega
  have a2 : 1024 * qn (jx m t) + y0 = (i (0 : Fin 2)).val := by rw [h0]; omega
  have a3 : (⟨y1 % 128, by omega⟩ : Fin 128) = ⟨(i (1 : Fin 2)).val % 128, Nat.mod_lt _ (by decide)⟩ := Fin.ext (by show y1 % 128 = (i (1 : Fin 2)).val % 128; rw [h1]; omega)
  rw [a1, a2, a3]

/-- Any exact data that name what the finishing points left give the output array. -/
theorem arr3 {S : Dev nD → ℕ → ℕ → ℕ → ℝ} (c : Dev nD)
    (after : (w' : Fin (cfgM m).W) → Fin (cfgM m).N → ((cfgM m).win w').block.Idx → Elt Ideal ((cfgM m).win w').elt)
    (hl : ∀ u : Fin (cfgM m).N, ((cfgM m).win 3).flush u = true → OutA m res c u (after (3 : Fin 4) u)) :
    ((rdat m (InvA m S) (OutA m res) c).withAfter after).arrAt (3 : Fin 4) (cfgM m).N = outA res c := by
  refine Pipeline.Dat.arrAt_eq_of_covers ((rdat m (InvA m S) (OutA m res) c).withAfter after) (3 : Fin 4) (outA res c) (covers3 m) ?_ (Memref.isWhole_whole _)
  intro t hf y
  exact outA_emb m res c t (after (3 : Fin 4) t) (hl t hf) (flush3 m t hf) y _ (emb3_0 m t y) (emb3_1 m t y)

theorem out_main {S : Dev nD → ℕ → ℕ → ℕ → ℝ} {r : PUnit × MemSt nD τ sig (Elt Ideal)}
    (h : Pipeline.RDat.FramePost (cfgM m) (rdat m (InvA m S) (OutA m res)) (V m) r) (c : Dev nD) :
    r.2.mem ((c.tc : Thread nD τ).loc main_v41) = outA res c := by
  obtain ⟨after, hL, hA⟩ := Pipeline.RDat.FramePost.exists_exact h c
  refine (hA (3 : Fin 4)).trans (arr3 m res c after fun u hf => ?_)
  obtain ⟨Y, -, hY⟩ := hL (3 : Fin 4) u hf
  exact hY (flush3 m u hf)

end Cert.KernelIdeal.Attn

end
-- ==== Proof.Ref.Soft.lean ====
/- The reference's entries: a softmax over the keys up to the query, then the weighted sum of the values. -/
module

public import proofs.«01_k».proof.Proof.Gen.ReferenceIdeal.Read
public import Idealize.ShloMosaic.Lib.Pointwise
public import Idealize.ShloMosaic.Lib.WordCmp
public import Idealize.ShloMosaic.Lib.Affine
public import Idealize.ShloMosaic.PureOps.Ideal.Laws

@[expose] public section

set_option maxRecDepth 16384
set_option Elab.async false

noncomputable section

namespace Cert.ReferenceIdeal.Soft

open Cert.ReferenceIdeal Cert.ReferenceIdeal.Gen Cert.ReferenceIdeal.Read Idealize.ShloMosaic

/-- A running maximum from nothing, over terms none of which is infinite upwards, is not either. -/
theorem foldl_max_lt {ι : Type} (f : ι → EReal) (l : List ι) (a : EReal) (ha : a < ⊤) (h : ∀ i ∈ l, f i < ⊤) :
    l.foldl (fun r i => max r (f i)) a < ⊤ := by
  induction l generalizing a with
  | nil => exact ha
  | cons i l ih => exact ih _ (max_lt ha (h i (List.mem_cons_self ..))) fun j hj => h j (List.mem_cons_of_mem _ hj)

theorem foldl_max_ge {ι : Type} (f : ι → EReal) (l : List ι) (a : EReal) : a ≤ l.foldl (fun r i => max r (f i)) a ∧ ∀ i ∈ l, f i ≤ l.foldl (fun r i => max r (f i)) a := by
  induction l generalizing a with
  | nil => exact ⟨le_refl _, fun _ h => nomatch h⟩
  | cons i l ih =>
    refine ⟨(le_max_left _ _).trans (ih _).1, fun j hj => ?_⟩
    rcases List.mem_cons.1 hj with rfl | hj
    · exact (le_max_right _ _).trans (ih _).1
    · exact (ih _).2 j hj

abbrev Arr4 := S1x16384x16x128.Idx → Elt Ideal .f32
abbrev ArrR := S1x16384x16x64.Idx → Elt Ideal .f32
abbrev Arr3 := S1x16384x64.Idx → Elt Ideal .f32

variable (x0 : Arr4) (x1 : ArrR) (x2 : Arr4) (x3 : Arr3) (x4 : Arr4)

/-- The score of a query and a key, before the mask. -/
theorem v5_at (n : Fin 16) (q k : Fin 16384) : (val_main_v5 (F := Ideal) x0 x1 x2 x3 (ix4 0 n q k) : EReal)
    = ((∑ d : Fin 128, (x0 (ix4 0 q n d) : EReal) * (x2 (ix4 0 k n d) : EReal)) + ∑ d : Fin 64, (x3 (ix3 0 k d) : EReal) * (x1 (ix4 0 q n d) : EReal))
      * Ideal.ofBits .f32 0x3D93CD3A#32 := by
  rw [val_main_v5_apply, val_main_v3_apply, val_main_v2_apply, val_main_v4_apply, val_main_v0_apply, val_main_v1_apply]
  have e0 : ∀ d, lidx_main_v0 (ix4 0 n q k) d = ix4 0 q n d := fun d => by funext a; match a with | ⟨0, _⟩ => rfl | ⟨1, _⟩ => rfl | ⟨2, _⟩ => rfl | ⟨3, _⟩ => rfl
  have e1 : ∀ d, ridx_main_v0 (ix4 0 n q k) d = ix4 0 k n d := fun d => by funext a; match a with | ⟨0, _⟩ => rfl | ⟨1, _⟩ => rfl | ⟨2, _⟩ => rfl | ⟨3, _⟩ => rfl
  have e2 : ∀ d, lidx_main_v1 (idx_main_v2 (ix4 0 n q k)) d = ix3 0 k d := fun d => by funext a; match a with | ⟨0, _⟩ => rfl | ⟨1, _⟩ => rfl | ⟨2, _⟩ => rfl
  have e3 : ∀ d, ridx_main_v1 (idx_main_v2 (ix4 0 n q k)) d = ix4 0 q n d := fun d => by funext a; match a with | ⟨0, _⟩ => rfl | ⟨1, _⟩ => rfl | ⟨2, _⟩ => rfl | ⟨3, _⟩ => rfl
  simp only [e0, e1, e2, e3]
  rfl

/-- Keys after the query are masked out. -/
theorem v13_at (n : Fin 16) (q k : Fin 16384) : (val_main_v13 (F := Ideal) x0 x1 x2 x3 (ix4 0 n q k) : EReal)
    = if k.val ≤ q.val then (val_main_v5 (F := Ideal) x0 x1 x2 x3 (ix4 0 n q k) : EReal) else ⊥ := by
  have hm : val_main_call0_v1 (F := Ideal) (ix4 0 n q k) = IntOp.cmpi .sle (BitVec.ofNat 32 k.val) (BitVec.ofNat 32 q.val) := by
    rw [val_main_call0_v1_apply, val_main_v12_apply, val_main_v11_apply, val_main_v9_apply, val_main_v10_apply]
    rfl
  have hi : (val_main_call0_v2 (F := Ideal) (ix4 0 n q k) : EReal) = ⊥ := by
    rw [val_main_call0_v2_apply, val_main_call0_v0_apply, val_main_cst_0_apply]
    show Ideal.ofBits .f32 0xFF800000#32 = ⊥
    simp [Ideal.ofBits, Ideal.ieee]
  have hk := k.isLt
  have hq := q.isLt
  rw [val_main_v13_apply, hm]
  by_cases h : k.val ≤ q.val
  · rw [if_pos h, (WordCmp.cmpi_sle_ofNat_eq_one_iff (by omega) (by omega)).2 h]; rfl
  · rw [if_neg h, (WordCmp.cmpi_sle_ofNat_eq_zero_iff (by omega) (by omega)).2 (by omega)]; exact hi

variable {x0 x1 x2 x3}

/-- The row's maximum is a real number when its scores are. -/
theorem v16_at (n : Fin 16) (q : Fin 16384) (x : ℕ → ℝ) (hx : ∀ k : Fin 16384, (val_main_v5 (F := Ideal) x0 x1 x2 x3 (ix4 0 n q k) : EReal) = (x k.val : EReal)) :
    ∃ X : ℝ, (val_main_v16 (F := Ideal) x0 x1 x2 x3 (ix3 0 n q) : EReal) = (X : EReal) := by
  have h15 : (val_main_v15 (F := Ideal) (ix3 0 n q) : EReal) = ⊥ := by
    rw [val_main_v15_apply, val_main_cst_2_apply]
    show Ideal.ofBits .f32 0xFF800000#32 = ⊥
    simp [Ideal.ofBits, Ideal.ieee]
  have h14 : (val_main_v16 (F := Ideal) x0 x1 x2 x3 (ix3 0 n q) : EReal) = val_main_v14 (F := Ideal) x0 x1 x2 x3 (ix3 0 n q) := by
    rw [val_main_v16_apply]
    show max (val_main_v15 (F := Ideal) (ix3 0 n q) : EReal) _ = _
    rw [h15]; exact max_eq_right bot_le
  rw [h14]
  unfold val_main_v14
  rw [Host.reduce_eq_foldl]
  have hd : ∀ i : S1x16x16384x16384.Idx, reducesTo_S1x16x16384x16384_S1x16x16384_d3.drop i = ix3 0 n q → ∃ k : Fin 16384, i = ix4 0 n q k := fun i h => by
    have h1 := congrArg (fun f => (f 1).val) h
    have h2 := congrArg (fun f => (f 2).val) h
    have h0 : (i 0).val < 1 := (i 0).isLt
    refine ⟨⟨(i 3).val, (i 3).isLt⟩, ?_⟩
    funext a
    refine Fin.ext ?_
    match a with
    | ⟨0, _⟩ => show (i 0).val = 0; omega
    | ⟨1, _⟩ => exact h1
    | ⟨2, _⟩ => exact h2
    | ⟨3, _⟩ => rfl
  set l := ((List.finRange S1x16x16384x16384.numel).map S1x16x16384x16384.rowMajor.symm).filter fun i => reducesTo_S1x16x16384x16384_S1x16x16384_d3.drop i = ix3 0 n q with hl
  have hlt : (l.foldl (fun r i => max r (val_main_v13 (F := Ideal) x0 x1 x2 x3 i : EReal)) (val_main_cst_1 (F := Ideal) (Shape.Idx.first h_S_) : EReal)) < ⊤ := by
    refine foldl_max_lt _ _ _ ?_ fun i hi => ?_
    · rw [val_main_cst_1_apply]
      show Ideal.ofBits .f32 0xFF800000#32 < ⊤
      simp [Ideal.ofBits, Ideal.ieee]
    · rw [hl, List.mem_filter] at hi
      obtain ⟨k, rfl⟩ := hd i (of_decide_eq_true hi.2)
      rw [v13_at]
      split
      · rw [hx]; exact EReal.coe_lt_top _
      · exact bot_lt_top
  have hge : ((x 0 : ℝ) : EReal) ≤ l.foldl (fun r i => max r (val_main_v13 (F := Ideal) x0 x1 x2 x3 i : EReal)) (val_main_cst_1 (F := Ideal) (Shape.Idx.first h_S_) : EReal) := by
    have hm : (ix4 0 n q (0 : Fin 16384) : S1x16x16384x16384.Idx) ∈ l := by
      rw [hl, List.mem_filter]
      refine ⟨List.mem_map.2 ⟨S1x16x16384x16384.rowMajor (ix4 0 n q 0), List.mem_finRange _, Equiv.symm_apply_apply _ _⟩, decide_eq_true ?_⟩
      funext a
      match a with
      | ⟨0, _⟩ => rfl
      | ⟨1, _⟩ => rfl
      | ⟨2, _⟩ => rfl
    have := (foldl_max_ge (fun i => (val_main_v13 (F := Ideal) x0 x1 x2 x3 i : EReal)) l (val_main_cst_1 (F := Ideal) (Shape.Idx.first h_S_) : EReal)).2 _ hm
    refine le_trans (le_of_eq ?_) this
    show _ = (val_main_v13 (F := Ideal) x0 x1 x2 x3 (ix4 0 n q 0) : EReal)
    rw [v13_at]
    exact ((if_pos (Nat.zero_le _)).trans (hx 0)).symm
  exact ⟨_, (EReal.coe_toReal hlt.ne (fun h => by rw [h] at hge; exact absurd hge (not_le.mpr (EReal.bot_lt_coe _)))).symm⟩

/-- The reference's result, when the row's scores are real. -/
theorem v28_at (n : Fin 16) (q : Fin 16384) (x : ℕ → ℝ) (hx : ∀ k : Fin 16384, (val_main_v5 (F := Ideal) x0 x1 x2 x3 (ix4 0 n q k) : EReal) = (x k.val : EReal)) :
    ∃ X : ℝ, ∀ (i : S16384x2048.Idx) (d : Fin 128), (i 0).val = q.val → (i 1).val = 128 * n.val + d.val →
      (val_main_v28 (F := Ideal) x0 x1 x2 x3 x4 i : EReal)
        = ∑ k : Fin 16384, Ideal.div (((if k.val ≤ q.val then Real.exp (x k.val - X) else 0 : ℝ)) : EReal)
          (∑ k : Fin 16384, (((if k.val ≤ q.val then Real.exp (x k.val - X) else 0 : ℝ)) : EReal)) * (x4 (ix4 0 k n d) : EReal) := by
  obtain ⟨X, hX⟩ := v16_at n q x hx
  refine ⟨X, fun i d h0 h1 => ?_⟩
  have hexp : ∀ k : Fin 16384, (val_main_v20 (F := Ideal) x0 x1 x2 x3 (ix4 0 n q k) : EReal) = ((if k.val ≤ q.val then Real.exp (x k.val - X) else 0 : ℝ) : EReal) := fun k => by
    have e18 : (val_main_v18 (F := Ideal) x0 x1 x2 x3 (ix4 0 n q k) : EReal) = (X : EReal) := by
      rw [val_main_v18_apply, val_main_v17_apply]
      have e : idx_main_v17 (idx_main_v18 (ix4 0 n q k)) = ix3 0 n q := by
        funext a
        match a with
        | ⟨0, _⟩ => rfl
        | ⟨1, _⟩ => rfl
        | ⟨2, _⟩ => rfl
      rw [e]
      exact hX
    rw [val_main_v20_apply, val_main_v19_apply]
    show Ideal.exp ((val_main_v13 (F := Ideal) x0 x1 x2 x3 (ix4 0 n q k) : EReal) - (val_main_v18 (F := Ideal) x0 x1 x2 x3 (ix4 0 n q k) : EReal)) = _
    rw [e18, v13_at, hx]
    split
    · rw [← EReal.coe_sub]; rfl
    · rw [EReal.bot_sub]; rfl
  have hsum : (val_main_v21 (F := Ideal) x0 x1 x2 x3 (ix3 0 n q) : EReal) = ∑ k : Fin 16384, ((if k.val ≤ q.val then Real.exp (x k.val - X) else 0 : ℝ) : EReal) := by
    rw [val_main_v21_apply, val_main_cst_3_apply]
    have z : (FloatOps.ofBits (F := Ideal) .f32 0x00000000#32 : EReal) = 0 := by
      show Ideal.ofBits .f32 0x00000000#32 = 0
      simp [Ideal.ofBits, Ideal.ieee]
    rw [z, zero_add]
    refine Finset.sum_congr rfl fun k _ => ?_
    have e : idx_main_v21 (ix3 0 n q) k = ix4 0 n q k := by
      funext a
      match a with
      | ⟨0, _⟩ => rfl
      | ⟨1, _⟩ => rfl
      | ⟨2, _⟩ => rfl
      | ⟨3, _⟩ => rfl
    rw [e]
    exact hexp k
  have hdiv : ∀ k : Fin 16384, (val_main_v24 (F := Ideal) x0 x1 x2 x3 (ix4 0 n q k) : EReal) = Ideal.div (((if k.val ≤ q.val then Real.exp (x k.val - X) else 0 : ℝ)) : EReal)
          (∑ k : Fin 16384, (((if k.val ≤ q.val then Real.exp (x k.val - X) else 0 : ℝ)) : EReal)) := fun k => by
    rw [val_main_v24_apply, val_main_v23_apply, val_main_v22_apply]
    have e : idx_main_v22 (idx_main_v23 (ix4 0 n q k)) = ix3 0 n q := by
      funext a
      match a with
      | ⟨0, _⟩ => rfl
      | ⟨1, _⟩ => rfl
      | ⟨2, _⟩ => rfl
    rw [e]
    exact congrArg₂ Ideal.div (hexp k) hsum
  rw [val_main_v28_apply]
  show (val_main_v27 (F := Ideal) x0 x1 x2 x3 x4 i : EReal) = _
  have hq := q.isLt
  have hn := n.isLt
  have hd := d.isLt
  have ei : idx_main_v26 (idx_main_v27 i) = (ix4 0 n d q : S1x16x128x16384.Idx) := by
    funext a
    refine Fin.ext ?_
    match a with
    | ⟨0, _⟩ => rfl
    | ⟨1, _⟩ => show ((i 0).val * 2048 + (i 1).val) / 128 % 16 = n.val; omega
    | ⟨2, _⟩ => show ((i 0).val * 2048 + (i 1).val) % 128 = d.val; omega
    | ⟨3, _⟩ => show ((i 0).val * 2048 + (i 1).val) / 2048 % 16384 = q.val; omega
  rw [val_main_v27_apply, val_main_v26_apply, ei, val_main_v25_apply]
  refine Finset.sum_congr rfl fun k _ => ?_
  have e1 : lidx_main_v25 (ix4 0 n d q) k = ix4 0 k n d := by funext a; match a with | ⟨0, _⟩ => rfl | ⟨1, _⟩ => rfl | ⟨2, _⟩ => rfl | ⟨3, _⟩ => rfl
  have e2 : ridx_main_v25 (ix4 0 n d q) k = ix4 0 n q k := by funext a; match a with | ⟨0, _⟩ => rfl | ⟨1, _⟩ => rfl | ⟨2, _⟩ => rfl | ⟨3, _⟩ => rfl
  rw [e1, e2, ← hdiv k]
  exact mul_comm _ _

end Cert.ReferenceIdeal.Soft

end
-- ==== Proof.Attn.Value.lean ====
module

public import proofs.«01_k».proof.Proof.Attn.Host
public import proofs.«01_k».proof.Proof.Attn.OutArr
public import proofs.«01_k».proof.Proof.Attn.Launch
public import proofs.«01_k».proof.Proof.Ref.Soft
public import proofs.«01_k».proof.Proof.Gen.Pre_finite_scores
public import Idealize.ShloMosaic.Lib.ReduceAll

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The scores are real numbers, and the kernel's quotient is the reference's softmax sum. -/

theorem real_of_abs (x : EReal) (h : max x (-x) < ⊤) : x = ((x.toReal : ℝ) : EReal) := by
  refine (EReal.coe_toReal (fun e => ?_) (fun e => ?_)).symm
  · rw [e] at h; simp at h
  · rw [e] at h; simp at h

/-- An array that passes the printed test has real entries. -/
theorem all_real {s : Shape} {axes : List (Fin s.rank)} (x : s.Idx → Elt Ideal .f32) (hb : S_.BroadcastsInDim s (![] : Fin 0 → Fin s.rank)) (hr : s.ReducesTo axes S_) (hu : 0 < S_.numel) (j : S_.Idx)
    (h : Host.reduce IntOp.andi (cmpf .olt (Host.absf (F := Ideal) (s := s) (φ := .f32) x) (broadcastInDim s ![] hb (constant (F := Ideal) S_ .f32 0x7F800000#32))) (constantI S_ 1 1#1) hr hu j = 1#1) (i : s.Idx) :
    (x i : EReal) = (((x i : EReal).toReal : ℝ) : EReal) := by
  haveI : Subsingleton S_.Idx := ⟨fun a b => funext fun k => k.elim0⟩
  have e := Host.reduce_andi_all _ _ hr hu j h i
  have e' : BitVec.ofBool (decide (max (x i : EReal) (-(x i : EReal)) < Ideal.ofBits .f32 0x7F800000#32)) = 1#1 := e
  have et : Ideal.ofBits .f32 0x7F800000#32 = ⊤ := by simp [Ideal.ofBits, Ideal.ieee]
  rw [et] at e'
  refine real_of_abs _ ?_
  by_contra hn
  rw [decide_eq_false hn] at e'
  exact absurd e' (by decide)

variable (m : (q : Idealize.ShloMosaic.Loc nD τ sig) → Buf (Elt Ideal) q)

structure RealArgs (c : Dev nD) : Prop where
  a0 : ∀ i, A0 m c i = ((A0 m c i).toReal : EReal)
  a1 : ∀ i, A1 m c i = ((A1 m c i).toReal : EReal)
  a2 : ∀ i, A2 m c i = ((A2 m c i).toReal : EReal)
  a3 : ∀ i, A3 m c i = ((A3 m c i).toReal : EReal)
  a5 : ∀ i, A5 m c i = ((A5 m c i).toReal : EReal)

/-- The precondition, read back. -/
theorem realArgs (h : Cert.Pre_KernelIdeal_finite_scores (hPre_finite_scores := Cert.Pre_finite_scores.Gen.facts) m) (c : Dev nD) : RealArgs m c := by
  have e := congrFun (h c) Idealize.ShloMosaic.ix0
  dsimp only [Cert.Pre_finite_scores.fn, Cert.Pre_finite_scores.fn_part1] at e
  obtain ⟨e, h5⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real _ _ _ _ _ h0, all_real _ _ _ _ _ h1, all_real _ _ _ _ _ h2, all_real _ _ _ _ _ h3, all_real _ _ _ _ _ h5⟩

/-- The reference's scale. -/
def cR : ℝ := (Ideal.ofBits .f32 0x3D93CD3A#32).toReal

theorem cR_eq : Ideal.ofBits .f32 0x3D93CD3A#32 = (cR : EReal) := by
  have h : ∃ r : ℝ, Ideal.ofBits .f32 0x3D93CD3A#32 = (r : EReal) := by
    simp only [Ideal.ofBits, Ideal.ieee]
    norm_num
    exact ⟨_, (EReal.coe_mul _ _).symm⟩
  obtain ⟨r, hr⟩ := h
  unfold cR
  rw [hr, EReal.toReal_coe]

theorem log2_pos : 0 < Real.log 2 := Real.log_pos (by norm_num)

theorem scl_eq : scl = ((cR / Real.log 2 : ℝ) : EReal) := by
  have h2 : Ideal.ofBits .f32 0x40000000#32 = ((2 : ℝ) : EReal) := by simp [Ideal.ofBits, Ideal.ieee, -EReal.coe_mul]; norm_num
  show Ideal.div (Ideal.ofBits .f32 0x3D93CD3A#32) (Ideal.log (Ideal.ofBits .f32 0x40000000#32)) = _
  rw [h2, cR_eq, Ideal.log_coe, if_neg (by norm_num), Ideal.div_coe log2_pos.ne', ← EReal.coe_mul, mul_one_div]

/-- The reference's score without its scale. -/
def raw (c : Dev nD) (n q k : ℕ) : ℝ :=
  (∑ d : Fin 128, (A0 m c (ix4 0 (fo 16384 q) (fo 16 n) d)).toReal * (A2 m c (ix4 0 (fo 16384 k) (fo 16 n) d)).toReal)
  + ∑ d : Fin 64, (A3 m c (ix3 0 (fo 16384 k) d)).toReal * (A1 m c (ix4 0 (fo 16384 q) (fo 16 n) d)).toReal

/-- The kernel's score. -/
def scoreR (c : Dev nD) (n q k : ℕ) : ℝ :=
  cR / Real.log 2 * raw m c n q k - (A5 m c (ix2 (fo 16384 q) (fo 16 n))).toReal

theorem fo_fin {n : ℕ} (k : Fin n) [NeZero n] : fo n k.val = k := Fin.ext (fo_val k.isLt)

theorem reals (c : Dev nD) (R : RealArgs m c) : Reals m (scoreR m) c where
  scr := fun n q k hn hq hk => by
    have e := scr_eq m c ⟨q, hq⟩ ⟨k, hk⟩ ⟨n, hn⟩
    refine e.trans ?_
    have en : fo 16 n = ⟨n, hn⟩ := Fin.ext (fo_val hn)
    have eq : fo 16384 q = ⟨q, hq⟩ := Fin.ext (fo_val hq)
    have ek : fo 16384 k = ⟨k, hk⟩ := Fin.ext (fo_val hk)
    unfold scoreR raw
    rw [en, eq, ek, scl_eq]
    generalize cR / Real.log 2 = s
    have h1 : ∀ d : Fin 128, (A2 m c (ix4 0 ⟨k, hk⟩ ⟨n, hn⟩ d) : EReal) * ((A0 m c (ix4 0 ⟨q, hq⟩ ⟨n, hn⟩ d) : EReal) * (s : EReal))
        = ((s * ((A0 m c (ix4 0 ⟨q, hq⟩ ⟨n, hn⟩ d)).toReal * (A2 m c (ix4 0 ⟨k, hk⟩ ⟨n, hn⟩ d)).toReal) : ℝ) : EReal) := fun d => by
      have x0 := R.a0 (ix4 0 ⟨q, hq⟩ ⟨n, hn⟩ d)
      have x2 := R.a2 (ix4 0 ⟨k, hk⟩ ⟨n, hn⟩ d)
      generalize A0 m c (ix4 0 ⟨q, hq⟩ ⟨n, hn⟩ d) = y0 at x0 ⊢
      generalize A2 m c (ix4 0 ⟨k, hk⟩ ⟨n, hn⟩ d) = y2 at x2 ⊢
      rw [x0, x2, ← EReal.coe_mul, ← EReal.coe_mul, EReal.toReal_coe, EReal.toReal_coe]
      congr 1; ring
    have h2 : ∀ d : Fin 64, (A3 m c (ix3 0 ⟨k, hk⟩ d) : EReal) * ((A1 m c (ix4 0 ⟨q, hq⟩ ⟨n, hn⟩ d) : EReal) * (s : EReal))
        = ((s * ((A3 m c (ix3 0 ⟨k, hk⟩ d)).toReal * (A1 m c (ix4 0 ⟨q, hq⟩ ⟨n, hn⟩ d)).toReal) : ℝ) : EReal) := fun d => by
      have x0 := R.a1 (ix4 0 ⟨q, hq⟩ ⟨n, hn⟩ d)
      have x2 := R.a3 (ix3 0 ⟨k, hk⟩ d)
      generalize A1 m c (ix4 0 ⟨q, hq⟩ ⟨n, hn⟩ d) = y0 at x0 ⊢
      generalize A3 m c (ix3 0 ⟨k, hk⟩ d) = y2 at x2 ⊢
      rw [x0, x2, ← EReal.coe_mul, ← EReal.coe_mul, EReal.toReal_coe, EReal.toReal_coe]
      congr 1; ring
    rw [Finset.sum_congr rfl fun d _ => h1 d, Finset.sum_congr rfl fun d _ => h2 d]
    have x5 := R.a5 (ix2 ⟨q, hq⟩ ⟨n, hn⟩)
    generalize A5 m c (ix2 ⟨q, hq⟩ ⟨n, hn⟩) = y5 at x5 ⊢
    rw [x5, EReal.toReal_coe, ← ereal_coe_sum, ← ereal_coe_sum, ← EReal.coe_neg, ← EReal.coe_add, ← EReal.coe_add]
    congr 1
    rw [← Finset.mul_sum, ← Finset.mul_sum]
    ring
  word := word_eq m

open Cert.ReferenceIdeal.Read in
/-- The reference's result on the kernel's arguments. -/
def refOut (c : Dev nD) : S16384x2048.Idx → Elt Ideal .bf16 :=
  val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- Its entry of a head, a query and a lane. -/
def resR (c : Dev nD) (n q : ℕ) (d : Fin 128) : EReal := refOut m c (ix2 (fo 16384 q) (fo 2048 (128 * n + d.val)))

theorem outA_resR (c : Dev nD) : outA (resR m) c = refOut m c := by
  funext i
  show refOut m c (ix2 (fo 16384 (i 0).val) (fo 2048 (128 * ((i 1).val / 128) + (i 1).val % 128))) = refOut m c i
  congr 1
  have h0 : (i 0).val < 16384 := (i 0).isLt
  have h1 : (i 1).val < 2048 := (i 1).isLt
  funext a
  refine Fin.ext ?_
  match a with
  | ⟨0, _⟩ => exact fo_val (n := 16384) h0
  | ⟨1, _⟩ =>
    have e : 128 * ((i 1).val / 128) + (i 1).val % 128 = (i 1).val := by omega
    exact (congrArg (fun x => (fo 2048 x).val) e).trans (fo_val (n := 2048) h1)

theorem quotient_res (c : Dev nD) (R : RealArgs m c) (M : ℝ) (n q : ℕ) (d : Fin 128) (hn : n < 16) (hq : q < 16384) :
    Ideal.div (∑ k ∈ Finset.range (1024 * (q / 1024 + 1)), vals m c n d k * (wt M q (scoreR m c n q) k : EReal))
        (∑ k ∈ Finset.range (1024 * (q / 1024 + 1)), (wt M q (scoreR m c n q) k : EReal)) = resR m c n q d := by
  have en : fo 16 n = ⟨n, hn⟩ := Fin.ext (fo_val hn)
  have eq : fo 16384 q = ⟨q, hq⟩ := Fin.ext (fo_val hq)
  have hx : ∀ k : Fin 16384, (Cert.ReferenceIdeal.Read.val_main_v5 (F := Ideal) (m ((c.tc : Thread nD τ).loc main_arg0)) (m ((c.tc : Thread nD τ).loc main_arg1)) (m ((c.tc : Thread nD τ).loc main_arg2)) (m ((c.tc : Thread nD τ).loc main_arg3)) (ix4 0 (⟨n, hn⟩ : Fin 16) (⟨q, hq⟩ : Fin 16384) k) : EReal)
      = ((raw m c n q k.val * cR : ℝ) : EReal) := fun k => by
    rw [Cert.ReferenceIdeal.Soft.v5_at, cR_eq, EReal.coe_mul]
    refine congrArg (· * (cR : EReal)) ?_
    unfold raw
    rw [en, eq, fo_fin k, EReal.coe_add, ereal_coe_sum, ereal_coe_sum]
    refine congrArg₂ (· + ·) (Finset.sum_congr rfl fun d _ => ?_) (Finset.sum_congr rfl fun d _ => ?_)
    · rw [EReal.coe_mul, ← R.a0, ← R.a2]
    · rw [EReal.coe_mul, ← R.a3, ← R.a1]
  obtain ⟨X, hX⟩ := Cert.ReferenceIdeal.Soft.v28_at (m ((c.tc : Thread nD τ).loc main_arg4)) ⟨n, hn⟩ ⟨q, hq⟩ (fun k => raw m c n q k * cR) hx
  have hl := log2_pos
  have hw : ∀ k, k ≤ q → Real.rpow 2 (scoreR m c n q k - M)
      = Real.exp (X - Real.log 2 * ((A5 m c (ix2 (fo 16384 q) (fo 16 n))).toReal + M)) * Real.exp (raw m c n q k * cR - X) := fun k _ => by
    show (2 : ℝ) ^ (scoreR m c n q k - M) = _
    rw [Real.rpow_def_of_pos (by norm_num), ← Real.exp_add]
    congr 1
    unfold scoreR
    field_simp
    ring
  rw [quotient_softmax (N := 16384) (by omega) (by omega) M X _ (scoreR m c n q) (fun k => raw m c n q k * cR) (vals m c n d) (Real.exp_pos _) hw]
  have e := hX (ix2 (fo 16384 q) (fo 2048 (128 * n + d.val))) d (fo_val (n := 16384) hq) (fo_val (n := 2048) (by omega))
  refine Eq.trans ?_ e.symm
  refine Finset.sum_congr rfl fun k _ => congrArg₂ (· * ·) rfl ?_
  exact vals_eq m c k ⟨n, hn⟩ d

/-- The kernel's run: it ends, its result is the reference's, its arguments are unchanged. -/
theorem value (ρ : Dev nD → PrngReg) (h : Cert.Pre_KernelIdeal_finite_scores (hPre_finite_scores := Cert.Pre_finite_scores.Gen.facts) m) :
    θ_run (defs (F := Ideal)) (onTc (τ := τ) (main (F := Ideal))) ⟨m, fun _ => 0, ρ⟩ (fun r => ∀ c : Dev nD,
      r.2.mem ((c.tc : Thread nD τ).loc main_v41) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono
    (fun _ hp c => ⟨(out_main m (resR m) hp.1 c).trans (outA_resR m c), unchanged m _ _ hp.1 c⟩)
    (run_main m (InvA m (scoreR m)) (OutA m (resR m)) ρ
      (fun _ _ _ _ u hu hk => absurd (sched_start _ ((jx_val m u).trans (by rw [hu]; rfl))) hk)
      (fun c => keepsA m (scoreR m) (resR m) c (reals m c (realArgs m h c)) fun M n q d hn hq => quotient_res m c (realArgs m h c) M n q d hn hq))

end Cert.KernelIdeal.Attn

end
-- ==== Proof.Ffn.Elem.lean ====
module

public import proofs.«01_k».proof.Proof.Gen.Kernel2Ideal.Value
public import Idealize.ShloMosaic.Lib.Pointwise

@[expose] public section

set_option maxRecDepth 16384

noncomputable section

namespace Cert.Kernel2Ideal.Ffn

open Cert.Kernel2Ideal Cert.Kernel2Ideal.Gen Idealize.ShloMosaic

/-! The vector expressions of the feed-forward kernel over the extended reals, entry by entry. -/

/-- A gated hidden unit from the two products. -/
def act (g u : EReal) : EReal := g * Ideal.logistic g * u

theorem pay1_apply (p : Fin 1024) (e : Fin 2048) : k0_pay1 (F := Ideal) (ix2 p e) = (0 : EReal) := by
  pointwise [k0_pay1]

theorem pay2_apply (h : Vec Ideal S1024x2048 .f32) (wg wu : Vec Ideal S2048x512 .bf16) (acc : Vec Ideal S1024x2048 .f32) (wd : Vec Ideal S512x2048 .bf16)
    (p : Fin 1024) (e : Fin 2048) :
    k0_pay2 (F := Ideal) h wg wu acc wd (ix2 p e) = (acc (ix2 p e) : EReal)
      + ∑ f : Fin 512, act (∑ k : Fin 2048, (h (ix2 p k) : EReal) * wg (ix2 k f)) (∑ k : Fin 2048, (h (ix2 p k) : EReal) * wu (ix2 k f)) * wd (ix2 f e) := by
  pointwise [k0_pay2]
  rfl

/-- Layer normalization of the row `y`, at the entry `e`. -/
def ln (y : Fin 2048 → EReal) (g b : EReal) (e : Fin 2048) : EReal :=
  (y e - Ideal.div (∑ k, y k) (Ideal.ofBits .f32 0x45000000#32))
    * Ideal.rsqrt (Ideal.div (∑ k, (y k - Ideal.div (∑ l, y l) (Ideal.ofBits .f32 0x45000000#32)) * (y k - Ideal.div (∑ l, y l) (Ideal.ofBits .f32 0x45000000#32)))
        (Ideal.ofBits .f32 0x45000000#32) + Ideal.ofBits .f32 0x3727C5AC#32) * g + b

theorem pay3_apply (h acc : Vec Ideal S1024x2048 .f32) (g b : Vec Ideal S1x2048 .f32) (p : Fin 1024) (e : Fin 2048) :
    k0_pay3 (F := Ideal) h acc g b (ix2 p e)
      = ln (fun k => Ideal.ofBits .f32 0x3F9837F0#32 * h (ix2 p k) + acc (ix2 p k)) (g (ix2 0 e)) (b (ix2 0 e)) e := by
  pointwise [k0_pay3]
  rfl

end Cert.Kernel2Ideal.Ffn

end
-- ==== Proof.Ffn.Blocks.lean ====
module

public import proofs.«01_k».proof.Proof.Ffn.Elem
public import Idealize.ShloMosaic.Lib.Tactic

@[expose] public section

set_option maxRecDepth 16384

noncomputable section

namespace Cert.Kernel2Ideal.Ffn

open Cert.Kernel2Ideal Cert.Kernel2Ideal.Gen Idealize.ShloMosaic Idealize.ShloMosaic.TcCoe Idealize.ShloMosaic.Tactic

variable (m : (ℓ : Loc nD τ sig) → Buf (Elt Ideal) ℓ)

/-! The blocks of the feed-forward kernel's inputs, entry by entry. -/

abbrev H (c : Dev nD) (i : S1x16384x2048.Idx) : EReal := m ((c.tc : Thread nD τ).loc main_arg0) i
abbrev Wg (c : Dev nD) (i : S2048x5632.Idx) : EReal := m ((c.tc : Thread nD τ).loc main_arg1) i
abbrev Wu (c : Dev nD) (i : S2048x5632.Idx) : EReal := m ((c.tc : Thread nD τ).loc main_arg2) i
abbrev Wd (c : Dev nD) (i : S5632x2048.Idx) : EReal := m ((c.tc : Thread nD τ).loc main_arg3) i
abbrev Gm (c : Dev nD) (i : S2048.Idx) : EReal := m ((c.tc : Thread nD τ).loc main_arg4) i
abbrev Bt (c : Dev nD) (i : S2048.Idx) : EReal := m ((c.tc : Thread nD τ).loc main_arg5) i

theorem V0 (c : Dev nD) : V m c main_v0 = shapeCast S16384x2048 (m ((c.tc : Thread nD τ).loc main_arg0)) shapeCasts_S1x16384x2048_S16384x2048 := by
  show StableHlo.after hostOps0 (fun b => m (c, b)) main_v0 = _
  after_results
  first | done | rfl
theorem V1 (c : Dev nD) : V m c main_v1 = truncf (F := Ideal) (s := S2048x5632) (φ := .f32) .bf16 (m ((c.tc : Thread nD τ).loc main_arg1)) bitsLt_bf16_f32 := by
  show StableHlo.after hostOps0 (fun b => m (c, b)) main_v1 = _
  after_results
  first | done | rfl
theorem V2 (c : Dev nD) : V m c main_v2 = truncf (F := Ideal) (s := S2048x5632) (φ := .f32) .bf16 (m ((c.tc : Thread nD τ).loc main_arg2)) bitsLt_bf16_f32 := by
  show StableHlo.after hostOps0 (fun b => m (c, b)) main_v2 = _
  after_results
  first | done | rfl
theorem V3 (c : Dev nD) : V m c main_v3 = truncf (F := Ideal) (s := S5632x2048) (φ := .f32) .bf16 (m ((c.tc : Thread nD τ).loc main_arg3)) bitsLt_bf16_f32 := by
  show StableHlo.after hostOps0 (fun b => m (c, b)) main_v3 = _
  after_results
  first | done | rfl
theorem V4 (c : Dev nD) : V m c main_v4 = shapeCast S1x2048 (m ((c.tc : Thread nD τ).loc main_arg4)) shapeCasts_S2048_S1x2048 := by
  show StableHlo.after hostOps0 (fun b => m (c, b)) main_v4 = _
  after_results
  first | done | rfl
theorem V5 (c : Dev nD) : V m c main_v5 = shapeCast S1x2048 (m ((c.tc : Thread nD τ).loc main_arg5)) shapeCasts_S2048_S1x2048 := by
  show StableHlo.after hostOps0 (fun b => m (c, b)) main_v5 = _
  after_results
  first | done | rfl

theorem rows_cast (X : S1x16384x2048.Idx → Elt Ideal .f32) (r : Fin 16384) (k : Fin 2048) :
    shapeCast S16384x2048 X shapeCasts_S1x16384x2048_S16384x2048 (ix2 r k) = X (ix3 0 r k) :=
  shapeCast_apply X shapeCasts_S1x16384x2048_S16384x2048 (ix2 r k) (ix3 0 r k)
    (by rewrite [Shape.rowMajor_val_three, Shape.rowMajor_val_two]; show (0 * 16384 + r.val) * 2048 + k.val = r.val * 2048 + k.val; omega)

theorem vec_cast (X : S2048.Idx → Elt Ideal .f32) (e : Fin 2048) :
    shapeCast S1x2048 X shapeCasts_S2048_S1x2048 (ix2 0 e) = X (ix1 e) := by
  pointwise

theorem index_facts : ∀ t : Fin cfg0.N, (win0_0.index t (0 : Fin 2) = t.val / 11 ∧ win0_0.index t (1 : Fin 2) = 0)
    ∧ (win0_1.index t (0 : Fin 2) = 0 ∧ win0_1.index t (1 : Fin 2) = t.val % 11)
    ∧ (win0_2.index t (0 : Fin 2) = 0 ∧ win0_2.index t (1 : Fin 2) = t.val % 11)
    ∧ (win0_3.index t (0 : Fin 2) = t.val % 11 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem blk0 (c : Dev nD) (t : Fin cfg0.N) (p : Fin 1024) (k : Fin 2048) (r : Fin 16384) (hr : r.val = 1024 * (t.val / 11) + p.val) :
    (iblk m c 0 t : Vec Ideal S1024x2048 .f32) (ix2 p k) = H m c (ix3 0 r k) := by
  obtain ⟨⟨e0, e1⟩, -⟩ := index_facts t
  show V m c main_v0 (((cfg0.win 0).blk t).view.emb (ix2 p k)) = _
  have e : ((cfg0.win 0).blk t).view.emb (ix2 p k) = ix2 r k := by
    funext a
    refine Fin.ext ?_
    match a with
    | ⟨0, _⟩ => show win0_0.index t (0 : Fin 2) * 1024 + 1 * p.val = r.val; omega
    | ⟨1, _⟩ => show win0_0.index t (1 : Fin 2) * 2048 + 1 * k.val = k.val; omega
  rw [e, V0]
  exact rows_cast _ r k

theorem blk1 (c : Dev nD) (t : Fin cfg0.N) (k : Fin 2048) (f : Fin 512) (g : Fin 5632) (hg : g.val = t.val % 11 * 512 + f.val) :
    (iblk m c 1 t : Vec Ideal S2048x512 .bf16) (ix2 k f) = Wg m c (ix2 k g) := by
  obtain ⟨-, ⟨e0, e1⟩, -⟩ := index_facts t
  show V m c main_v1 (((cfg0.win 1).blk t).view.emb (ix2 k f)) = _
  have e : ((cfg0.win 1).blk t).view.emb (ix2 k f) = ix2 k g := by
    funext a
    refine Fin.ext ?_
    match a with
    | ⟨0, _⟩ => show win0_1.index t (0 : Fin 2) * 2048 + 1 * k.val = k.val; omega
    | ⟨1, _⟩ => show win0_1.index t (1 : Fin 2) * 512 + 1 * f.val = g.val; omega
  rw [e, V1]
  rfl

theorem blk2 (c : Dev nD) (t : Fin cfg0.N) (k : Fin 2048) (f : Fin 512) (g : Fin 5632) (hg : g.val = t.val % 11 * 512 + f.val) :
    (iblk m c 2 t : Vec Ideal S2048x512 .bf16) (ix2 k f) = Wu m c (ix2 k g) := by
  obtain ⟨-, -, ⟨e0, e1⟩, -⟩ := index_facts t
  show V m c main_v2 (((cfg0.win 2).blk t).view.emb (ix2 k f)) = _
  have e : ((cfg0.win 2).blk t).view.emb (ix2 k f) = ix2 k g := by
    funext a
    refine Fin.ext ?_
    match a with
    | ⟨0, _⟩ => show win0_2.index t (0 : Fin 2) * 2048 + 1 * k.val = k.val; omega
    | ⟨1, _⟩ => show win0_2.index t (1 : Fin 2) * 512 + 1 * f.val = g.val; omega
  rw [e, V2]
  rfl

theorem blk3 (c : Dev nD) (t : Fin cfg0.N) (f : Fin 512) (e : Fin 2048) (g : Fin 5632) (hg : g.val = t.val % 11 * 512 + f.val) :
    (iblk m c 3 t : Vec Ideal S512x2048 .bf16) (ix2 f e) = Wd m c (ix2 g e) := by
  obtain ⟨-, -, -, ⟨e0, e1⟩, -⟩ := index_facts t
  show V m c main_v3 (((cfg0.win 3).blk t).view.emb (ix2 f e)) = _
  have h : ((cfg0.win 3).blk t).view.emb (ix2 f e) = ix2 g e := by
    funext a
    refine Fin.ext ?_
    match a with
    | ⟨0, _⟩ => show win0_3.index t (0 : Fin 2) * 512 + 1 * f.val = g.val; omega
    | ⟨1, _⟩ => show win0_3.index t (1 : Fin 2) * 2048 + 1 * e.val = e.val; omega
  rw [h, V3]
  rfl

theorem blk4 (c : Dev nD) (t : Fin cfg0.N) (e : Fin 2048) :
    (iblk m c 4 t : Vec Ideal S1x2048 .f32) (ix2 0 e) = Gm m c (ix1 e) := by
  obtain ⟨-, -, -, -, ⟨e0, e1⟩, -⟩ := index_facts t
  show V m c main_v4 (((cfg0.win 4).blk t).view.emb (ix2 0 e)) = _
  have h : ((cfg0.win 4).blk t).view.emb (ix2 0 e) = ix2 0 e := by
    funext a
    refine Fin.ext ?_
    match a with
    | ⟨0, _⟩ => show win0_4.index t (0 : Fin 2) * 1 + 1 * 0 = 0; omega
    | ⟨1, _⟩ => show win0_4.index t (1 : Fin 2) * 2048 + 1 * e.val = e.val; omega
  rw [h, V4]
  exact vec_cast _ e

theorem blk5 (c : Dev nD) (t : Fin cfg0.N) (e : Fin 2048) :
    (iblk m c 5 t : Vec Ideal S1x2048 .f32) (ix2 0 e) = Bt m c (ix1 e) := by
  obtain ⟨-, -, -, -, -, ⟨e0, e1⟩⟩ := index_facts t
  show V m c main_v5 (((cfg0.win 5).blk t).view.emb (ix2 0 e)) = _
  have h : ((cfg0.win 5).blk t).view.emb (ix2 0 e) = ix2 0 e := by
    funext a
    refine Fin.ext ?_
    match a with
    | ⟨0, _⟩ => show win0_5.index t (0 : Fin 2) * 1 + 1 * 0 = 0; omega
    | ⟨1, _⟩ => show win0_5.index t (1 : Fin 2) * 2048 + 1 * e.val = e.val; omega
  rw [h, V5]
  exact vec_cast _ e

end Cert.Kernel2Ideal.Ffn

end
-- ==== Proof.Ffn.Ref.lean ====
module

public import proofs.«01_k».proof.Proof.Gen.Reference2Ideal.Read
public import proofs.«01_k».proof.Proof.Ffn.Elem

@[expose] public section

set_option maxRecDepth 16384

noncomputable section

namespace Cert.Reference2Ideal.Ffn

open Cert.Reference2Ideal Cert.Reference2Ideal.Gen Cert.Reference2Ideal.Read Idealize.ShloMosaic
open Cert.Kernel2Ideal.Ffn (act ln)

/-! The reference's feed-forward sublayer, entry by entry. -/

variable (x0 : S1x16384x2048.Idx → Elt Ideal .f32) (x1 x2 : S2048x5632.Idx → Elt Ideal .f32) (x3 : S5632x2048.Idx → Elt Ideal .f32)
  (x4 x5 : S2048.Idx → Elt Ideal .f32)

theorem one_word : Ideal.ofBits .f32 0x3F800000#32 = (1 : EReal) := by
  simp [Ideal.ofBits, Ideal.ieee, -EReal.coe_mul]; norm_num

theorem zero_word : Ideal.ofBits .f32 0x00000000#32 = (0 : EReal) := by
  simp [Ideal.ofBits, Ideal.ieee]

theorem v3_at (r : Fin 16384) (g : Fin 5632) : (val_main_v3 (F := Ideal) x0 x1 x2 (ix3 0 r g) : EReal)
    = act (∑ k : Fin 2048, (x0 (ix3 0 r k) : EReal) * x1 (ix2 k g)) (∑ k : Fin 2048, (x0 (ix3 0 r k) : EReal) * x2 (ix2 k g)) := by
  rw [val_main_v3_apply, val_main_v1_apply, val_main_call0_v5_apply, val_main_call0_v4_apply, val_main_call0_cst_0_apply, val_main_call0_v3_apply,
    val_main_call0_v2_apply, val_main_call0_cst_apply, val_main_call0_v1_apply, val_main_call0_v0_apply, val_main_v0_apply, val_main_v2_apply]
  have e0 : ∀ k, lidx_main_v0 (ix3 0 r g) k = ix3 0 r k := fun k => by funext a; match a with | ⟨0, _⟩ => rfl | ⟨1, _⟩ => rfl | ⟨2, _⟩ => rfl
  have e1 : ∀ k, ridx_main_v0 (ix3 0 r g) k = ix2 k g := fun k => by funext a; match a with | ⟨0, _⟩ => rfl | ⟨1, _⟩ => rfl
  have e2 : ∀ k, lidx_main_v2 (ix3 0 r g) k = ix3 0 r k := fun k => by funext a; match a with | ⟨0, _⟩ => rfl | ⟨1, _⟩ => rfl | ⟨2, _⟩ => rfl
  have e3 : ∀ k, ridx_main_v2 (ix3 0 r g) k = ix2 k g := fun k => by funext a; match a with | ⟨0, _⟩ => rfl | ⟨1, _⟩ => rfl
  simp only [e0, e1, e2, e3]
  generalize (∑ k : Fin 2048, (x0 (ix3 0 r k) : EReal) * x1 (ix2 k g)) = G
  generalize (∑ k : Fin 2048, (x0 (ix3 0 r k) : EReal) * x2 (ix2 k g)) = U
  show G * Ideal.div (Ideal.ofBits .f32 0x3F800000#32) (Ideal.ofBits .f32 0x3F800000#32 + Ideal.exp (-G)) * U = G * Ideal.div 1 (1 + Ideal.exp (-G)) * U
  rw [one_word]

/-- The row that is normalized. -/
def row (r : Fin 16384) (e : Fin 2048) : EReal :=
  Ideal.ofBits .f32 0x3F9837F0#32 * (x0 (ix3 0 r e) : EReal)
    + ∑ g : Fin 5632, act (∑ k : Fin 2048, (x0 (ix3 0 r k) : EReal) * x1 (ix2 k g)) (∑ k : Fin 2048, (x0 (ix3 0 r k) : EReal) * x2 (ix2 k g)) * (x3 (ix2 g e) : EReal)

theorem v7_at (r : Fin 16384) (e : Fin 2048) : (val_main_v7 (F := Ideal) x0 x1 x2 x3 (ix3 0 r e) : EReal) = row x0 x1 x2 x3 r e := by
  rw [val_main_v7_apply, val_main_v6_apply, val_main_v5_apply, val_main_cst_apply, val_main_v4_apply]
  have e0 : ∀ g, lidx_main_v4 (ix3 0 r e) g = ix3 0 r g := fun k => by funext a; match a with | ⟨0, _⟩ => rfl | ⟨1, _⟩ => rfl | ⟨2, _⟩ => rfl
  have e1 : ∀ g, ridx_main_v4 (ix3 0 r e) g = ix2 g e := fun k => by funext a; match a with | ⟨0, _⟩ => rfl | ⟨1, _⟩ => rfl
  simp only [e0, e1, v3_at]
  rfl

theorem v11_at (r : Fin 16384) : (val_main_v11 (F := Ideal) x0 x1 x2 x3 (ix3 0 r 0) : EReal)
    = Ideal.div (∑ k, row x0 x1 x2 x3 r k) (Ideal.ofBits .f32 0x45000000#32) := by
  rw [val_main_v11_apply, val_main_v9_apply, val_main_v10_apply, val_main_cst_1_apply, val_main_v8_apply, val_main_cst_0_apply]
  have e0 : ∀ k, idx_main_v8 (idx_main_v9 (ix3 0 r 0)) k = ix3 0 r k := fun k => by funext a; match a with | ⟨0, _⟩ => rfl | ⟨1, _⟩ => rfl | ⟨2, _⟩ => rfl
  simp only [e0, v7_at]
  show Ideal.div (Ideal.ofBits .f32 0x00000000#32 + _) _ = _
  rw [zero_word, zero_add]
  rfl

theorem v13_at (r : Fin 16384) (e : Fin 2048) : (val_main_v13 (F := Ideal) x0 x1 x2 x3 (ix3 0 r e) : EReal)
    = row x0 x1 x2 x3 r e - Ideal.div (∑ k, row x0 x1 x2 x3 r k) (Ideal.ofBits .f32 0x45000000#32) := by
  rw [val_main_v13_apply, val_main_v12_apply, v7_at]
  have e0 : idx_main_v12 (ix3 0 r e) = ix3 0 r 0 := by funext a; match a with | ⟨0, _⟩ => rfl | ⟨1, _⟩ => rfl | ⟨2, _⟩ => rfl
  rw [e0, v11_at]
  rfl

theorem v20_at (r : Fin 16384) (e : Fin 2048) : (val_main_v20 (F := Ideal) x0 x1 x2 x3 (ix3 0 r e) : EReal)
    = row x0 x1 x2 x3 r e - Ideal.div (∑ k, row x0 x1 x2 x3 r k) (Ideal.ofBits .f32 0x45000000#32) := by
  rw [val_main_v20_apply, val_main_v19_apply, v7_at]
  have e0 : idx_main_v19 (ix3 0 r e) = ix3 0 r 0 := by funext a; match a with | ⟨0, _⟩ => rfl | ⟨1, _⟩ => rfl | ⟨2, _⟩ => rfl
  rw [e0, v11_at]
  rfl

theorem v23_at (r : Fin 16384) : (val_main_v23 (F := Ideal) x0 x1 x2 x3 (ix3 0 r 0) : EReal)
    = Ideal.rsqrt (Ideal.div (∑ k, (row x0 x1 x2 x3 r k - Ideal.div (∑ l, row x0 x1 x2 x3 r l) (Ideal.ofBits .f32 0x45000000#32)) * (row x0 x1 x2 x3 r k - Ideal.div (∑ l, row x0 x1 x2 x3 r l) (Ideal.ofBits .f32 0x45000000#32)))
        (Ideal.ofBits .f32 0x45000000#32) + Ideal.ofBits .f32 0x3727C5AC#32) := by
  rw [val_main_v23_apply, val_main_v22_apply, val_main_v21_apply, val_main_cst_4_apply, val_main_v18_apply, val_main_v17_apply, val_main_cst_3_apply, val_main_v16_apply, val_main_v15_apply, val_main_cst_2_apply]
  have e0 : ∀ k, idx_main_v15 (idx_main_v16 (ix3 0 r 0)) k = ix3 0 r k := fun k => by funext a; match a with | ⟨0, _⟩ => rfl | ⟨1, _⟩ => rfl | ⟨2, _⟩ => rfl
  simp only [e0, val_main_v14_apply, v13_at]
  show Ideal.rsqrt (Ideal.div (Ideal.ofBits .f32 0x00000000#32 + _) _ + _) = _
  rw [zero_word, zero_add]
  rfl

theorem v32_at (r : Fin 16384) (e : Fin 2048) : (val_main_v32 (F := Ideal) x0 x1 x2 x3 x4 x5 (ix2 r e) : EReal)
    = ln (row x0 x1 x2 x3 r) (x4 (ix1 e)) (x5 (ix1 e)) e := by
  have ei : idx_main_v32 (ix2 r e) = ix3 0 r e := by
    have hr := r.isLt
    have he := e.isLt
    funext a
    refine Fin.ext ?_
    match a with
    | ⟨0, _⟩ => rfl
    | ⟨1, _⟩ => show (r.val * 2048 + e.val) / 2048 % 16384 = r.val; omega
    | ⟨2, _⟩ => show (r.val * 2048 + e.val) % 2048 = e.val; omega
  have e24 : idx_main_v24 (ix3 0 r e) = ix3 0 r 0 := by funext a; match a with | ⟨0, _⟩ => rfl | ⟨1, _⟩ => rfl | ⟨2, _⟩ => rfl
  have e26 : idx_main_v26 (idx_main_v27 (ix3 0 r e)) = ix1 e := by funext a; match a with | ⟨0, _⟩ => rfl
  have e29 : idx_main_v29 (idx_main_v30 (ix3 0 r e)) = ix1 e := by funext a; match a with | ⟨0, _⟩ => rfl
  rw [val_main_v32_apply, ei, val_main_v31_apply, val_main_v30_apply, val_main_v29_apply, val_main_v28_apply, val_main_v27_apply, val_main_v26_apply, val_main_v25_apply,
    val_main_v24_apply, e24, e26, e29, v20_at, v23_at]
  rfl

end Cert.Reference2Ideal.Ffn

end
-- ==== Proof.Ffn.Value.lean ====
module

public import proofs.«01_k».proof.Proof.Ffn.Blocks
public import proofs.«01_k».proof.Proof.Ffn.Ref

@[expose] public section

set_option maxRecDepth 16384

noncomputable section

namespace Cert.Kernel2Ideal.Ffn

open Cert.Kernel2Ideal Cert.Kernel2Ideal.Gen Cert.Kernel2Ideal.Value Idealize.ShloMosaic Idealize.ShloMosaic.TcCoe

variable (m : (ℓ : Loc nD τ sig) → Buf (Elt Ideal) ℓ)

/-! The feed-forward kernel's result: the sum over the hidden units, taken in eleven tiles, then the layer normalization. -/

/-- Row `r`'s hidden unit `g` times the unit's weight to the entry `e`. -/
def term (c : Dev nD) (r : Fin 16384) (e : Fin 2048) (g : Fin 5632) : EReal :=
  act (∑ k : Fin 2048, H m c (ix3 0 r k) * Wg m c (ix2 k g)) (∑ k : Fin 2048, H m c (ix3 0 r k) * Wu m c (ix2 k g)) * Wd m c (ix2 g e)

/-- A sum over the tiles, tile by tile. -/
theorem sum_tiles {N : ℕ} (J T : ℕ) (hN : J * T = N) (f : Fin N → EReal) (A : ℕ → EReal)
    (hA : ∀ j : Fin J, A j = ∑ t : Fin T, f ⟨j.val * T + t.val, by
      have hj := j.isLt; have ht := t.isLt; subst hN
      calc j.val * T + t.val < j.val * T + T := by omega
        _ = (j.val + 1) * T := by rw [Nat.add_mul, Nat.one_mul]
        _ ≤ J * T := Nat.mul_le_mul_right T hj⟩) : ∑ i ∈ Finset.range J, A i = ∑ k, f k := by
  rw [Fin.sum_univ_tiles J T hN f, ← Fin.sum_univ_eq_sum_range]
  exact Finset.sum_congr rfl fun j _ => hA j

/-- What a point of the grid adds. -/
theorem pay2_at (c : Dev nD) (t : Fin cfg0.N) (acc : Vec Ideal S1024x2048 .f32) (p : Fin 1024) (e : Fin 2048) (r : Fin 16384)
    (hr : r.val = 1024 * (t.val / 11) + p.val) :
    k0_pay2 (F := Ideal) (iblk m c 0 t) (iblk m c 1 t) (iblk m c 2 t) acc (iblk m c 3 t) (ix2 p e)
      = (acc (ix2 p e) : EReal) + ∑ f : Fin 512, term m c r e ⟨t.val % 11 * 512 + f.val, by omega⟩ := by
  rw [pay2_apply]
  refine congrArg (_ + ·) (Finset.sum_congr rfl fun f _ => ?_)
  unfold term
  refine congrArg₂ (· * ·) (congrArg₂ act (Finset.sum_congr rfl fun k _ => congrArg₂ (· * ·) ?_ ?_) (Finset.sum_congr rfl fun k _ => congrArg₂ (· * ·) ?_ ?_)) ?_
  · exact blk0 m c t p k r hr
  · exact blk1 m c t k f _ rfl
  · exact blk0 m c t p k r hr
  · exact blk2 m c t k f _ rfl
  · exact blk3 m c t f e _ rfl

theorem step_mid (c : Dev nD) (n : ℕ) (h : n < cfg0.N) (acc : Vec Ideal S1024x2048 .f32) (h0 : ¬n % 11 = 0) (h1 : ¬n % 11 = 10) :
    step6 m c n h acc = k0_pay2 (iblk m c 0 ⟨n, h⟩) (iblk m c 1 ⟨n, h⟩) (iblk m c 2 ⟨n, h⟩) acc (iblk m c 3 ⟨n, h⟩) := if_pos ⟨h0, h1⟩

theorem step_last (c : Dev nD) (n : ℕ) (h : n < cfg0.N) (acc : Vec Ideal S1024x2048 .f32) (h0 : ¬n % 11 = 0) (h1 : n % 11 = 10) :
    step6 m c n h acc = k0_pay3 (iblk m c 0 ⟨n, h⟩) (k0_pay2 (iblk m c 0 ⟨n, h⟩) (iblk m c 1 ⟨n, h⟩) (iblk m c 2 ⟨n, h⟩) acc (iblk m c 3 ⟨n, h⟩))
      (iblk m c 4 ⟨n, h⟩) (iblk m c 5 ⟨n, h⟩) := (if_neg fun h => h.2 h1).trans (if_pos ⟨h0, h1⟩)

theorem fold_at (c : Dev nD) (q : ℕ) (p : Fin 1024) (e : Fin 2048) (r : Fin 16384) (hr : r.val = 1024 * q + p.val) :
    ∀ (j : ℕ) (hj : j ≤ 9) (h : 11 * q + j < cfg0.N),
      (Pipeline.accAt (reset6 m c) (step6 m c) (11 * q) j h) (ix2 p e)
        = (∑ i ∈ Finset.range (j + 1), ∑ f : Fin 512, term m c r e ⟨i % 11 * 512 + f.val, by omega⟩ : EReal) := by
  intro j
  induction j with
  | zero =>
    intro _ h
    rw [Pipeline.accAt_zero]
    unfold reset6
    rw [pay2_at m c ⟨11 * q, h⟩ _ p e r (by rw [hr]; show _ = 1024 * (11 * q / 11) + _; omega), pay1_apply, zero_add, Finset.sum_range_one]
    refine Finset.sum_congr rfl fun f _ => congrArg (term m c r e) (Fin.ext ?_)
    show 11 * q % 11 * 512 + f.val = 0 % 11 * 512 + f.val
    omega
  | succ j ih =>
    intro hj h
    rw [Pipeline.accAt_succ]
    rw [step_mid m c _ _ _ (by omega) (by omega), pay2_at m c ⟨11 * q + (j + 1), h⟩ _ p e r (by rw [hr]; show _ = 1024 * ((11 * q + (j + 1)) / 11) + _; omega), ih (by omega),
      Finset.sum_range_succ _ (j + 1)]
    refine congrArg (_ + ·) (Finset.sum_congr rfl fun f _ => congrArg (term m c r e) (Fin.ext ?_))
    show (11 * q + (j + 1)) % 11 * 512 + f.val = (j + 1) % 11 * 512 + f.val
    omega

/-- The reference's result, from the kernel's arguments. -/
def refOut (c : Dev nD) : Buf (Elt Ideal) ((c : Thread nD τ).loc main_v6) :=
  Cert.Reference2Ideal.Read.val_main_v32 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))

theorem out_eq (c : Dev nD) : G6 m c = refOut m c := by
  funext i
  obtain ⟨r, e, rfl⟩ : ∃ (r : Fin 16384) (e : Fin 2048), i = ix2 r e := ⟨i 0, i 1, by funext a; match a with | ⟨0, _⟩ => rfl | ⟨1, _⟩ => rfl⟩
  have hr := r.isLt
  have he := e.isLt
  have hrun : run6Of (ix2 r e) = r.val / 1024 := by
    show 1 * (r.val / 1024 - 0) + 1 * (e.val / 2048 - 0) = _
    omega
  have hlt : 11 * (r.val / 1024) + 10 < cfg0.N := by rw [show cfg0.N = 176 from N_0]; omega
  have hloc : loc6Of (ix2 r e) = ix2 (⟨r.val % 1024, by omega⟩ : Fin 1024) e := by
    funext a
    refine Fin.ext ?_
    match a with
    | ⟨0, _⟩ => rfl
    | ⟨1, _⟩ => show e.val % 2048 = e.val; omega
  refine Eq.trans ?_ (Cert.Reference2Ideal.Ffn.v32_at _ _ _ _ _ _ r e).symm
  unfold G6
  rw [dif_pos (by rw [hrun]; exact hlt), hloc]
  have hG : ∀ (b : ℕ) (h : 11 * b + 10 < cfg0.N), b = r.val / 1024 →
      (Pipeline.accAt (reset6 m c) (step6 m c) (11 * b) 10 h) (ix2 (⟨r.val % 1024, by omega⟩ : Fin 1024) e)
        = ln (Cert.Reference2Ideal.Ffn.row (m ((c.tc : Thread nD τ).loc main_arg0)) (m ((c.tc : Thread nD τ).loc main_arg1))
            (m ((c.tc : Thread nD τ).loc main_arg2)) (m ((c.tc : Thread nD τ).loc main_arg3)) r) (Gm m c (ix1 e)) (Bt m c (ix1 e)) e := by
    intro b h hb
    have hq : r.val = 1024 * b + r.val % 1024 := by omega
    rw [Pipeline.accAt_succ]
    rw [step_last m c _ _ _ (by omega) (by omega), pay3_apply, blk4, blk5]
    refine congrArg (fun y => ln y _ _ e) (funext fun k => ?_)
    rw [pay2_at m c ⟨11 * b + (9 + 1), h⟩ _ _ k r (by show _ = 1024 * ((11 * b + (9 + 1)) / 11) + r.val % 1024; omega),
      blk0 m c ⟨11 * b + (9 + 1), h⟩ _ k r (by show _ = 1024 * ((11 * b + (9 + 1)) / 11) + r.val % 1024; omega), fold_at m c b ⟨r.val % 1024, by omega⟩ k r hq 9 (le_refl _)]
    unfold Cert.Reference2Ideal.Ffn.row
    refine congrArg (fun z : EReal => Ideal.ofBits .f32 0x3F9837F0#32 * H m c (ix3 0 r k) + z) ?_
    have ht : (∑ i ∈ Finset.range (10 + 1), ∑ f : Fin 512, term m c r k ⟨i % 11 * 512 + f.val, by omega⟩ : EReal) = ∑ g, term m c r k g := by
      refine sum_tiles 11 512 rfl _ _ fun j => Finset.sum_congr rfl fun f _ => congrArg (term m c r k) (Fin.ext ?_)
      show j.val % 11 * 512 + f.val = j.val * 512 + f.val
      have := j.isLt
      omega
    rw [Finset.sum_range_succ] at ht
    refine Eq.trans (congrArg (fun z : EReal => _ + z) (Finset.sum_congr rfl fun f _ => congrArg (term m c r k) (Fin.ext ?_))) ht
    show (11 * b + (9 + 1)) % 11 * 512 + f.val = 10 % 11 * 512 + f.val
    omega
  exact hG _ _ hrun

end Cert.Kernel2Ideal.Ffn

end
-- ==== Proof.Merge.Elem.lean ====
module

public import proofs.«01_k».proof.Proof.Gen.Kernel3Ideal.Value
public import proofs.«01_k».proof.Proof.Ffn.Elem

@[expose] public section

set_option maxRecDepth 16384

noncomputable section

namespace Cert.Kernel3Ideal.Merge

open Cert.Kernel3Ideal Cert.Kernel3Ideal.Gen Idealize.ShloMosaic
open Cert.Kernel2Ideal.Ffn (ln)

/-! The vector expressions of the merge kernel over the extended reals, entry by entry. -/

/-- The gated sum of the two branches from the four products and the attention's entry. -/
def mix (a b s g v : EReal) : EReal := Ideal.logistic s * (a * Ideal.logistic b) + Ideal.logistic g * v

/-- The accumulator's first value, all zeros, in the products' own form. -/
abbrev zeros : FVec Ideal S512x2048 .f32 := constant (F := Ideal) S512x2048 .f32 0x00000000#32

theorem pay4_apply (p : Fin 512) (e : Fin 2048) : k0_pay4 (F := Ideal) (ix2 p e) = (0 : EReal) := by
  pointwise [k0_pay4]

theorem pay3_apply (x : Vec Ideal S512x2048 .f32) (p : Fin 512) (e : Fin 2048) : k0_pay3 (F := Ideal) x (ix2 p e) = (x (ix2 p e) : EReal) := by
  pointwise [k0_pay3]

theorem pay5_apply (y : Vec Ideal S512x1024 .bf16) (x : Vec Ideal S512x2048 .bf16) (wa wb : Vec Ideal S1024x512 .bf16) (ws wm : Vec Ideal S2048x512 .bf16)
    (v : Vec Ideal S512x512 .bf16) (p : Fin 512) (f : Fin 512) :
    k0_pay5 (F := Ideal) y x wa wb ws wm v (ix2 p f)
      = mix (∑ k : Fin 1024, (y (ix2 p k) : EReal) * wa (ix2 k f)) (∑ k : Fin 1024, (y (ix2 p k) : EReal) * wb (ix2 k f))
          (∑ k : Fin 2048, (x (ix2 p k) : EReal) * ws (ix2 k f)) (∑ k : Fin 2048, (x (ix2 p k) : EReal) * wm (ix2 k f)) (v (ix2 p f)) := by
  pointwise [k0_pay5]
  rfl

theorem pay1_apply (acc : Vec Ideal S512x2048 .f32) (t : FVec Ideal S512x512 .bf16) (w : Vec Ideal S512x2048 .bf16) (p : Fin 512) (e : Fin 2048) :
    k0_pay1 (F := Ideal) acc t (k0_pay6 w) zeros (ix2 p e) = (acc (ix2 p e) : EReal) + ∑ f : Fin 512, (t (ix2 p f) : EReal) * w (ix2 f e) := by
  pointwise [k0_pay1, k0_pay6]

theorem pay2_apply (x acc : Vec Ideal S512x2048 .f32) (g b : Vec Ideal S1x2048 .f32) (p : Fin 512) (e : Fin 2048) :
    k0_pay2 (F := Ideal) x acc g b (ix2 p e)
      = ln (fun k => Ideal.ofBits .f32 0x3F9837F0#32 * x (ix2 p k) + acc (ix2 p k)) (g (ix2 0 e)) (b (ix2 0 e)) e := by
  pointwise [k0_pay2]
  rfl

end Cert.Kernel3Ideal.Merge

end
-- ==== Proof.Merge.Point.lean ====
module

public import proofs.«01_k».proof.Proof.Merge.Elem

@[expose] public section

set_option maxRecDepth 16384

noncomputable section

namespace Cert.Kernel3Ideal.Merge

open Cert.Kernel3Ideal Cert.Kernel3Ideal.Gen Idealize.ShloMosaic Idealize.ShloMosaic.TcCoe

variable (m : (ℓ : Loc nD τ sig) → Buf (Elt Ideal) ℓ)

/-! What a point of the merge kernel's grid leaves in its two scratch buffers and in the output. -/

theorem hz2 : (![0, 0] : Fin 2 → Nat) = fun _ => 0 := funext fun a => by fin_cases a <;> rfl

/-- The accumulator after a point, from the copy of the rows and the accumulator that the point finds. -/
def add (c : Dev nD) (t : Fin cfg0.N) (x : Vec Ideal S512x2048 .bf16) (acc : Vec Ideal S512x2048 .f32) : Vec Ideal S512x2048 .f32 :=
  k0_pay1 acc (k0_pay5 (iblk m c 1 t) x (iblk m c 3 t) (iblk m c 4 t) (iblk m c 5 t) (iblk m c 6 t) (iblk m c 2 t)) (k0_pay6 (iblk m c 7 t))
    (constant S512x2048 .f32 0x00000000#32)

theorem scr0 (a : Vec Ideal S512x2048 .bf16) : View.read (Elt Ideal) (View.whole cc0_scratch0) ((Memref.isWhole_whole cc0_scratch0).unread a) = a :=
  (Memref.isWhole_whole cc0_scratch0).read_unread a

theorem scr1 (a : Vec Ideal S512x2048 .f32) : View.read (Elt Ideal) (View.whole cc0_scratch1) ((Memref.isWhole_whole cc0_scratch1).unread a) = a :=
  (Memref.isWhole_whole cc0_scratch1).read_unread a

theorem first_x (c : Dev nD) (t : Fin cfg0.N) (h0 : t.val % 4 = 0) (h1 : ¬t.val % 4 = 3) :
    (outsAt0 m c t.val t.isLt).2.1 = k0_pay3 (iblk m c 0 t) := by
  rw [outsAt0_A m c t h0 h1]
  dsimp only
  unfold sout0_A_0
  refine (View.read_writes_eq_canon _ _ _ fun y => ?_).trans ?_
  · exact scover0_A_0 ..
  unfold kernelRun0_A
  dsimp only
  try sl_unfold_words
  rw [View.canon_unit_zero hz2]
  simp only [View.readAt_eq_ld, (hs0_0 t).read_unread, View.ld_unit_zero (S := S512x2048) hz2, shapeCast_self]

theorem first_acc (c : Dev nD) (t : Fin cfg0.N) (h0 : t.val % 4 = 0) (h1 : ¬t.val % 4 = 3) :
    (outsAt0 m c t.val t.isLt).2.2 = add m c t (k0_pay3 (iblk m c 0 t)) (k0_pay4 (F := Ideal)) := by
  rw [outsAt0_A m c t h0 h1]
  dsimp only
  unfold sout0_A_1
  refine (View.read_writes_eq_canon _ _ _ fun y => ?_).trans ?_
  · exact scover0_A_1 ..
  unfold kernelRun0_A
  dsimp only
  try sl_unfold_words
  rw [View.canon_cons_unit_zero (S := S512x2048) hz2]
  simp only [View.readCov_unit_zero (S := S512x2048) _ hz2, View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, View.ld_unit_zero (S := S512x2048) hz2, View.ld_unit_zero (S := S512x1024) hz2,
    View.ld_unit_zero (S := S512x512) hz2, View.ld_unit_zero (S := S1024x512) hz2, View.ld_unit_zero (S := S2048x512) hz2, shapeCast_self]
  rfl

theorem next_x (c : Dev nD) (n : ℕ) (h : n + 1 < cfg0.N) (h0 : ¬(n + 1) % 4 = 0) :
    (outsAt0 m c (n + 1) h).2.1 = (outsAt0 m c n (Nat.lt_of_succ_lt h)).2.1 := by
  by_cases h1 : (n + 1) % 4 = 3
  · rw [outsAt0_C m c ⟨n + 1, h⟩ h0 h1]; rfl
  · rw [outsAt0_B m c ⟨n + 1, h⟩ h0 h1]; rfl

theorem next_acc (c : Dev nD) (n : ℕ) (h : n + 1 < cfg0.N) (h0 : ¬(n + 1) % 4 = 0) (h1 : ¬(n + 1) % 4 = 3) :
    (outsAt0 m c (n + 1) h).2.2 = add m c ⟨n + 1, h⟩ (outsAt0 m c n (Nat.lt_of_succ_lt h)).2.1 (outsAt0 m c n (Nat.lt_of_succ_lt h)).2.2 := by
  rw [outsAt0_B m c ⟨n + 1, h⟩ h0 h1]
  dsimp only
  unfold sout0_B_1
  refine (View.read_writes_eq_canon _ _ _ fun y => ?_).trans ?_
  · exact scover0_B_1 ..
  unfold kernelRun0_B
  dsimp only
  try sl_unfold_words
  rw [View.canon_unit_zero hz2]
  simp only [View.readAt_eq_ld, Memref.IsWhole.read_unread, scr0, scr1, View.ld_unit_zero (S := S512x2048) hz2, View.ld_unit_zero (S := S512x1024) hz2,
    View.ld_unit_zero (S := S512x512) hz2, View.ld_unit_zero (S := S1024x512) hz2, View.ld_unit_zero (S := S2048x512) hz2, shapeCast_self]
  rfl

theorem last_out (c : Dev nD) (n : ℕ) (h : n + 1 < cfg0.N) (h0 : ¬(n + 1) % 4 = 0) (h1 : (n + 1) % 4 = 3) :
    (outsAt0 m c (n + 1) h).1 = k0_pay2 (iblk m c 0 ⟨n + 1, h⟩)
      (add m c ⟨n + 1, h⟩ (outsAt0 m c n (Nat.lt_of_succ_lt h)).2.1 (outsAt0 m c n (Nat.lt_of_succ_lt h)).2.2) (iblk m c 8 ⟨n + 1, h⟩) (iblk m c 9 ⟨n + 1, h⟩) := by
  rw [outsAt0_C m c ⟨n + 1, h⟩ h0 h1]
  dsimp only
  unfold out0_C_10
  refine (View.read_writes_eq_canon _ _ _ fun y => ?_).trans ?_
  · exact cover0_C_10 ..
  unfold kernelRun0_C
  dsimp only
  try sl_unfold_words
  rw [View.canon_unit_zero hz2]
  simp only [View.readCov_unit_zero (S := S512x2048) _ hz2, View.readAt_eq_ld, Memref.IsWhole.read_unread, scr0, scr1, View.ld_unit_zero (S := S512x2048) hz2, View.ld_unit_zero (S := S512x1024) hz2,
    View.ld_unit_zero (S := S512x512) hz2, View.ld_unit_zero (S := S1024x512) hz2, View.ld_unit_zero (S := S2048x512) hz2, View.ld_unit_zero (S := S1x2048) hz2, shapeCast_self]
  rfl

end Cert.Kernel3Ideal.Merge

end
-- ==== Proof.Merge.Blocks.lean ====
module

public import proofs.«01_k».proof.Proof.Merge.Elem
public import Idealize.ShloMosaic.Lib.Tactic

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic

variable (m : (ℓ : Loc nD τ sig) → Buf (Elt Ideal) ℓ)

/-! The blocks of the merge kernel's inputs, entry by entry. -/

abbrev X (c : Dev nD) (i : S1x16384x2048.Idx) : EReal := m ((c.tc : Thread nD τ).loc main_arg0) i
abbrev Y (c : Dev nD) (i : S1x16384x1024.Idx) : EReal := m ((c.tc : Thread nD τ).loc main_arg1) i
abbrev A (c : Dev nD) (i : S1x16384x2048.Idx) : EReal := m ((c.tc : Thread nD τ).loc main_arg2) i
abbrev Wi (c : Dev nD) (i : S2048x6208.Idx) : EReal := m ((c.tc : Thread nD τ).loc main_arg3) i
abbrev Wl (c : Dev nD) (i : S1024x4096.Idx) : EReal := m ((c.tc : Thread nD τ).loc main_arg4) i
abbrev Wo (c : Dev nD) (i : S2048x2048.Idx) : EReal := m ((c.tc : Thread nD τ).loc main_arg5) i
abbrev Gm (c : Dev nD) (i : S2048.Idx) : EReal := m ((c.tc : Thread nD τ).loc main_arg6) i
abbrev Bt (c : Dev nD) (i : S2048.Idx) : EReal := m ((c.tc : Thread nD τ).loc main_arg7) i

theorem V1 (c : Dev nD) : V m c main_v1 = extractStridedSlice S2048x4096 ![0, 2112]
    (truncf (F := Ideal) (s := S2048x6208) (φ := .f32) .bf16 (m ((c.tc : Thread nD τ).loc main_arg3)) bitsLt_bf16_f32) slices_S2048x6208_S2048x4096_0_2112 := by
  show StableHlo.after hostOps0 (fun b => m (c, b)) main_v1 = _
  after_results
  first | done | rfl
theorem V2 (c : Dev nD) : V m c main_v2 = shapeCast S16384x2048 (m ((c.tc : Thread nD τ).loc main_arg0)) shapeCasts_S1x16384x2048_S16384x2048 := by
  show StableHlo.after hostOps0 (fun b => m (c, b)) main_v2 = _
  after_results
  first | done | rfl
theorem V4 (c : Dev nD) : V m c main_v4 = truncf (F := Ideal) (s := S16384x1024) (φ := .f32) .bf16
    (shapeCast S16384x1024 (m ((c.tc : Thread nD τ).loc main_arg1)) shapeCasts_S1x16384x1024_S16384x1024) bitsLt_bf16_f32 := by
  show StableHlo.after hostOps0 (fun b => m (c, b)) main_v4 = _
  after_results
  first | done | rfl
theorem V6 (c : Dev nD) : V m c main_v6 = truncf (F := Ideal) (s := S16384x2048) (φ := .f32) .bf16
    (shapeCast S16384x2048 (m ((c.tc : Thread nD τ).loc main_arg2)) shapeCasts_S1x16384x2048_S16384x2048) bitsLt_bf16_f32 := by
  show StableHlo.after hostOps0 (fun b => m (c, b)) main_v6 = _
  after_results
  first | done | rfl
theorem V7 (c : Dev nD) : V m c main_v7 = truncf (F := Ideal) (s := S1024x4096) (φ := .f32) .bf16 (m ((c.tc : Thread nD τ).loc main_arg4)) bitsLt_bf16_f32 := by
  show StableHlo.after hostOps0 (fun b => m (c, b)) main_v7 = _
  after_results
  first | done | rfl
theorem V8 (c : Dev nD) : V m c main_v8 = truncf (F := Ideal) (s := S2048x2048) (φ := .f32) .bf16 (m ((c.tc : Thread nD τ).loc main_arg5)) bitsLt_bf16_f32 := by
  show StableHlo.after hostOps0 (fun b => m (c, b)) main_v8 = _
  after_results
  first | done | rfl
theorem V9 (c : Dev nD) : V m c main_v9 = shapeCast S1x2048 (m ((c.tc : Thread nD τ).loc main_arg6)) shapeCasts_S2048_S1x2048 := by
  show StableHlo.after hostOps0 (fun b => m (c, b)) main_v9 = _
  after_results
  first | done | rfl
theorem V10 (c : Dev nD) : V m c main_v10 = shapeCast S1x2048 (m ((c.tc : Thread nD τ).loc main_arg7)) shapeCasts_S2048_S1x2048 := by
  show StableHlo.after hostOps0 (fun b => m (c, b)) main_v10 = _
  after_results
  first | done | rfl

theorem rows_cast (Z : S1x16384x2048.Idx → Elt Ideal .f32) (r : Fin 16384) (k : Fin 2048) :
    shapeCast S16384x2048 Z shapeCasts_S1x16384x2048_S16384x2048 (ix2 r k) = Z (ix3 0 r k) :=
  shapeCast_apply Z shapeCasts_S1x16384x2048_S16384x2048 (ix2 r k) (ix3 0 r k)
    (by rewrite [Shape.rowMajor_val_three, Shape.rowMajor_val_two]; show (0 * 16384 + r.val) * 2048 + k.val = r.val * 2048 + k.val; omega)

theorem rows_cast' (Z : S1x16384x1024.Idx → Elt Ideal .f32) (r : Fin 16384) (k : Fin 1024) :
    shapeCast S16384x1024 Z shapeCasts_S1x16384x1024_S16384x1024 (ix2 r k) = Z (ix3 0 r k) :=
  shapeCast_apply Z shapeCasts_S1x16384x1024_S16384x1024 (ix2 r k) (ix3 0 r k)
    (by rewrite [Shape.rowMajor_val_three, Shape.rowMajor_val_two]; show (0 * 16384 + r.val) * 1024 + k.val = r.val * 1024 + k.val; omega)

theorem vec_cast (Z : S2048.Idx → Elt Ideal .f32) (e : Fin 2048) :
    shapeCast S1x2048 Z shapeCasts_S2048_S1x2048 (ix2 0 e) = Z (ix1 e) := by
  pointwise

theorem cols_cut (Z : S2048x6208.Idx → Elt Ideal .bf16) (k : Fin 2048) (g : Fin 4096) :
    extractStridedSlice S2048x4096 ![0, 2112] Z slices_S2048x6208_S2048x4096_0_2112 (ix2 k g) = Z (ix2 k (⟨2112 + g.val, by omega⟩ : Fin 6208)) :=
  extractStridedSlice_apply ![0, 2112] Z slices_S2048x6208_S2048x4096_0_2112 (ix2 k g) (ix2 k (⟨2112 + g.val, by omega⟩ : Fin 6208)) (fun a => match a with
    | ⟨0, _⟩ => by show k.val = 0 + k.val; omega
    | ⟨1, _⟩ => rfl)

theorem index_facts : ∀ t : Fin cfg0.N, (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = t.val % 4)
    ∧ (win0_3.index t (0 : Fin 2) = 0 ∧ win0_3.index t (1 : Fin 2) = t.val % 4)
    ∧ (win0_4.index t (0 : Fin 2) = 0 ∧ win0_4.index t (1 : Fin 2) = t.val % 4 + 4)
    ∧ (win0_5.index t (0 : Fin 2) = 0 ∧ win0_5.index t (1 : Fin 2) = t.val % 4)
    ∧ (win0_6.index t (0 : Fin 2) = 0 ∧ win0_6.index t (1 : Fin 2) = t.val % 4 + 4)
    ∧ (win0_7.index t (0 : Fin 2) = t.val % 4 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem blk0 (c : Dev nD) (t : Fin cfg0.N) (p : Fin 512) (k : Fin 2048) (r : Fin 16384) (hr : r.val = 512 * (t.val / 4) + p.val) :
    (iblk m c 0 t : Vec Ideal S512x2048 .f32) (ix2 p k) = X m c (ix3 0 r k) := by
  obtain ⟨⟨e0, e1⟩, -⟩ := index_facts t
  show V m c main_v2 (((cfg0.win 0).blk t).view.emb (ix2 p k)) = _
  have h : ((cfg0.win 0).blk t).view.emb (ix2 p k) = ix2 r k := by
    funext a
    refine Fin.ext ?_
    match a with
    | ⟨0, _⟩ => show win0_0.index t (0 : Fin 2) * 512 + 1 * p.val = r.val; omega
    | ⟨1, _⟩ => show win0_0.index t (1 : Fin 2) * 2048 + 1 * k.val = k.val; omega
  rw [h, V2]
  exact rows_cast _ r k

theorem blk1 (c : Dev nD) (t : Fin cfg0.N) (p : Fin 512) (k : Fin 1024) (r : Fin 16384) (hr : r.val = 512 * (t.val / 4) + p.val) :
    (iblk m c 1 t : Vec Ideal S512x1024 .bf16) (ix2 p k) = Y m c (ix3 0 r k) := by
  obtain ⟨-, ⟨e0, e1⟩, -⟩ := index_facts t
  show V m c main_v4 (((cfg0.win 1).blk t).view.emb (ix2 p k)) = _
  have h : ((cfg0.win 1).blk t).view.emb (ix2 p k) = ix2 r k := by
    funext a
    refine Fin.ext ?_
    match a with
    | ⟨0, _⟩ => show win0_1.index t (0 : Fin 2) * 512 + 1 * p.val = r.val; omega
    | ⟨1, _⟩ => show win0_1.index t (1 : Fin 2) * 1024 + 1 * k.val = k.val; omega
  rw [h, V4]
  exact rows_cast' _ r k

theorem blk2 (c : Dev nD) (t : Fin cfg0.N) (p : Fin 512) (f : Fin 512) (r : Fin 16384) (hr : r.val = 512 * (t.val / 4) + p.val) (g : Fin 2048) (hg : g.val = t.val % 4 * 512 + f.val) :
    (iblk m c 2 t : Vec Ideal S512x512 .bf16) (ix2 p f) = A m c (ix3 0 r g) := by
  obtain ⟨-, -, ⟨e0, e1⟩, -⟩ := index_facts t
  show V m c main_v6 (((cfg0.win 2).blk t).view.emb (ix2 p f)) = _
  have h : ((cfg0.win 2).blk t).view.emb (ix2 p f) = ix2 r g := by
    funext a
    refine Fin.ext ?_
    match a with
    | ⟨0, _⟩ => show win0_2.index t (0 : Fin 2) * 512 + 1 * p.val = r.val; omega
    | ⟨1, _⟩ => show win0_2.index t (1 : Fin 2) * 512 + 1 * f.val = g.val; omega
  rw [h, V6]
  exact rows_cast _ r g

theorem blk3 (c : Dev nD) (t : Fin cfg0.N) (k : Fin 1024) (f : Fin 512) (g : Fin 4096) (hg : g.val = t.val % 4 * 512 + f.val) :
    (iblk m c 3 t : Vec Ideal S1024x512 .bf16) (ix2 k f) = Wl m c (ix2 k g) := by
  obtain ⟨-, -, -, ⟨e0, e1⟩, -⟩ := index_facts t
  show V m c main_v7 (((cfg0.win 3).blk t).view.emb (ix2 k f)) = _
  have h : ((cfg0.win 3).blk t).view.emb (ix2 k f) = ix2 k g := by
    funext a
    refine Fin.ext ?_
    match a with
    | ⟨0, _⟩ => show win0_3.index t (0 : Fin 2) * 1024 + 1 * k.val = k.val; omega
    | ⟨1, _⟩ => show win0_3.index t (1 : Fin 2) * 512 + 1 * f.val = g.val; omega
  rw [h, V7]
  rfl

theorem blk4 (c : Dev nD) (t : Fin cfg0.N) (k : Fin 1024) (f : Fin 512) (g : Fin 4096) (hg : g.val = 2048 + (t.val % 4 * 512 + f.val)) :
    (iblk m c 4 t : Vec Ideal S1024x512 .bf16) (ix2 k f) = Wl m c (ix2 k g) := by
  obtain ⟨-, -, -, -, ⟨e0, e1⟩, -⟩ := index_facts t
  show V m c main_v7 (((cfg0.win 4).blk t).view.emb (ix2 k f)) = _
  have h : ((cfg0.win 4).blk t).view.emb (ix2 k f) = ix2 k g := by
    funext a
    refine Fin.ext ?_
    match a with
    | ⟨0, _⟩ => show win0_4.index t (0 : Fin 2) * 1024 + 1 * k.val = k.val; omega
    | ⟨1, _⟩ => show win0_4.index t (1 : Fin 2) * 512 + 1 * f.val = g.val; omega
  rw [h, V7]
  rfl

theorem blk5 (c : Dev nD) (t : Fin cfg0.N) (k : Fin 2048) (f : Fin 512) (g : Fin 4096) (hg : g.val = t.val % 4 * 512 + f.val) :
    (iblk m c 5 t : Vec Ideal S2048x512 .bf16) (ix2 k f) = Wi m c (ix2 k (⟨2112 + g.val, by omega⟩ : Fin 6208)) := by
  obtain ⟨-, -, -, -, -, ⟨e0, e1⟩, -⟩ := index_facts t
  show V m c main_v1 (((cfg0.win 5).blk t).view.emb (ix2 k f)) = _
  have h : ((cfg0.win 5).blk t).view.emb (ix2 k f) = ix2 k g := by
    funext a
    refine Fin.ext ?_
    match a with
    | ⟨0, _⟩ => show win0_5.index t (0 : Fin 2) * 2048 + 1 * k.val = k.val; omega
    | ⟨1, _⟩ => show win0_5.index t (1 : Fin 2) * 512 + 1 * f.val = g.val; omega
  rw [h, V1]
  exact cols_cut _ k g

theorem blk6 (c : Dev nD) (t : Fin cfg0.N) (k : Fin 2048) (f : Fin 512) (g : Fin 4096) (hg : g.val = 2048 + (t.val % 4 * 512 + f.val)) :
    (iblk m c 6 t : Vec Ideal S2048x512 .bf16) (ix2 k f) = Wi m c (ix2 k (⟨2112 + g.val, by omega⟩ : Fin 6208)) := by
  obtain ⟨-, -, -, -, -, -, ⟨e0, e1⟩, -⟩ := index_facts t
  show V m c main_v1 (((cfg0.win 6).blk t).view.emb (ix2 k f)) = _
  have h : ((cfg0.win 6).blk t).view.emb (ix2 k f) = ix2 k g := by
    funext a
    refine Fin.ext ?_
    match a with
    | ⟨0, _⟩ => show win0_6.index t (0 : Fin 2) * 2048 + 1 * k.val = k.val; omega
    | ⟨1, _⟩ => show win0_6.index t (1 : Fin 2) * 512 + 1 * f.val = g.val; omega
  rw [h, V1]
  exact cols_cut _ k g

theorem blk7 (c : Dev nD) (t : Fin cfg0.N) (f : Fin 512) (e : Fin 2048) (g : Fin 2048) (hg : g.val = t.val % 4 * 512 + f.val) :
    (iblk m c 7 t : Vec Ideal S512x2048 .bf16) (ix2 f e) = Wo m c (ix2 g e) := by
  obtain ⟨-, -, -, -, -, -, -, ⟨e0, e1⟩, -⟩ := index_facts t
  show V m c main_v8 (((cfg0.win 7).blk t).view.emb (ix2 f e)) = _
  have h : ((cfg0.win 7).blk t).view.emb (ix2 f e) = ix2 g e := by
    funext a
    refine Fin.ext ?_
    match a with
    | ⟨0, _⟩ => show win0_7.index t (0 : Fin 2) * 512 + 1 * f.val = g.val; omega
    | ⟨1, _⟩ => show win0_7.index t (1 : Fin 2) * 2048 + 1 * e.val = e.val; omega
  rw [h, V8]
  rfl

theorem blk8 (c : Dev nD) (t : Fin cfg0.N) (e : Fin 2048) :
    (iblk m c 8 t : Vec Ideal S1x2048 .f32) (ix2 0 e) = Gm m c (ix1 e) := by
  obtain ⟨-, -, -, -, -, -, -, -, ⟨e0, e1⟩, -⟩ := index_facts t
  show V m c main_v9 (((cfg0.win 8).blk t).view.emb (ix2 0 e)) = _
  have h : ((cfg0.win 8).blk t).view.emb (ix2 0 e) = ix2 0 e := by
    funext a
    refine Fin.ext ?_
    match a with
    | ⟨0, _⟩ => show win0_8.index t (0 : Fin 2) * 1 + 1 * 0 = 0; omega
    | ⟨1, _⟩ => show win0_8.index t (1 : Fin 2) * 2048 + 1 * e.val = e.val; omega
  rw [h, V9]
  exact vec_cast _ e

theorem blk9 (c : Dev nD) (t : Fin cfg0.N) (e : Fin 2048) :
    (iblk m c 9 t : Vec Ideal S1x2048 .f32) (ix2 0 e) = Bt m c (ix1 e) := by
  obtain ⟨-, -, -, -, -, -, -, -, -, ⟨e0, e1⟩⟩ := index_facts t
  show V m c main_v10 (((cfg0.win 9).blk t).view.emb (ix2 0 e)) = _
  have h : ((cfg0.win 9).blk t).view.emb (ix2 0 e) = ix2 0 e := by
    funext a
    refine Fin.ext ?_
    match a with
    | ⟨0, _⟩ => show win0_9.index t (0 : Fin 2) * 1 + 1 * 0 = 0; omega
    | ⟨1, _⟩ => show win0_9.index t (1 : Fin 2) * 2048 + 1 * e.val = e.val; omega
  rw [h, V10]
  exact vec_cast _ e

end Cert.Kernel3Ideal.Merge

end
-- ==== Proof.Merge.Ref.lean ====
module

public import proofs.«01_k».proof.Proof.Gen.Reference3Ideal.Read
public import proofs.«01_k».proof.Proof.Merge.Elem
public import proofs.«01_k».proof.Proof.Ffn.Ref

@[expose] public section

set_option maxRecDepth 16384

noncomputable section

namespace Cert.Reference3Ideal.Merge

open Cert.Reference3Ideal Cert.Reference3Ideal.Gen Cert.Reference3Ideal.Read Idealize.ShloMosaic
open Cert.Kernel2Ideal.Ffn (ln)
open Cert.Kernel3Ideal.Merge (mix)
open Cert.Reference2Ideal.Ffn (one_word zero_word)

/-! The reference's merge of the two branches, entry by entry. -/

variable (x0 : S1x16384x2048.Idx → Elt Ideal .f32) (x1 : S1x16384x1024.Idx → Elt Ideal .f32) (x2 : S1x16384x2048.Idx → Elt Ideal .f32)
  (x3 : S2048x6208.Idx → Elt Ideal .f32) (x4 : S1024x4096.Idx → Elt Ideal .f32) (x5 : S2048x2048.Idx → Elt Ideal .f32) (x6 x7 : S2048.Idx → Elt Ideal .f32)

/-- Column `g` of the S5 branch's linear layer, and of the gates' projection. -/
def lin (r : Fin 16384) (g : Fin 4096) : EReal := ∑ k : Fin 1024, (x1 (ix3 0 r k) : EReal) * x4 (ix2 k g)
def gate (r : Fin 16384) (g : Fin 4096) : EReal := ∑ k : Fin 2048, (x0 (ix3 0 r k) : EReal) * x3 (ix2 k (⟨2112 + g.val, by omega⟩ : Fin 6208))

theorem v3_at (r : Fin 16384) (g : Fin 4096) : (val_main_v3 (F := Ideal) x1 x4 (ix3 0 r g) : EReal) = lin x1 x4 r g := by
  rw [val_main_v3_apply]
  have e0 : ∀ k, lidx_main_v3 (ix3 0 r g) k = ix3 0 r k := fun k => by funext a; match a with | ⟨0, _⟩ => rfl | ⟨1, _⟩ => rfl | ⟨2, _⟩ => rfl
  have e1 : ∀ k, ridx_main_v3 (ix3 0 r g) k = ix2 k g := fun k => by funext a; match a with | ⟨0, _⟩ => rfl | ⟨1, _⟩ => rfl
  simp only [e0, e1]
  rfl

theorem v18_at (r : Fin 16384) (g : Fin 4096) : (val_main_v18 (F := Ideal) x0 x3 (ix3 0 r g) : EReal) = Ideal.logistic (gate x0 x3 r g) := by
  rw [val_main_v18_apply, val_main_v17_apply, val_main_cst_2_apply, val_main_v16_apply, val_main_v15_apply, val_main_cst_1_apply, val_main_v14_apply,
    val_main_v13_apply, val_main_v2_apply, val_main_v0_apply]
  have e0 : ∀ k, lidx_main_v0 (idx_main_v2 (ix3 0 r g)) k = ix3 0 r k := fun k => by funext a; match a with | ⟨0, _⟩ => rfl | ⟨1, _⟩ => rfl | ⟨2, _⟩ => rfl
  have e1 : ∀ k, ridx_main_v0 (idx_main_v2 (ix3 0 r g)) k = ix2 k (⟨2112 + g.val, by omega⟩ : Fin 6208) := fun k => by funext a; match a with | ⟨0, _⟩ => rfl | ⟨1, _⟩ => rfl
  simp only [e0, e1]
  show Ideal.div (Ideal.ofBits .f32 0x3F800000#32) (Ideal.ofBits .f32 0x3F800000#32 + Ideal.exp (-gate x0 x3 r g)) = Ideal.div 1 (1 + Ideal.exp (-gate x0 x3 r g))
  rw [one_word]

/-- The gated sum of the two branches. -/
def both (r : Fin 16384) (g : Fin 2048) : EReal :=
  mix (lin x1 x4 r ⟨g.val, by omega⟩) (lin x1 x4 r ⟨2048 + g.val, by omega⟩) (gate x0 x3 r ⟨g.val, by omega⟩) (gate x0 x3 r ⟨2048 + g.val, by omega⟩) (x2 (ix3 0 r g))

theorem v23_at (r : Fin 16384) (g : Fin 2048) : (val_main_v23 (F := Ideal) x0 x1 x2 x3 x4 (ix3 0 r g) : EReal) = both x0 x1 x2 x3 x4 r g := by
  have e4 : idx_main_v4 (ix3 0 r g) = ix3 0 r (⟨g.val, by omega⟩ : Fin 4096) := by funext a; match a with | ⟨0, _⟩ => rfl | ⟨1, _⟩ => rfl | ⟨2, _⟩ => rfl
  have e5 : idx_main_v5 (ix3 0 r g) = ix3 0 r (⟨2048 + g.val, by omega⟩ : Fin 4096) := by funext a; match a with | ⟨0, _⟩ => rfl | ⟨1, _⟩ => rfl | ⟨2, _⟩ => rfl
  have e19 : idx_main_v19 (ix3 0 r g) = ix3 0 r (⟨g.val, by omega⟩ : Fin 4096) := by funext a; match a with | ⟨0, _⟩ => rfl | ⟨1, _⟩ => rfl | ⟨2, _⟩ => rfl
  have e20 : idx_main_v20 (ix3 0 r g) = ix3 0 r (⟨2048 + g.val, by omega⟩ : Fin 4096) := by funext a; match a with | ⟨0, _⟩ => rfl | ⟨1, _⟩ => rfl | ⟨2, _⟩ => rfl
  rw [val_main_v23_apply, val_main_v21_apply, val_main_v22_apply, val_main_v19_apply, val_main_v20_apply, e19, e20, v18_at, v18_at, val_main_v12_apply, val_main_v11_apply,
    val_main_v10_apply, val_main_cst_0_apply, val_main_v9_apply, val_main_v8_apply, val_main_cst_apply, val_main_v7_apply, val_main_v6_apply, val_main_v4_apply, val_main_v5_apply,
    e4, e5, v3_at, v3_at]
  unfold both mix
  generalize lin x1 x4 r ⟨g.val, by omega⟩ = P
  generalize lin x1 x4 r ⟨2048 + g.val, by omega⟩ = Q
  show Ideal.logistic _ * (P * Ideal.div (Ideal.ofBits .f32 0x3F800000#32) (Ideal.ofBits .f32 0x3F800000#32 + Ideal.exp (-Q))) + Ideal.logistic _ * _
    = Ideal.logistic _ * (P * Ideal.div 1 (1 + Ideal.exp (-Q))) + Ideal.logistic _ * _
  rw [one_word]

/-- The row that is normalized. -/
def row (r : Fin 16384) (e : Fin 2048) : EReal :=
  Ideal.ofBits .f32 0x3F9837F0#32 * (x0 (ix3 0 r e) : EReal) + ∑ g : Fin 2048, both x0 x1 x2 x3 x4 r g * (x5 (ix2 g e) : EReal)

theorem v27_at (r : Fin 16384) (e : Fin 2048) : (val_main_v27 (F := Ideal) x0 x1 x2 x3 x4 x5 (ix3 0 r e) : EReal) = row x0 x1 x2 x3 x4 x5 r e := by
  rw [val_main_v27_apply, val_main_v26_apply, val_main_v25_apply, val_main_cst_3_apply, val_main_v24_apply]
  have e0 : ∀ g, lidx_main_v24 (ix3 0 r e) g = ix3 0 r g := fun k => by funext a; match a with | ⟨0, _⟩ => rfl | ⟨1, _⟩ => rfl | ⟨2, _⟩ => rfl
  have e1 : ∀ g, ridx_main_v24 (ix3 0 r e) g = ix2 g e := fun k => by funext a; match a with | ⟨0, _⟩ => rfl | ⟨1, _⟩ => rfl
  simp only [e0, e1, v23_at]
  rfl

theorem v31_at (r : Fin 16384) : (val_main_v31 (F := Ideal) x0 x1 x2 x3 x4 x5 (ix3 0 r 0) : EReal)
    = Ideal.div (∑ k, row x0 x1 x2 x3 x4 x5 r k) (Ideal.ofBits .f32 0x45000000#32) := by
  rw [val_main_v31_apply, val_main_v29_apply, val_main_v30_apply, val_main_cst_5_apply, val_main_v28_apply, val_main_cst_4_apply]
  have e0 : ∀ k, idx_main_v28 (idx_main_v29 (ix3 0 r 0)) k = ix3 0 r k := fun k => by funext a; match a with | ⟨0, _⟩ => rfl | ⟨1, _⟩ => rfl | ⟨2, _⟩ => rfl
  simp only [e0, v27_at]
  show Ideal.div (Ideal.ofBits .f32 0x00000000#32 + _) _ = _
  rw [zero_word, zero_add]
  rfl

theorem v33_at (r : Fin 16384) (e : Fin 2048) : (val_main_v33 (F := Ideal) x0 x1 x2 x3 x4 x5 (ix3 0 r e) : EReal)
    = row x0 x1 x2 x3 x4 x5 r e - Ideal.div (∑ k, row x0 x1 x2 x3 x4 x5 r k) (Ideal.ofBits .f32 0x45000000#32) := by
  rw [val_main_v33_apply, val_main_v32_apply, v27_at]
  have e0 : idx_main_v32 (ix3 0 r e) = ix3 0 r 0 := by funext a; match a with | ⟨0, _⟩ => rfl | ⟨1, _⟩ => rfl | ⟨2, _⟩ => rfl
  rw [e0, v31_at]
  rfl

theorem v40_at (r : Fin 16384) (e : Fin 2048) : (val_main_v40 (F := Ideal) x0 x1 x2 x3 x4 x5 (ix3 0 r e) : EReal)
    = row x0 x1 x2 x3 x4 x5 r e - Ideal.div (∑ k, row x0 x1 x2 x3 x4 x5 r k) (Ideal.ofBits .f32 0x45000000#32) := by
  rw [val_main_v40_apply, val_main_v39_apply, v27_at]
  have e0 : idx_main_v39 (ix3 0 r e) = ix3 0 r 0 := by funext a; match a with | ⟨0, _⟩ => rfl | ⟨1, _⟩ => rfl | ⟨2, _⟩ => rfl
  rw [e0, v31_at]
  rfl

theorem v43_at (r : Fin 16384) : (val_main_v43 (F := Ideal) x0 x1 x2 x3 x4 x5 (ix3 0 r 0) : EReal)
    = Ideal.rsqrt (Ideal.div (∑ k, (row x0 x1 x2 x3 x4 x5 r k - Ideal.div (∑ l, row x0 x1 x2 x3 x4 x5 r l) (Ideal.ofBits .f32 0x45000000#32)) * (row x0 x1 x2 x3 x4 x5 r k - Ideal.div (∑ l, row x0 x1 x2 x3 x4 x5 r l) (Ideal.ofBits .f32 0x45000000#32)))
        (Ideal.ofBits .f32 0x45000000#32) + Ideal.ofBits .f32 0x3727C5AC#32) := by
  rw [val_main_v43_apply, val_main_v42_apply, val_main_v41_apply, val_main_cst_8_apply, val_main_v38_apply, val_main_v37_apply, val_main_cst_7_apply, val_main_v36_apply, val_main_v35_apply, val_main_cst_6_apply]
  have e0 : ∀ k, idx_main_v35 (idx_main_v36 (ix3 0 r 0)) k = ix3 0 r k := fun k => by funext a; match a with | ⟨0, _⟩ => rfl | ⟨1, _⟩ => rfl | ⟨2, _⟩ => rfl
  simp only [e0, val_main_v34_apply, v33_at]
  show Ideal.rsqrt (Ideal.div (Ideal.ofBits .f32 0x00000000#32 + _) _ + _) = _
  rw [zero_word, zero_add]
  rfl

theorem v52_at (r : Fin 16384) (e : Fin 2048) : (val_main_v52 (F := Ideal) x0 x1 x2 x3 x4 x5 x6 x7 (ix2 r e) : EReal)
    = ln (row x0 x1 x2 x3 x4 x5 r) (x6 (ix1 e)) (x7 (ix1 e)) e := by
  have ei : idx_main_v52 (ix2 r e) = ix3 0 r e := by
    have hr := r.isLt
    have he := e.isLt
    funext a
    refine Fin.ext ?_
    match a with
    | ⟨0, _⟩ => rfl
    | ⟨1, _⟩ => show (r.val * 2048 + e.val) / 2048 % 16384 = r.val; omega
    | ⟨2, _⟩ => show (r.val * 2048 + e.val) % 2048 = e.val; omega
  have e44 : idx_main_v44 (ix3 0 r e) = ix3 0 r 0 := by funext a; match a with | ⟨0, _⟩ => rfl | ⟨1, _⟩ => rfl | ⟨2, _⟩ => rfl
  have e46 : idx_main_v46 (idx_main_v47 (ix3 0 r e)) = ix1 e := by funext a; match a with | ⟨0, _⟩ => rfl
  have e49 : idx_main_v49 (idx_main_v50 (ix3 0 r e)) = ix1 e := by funext a; match a with | ⟨0, _⟩ => rfl
  rw [val_main_v52_apply, ei, val_main_v51_apply, val_main_v50_apply, val_main_v49_apply, val_main_v48_apply, val_main_v47_apply, val_main_v46_apply, val_main_v45_apply,
    val_main_v44_apply, e44, e46, e49, v40_at, v43_at]
  rfl

end Cert.Reference3Ideal.Merge

end
-- ==== Proof.Merge.Value.lean ====
module

public import proofs.«01_k».proof.Proof.Merge.Point
public import proofs.«01_k».proof.Proof.Merge.Blocks
public import proofs.«01_k».proof.Proof.Merge.Ref
public import proofs.«01_k».proof.Proof.Ffn.Value

@[expose] public section

set_option maxRecDepth 16384

noncomputable section

namespace Cert.Kernel3Ideal.Merge

open Cert.Kernel3Ideal Cert.Kernel3Ideal.Gen Cert.Kernel3Ideal.Value Idealize.ShloMosaic Idealize.ShloMosaic.TcCoe
open Cert.Kernel2Ideal.Ffn (ln sum_tiles)
open Cert.Reference3Ideal.Merge (both lin gate)

variable (m : (ℓ : Loc nD τ sig) → Buf (Elt Ideal) ℓ)

/-! The merge kernel's result: the output projection's sum, taken in four tiles, then the layer normalization. -/

/-- Row `r`'s gated sum at the column `g`, times the column's weight to the entry `e`. -/
def term (c : Dev nD) (r : Fin 16384) (e g : Fin 2048) : EReal := both (X m c) (Y m c) (A m c) (Wi m c) (Wl m c) r g * Wo m c (ix2 g e)

/-- What a point of the grid adds. -/
theorem add_at (c : Dev nD) (t : Fin cfg0.N) (x : Vec Ideal S512x2048 .bf16) (acc : Vec Ideal S512x2048 .f32) (p : Fin 512) (e : Fin 2048) (r : Fin 16384)
    (hr : r.val = 512 * (t.val / 4) + p.val) (hx : ∀ k, (x (ix2 p k) : EReal) = X m c (ix3 0 r k)) :
    add m c t x acc (ix2 p e) = (acc (ix2 p e) : EReal) + ∑ f : Fin 512, term m c r e ⟨t.val % 4 * 512 + f.val, by omega⟩ := by
  unfold add
  refine (pay1_apply ..).trans ?_
  refine congrArg (fun z : EReal => (acc (ix2 p e) : EReal) + z) (Finset.sum_congr rfl fun f _ => ?_)
  unfold term both lin gate
  rw [pay5_apply]
  refine congrArg₂ (· * ·) ?_ (blk7 m c t f e _ rfl)
  simp only [hx]
  have e2 := blk2 m c t p f r hr ⟨t.val % 4 * 512 + f.val, by omega⟩ rfl
  have e1 := fun k => blk1 m c t p k r hr
  have e3 := fun k => blk3 m c t k f ⟨t.val % 4 * 512 + f.val, by omega⟩ rfl
  have e4 := fun k => blk4 m c t k f ⟨2048 + (t.val % 4 * 512 + f.val), by omega⟩ rfl
  have e5 := fun k => blk5 m c t k f ⟨t.val % 4 * 512 + f.val, by omega⟩ rfl
  have e6 := fun k => blk6 m c t k f ⟨2048 + (t.val % 4 * 512 + f.val), by omega⟩ rfl
  rw [e2]
  simp only [e1, e3, e4, e5, e6]

/-- The copy of the rows and the accumulator, before the last of a block's four points. -/
theorem scr_at (c : Dev nD) (q : ℕ) (p : Fin 512) (r : Fin 16384) (hr : r.val = 512 * q + p.val) :
    ∀ (j : ℕ) (hj : j ≤ 2) (h : 4 * q + j < cfg0.N),
      (∀ k, ((outsAt0 m c (4 * q + j) h).2.1 (ix2 p k) : EReal) = X m c (ix3 0 r k))
      ∧ ∀ e, (outsAt0 m c (4 * q + j) h).2.2 (ix2 p e)
        = (∑ i ∈ Finset.range (j + 1), ∑ f : Fin 512, term m c r e ⟨i % 4 * 512 + f.val, by omega⟩ : EReal) := by
  intro j
  induction j with
  | zero =>
    intro _ h
    have hq : r.val = 512 * (4 * q / 4) + p.val := by omega
    have hx : ∀ k, (k0_pay3 (F := Ideal) (iblk m c 0 ⟨4 * q, h⟩) (ix2 p k) : EReal) = X m c (ix3 0 r k) := fun k =>
      (pay3_apply ..).trans (blk0 m c ⟨4 * q, h⟩ p k r hq)
    refine ⟨fun k => ?_, fun e => ?_⟩
    · exact (congrFun (first_x m c ⟨4 * q, h⟩ (by show 4 * q % 4 = 0; omega) (by show ¬4 * q % 4 = 3; omega)) _).trans (hx k)
    · refine (congrFun (first_acc m c ⟨4 * q, h⟩ (by show 4 * q % 4 = 0; omega) (by show ¬4 * q % 4 = 3; omega)) _).trans ?_
      rw [add_at m c ⟨4 * q, h⟩ _ _ p e r hq hx, pay4_apply, zero_add, Finset.sum_range_one]
      refine Finset.sum_congr rfl fun f _ => congrArg (term m c r e) (Fin.ext ?_)
      show 4 * q % 4 * 512 + f.val = 0 % 4 * 512 + f.val
      omega
  | succ j ih =>
    intro hj h
    obtain ⟨ix, ia⟩ := ih (by omega) (Nat.lt_of_succ_lt h)
    refine ⟨fun k => ?_, fun e => ?_⟩
    · exact (congrFun (next_x m c (4 * q + j) h (by omega)) _).trans (ix k)
    · refine (congrFun (next_acc m c (4 * q + j) h (by omega) (by omega)) _).trans ?_
      rw [add_at m c ⟨4 * q + j + 1, h⟩ _ _ p e r (by rw [hr]; show _ = 512 * ((4 * q + j + 1) / 4) + _; omega) ix, ia, Finset.sum_range_succ _ (j + 1)]
      refine congrArg (fun z : EReal => _ + z) (Finset.sum_congr rfl fun f _ => congrArg (term m c r e) (Fin.ext ?_))
      show (4 * q + j + 1) % 4 * 512 + f.val = (j + 1) % 4 * 512 + f.val
      omega

/-- The reference's result, from the kernel's arguments. -/
def refOut (c : Dev nD) : Buf (Elt Ideal) ((c : Thread nD τ).loc main_v11) :=
  Cert.Reference3Ideal.Read.val_main_v52 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem out_eq (c : Dev nD) : G10 m c = refOut m c := by
  funext i
  obtain ⟨r, e, rfl⟩ : ∃ (r : Fin 16384) (e : Fin 2048), i = ix2 r e := ⟨i 0, i 1, by funext a; match a with | ⟨0, _⟩ => rfl | ⟨1, _⟩ => rfl⟩
  have hr := r.isLt
  have he := e.isLt
  have hrun : pt10Of (ix2 r e) = 4 * (r.val / 512) + 2 + 1 := by
    show 4 * (1 * (r.val / 512 - 0) + 1 * (e.val / 2048 - 0)) + 3 = _
    omega
  have hlt : 4 * (r.val / 512) + 2 + 1 < cfg0.N := by rw [show cfg0.N = 128 from N_0]; omega
  have hloc : loc10Of (ix2 r e) = ix2 (⟨r.val % 512, by omega⟩ : Fin 512) e := by
    funext a
    refine Fin.ext ?_
    match a with
    | ⟨0, _⟩ => rfl
    | ⟨1, _⟩ => show e.val % 2048 = e.val; omega
  refine Eq.trans ?_ (Cert.Reference3Ideal.Merge.v52_at _ _ _ _ _ _ _ _ r e).symm
  unfold G10
  rw [dif_pos (by rw [hrun]; exact hlt), hloc, fold0_congr m c _ _ (4 * (r.val / 512) + 2 + 1) (by omega) hrun, ← outsAt0_sweep m c _ hlt]
  have hq : r.val = 512 * (r.val / 512) + r.val % 512 := by omega
  have hq' : r.val = 512 * ((4 * (r.val / 512) + 2 + 1) / 4) + r.val % 512 := by omega
  obtain ⟨ix, ia⟩ := scr_at m c (r.val / 512) ⟨r.val % 512, by omega⟩ r hq 2 (le_refl _) (Nat.lt_of_succ_lt hlt)
  refine (congrFun (last_out m c (4 * (r.val / 512) + 2) hlt (by omega) (by omega)) _).trans ?_
  rw [pay2_apply, blk8, blk9]
  refine congrArg (fun y => ln y _ _ e) (funext fun k => ?_)
  rw [add_at m c ⟨4 * (r.val / 512) + 2 + 1, hlt⟩ _ _ _ k r hq' ix, blk0 m c ⟨4 * (r.val / 512) + 2 + 1, hlt⟩ _ k r hq', ia]
  unfold Cert.Reference3Ideal.Merge.row
  refine congrArg (fun z : EReal => Ideal.ofBits .f32 0x3F9837F0#32 * X m c (ix3 0 r k) + z) ?_
  have ht : (∑ i ∈ Finset.range (3 + 1), ∑ f : Fin 512, term m c r k ⟨i % 4 * 512 + f.val, by omega⟩ : EReal) = ∑ g, term m c r k g := by
    refine sum_tiles 4 512 rfl _ _ fun j => Finset.sum_congr rfl fun f _ => congrArg (term m c r k) (Fin.ext ?_)
    show j.val % 4 * 512 + f.val = j.val * 512 + f.val
    have := j.isLt
    omega
  rw [Finset.sum_range_succ] at ht
  refine Eq.trans (congrArg (fun z : EReal => _ + z) (Finset.sum_congr rfl fun f _ => congrArg (term m c r k) (Fin.ext ?_))) ht
  show (4 * (r.val / 512) + 2 + 1) % 4 * 512 + f.val = 3 % 4 * 512 + f.val
  omega

end Cert.Kernel3Ideal.Merge

end
-- ==== Proof.ProjIn.Elem.lean ====
module

public import proofs.«01_k».proof.Proof.Gen.Kernel4Ideal.Value
public import proofs.«01_k».proof.Proof.Ffn.Ref
public import Idealize.ShloMosaic.Lib.Pointwise
public import Idealize.ShloMosaic.Lib.KernelVsHost

@[expose] public section

set_option maxRecDepth 16384

noncomputable section

namespace Cert.Kernel4Ideal.ProjIn

open Cert.Kernel4Ideal Cert.Kernel4Ideal.Gen Idealize.ShloMosaic
open Cert.Reference2Ideal.Ffn (one_word zero_word)

/-! The vector expressions of the input projection's kernel over the extended reals, entry by entry. -/

/-- Root-mean-square normalization of the row `y`, at the entry `e`, times the scale `g`. -/
def rms (y : Fin 512 → EReal) (g : EReal) (e : Fin 512) : EReal :=
  y e * Ideal.rsqrt (Ideal.div (∑ k, y k * y k) (Ideal.ofBits .f32 0x44000000#32) + Ideal.ofBits .f32 0x358637BD#32) * g

/-- The rotary angle at the position `q` and the frequency `f`. -/
def angle (q : BitVec 32) (f : EReal) : EReal := ((q.toInt : ℝ) : EReal) * f

theorem pay8_apply (x : Vec Ideal S512x2048 .f32) (w : Vec Ideal S2048x2176 .bf16) (p : Fin 512) (g : Fin 2176) :
    k0_pay8 (F := Ideal) (k0_pay7 x) w (ix2 p g) = (∑ k : Fin 2048, (x (ix2 p k) : EReal) * w (ix2 k g) : EReal) := by
  pointwise [k0_pay8, k0_pay7]

theorem cut0 (z : FVec Ideal S512x2176 .f32) (p : Fin 512) (e : Fin 1024) :
    extractStridedSlice S512x1024 ![0, 0] z slices_S512x2176_o0_0_S512x1024 (ix2 p e) = z (ix2 p (⟨e.val, by omega⟩ : Fin 2176)) :=
  extractStridedSlice_apply ![0, 0] z _ (ix2 p e) (ix2 p (⟨e.val, by omega⟩ : Fin 2176)) (fun a => match a with
    | ⟨0, _⟩ => by show p.val = 0 + p.val; omega
    | ⟨1, _⟩ => by show e.val = 0 + e.val; omega)

theorem pay9_apply (x : FVec Ideal S512x2048 .bf16) (w : Vec Ideal S2048x2176 .bf16) (p : Fin 512) (e : Fin 1024) :
    k0_pay9 (F := Ideal) x w (ix2 p e) = k0_pay8 x w (ix2 p (⟨e.val, by omega⟩ : Fin 2176)) := by
  unfold k0_pay9
  generalize k0_pay8 x w = z
  exact cut0 z p e

theorem cut1024 (z : FVec Ideal S512x2176 .f32) (p : Fin 512) (e : Fin 512) :
    extractStridedSlice S512x512 ![0, 1024] z slices_S512x2176_o0_1024_S512x512 (ix2 p e) = z (ix2 p (⟨1024 + e.val, by omega⟩ : Fin 2176)) :=
  extractStridedSlice_apply ![0, 1024] z _ (ix2 p e) (ix2 p (⟨1024 + e.val, by omega⟩ : Fin 2176)) (fun a => match a with
    | ⟨0, _⟩ => by show p.val = 0 + p.val; omega
    | ⟨1, _⟩ => rfl)

theorem cut1536 (z : FVec Ideal S512x2176 .f32) (p : Fin 512) (e : Fin 512) :
    extractStridedSlice S512x512 ![0, 1536] z slices_S512x2176_o0_1536_S512x512 (ix2 p e) = z (ix2 p (⟨1536 + e.val, by omega⟩ : Fin 2176)) :=
  extractStridedSlice_apply ![0, 1536] z _ (ix2 p e) (ix2 p (⟨1536 + e.val, by omega⟩ : Fin 2176)) (fun a => match a with
    | ⟨0, _⟩ => by show p.val = 0 + p.val; omega
    | ⟨1, _⟩ => rfl)

theorem pay10_apply (x : FVec Ideal S512x2048 .bf16) (w : Vec Ideal S2048x2176 .bf16) (g : Vec Ideal S1x512 .f32) (p e : Fin 512) :
    k0_pay10 (F := Ideal) x w g (ix2 p e) = rms (fun k => k0_pay8 x w (ix2 p (⟨1024 + k.val, by omega⟩ : Fin 2176))) (g (ix2 0 e)) e := by
  unfold k0_pay10
  simp only [← cut1024]
  generalize extractStridedSlice S512x512 ![0, 1024] (k0_pay8 x w) slices_S512x2176_o0_1024_S512x512 = z
  pointwise
  rfl

theorem pay11_apply (x : FVec Ideal S512x2048 .bf16) (w : Vec Ideal S2048x2176 .bf16) (g : Vec Ideal S1x512 .f32) (p e : Fin 512) :
    k0_pay11 (F := Ideal) x w g (ix2 p e) = rms (fun k => k0_pay8 x w (ix2 p (⟨1536 + k.val, by omega⟩ : Fin 2176))) (g (ix2 0 e)) e := by
  unfold k0_pay11
  simp only [← cut1536]
  generalize extractStridedSlice S512x512 ![0, 1536] (k0_pay8 x w) slices_S512x2176_o0_1536_S512x512 = z
  pointwise
  rfl

theorem pay2_apply (q : Vec Ideal S512x1 .i32) (v : Vec Ideal S1x128 .f32) (p : Fin 512) (l : Fin 128) :
    k0_pay2 (F := Ideal) q v (ix2 p l) = angle (q (ix2 p 0)) (v (ix2 0 l)) := by
  pointwise [k0_pay2]
  rfl

/-! The tests on the lane's number. -/

theorem lt64 : ∀ l : Fin 128, IntOp.cmpi .slt (BitVec.ofNat 32 (0 * 128 + l.val)) 64#32 = if l.val < 64 then 1#1 else 0#1 := by decide
theorem lt32 : ∀ l : Fin 128, IntOp.cmpi .slt (BitVec.ofNat 32 (0 * 128 + l.val)) 32#32 = if l.val < 32 then 1#1 else 0#1 := by decide
theorem mid : ∀ l : Fin 128, IntOp.andi (IntOp.cmpi .sge (BitVec.ofNat 32 (0 * 128 + l.val)) 32#32) (IntOp.cmpi .slt (BitVec.ofNat 32 (0 * 128 + l.val)) 64#32)
    = if 32 ≤ l.val ∧ l.val < 64 then 1#1 else 0#1 := by decide
theorem eq64 : ∀ l : Fin 128, IntOp.cmpi .eq (BitVec.ofNat 32 (0 * 128 + l.val)) 64#32 = if l.val = 64 then 1#1 else 0#1 := by decide

theorem sel {b : BitVec 1} {P : Prop} [Decidable P] (h : b = if P then 1#1 else 0#1) (x y : EReal) : Scalar.select b x y = if P then x else y := by
  subst h
  by_cases hP : P
  · simp [hP, Scalar.select]
  · simp [hP, Scalar.select]

theorem pay4_apply (q : Vec Ideal S512x1 .i32) (v : Vec Ideal S1x128 .f32) (p : Fin 512) (l : Fin 128) :
    k0_pay4 (F := Ideal) q v (ix2 p l) = if l.val < 64 then Ideal.cos (angle (q (ix2 p 0)) (v (ix2 0 l))) else 0 := by
  refine (sel (lt64 l) (Ideal.cos (k0_pay2 (F := Ideal) q v (ix2 p l))) (Ideal.ofBits .f32 0x00000000#32)).trans ?_
  rw [pay2_apply, zero_word]

theorem pay5_apply (q : Vec Ideal S512x1 .i32) (v : Vec Ideal S1x128 .f32) (p : Fin 512) (l : Fin 128) :
    k0_pay5 (F := Ideal) q v (ix2 p l) = if l.val < 32 then -Ideal.sin (angle (q (ix2 p 0)) (v (ix2 0 l))) else 0 := by
  refine (sel (lt32 l) (Ideal.ofBits .f32 0x00000000#32 - Ideal.sin (k0_pay2 (F := Ideal) q v (ix2 p l))) (Ideal.ofBits .f32 0x00000000#32)).trans ?_
  rw [pay2_apply, zero_word, sub_eq_add_neg, zero_add]

theorem pay6_apply (q : Vec Ideal S512x1 .i32) (v : Vec Ideal S1x128 .f32) (p : Fin 512) (l : Fin 128) :
    k0_pay6 (F := Ideal) q v (ix2 p l) = if 32 ≤ l.val ∧ l.val < 64 then Ideal.sin (angle (q (ix2 p 0)) (v (ix2 0 l))) else 0 := by
  refine (sel (mid l) (Ideal.sin (k0_pay2 (F := Ideal) q v (ix2 p l))) (Ideal.ofBits .f32 0x00000000#32)).trans ?_
  rw [pay2_apply, zero_word]

theorem cut2048 (z : FVec Ideal S512x2176 .f32) (p : Fin 512) (l : Fin 128) :
    extractStridedSlice S512x128 ![0, 2048] z slices_S512x2176_o0_2048_S512x128 (ix2 p l) = z (ix2 p (⟨2048 + l.val, by omega⟩ : Fin 2176)) :=
  extractStridedSlice_apply ![0, 2048] z _ (ix2 p l) (ix2 p (⟨2048 + l.val, by omega⟩ : Fin 2176)) (fun a => match a with
    | ⟨0, _⟩ => by show p.val = 0 + p.val; omega
    | ⟨1, _⟩ => rfl)

theorem rot (n : ℕ) (hn : n < 128) (z : FVec Ideal S512x128 .f32) (p : Fin 512) (l : Fin 128) :
    dynamicRotate 1 (BitVec.ofNat 32 n) none z rotates_S512x128_d1 (ix2 p l) = z (ix2 p (⟨(l.val + 128 - n) % 128, by omega⟩ : Fin 128)) :=
  dynamicRotate_apply 1 _ z _ _ _ fun b => match b with
    | ⟨0, _⟩ => rfl
    | ⟨1, _⟩ => by
      show (l.val + 128 - n) % 128 = (l.val + 128 - (BitVec.ofNat 32 n).toNat % 128) % 128
      rw [BitVec.toNat_ofNat]
      omega

theorem pay1_apply (c s t : FVec Ideal S512x128 .f32) (z : FVec Ideal S512x2176 .f32) (p : Fin 512) (l : Fin 128) :
    k0_pay1 (F := Ideal) (iota .tc S512x128 32 [1] iota_S512x128_d1_w32) c s t z 64#32 (ix2 p l)
      = if l.val = 64 then (1 : EReal) else z (ix2 p (⟨2048 + l.val, by omega⟩ : Fin 2176)) * c (ix2 p l)
          + z (ix2 p (⟨2048 + (l.val + 128 - 96) % 128, by omega⟩ : Fin 2176)) * s (ix2 p l) + z (ix2 p (⟨2048 + (l.val + 128 - 32) % 128, by omega⟩ : Fin 2176)) * t (ix2 p l) := by
  have e0 := cut2048 z p l
  have e1 := (rot 96 (by omega) (extractStridedSlice S512x128 ![0, 2048] z slices_S512x2176_o0_2048_S512x128) p l).trans (cut2048 z p _)
  have e2 := (rot 32 (by omega) (extractStridedSlice S512x128 ![0, 2048] z slices_S512x2176_o0_2048_S512x128) p l).trans (cut2048 z p _)
  rw [← e0, ← e1, ← e2]
  refine Eq.trans ?_ ((sel (eq64 l) (Ideal.ofBits .f32 0x3F800000#32) _).trans (by rw [one_word]))
  rfl

end Cert.Kernel4Ideal.ProjIn

end
-- ==== Proof.ProjIn.Ref.lean ====
module

public import proofs.«01_k».proof.Proof.Gen.Reference4Ideal.Read
public import proofs.«01_k».proof.Proof.ProjIn.Elem

@[expose] public section

set_option maxRecDepth 16384

noncomputable section

namespace Cert.Reference4Ideal.ProjIn

open Cert.Reference4Ideal Cert.Reference4Ideal.Gen Cert.Reference4Ideal.Read Idealize.ShloMosaic
open Cert.Kernel4Ideal.ProjIn (rms angle)
open Cert.Reference2Ideal.Ffn (one_word zero_word)

/-! The reference's input projection, norms and rotary embedding, entry by entry. -/

variable (x0 : S1x16384x2048.Idx → Elt Ideal .f32) (x1 : S1x16384.Idx → Elt Ideal .i32) (x2 : S2048x6208.Idx → Elt Ideal .f32) (x3 x4 : S512.Idx → Elt Ideal .f32)

/-- Entry `g` of row `r` of the projection. -/
def proj (r : Fin 16384) (g : Fin 6208) : EReal := ∑ k : Fin 2048, (x0 (ix3 0 r k) : EReal) * x2 (ix2 k g)

/-- The rotary frequencies. -/
def freq (k : Fin 32) : EReal := val_main_v10 (F := Ideal) (ix1 k)

/-- The cosine and the sine at a position and a frequency's number. -/
def cosAt (r : Fin 16384) (k : Fin 32) : EReal := Ideal.cos (angle (x1 (ix2 0 r)) (freq k))
def sinAt (r : Fin 16384) (k : Fin 32) : EReal := Ideal.sin (angle (x1 (ix2 0 r)) (freq k))

theorem v19_at (r : Fin 16384) (g : Fin 6208) : (val_main_v19 (F := Ideal) x0 x2 (ix3 0 r g) : EReal) = proj x0 x2 r g := by
  rw [val_main_v19_apply]
  have e0 : ∀ k, lidx_main_v19 (ix3 0 r g) k = ix3 0 r k := fun k => by funext a; match a with | ⟨0, _⟩ => rfl | ⟨1, _⟩ => rfl | ⟨2, _⟩ => rfl
  have e1 : ∀ k, ridx_main_v19 (ix3 0 r g) k = ix2 k g := fun k => by funext a; match a with | ⟨0, _⟩ => rfl | ⟨1, _⟩ => rfl
  simp only [e0, e1]
  rfl

theorem v38_at (r : Fin 16384) (e : Fin 1024) : (val_main_v38 (F := Ideal) x0 x2 (ix2 r e) : EReal) = proj x0 x2 r ⟨e.val, by omega⟩ := by
  have ei : idx_main_v20 (idx_main_v38 (ix2 r e)) = ix3 0 r (⟨e.val, by omega⟩ : Fin 6208) := by
    have hr := r.isLt
    have he := e.isLt
    funext a
    refine Fin.ext ?_
    match a with
    | ⟨0, _⟩ => rfl
    | ⟨1, _⟩ => show (r.val * 1024 + e.val) / 1024 % 16384 = r.val; omega
    | ⟨2, _⟩ => show (r.val * 1024 + e.val) % 1024 = e.val; omega
  rw [val_main_v38_apply, val_main_v20_apply, ei, v19_at]

theorem v21_at (r : Fin 16384) (e : Fin 512) : (val_main_v21 (F := Ideal) x0 x2 (ix3 0 r e) : EReal) = proj x0 x2 r ⟨1024 + e.val, by omega⟩ := by
  have ei : idx_main_v21 (ix3 0 r e) = ix3 0 r (⟨1024 + e.val, by omega⟩ : Fin 6208) := by funext a; match a with | ⟨0, _⟩ => rfl | ⟨1, _⟩ => rfl | ⟨2, _⟩ => rfl
  rw [val_main_v21_apply, ei, v19_at]

theorem v22_at (r : Fin 16384) (e : Fin 512) : (val_main_v22 (F := Ideal) x0 x2 (ix3 0 r e) : EReal) = proj x0 x2 r ⟨1536 + e.val, by omega⟩ := by
  have ei : idx_main_v22 (ix3 0 r e) = ix3 0 r (⟨1536 + e.val, by omega⟩ : Fin 6208) := by funext a; match a with | ⟨0, _⟩ => rfl | ⟨1, _⟩ => rfl | ⟨2, _⟩ => rfl
  rw [val_main_v22_apply, ei, v19_at]

theorem v53_at (r : Fin 16384) (e : Fin 512) : (val_main_v53 (F := Ideal) x0 x2 x3 (ix2 r e) : EReal)
    = rms (fun k => proj x0 x2 r ⟨1024 + k.val, by omega⟩) (x3 (ix1 e)) e := by
  have ei : idx_main_v52 (ix2 r e) = ix3 0 r e := by
    have hr := r.isLt
    have he := e.isLt
    funext a
    refine Fin.ext ?_
    match a with
    | ⟨0, _⟩ => rfl
    | ⟨1, _⟩ => show (r.val * 512 + e.val) / 512 % 16384 = r.val; omega
    | ⟨2, _⟩ => show (r.val * 512 + e.val) % 512 = e.val; omega
  have eg : idx_main_v49 (idx_main_v50 (ix3 0 r e)) = ix1 e := by funext a; match a with | ⟨0, _⟩ => rfl
  have es : ∀ k, idx_main_v40 (idx_main_v41 (idx_main_v47 (ix3 0 r e))) k = ix3 0 r k := fun k => by funext a; match a with | ⟨0, _⟩ => rfl | ⟨1, _⟩ => rfl | ⟨2, _⟩ => rfl
  rw [val_main_v53_apply, val_main_v52_apply, ei, val_main_v51_apply, val_main_v50_apply, val_main_v49_apply, eg, val_main_v48_apply, val_main_v47_apply, val_main_v46_apply,
    val_main_v45_apply, val_main_v44_apply, val_main_cst_8_apply, val_main_v43_apply, val_main_v42_apply, val_main_cst_7_apply, val_main_v41_apply, val_main_v40_apply, val_main_cst_6_apply]
  simp only [es, val_main_v39_apply, v21_at]
  show _ * Ideal.rsqrt (Ideal.div (Ideal.ofBits .f32 0x00000000#32 + _) _ + _) * _ = _
  rw [zero_word, zero_add]
  rfl

theorem v68_at (r : Fin 16384) (e : Fin 512) : (val_main_v68 (F := Ideal) x0 x2 x4 (ix2 r e) : EReal)
    = rms (fun k => proj x0 x2 r ⟨1536 + k.val, by omega⟩) (x4 (ix1 e)) e := by
  have ei : idx_main_v67 (ix2 r e) = ix3 0 r e := by
    have hr := r.isLt
    have he := e.isLt
    funext a
    refine Fin.ext ?_
    match a with
    | ⟨0, _⟩ => rfl
    | ⟨1, _⟩ => show (r.val * 512 + e.val) / 512 % 16384 = r.val; omega
    | ⟨2, _⟩ => show (r.val * 512 + e.val) % 512 = e.val; omega
  have eg : idx_main_v64 (idx_main_v65 (ix3 0 r e)) = ix1 e := by funext a; match a with | ⟨0, _⟩ => rfl
  have es : ∀ k, idx_main_v55 (idx_main_v56 (idx_main_v62 (ix3 0 r e))) k = ix3 0 r k := fun k => by funext a; match a with | ⟨0, _⟩ => rfl | ⟨1, _⟩ => rfl | ⟨2, _⟩ => rfl
  rw [val_main_v68_apply, val_main_v67_apply, ei, val_main_v66_apply, val_main_v65_apply, val_main_v64_apply, eg, val_main_v63_apply, val_main_v62_apply, val_main_v61_apply,
    val_main_v60_apply, val_main_v59_apply, val_main_cst_11_apply, val_main_v58_apply, val_main_v57_apply, val_main_cst_10_apply, val_main_v56_apply, val_main_v55_apply, val_main_cst_9_apply]
  simp only [es, val_main_v54_apply, v22_at]
  show _ * Ideal.rsqrt (Ideal.div (Ideal.ofBits .f32 0x00000000#32 + _) _ + _) * _ = _
  rw [zero_word, zero_add]
  rfl

theorem v16_at (r : Fin 16384) (k : Fin 32) : (val_main_v16 (F := Ideal) x1 (ix3 0 r k) : EReal) = angle (x1 (ix2 0 r)) (freq k) := by
  have e0 : idx_main_v12 (idx_main_v14 (ix3 0 r k)) = ix2 0 r := by funext a; match a with | ⟨0, _⟩ => rfl | ⟨1, _⟩ => rfl
  have e1 : idx_main_v13 (idx_main_v15 (ix3 0 r k)) = ix1 k := by funext a; match a with | ⟨0, _⟩ => rfl
  rw [val_main_v16_apply, val_main_v14_apply, val_main_v12_apply, e0, val_main_v11_apply, val_main_v15_apply, val_main_v13_apply, e1]
  rfl

theorem v17_at (r : Fin 16384) (k : Fin 32) : (val_main_v17 (F := Ideal) x1 (ix3 0 r k) : EReal) = cosAt x1 r k := by
  rw [val_main_v17_apply, v16_at]
  rfl
theorem v18_at (r : Fin 16384) (k : Fin 32) : (val_main_v18 (F := Ideal) x1 (ix3 0 r k) : EReal) = sinAt x1 r k := by
  rw [val_main_v18_apply, v16_at]
  rfl

theorem flat32 (r : Fin 16384) (k : Fin 32) : idx_main_v70 (ix2 r k) = ix3 0 r k := by
  have hr := r.isLt
  have hk := k.isLt
  funext a
  refine Fin.ext ?_
  match a with
  | ⟨0, _⟩ => rfl
  | ⟨1, _⟩ => show (r.val * 32 + k.val) / 32 % 16384 = r.val; omega
  | ⟨2, _⟩ => show (r.val * 32 + k.val) % 32 = k.val; omega

theorem v70_at (r : Fin 16384) (k : Fin 32) : (val_main_v70 (F := Ideal) x1 (ix2 r k) : EReal) = cosAt x1 r k := by
  rw [val_main_v70_apply, flat32, v17_at]
theorem v71_at (r : Fin 16384) (k : Fin 32) : (val_main_v71 (F := Ideal) x1 (ix2 r k) : EReal) = cosAt x1 r k := v70_at x1 r k
theorem v79_at (r : Fin 16384) (k : Fin 32) : (val_main_v79 (F := Ideal) x1 (ix2 r k) : EReal) = sinAt x1 r k := by
  rw [val_main_v79_apply]
  exact (congrArg (val_main_v18 (F := Ideal) x1) (flat32 r k)).trans (v18_at x1 r k)
theorem v75_at (r : Fin 16384) (k : Fin 32) : (val_main_v75 (F := Ideal) x1 (ix2 r k) : EReal) = -sinAt x1 r k := by
  rw [val_main_v75_apply]
  exact congrArg (fun z : EReal => -z) (v79_at x1 r k)

/-- The table of cosines. -/
theorem v73_at (r : Fin 16384) (l : Fin 128) : (val_main_v73 (F := Ideal) x1 (ix2 r l) : EReal)
    = if h : l.val < 32 then cosAt x1 r ⟨l.val, h⟩ else if h' : l.val < 64 then cosAt x1 r ⟨l.val - 32, by omega⟩ else 0 := by
  unfold val_main_v73
  pointwise
  split
  · exact v70_at ..
  split
  · refine (v71_at ..).trans ?_; rw [dif_pos (show l.val < 64 by omega)]
  · refine zero_word.trans ?_; rw [dif_neg (show ¬l.val < 64 by omega)]

theorem v77_at (r : Fin 16384) (l : Fin 128) : (val_main_v77 (F := Ideal) x1 (ix2 r l) : EReal)
    = if h : l.val < 32 then -sinAt x1 r ⟨l.val, h⟩ else 0 := by
  unfold val_main_v77
  pointwise
  split
  · exact v75_at ..
  · exact zero_word

theorem v81_at (r : Fin 16384) (l : Fin 128) : (val_main_v81 (F := Ideal) x1 (ix2 r l) : EReal)
    = if h : l.val < 32 then 0 else if h' : l.val < 64 then sinAt x1 r ⟨l.val - 32, by omega⟩ else 0 := by
  unfold val_main_v81
  pointwise
  split
  · exact zero_word
  split
  · refine (v79_at ..).trans ?_; rw [dif_pos (show l.val < 64 by omega)]
  · refine zero_word.trans ?_; rw [dif_neg (show ¬l.val < 64 by omega)]

theorem v25_at (r : Fin 16384) (k : Fin 32) : (val_main_v25 (F := Ideal) x0 x2 (ix3 0 r k) : EReal) = proj x0 x2 r ⟨2048 + k.val, by omega⟩ := by
  have ei : idx_main_v23 (idx_main_v25 (ix3 0 r k)) = ix3 0 r (⟨2048 + k.val, by omega⟩ : Fin 6208) := by
    funext a; match a with | ⟨0, _⟩ => rfl | ⟨1, _⟩ => rfl | ⟨2, _⟩ => rfl
  rw [val_main_v25_apply, val_main_v23_apply, ei, v19_at]
theorem v26_at (r : Fin 16384) (k : Fin 32) : (val_main_v26 (F := Ideal) x0 x2 (ix3 0 r k) : EReal) = proj x0 x2 r ⟨2048 + (32 + k.val), by omega⟩ := by
  have ei : idx_main_v23 (idx_main_v26 (ix3 0 r k)) = ix3 0 r (⟨2048 + (32 + k.val), by omega⟩ : Fin 6208) := by
    funext a; match a with | ⟨0, _⟩ => rfl | ⟨1, _⟩ => rfl | ⟨2, _⟩ => rfl
  rw [val_main_v26_apply, val_main_v23_apply, ei, v19_at]

theorem v29_at (r : Fin 16384) (k : Fin 32) : (val_main_v29 (F := Ideal) x0 x1 x2 (ix3 0 r k) : EReal)
    = proj x0 x2 r ⟨2048 + k.val, by omega⟩ * cosAt x1 r k - proj x0 x2 r ⟨2048 + (32 + k.val), by omega⟩ * sinAt x1 r k := by
  rw [val_main_v29_apply, val_main_v27_apply, val_main_v28_apply, v25_at, v26_at, v17_at, v18_at]
  rfl
theorem v32_at (r : Fin 16384) (k : Fin 32) : (val_main_v32 (F := Ideal) x0 x1 x2 (ix3 0 r k) : EReal)
    = proj x0 x2 r ⟨2048 + k.val, by omega⟩ * sinAt x1 r k + proj x0 x2 r ⟨2048 + (32 + k.val), by omega⟩ * cosAt x1 r k := by
  rw [val_main_v32_apply, val_main_v30_apply, val_main_v31_apply, v25_at, v26_at, v17_at, v18_at]
  rfl

theorem v34_at (r : Fin 16384) (l : Fin 64) : (val_main_v34 (F := Ideal) x0 x1 x2 (ix2 r l) : EReal)
    = if h : l.val < 32 then proj x0 x2 r ⟨2048 + l.val, by omega⟩ * cosAt x1 r ⟨l.val, h⟩ - proj x0 x2 r ⟨2048 + (32 + l.val), by omega⟩ * sinAt x1 r ⟨l.val, h⟩
      else proj x0 x2 r ⟨2048 + (l.val - 32), by omega⟩ * sinAt x1 r ⟨l.val - 32, by omega⟩
        + proj x0 x2 r ⟨2048 + (32 + (l.val - 32)), by omega⟩ * cosAt x1 r ⟨l.val - 32, by omega⟩ := by
  have ei : idx_main_v34 (ix2 r l) = ix3 0 r l := by
    have hr := r.isLt
    have hl := l.isLt
    funext a
    refine Fin.ext ?_
    match a with
    | ⟨0, _⟩ => rfl
    | ⟨1, _⟩ => show (r.val * 64 + l.val) / 64 % 16384 = r.val; omega
    | ⟨2, _⟩ => show (r.val * 64 + l.val) % 64 = l.val; omega
  rw [val_main_v34_apply, ei]
  unfold val_main_v33
  pointwise
  split
  · exact v29_at ..
  · exact v32_at ..

/-- The rotary key. -/
theorem v69_at (r : Fin 16384) (l : Fin 128) : (val_main_v69 (F := Ideal) x0 x1 x2 (ix2 r l) : EReal)
    = if h : l.val < 64 then val_main_v34 (F := Ideal) x0 x1 x2 (ix2 r ⟨l.val, h⟩) else if l.val = 64 then 1 else 0 := by
  rw [val_main_v69_apply]
  unfold val_main_v37
  pointwise
  split
  · rfl
  split
  · exact one_word.trans (if_pos (by omega)).symm
  · exact zero_word.trans (if_neg (by omega)).symm

end Cert.Reference4Ideal.ProjIn

end
-- ==== Proof.ProjIn.Blocks.lean ====
module

public import proofs.«01_k».proof.Proof.ProjIn.Ref
public import Idealize.ShloMosaic.Lib.Tactic

@[expose] public section

set_option maxRecDepth 16384

noncomputable section

namespace Cert.Kernel4Ideal.ProjIn

open Cert.Kernel4Ideal Cert.Kernel4Ideal.Gen Idealize.ShloMosaic Idealize.ShloMosaic.TcCoe Idealize.ShloMosaic.Tactic
open Cert.Reference4Ideal.ProjIn (freq)

variable (m : (ℓ : Loc nD τ sig) → Buf (Elt Ideal) ℓ)

/-! The blocks of the input projection's operands, entry by entry. -/

abbrev X (c : Dev nD) (i : S1x16384x2048.Idx) : EReal := m ((c.tc : Thread nD τ).loc main_arg0) i
abbrev Q (c : Dev nD) (i : S1x16384.Idx) : BitVec 32 := m ((c.tc : Thread nD τ).loc main_arg1) i
abbrev W (c : Dev nD) (i : S2048x6208.Idx) : EReal := m ((c.tc : Thread nD τ).loc main_arg2) i
abbrev Gq (c : Dev nD) (i : S512.Idx) : EReal := m ((c.tc : Thread nD τ).loc main_arg3) i
abbrev Gk (c : Dev nD) (i : S512.Idx) : EReal := m ((c.tc : Thread nD τ).loc main_arg4) i

theorem V1 (c : Dev nD) : V m c main_v1 = extractStridedSlice S2048x2176 ![0, 0]
    (truncf (F := Ideal) (s := S2048x6208) (φ := .f32) .bf16 (m ((c.tc : Thread nD τ).loc main_arg2)) bitsLt_bf16_f32) slices_S2048x6208_S2048x2176_0_0 := by
  show StableHlo.after hostOps0 (fun b => m (c, b)) main_v1 = _
  after_results
  first | done | rfl
theorem V2 (c : Dev nD) : V m c main_v2 = shapeCast S16384x2048 (m ((c.tc : Thread nD τ).loc main_arg0)) shapeCasts_S1x16384x2048_S16384x2048 := by
  show StableHlo.after hostOps0 (fun b => m (c, b)) main_v2 = _
  after_results
  first | done | rfl
theorem V3 (c : Dev nD) : V m c main_v3 = shapeCast S1x512 (m ((c.tc : Thread nD τ).loc main_arg3)) shapeCasts_S512_S1x512 := by
  show StableHlo.after hostOps0 (fun b => m (c, b)) main_v3 = _
  after_results
  first | done | rfl
theorem V4 (c : Dev nD) : V m c main_v4 = shapeCast S1x512 (m ((c.tc : Thread nD τ).loc main_arg4)) shapeCasts_S512_S1x512 := by
  show StableHlo.after hostOps0 (fun b => m (c, b)) main_v4 = _
  after_results
  first | done | rfl
theorem V6 (c : Dev nD) : V m c main_v6 = shapeCast S16384x1 (shapeCast S16384 (m ((c.tc : Thread nD τ).loc main_arg1)) shapeCasts_S1x16384_S16384) shapeCasts_S16384_S16384x1 := by
  show StableHlo.after hostOps0 (fun b => m (c, b)) main_v6 = _
  after_results
  first | done | rfl

/-- The frequencies twice over, then zeros. -/
def freqs : S128.Idx → Elt Ideal .f32 :=
  concatenate S128 0 [⟨S32, (Cert.Reference4Ideal.Read.val_main_v10 (F := Ideal) : S32.Idx → Elt Ideal .f32)⟩,
    ⟨S32, (Cert.Reference4Ideal.Read.val_main_v10 (F := Ideal) : S32.Idx → Elt Ideal .f32)⟩,
    ⟨S64, broadcastInDim S64 ![] bcast_S_S64 (constant (F := Ideal) S_ .f32 0x00000000#32)⟩] concatenates_S32_S32_S64_S128_d0

theorem V20 (c : Dev nD) : V m c main_v20 = shapeCast S1x128 freqs shapeCasts_S128_S1x128 := by
  show StableHlo.after hostOps0 (fun b => m (c, b)) main_v20 = _
  after_results
  first | done | rfl

theorem freqs_at (l : Fin 128) : (freqs (ix1 l) : EReal) = if h : l.val < 32 then freq ⟨l.val, h⟩ else if h' : l.val < 64 then freq ⟨l.val - 32, by omega⟩ else 0 := by
  unfold freqs
  pointwise
  split
  · rfl
  split
  · rw [dif_pos (show l.val < 64 by omega)]; rfl
  · rw [dif_neg (show ¬l.val < 64 by omega)]

theorem rows_cast (Z : S1x16384x2048.Idx → Elt Ideal .f32) (r : Fin 16384) (k : Fin 2048) :
    shapeCast S16384x2048 Z shapeCasts_S1x16384x2048_S16384x2048 (ix2 r k) = Z (ix3 0 r k) :=
  shapeCast_apply Z shapeCasts_S1x16384x2048_S16384x2048 (ix2 r k) (ix3 0 r k)
    (by rewrite [Shape.rowMajor_val_three, Shape.rowMajor_val_two]; show (0 * 16384 + r.val) * 2048 + k.val = r.val * 2048 + k.val; omega)

theorem vec_cast (Z : S512.Idx → Elt Ideal .f32) (e : Fin 512) :
    shapeCast S1x512 Z shapeCasts_S512_S1x512 (ix2 0 e) = Z (ix1 e) := by
  pointwise

theorem lane_cast (Z : S128.Idx → Elt Ideal .f32) (l : Fin 128) :
    shapeCast S1x128 Z shapeCasts_S128_S1x128 (ix2 0 l) = Z (ix1 l) := by
  pointwise

theorem pos_cast (Z : S1x16384.Idx → Elt Ideal .i32) (r : Fin 16384) :
    shapeCast S16384x1 (shapeCast S16384 Z shapeCasts_S1x16384_S16384) shapeCasts_S16384_S16384x1 (ix2 r 0) = Z (ix2 0 r) := by
  rw [shapeCast_apply _ shapeCasts_S16384_S16384x1 (ix2 r 0) (ix1 r)
    (by rewrite [Shape.rowMajor_val_one, Shape.rowMajor_val_two]; show r.val = r.val * 1 + 0; omega)]
  exact shapeCast_apply _ shapeCasts_S1x16384_S16384 (ix1 r) (ix2 0 r)
    (by rewrite [Shape.rowMajor_val_one, Shape.rowMajor_val_two]; show 0 * 16384 + r.val = r.val; omega)

theorem cols_cut (Z : S2048x6208.Idx → Elt Ideal .bf16) (k : Fin 2048) (g : Fin 2176) :
    extractStridedSlice S2048x2176 ![0, 0] Z slices_S2048x6208_S2048x2176_0_0 (ix2 k g) = Z (ix2 k (⟨g.val, by omega⟩ : Fin 6208)) :=
  extractStridedSlice_apply ![0, 0] Z slices_S2048x6208_S2048x2176_0_0 (ix2 k g) (ix2 k (⟨g.val, by omega⟩ : Fin 6208)) (fun a => match a with
    | ⟨0, _⟩ => by show k.val = 0 + k.val; omega
    | ⟨1, _⟩ => by show g.val = 0 + g.val; omega)

theorem index_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N, _)

theorem blk0 (c : Dev nD) (t : Fin cfg0.N) (p : Fin 512) (k : Fin 2048) (r : Fin 16384) (hr : r.val = 512 * t.val + p.val) :
    (iblk m c 0 t : Vec Ideal S512x2048 .f32) (ix2 p k) = X m c (ix3 0 r k) := by
  obtain ⟨⟨e0, e1⟩, -⟩ := index_facts t
  show V m c main_v2 (((cfg0.win 0).blk t).view.emb (ix2 p k)) = _
  have h : ((cfg0.win 0).blk t).view.emb (ix2 p k) = ix2 r k := by
    funext a
    refine Fin.ext ?_
    match a with
    | ⟨0, _⟩ => show win0_0.index t (0 : Fin 2) * 512 + 1 * p.val = r.val; omega
    | ⟨1, _⟩ => show win0_0.index t (1 : Fin 2) * 2048 + 1 * k.val = k.val; omega
  rw [h, V2]
  exact rows_cast _ r k

theorem blk1 (c : Dev nD) (t : Fin cfg0.N) (k : Fin 2048) (g : Fin 2176) :
    (iblk m c 1 t : Vec Ideal S2048x2176 .bf16) (ix2 k g) = W m c (ix2 k (⟨g.val, by omega⟩ : Fin 6208)) := by
  obtain ⟨-, ⟨e0, e1⟩, -⟩ := index_facts t
  show V m c main_v1 (((cfg0.win 1).blk t).view.emb (ix2 k g)) = _
  have h : ((cfg0.win 1).blk t).view.emb (ix2 k g) = ix2 k g := by
    funext a
    refine Fin.ext ?_
    match a with
    | ⟨0, _⟩ => show win0_1.index t (0 : Fin 2) * 2048 + 1 * k.val = k.val; omega
    | ⟨1, _⟩ => show win0_1.index t (1 : Fin 2) * 2176 + 1 * g.val = g.val; omega
  rw [h, V1]
  exact cols_cut _ k g

theorem blk2 (c : Dev nD) (t : Fin cfg0.N) (e : Fin 512) :
    (iblk m c 2 t : Vec Ideal S1x512 .f32) (ix2 0 e) = Gq m c (ix1 e) := by
  obtain ⟨-, -, ⟨e0, e1⟩, -⟩ := index_facts t
  show V m c main_v3 (((cfg0.win 2).blk t).view.emb (ix2 0 e)) = _
  have h : ((cfg0.win 2).blk t).view.emb (ix2 0 e) = ix2 0 e := by
    funext a
    refine Fin.ext ?_
    match a with
    | ⟨0, _⟩ => show win0_2.index t (0 : Fin 2) * 1 + 1 * 0 = 0; omega
    | ⟨1, _⟩ => show win0_2.index t (1 : Fin 2) * 512 + 1 * e.val = e.val; omega
  rw [h, V3]
  exact vec_cast _ e

theorem blk3 (c : Dev nD) (t : Fin cfg0.N) (e : Fin 512) :
    (iblk m c 3 t : Vec Ideal S1x512 .f32) (ix2 0 e) = Gk m c (ix1 e) := by
  obtain ⟨-, -, -, ⟨e0, e1⟩, -⟩ := index_facts t
  show V m c main_v4 (((cfg0.win 3).blk t).view.emb (ix2 0 e)) = _
  have h : ((cfg0.win 3).blk t).view.emb (ix2 0 e) = ix2 0 e := by
    funext a
    refine Fin.ext ?_
    match a with
    | ⟨0, _⟩ => show win0_3.index t (0 : Fin 2) * 1 + 1 * 0 = 0; omega
    | ⟨1, _⟩ => show win0_3.index t (1 : Fin 2) * 512 + 1 * e.val = e.val; omega
  rw [h, V4]
  exact vec_cast _ e

theorem blk4 (c : Dev nD) (t : Fin cfg0.N) (p : Fin 512) (r : Fin 16384) (hr : r.val = 512 * t.val + p.val) :
    (iblk m c 4 t : Vec Ideal S512x1 .i32) (ix2 p 0) = Q m c (ix2 0 r) := by
  obtain ⟨-, -, -, -, ⟨e0, e1⟩, -⟩ := index_facts t
  show V m c main_v6 (((cfg0.win 4).blk t).view.emb (ix2 p 0)) = _
  have h : ((cfg0.win 4).blk t).view.emb (ix2 p 0) = ix2 r 0 := by
    funext a
    refine Fin.ext ?_
    match a with
    | ⟨0, _⟩ => show win0_4.index t (0 : Fin 2) * 512 + 1 * p.val = r.val; omega
    | ⟨1, _⟩ => show win0_4.index t (1 : Fin 2) * 1 + 1 * 0 = 0; omega
  rw [h, V6]
  exact pos_cast _ r

theorem blk5 (c : Dev nD) (t : Fin cfg0.N) (l : Fin 128) :
    (iblk m c 5 t : Vec Ideal S1x128 .f32) (ix2 0 l) = freqs (ix1 l) := by
  obtain ⟨-, -, -, -, -, ⟨e0, e1⟩⟩ := index_facts t
  show V m c main_v20 (((cfg0.win 5).blk t).view.emb (ix2 0 l)) = _
  have h : ((cfg0.win 5).blk t).view.emb (ix2 0 l) = ix2 0 l := by
    funext a
    refine Fin.ext ?_
    match a with
    | ⟨0, _⟩ => show win0_5.index t (0 : Fin 2) * 1 + 1 * 0 = 0; omega
    | ⟨1, _⟩ => show win0_5.index t (1 : Fin 2) * 128 + 1 * l.val = l.val; omega
  rw [h, V20]
  exact lane_cast _ l

end Cert.Kernel4Ideal.ProjIn

end
-- ==== Proof.ProjIn.Value.lean ====
module

public import proofs.«01_k».proof.Proof.ProjIn.Blocks

@[expose] public section

set_option maxRecDepth 16384

noncomputable section

namespace Cert.Kernel4Ideal.ProjIn

open Cert.Kernel4Ideal Cert.Kernel4Ideal.Gen Cert.Kernel4Ideal.Value Idealize.ShloMosaic Idealize.ShloMosaic.TcCoe
open Cert.Reference4Ideal.ProjIn Cert.Reference4Ideal.Read

variable (m : (ℓ : Loc nD τ sig) → Buf (Elt Ideal) ℓ)

/-! The input projection's seven results. -/

theorem hz2 : (![0, 0] : Fin 2 → Nat) = fun _ => 0 := funext fun a => by fin_cases a <;> rfl

/-! What a point writes, from its blocks. -/

section Outs
variable (x0 : Vec Ideal S512x2048 .f32) (x1 : Vec Ideal S2048x2176 .bf16) (x2 x3 : Vec Ideal S1x512 .f32) (x4 : Vec Ideal S512x1 .i32) (x5 : Vec Ideal S1x128 .f32)

theorem out6 : out0_6 (F := Ideal) x0 x1 x2 x3 x4 x5 = k0_pay9 (k0_pay7 x0) x1 := by
  unfold out0_6 k0_pay12
  rw [View.canon_unit_zero hz2]
  simp only [View.ld_unit_zero (S := S512x2048) hz2, View.ld_unit_zero (S := S2048x2176) hz2]
theorem out7 : out0_7 (F := Ideal) x0 x1 x2 x3 x4 x5 = k0_pay10 (k0_pay7 x0) x1 x2 := by
  unfold out0_7 k0_pay12
  rw [View.canon_unit_zero hz2]
  simp only [View.ld_unit_zero (S := S512x2048) hz2, View.ld_unit_zero (S := S2048x2176) hz2, View.ld_unit_zero (S := S1x512) hz2]
theorem out8 : out0_8 (F := Ideal) x0 x1 x2 x3 x4 x5 = k0_pay11 (k0_pay7 x0) x1 x3 := by
  unfold out0_8 k0_pay12
  rw [View.canon_unit_zero hz2]
  simp only [View.ld_unit_zero (S := S512x2048) hz2, View.ld_unit_zero (S := S2048x2176) hz2, View.ld_unit_zero (S := S1x512) hz2]
theorem out9 : out0_9 (F := Ideal) x0 x1 x2 x3 x4 x5 = k0_pay1 (iota .tc S512x128 32 [1] iota_S512x128_d1_w32) (k0_pay4 x4 x5) (k0_pay5 x4 x5) (k0_pay6 x4 x5) (k0_pay8 (k0_pay7 x0) x1) 64#32 := by
  unfold out0_9 k0_pay12
  rw [View.canon_unit_zero hz2]
  simp only [View.ld_unit_zero (S := S512x2048) hz2, View.ld_unit_zero (S := S2048x2176) hz2, View.ld_unit_zero (S := S512x1) hz2, View.ld_unit_zero (S := S1x128) hz2]
theorem out10 : out0_10 (F := Ideal) x0 x1 x2 x3 x4 x5 = k0_pay4 x4 x5 := by
  unfold out0_10
  rw [View.canon_unit_zero hz2]
  simp only [View.ld_unit_zero (S := S512x1) hz2, View.ld_unit_zero (S := S1x128) hz2]
theorem out11 : out0_11 (F := Ideal) x0 x1 x2 x3 x4 x5 = k0_pay5 x4 x5 := by
  unfold out0_11
  rw [View.canon_unit_zero hz2]
  simp only [View.ld_unit_zero (S := S512x1) hz2, View.ld_unit_zero (S := S1x128) hz2]
theorem out12 : out0_12 (F := Ideal) x0 x1 x2 x3 x4 x5 = k0_pay6 x4 x5 := by
  unfold out0_12
  rw [View.canon_unit_zero hz2]
  simp only [View.ld_unit_zero (S := S512x1) hz2, View.ld_unit_zero (S := S1x128) hz2]

end Outs

section Points
variable (c : Dev nD) (t : Fin cfg0.N) (p : Fin 512)

/-! A result's row `r` is row `r % 512` of what the point `r / 512` writes. -/

theorem out_facts : ∀ t : Fin cfg0.N, (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem flush : ∀ t : Fin cfg0.N, (cfg0.win 6).flush t = true ∧ (cfg0.win 7).flush t = true ∧ (cfg0.win 8).flush t = true ∧ (cfg0.win 9).flush t = true ∧ (cfg0.win 10).flush t = true ∧ (cfg0.win 11).flush t = true ∧ (cfg0.win 12).flush t = true :=
  (by decide +kernel : ∀ t : Fin grid0.N, _)

theorem arr6 (e : Fin 1024) (r : Fin 16384) (hr : r.val = 512 * t.val + p.val) :
    ((dats m 0 c).arrAt 6 cfg0.N : S16384x1024.Idx → _) (ix2 r e) = out0_6 (iblk m c 0 t) (iblk m c 1 t) (iblk m c 2 t) (iblk m c 3 t) (iblk m c 4 t) (iblk m c 5 t) (ix2 p e) := by
  obtain ⟨⟨e0, e1⟩, -⟩ := out_facts t
  have h := congrFun ((blocks6 m c t (flush t).1).trans (flushed6 m c t)) (ix2 p e)
  have he : ((cfg0.win 6).blk t).view.emb (ix2 p e) = ix2 r e := by
    funext a
    match a with
    | ⟨0, _⟩ => exact Fin.ext (show win0_6.index t (0 : Fin 2) * 512 + 1 * p.val = r.val by omega)
    | ⟨1, _⟩ => exact Fin.ext (show win0_6.index t (1 : Fin 2) * 1024 + 1 * e.val = e.val by omega)
  exact he ▸ h

theorem arr7 (e : Fin 512) (r : Fin 16384) (hr : r.val = 512 * t.val + p.val) :
    ((dats m 0 c).arrAt 7 cfg0.N : S16384x512.Idx → _) (ix2 r e) = out0_7 (iblk m c 0 t) (iblk m c 1 t) (iblk m c 2 t) (iblk m c 3 t) (iblk m c 4 t) (iblk m c 5 t) (ix2 p e) := by
  obtain ⟨-, ⟨e0, e1⟩, -⟩ := out_facts t
  have h := congrFun ((blocks7 m c t (flush t).2.1).trans (flushed7 m c t)) (ix2 p e)
  have he : ((cfg0.win 7).blk t).view.emb (ix2 p e) = ix2 r e := by
    funext a
    match a with
    | ⟨0, _⟩ => exact Fin.ext (show win0_7.index t (0 : Fin 2) * 512 + 1 * p.val = r.val by omega)
    | ⟨1, _⟩ => exact Fin.ext (show win0_7.index t (1 : Fin 2) * 512 + 1 * e.val = e.val by omega)
  exact he ▸ h

theorem arr8 (e : Fin 512) (r : Fin 16384) (hr : r.val = 512 * t.val + p.val) :
    ((dats m 0 c).arrAt 8 cfg0.N : S16384x512.Idx → _) (ix2 r e) = out0_8 (iblk m c 0 t) (iblk m c 1 t) (iblk m c 2 t) (iblk m c 3 t) (iblk m c 4 t) (iblk m c 5 t) (ix2 p e) := by
  obtain ⟨-, -, ⟨e0, e1⟩, -⟩ := out_facts t
  have h := congrFun ((blocks8 m c t (flush t).2.2.1).trans (flushed8 m c t)) (ix2 p e)
  have he : ((cfg0.win 8).blk t).view.emb (ix2 p e) = ix2 r e := by
    funext a
    match a with
    | ⟨0, _⟩ => exact Fin.ext (show win0_8.index t (0 : Fin 2) * 512 + 1 * p.val = r.val by omega)
    | ⟨1, _⟩ => exact Fin.ext (show win0_8.index t (1 : Fin 2) * 512 + 1 * e.val = e.val by omega)
  exact he ▸ h

theorem arr9 (e : Fin 128) (r : Fin 16384) (hr : r.val = 512 * t.val + p.val) :
    ((dats m 0 c).arrAt 9 cfg0.N : S16384x128.Idx → _) (ix2 r e) = out0_9 (iblk m c 0 t) (iblk m c 1 t) (iblk m c 2 t) (iblk m c 3 t) (iblk m c 4 t) (iblk m c 5 t) (ix2 p e) := by
  obtain ⟨-, -, -, ⟨e0, e1⟩, -⟩ := out_facts t
  have h := congrFun ((blocks9 m c t (flush t).2.2.2.1).trans (flushed9 m c t)) (ix2 p e)
  have he : ((cfg0.win 9).blk t).view.emb (ix2 p e) = ix2 r e := by
    funext a
    match a with
    | ⟨0, _⟩ => exact Fin.ext (show win0_9.index t (0 : Fin 2) * 512 + 1 * p.val = r.val by omega)
    | ⟨1, _⟩ => exact Fin.ext (show win0_9.index t (1 : Fin 2) * 128 + 1 * e.val = e.val by omega)
  exact he ▸ h

theorem arr10 (e : Fin 128) (r : Fin 16384) (hr : r.val = 512 * t.val + p.val) :
    ((dats m 0 c).arrAt 10 cfg0.N : S16384x128.Idx → _) (ix2 r e) = out0_10 (iblk m c 0 t) (iblk m c 1 t) (iblk m c 2 t) (iblk m c 3 t) (iblk m c 4 t) (iblk m c 5 t) (ix2 p e) := by
  obtain ⟨-, -, -, -, ⟨e0, e1⟩, -⟩ := out_facts t
  have h := congrFun ((blocks10 m c t (flush t).2.2.2.2.1).trans (flushed10 m c t)) (ix2 p e)
  have he : ((cfg0.win 10).blk t).view.emb (ix2 p e) = ix2 r e := by
    funext a
    match a with
    | ⟨0, _⟩ => exact Fin.ext (show win0_10.index t (0 : Fin 2) * 512 + 1 * p.val = r.val by omega)
    | ⟨1, _⟩ => exact Fin.ext (show win0_10.index t (1 : Fin 2) * 128 + 1 * e.val = e.val by omega)
  exact he ▸ h

theorem arr11 (e : Fin 128) (r : Fin 16384) (hr : r.val = 512 * t.val + p.val) :
    ((dats m 0 c).arrAt 11 cfg0.N : S16384x128.Idx → _) (ix2 r e) = out0_11 (iblk m c 0 t) (iblk m c 1 t) (iblk m c 2 t) (iblk m c 3 t) (iblk m c 4 t) (iblk m c 5 t) (ix2 p e) := by
  obtain ⟨-, -, -, -, -, ⟨e0, e1⟩, -⟩ := out_facts t
  have h := congrFun ((blocks11 m c t (flush t).2.2.2.2.2.1).trans (flushed11 m c t)) (ix2 p e)
  have he : ((cfg0.win 11).blk t).view.emb (ix2 p e) = ix2 r e := by
    funext a
    match a with
    | ⟨0, _⟩ => exact Fin.ext (show win0_11.index t (0 : Fin 2) * 512 + 1 * p.val = r.val by omega)
    | ⟨1, _⟩ => exact Fin.ext (show win0_11.index t (1 : Fin 2) * 128 + 1 * e.val = e.val by omega)
  exact he ▸ h

theorem arr12 (e : Fin 128) (r : Fin 16384) (hr : r.val = 512 * t.val + p.val) :
    ((dats m 0 c).arrAt 12 cfg0.N : S16384x128.Idx → _) (ix2 r e) = out0_12 (iblk m c 0 t) (iblk m c 1 t) (iblk m c 2 t) (iblk m c 3 t) (iblk m c 4 t) (iblk m c 5 t) (ix2 p e) := by
  obtain ⟨-, -, -, -, -, -, e0, e1⟩ := out_facts t
  have h := congrFun ((blocks12 m c t (flush t).2.2.2.2.2.2).trans (flushed12 m c t)) (ix2 p e)
  have he : ((cfg0.win 12).blk t).view.emb (ix2 p e) = ix2 r e := by
    funext a
    match a with
    | ⟨0, _⟩ => exact Fin.ext (show win0_12.index t (0 : Fin 2) * 512 + 1 * p.val = r.val by omega)
    | ⟨1, _⟩ => exact Fin.ext (show win0_12.index t (1 : Fin 2) * 128 + 1 * e.val = e.val by omega)
  exact he ▸ h

/-! The point's expressions, in the reference's terms. -/

theorem prod_at (g : Fin 2176) (r : Fin 16384) (hr : r.val = 512 * t.val + p.val) :
    k0_pay8 (F := Ideal) (k0_pay7 (iblk m c 0 t)) (iblk m c 1 t) (ix2 p g) = proj (X m c) (W m c) r ⟨g.val, by omega⟩ := by
  refine (pay8_apply ..).trans ?_
  have e0 := fun k => blk0 m c t p k r hr
  have e1 := fun k => blk1 m c t k g
  simp only [e0, e1]
  rfl

theorem cos_at (l : Fin 128) (r : Fin 16384) (hr : r.val = 512 * t.val + p.val) :
    k0_pay4 (F := Ideal) (iblk m c 4 t) (iblk m c 5 t) (ix2 p l) = val_main_v73 (F := Ideal) (Q m c) (ix2 r l) := by
  refine (pay4_apply ..).trans ?_
  rw [blk4 m c t p r hr, blk5 m c t l, freqs_at, v73_at]
  by_cases h : l.val < 32
  · simp only [dif_pos h, if_pos (show l.val < 64 by omega)]; rfl
  · by_cases h' : l.val < 64
    · simp only [dif_neg h, dif_pos h', if_pos h']; rfl
    · simp only [dif_neg h, dif_neg h', if_neg h']

theorem neg_sin_at (l : Fin 128) (r : Fin 16384) (hr : r.val = 512 * t.val + p.val) :
    k0_pay5 (F := Ideal) (iblk m c 4 t) (iblk m c 5 t) (ix2 p l) = val_main_v77 (F := Ideal) (Q m c) (ix2 r l) := by
  refine (pay5_apply ..).trans ?_
  rw [blk4 m c t p r hr, blk5 m c t l, freqs_at, v77_at]
  by_cases h : l.val < 32
  · simp only [dif_pos h, if_pos h]; rfl
  · simp only [dif_neg h, if_neg h]

theorem sin_at (l : Fin 128) (r : Fin 16384) (hr : r.val = 512 * t.val + p.val) :
    k0_pay6 (F := Ideal) (iblk m c 4 t) (iblk m c 5 t) (ix2 p l) = val_main_v81 (F := Ideal) (Q m c) (ix2 r l) := by
  refine (pay6_apply ..).trans ?_
  rw [blk4 m c t p r hr, blk5 m c t l, freqs_at, v81_at]
  by_cases h : l.val < 32
  · simp only [dif_pos h, if_neg (show ¬(32 ≤ l.val ∧ l.val < 64) by omega)]
  · by_cases h' : l.val < 64
    · simp only [dif_neg h, dif_pos h', if_pos (show 32 ≤ l.val ∧ l.val < 64 by omega)]; rfl
    · simp only [dif_neg h, dif_neg h', if_neg (show ¬(32 ≤ l.val ∧ l.val < 64) by omega)]

theorem key_at (l : Fin 128) (r : Fin 16384) (hr : r.val = 512 * t.val + p.val) :
    k0_pay1 (F := Ideal) (iota .tc S512x128 32 [1] iota_S512x128_d1_w32) (k0_pay4 (iblk m c 4 t) (iblk m c 5 t)) (k0_pay5 (iblk m c 4 t) (iblk m c 5 t))
        (k0_pay6 (iblk m c 4 t) (iblk m c 5 t)) (k0_pay8 (k0_pay7 (iblk m c 0 t)) (iblk m c 1 t)) 64#32 (ix2 p l)
      = val_main_v69 (F := Ideal) (X m c) (Q m c) (W m c) (ix2 r l) := by
  refine (pay1_apply ..).trans ?_
  rw [cos_at m c t p l r hr, neg_sin_at m c t p l r hr, sin_at m c t p l r hr, prod_at m c t p _ r hr, prod_at m c t p _ r hr, prod_at m c t p _ r hr, v69_at]
  by_cases h64 : l.val = 64
  · rw [if_pos h64, dif_neg (by omega), if_pos h64]
  rw [if_neg h64]
  by_cases h : l.val < 32
  · rw [dif_pos (show l.val < 64 by omega), v34_at, dif_pos h, (v73_at (Q m c) r l).trans (dif_pos h), (v77_at (Q m c) r l).trans (dif_pos h), (v81_at (Q m c) r l).trans (dif_pos h),
      mul_zero, add_zero, mul_neg, ← sub_eq_add_neg]
    refine congrArg (fun g => _ - proj (X m c) (W m c) r g * _) (Fin.ext ?_)
    show 2048 + (l.val + 128 - 96) % 128 = 2048 + (32 + l.val)
    omega
  rw [(v73_at (Q m c) r l).trans (dif_neg h), (v77_at (Q m c) r l).trans (dif_neg h), (v81_at (Q m c) r l).trans (dif_neg h)]
  by_cases h' : l.val < 64
  · rw [dif_pos h', dif_pos h', dif_pos h', v34_at, dif_neg h, mul_zero, add_zero, add_comm]
    refine congrArg₂ (fun g g' => proj (X m c) (W m c) r g * _ + proj (X m c) (W m c) r g' * _) (Fin.ext ?_) (Fin.ext ?_)
    · show 2048 + (l.val + 128 - 32) % 128 = 2048 + (l.val - 32)
      omega
    · show 2048 + l.val = 2048 + (32 + (l.val - 32))
      omega
  · rw [dif_neg h', dif_neg h', dif_neg h', if_neg h64, mul_zero, mul_zero, mul_zero, add_zero, add_zero]

end Points

/-! The results, whole. -/

section Whole
variable (c : Dev nD)

/-- The point and the block's row of a row. -/
theorem point_of (r : Fin 16384) : ∃ (t : Fin cfg0.N) (p : Fin 512), r.val = 512 * t.val + p.val :=
  ⟨⟨r.val / 512, by rw [show cfg0.N = 32 from N_0]; omega⟩, ⟨r.val % 512, by omega⟩, by show r.val = 512 * (r.val / 512) + r.val % 512; omega⟩

theorem pair_of {a b : ℕ} (i : (⟨2, ![a, b]⟩ : Shape).Idx) : ∃ (r : Fin a) (e : Fin b), i = ix2 r e := ⟨i 0, i 1, by funext a; match a with | ⟨0, _⟩ => rfl | ⟨1, _⟩ => rfl⟩

abbrev x0 := m ((c.tc : Thread nD τ).loc main_arg0)
abbrev x1 := m ((c.tc : Thread nD τ).loc main_arg1)
abbrev x2 := m ((c.tc : Thread nD τ).loc main_arg2)
abbrev x3 := m ((c.tc : Thread nD τ).loc main_arg3)
abbrev x4 := m ((c.tc : Thread nD τ).loc main_arg4)

/-- The reference's result 1, from the kernel's arguments. -/
def ref6 : Buf (Elt Ideal) ((c : Thread nD τ).loc main_v21_0) := val_main_v38 (F := Ideal) (x0 m c) (x2 m c)

theorem out_eq6 : (dats m 0 c).arrAt 6 cfg0.N = ref6 m c := by
  funext i
  obtain ⟨r, e, rfl⟩ := pair_of i
  obtain ⟨t, p, hr⟩ := point_of r
  refine (arr6 m c t p e r hr).trans ?_
  rw [out6]
  rw [pay9_apply, prod_at m c _ _ _ r hr]
  exact (v38_at _ _ r e).symm

/-- The reference's result 2, from the kernel's arguments. -/
def ref7 : Buf (Elt Ideal) ((c : Thread nD τ).loc main_v21_1) := val_main_v53 (F := Ideal) (x0 m c) (x2 m c) (x3 m c)

theorem out_eq7 : (dats m 0 c).arrAt 7 cfg0.N = ref7 m c := by
  funext i
  obtain ⟨r, e, rfl⟩ := pair_of i
  obtain ⟨t, p, hr⟩ := point_of r
  refine (arr7 m c t p e r hr).trans ?_
  rw [out7]
  rw [pay10_apply, blk2]
  simp only [prod_at m c _ _ _ r hr]
  exact (v53_at _ _ _ r e).symm

/-- The reference's result 3, from the kernel's arguments. -/
def ref8 : Buf (Elt Ideal) ((c : Thread nD τ).loc main_v21_2) := val_main_v68 (F := Ideal) (x0 m c) (x2 m c) (x4 m c)

theorem out_eq8 : (dats m 0 c).arrAt 8 cfg0.N = ref8 m c := by
  funext i
  obtain ⟨r, e, rfl⟩ := pair_of i
  obtain ⟨t, p, hr⟩ := point_of r
  refine (arr8 m c t p e r hr).trans ?_
  rw [out8]
  rw [pay11_apply, blk3]
  simp only [prod_at m c _ _ _ r hr]
  exact (v68_at _ _ _ r e).symm

/-- The reference's result 4, from the kernel's arguments. -/
def ref9 : Buf (Elt Ideal) ((c : Thread nD τ).loc main_v21_3) := val_main_v69 (F := Ideal) (x0 m c) (x1 m c) (x2 m c)

theorem out_eq9 : (dats m 0 c).arrAt 9 cfg0.N = ref9 m c := by
  funext i
  obtain ⟨r, e, rfl⟩ := pair_of i
  obtain ⟨t, p, hr⟩ := point_of r
  refine (arr9 m c t p e r hr).trans ?_
  rw [out9]
  exact key_at m c _ _ e r hr

/-- The reference's result 5, from the kernel's arguments. -/
def ref10 : Buf (Elt Ideal) ((c : Thread nD τ).loc main_v21_4) := val_main_v73 (F := Ideal) (x1 m c)

theorem out_eq10 : (dats m 0 c).arrAt 10 cfg0.N = ref10 m c := by
  funext i
  obtain ⟨r, e, rfl⟩ := pair_of i
  obtain ⟨t, p, hr⟩ := point_of r
  refine (arr10 m c t p e r hr).trans ?_
  rw [out10]
  exact cos_at m c _ _ e r hr

/-- The reference's result 6, from the kernel's arguments. -/
def ref11 : Buf (Elt Ideal) ((c : Thread nD τ).loc main_v21_5) := val_main_v77 (F := Ideal) (x1 m c)

theorem out_eq11 : (dats m 0 c).arrAt 11 cfg0.N = ref11 m c := by
  funext i
  obtain ⟨r, e, rfl⟩ := pair_of i
  obtain ⟨t, p, hr⟩ := point_of r
  refine (arr11 m c t p e r hr).trans ?_
  rw [out11]
  exact neg_sin_at m c _ _ e r hr

/-- The reference's result 7, from the kernel's arguments. -/
def ref12 : Buf (Elt Ideal) ((c : Thread nD τ).loc main_v21_6) := val_main_v81 (F := Ideal) (x1 m c)

theorem out_eq12 : (dats m 0 c).arrAt 12 cfg0.N = ref12 m c := by
  funext i
  obtain ⟨r, e, rfl⟩ := pair_of i
  obtain ⟨t, p, hr⟩ := point_of r
  refine (arr12 m c t p e r hr).trans ?_
  rw [out12]
  exact sin_at m c _ _ e r hr

end Whole

end Cert.Kernel4Ideal.ProjIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.AttnK.Launch
public import proofs.«01_k».proof.Proof.Attn.Launch
public import proofs.«01_k».proof.Proof.Attn.Value
public import proofs.«01_k».proof.Proof.Gen.Pre_finite_scores
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ffn.Value
public import proofs.«01_k».proof.Proof.Merge.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.ProjIn.Value
public import Idealize.ShloMosaic.Adequacy
public import Idealize.ShloMosaic.Init

@[expose] public section

noncomputable section

namespace Cert.Proof

open Idealize.ShloMosaic Idealize.SL.Sem Cert.Kernel

/-- The reference ends, its arguments unchanged; it has no semaphores. -/
theorem frame_r : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- From memories that agree on the arguments, finite ones, kernel and reference end with the same result. -/
theorem value : Cert.algebraic_KernelIdeal_ReferenceIdeal_pre_finite_scores (hKernelIdeal := Cert.KernelIdeal.Gen.facts) (hReferenceIdeal := Cert.ReferenceIdeal.Gen.facts)
    (hPre_finite_scores := Cert.Pre_finite_scores.Gen.facts) := fun m g m' g' hpre hargs => by
  refine ⟨fun c => Cert.KernelIdeal.Attn.refOut m c, Cert.KernelIdeal.Attn.value m g hpre, ?_⟩
  refine (θ_run (Cert.ReferenceIdeal.defs (F := Ideal)) _ _).mono (fun r h c => ⟨(h c).1.trans ?_, (h c).2⟩) (Cert.ReferenceIdeal.Value.run (F := Ideal) m' g')
  obtain ⟨e0, e1, e2, e3, e4, -, -⟩ := hargs c
  rw [Cert.ReferenceIdeal.Read.val_main_v28_eq, e0, e1, e2, e3, e4]
  rfl

/-- The reference of the feed-forward sublayer ends, its arguments unchanged; it has no semaphores. -/
theorem frame_r2 : Cert.quiescent_Reference2Ideal (hReference2Ideal := Cert.Reference2Ideal.Gen.facts) := fun m g _ =>
  (θ_run (Cert.Reference2Ideal.defs (F := Ideal)) _ _).mono (fun r h => ⟨fun c => (h c).2, sem_eq_zero_of_no_sems (by decide) r.2⟩)
    (Cert.Reference2Ideal.Value.run (F := Ideal) m g)

/-- From memories that agree on the arguments, the feed-forward kernel and its reference end with the same result. -/
theorem value2 : Cert.algebraic_Kernel2Ideal_Reference2Ideal (hKernel2Ideal := Cert.Kernel2Ideal.Gen.facts) (hReference2Ideal := Cert.Reference2Ideal.Gen.facts) :=
  fun m g m' g' _ hargs => by
  refine ⟨fun c => Cert.Kernel2Ideal.Ffn.refOut m c, (θ_run (Cert.Kernel2Ideal.defs (F := Ideal)) _ _).mono
    (fun r h c => ⟨(h c).1.trans (Cert.Kernel2Ideal.Ffn.out_eq m c), (h c).2⟩) (Cert.Kernel2Ideal.Value.run (F := Ideal) m g), ?_⟩
  refine (θ_run (Cert.Reference2Ideal.defs (F := Ideal)) _ _).mono (fun r h c => ⟨(h c).1.trans ?_, (h c).2⟩) (Cert.Reference2Ideal.Value.run (F := Ideal) m' g')
  obtain ⟨e0, e1, e2, e3, e4, e5⟩ := hargs c
  rw [Cert.Reference2Ideal.Read.val_main_v32_eq, e0, e1, e2, e3, e4, e5]
  rfl

/-- The reference of the merge ends, its arguments unchanged; it has no semaphores. -/
theorem frame_r3 : Cert.quiescent_Reference3Ideal (hReference3Ideal := Cert.Reference3Ideal.Gen.facts) := fun m g _ =>
  (θ_run (Cert.Reference3Ideal.defs (F := Ideal)) _ _).mono (fun r h => ⟨fun c => (h c).2, sem_eq_zero_of_no_sems (by decide) r.2⟩)
    (Cert.Reference3Ideal.Value.run (F := Ideal) m g)

/-- From memories that agree on the arguments, the merge kernel and its reference end with the same result. -/
theorem value3 : Cert.algebraic_Kernel3Ideal_Reference3Ideal (hKernel3Ideal := Cert.Kernel3Ideal.Gen.facts) (hReference3Ideal := Cert.Reference3Ideal.Gen.facts) :=
  fun m g m' g' _ hargs => by
  refine ⟨fun c => Cert.Kernel3Ideal.Merge.refOut m c, (θ_run (Cert.Kernel3Ideal.defs (F := Ideal)) _ _).mono
    (fun r h c => ⟨(h c).1.trans (Cert.Kernel3Ideal.Merge.out_eq m c), (h c).2⟩) (Cert.Kernel3Ideal.Value.run (F := Ideal) m g), ?_⟩
  refine (θ_run (Cert.Reference3Ideal.defs (F := Ideal)) _ _).mono (fun r h c => ⟨(h c).1.trans ?_, (h c).2⟩) (Cert.Reference3Ideal.Value.run (F := Ideal) m' g')
  obtain ⟨e0, e1, e2, e3, e4, e5, e6, e7⟩ := hargs c
  rw [Cert.Reference3Ideal.Read.val_main_v52_eq, e0, e1, e2, e3, e4, e5, e6, e7]
  rfl

/-- The reference of the input projection ends, its arguments unchanged; it has no semaphores. -/
theorem frame_r4 : Cert.quiescent_Reference4Ideal (hReference4Ideal := Cert.Reference4Ideal.Gen.facts) := fun m g _ =>
  (θ_run (Cert.Reference4Ideal.defs (F := Ideal)) _ _).mono (fun r h => ⟨fun c => (h c).2.2.2.2.2.2.2, sem_eq_zero_of_no_sems (by decide) r.2⟩)
    (Cert.Reference4Ideal.Value.run (F := Ideal) m g)

/-- From memories that agree on the arguments, the input projection and its reference end with the same seven results. -/
theorem value4 : Cert.algebraic_Kernel4Ideal_Reference4Ideal (hKernel4Ideal := Cert.Kernel4Ideal.Gen.facts) (hReference4Ideal := Cert.Reference4Ideal.Gen.facts) :=
  fun m g m' g' _ hargs => by
  refine ⟨fun c => Cert.Kernel4Ideal.ProjIn.ref6 m c, fun c => Cert.Kernel4Ideal.ProjIn.ref7 m c, fun c => Cert.Kernel4Ideal.ProjIn.ref8 m c, fun c => Cert.Kernel4Ideal.ProjIn.ref9 m c, fun c => Cert.Kernel4Ideal.ProjIn.ref10 m c, fun c => Cert.Kernel4Ideal.ProjIn.ref11 m c, fun c => Cert.Kernel4Ideal.ProjIn.ref12 m c,
    (θ_run (Cert.Kernel4Ideal.defs (F := Ideal)) _ _).mono (fun r h c => ?_) (Cert.Kernel4Ideal.Value.run_blocks m g), ?_⟩
  · obtain ⟨h0, h1, h2, h3, h4, h5, h6, ha⟩ := h c
    exact ⟨h0.trans (Cert.Kernel4Ideal.ProjIn.out_eq6 m c), h1.trans (Cert.Kernel4Ideal.ProjIn.out_eq7 m c), h2.trans (Cert.Kernel4Ideal.ProjIn.out_eq8 m c), h3.trans (Cert.Kernel4Ideal.ProjIn.out_eq9 m c), h4.trans (Cert.Kernel4Ideal.ProjIn.out_eq10 m c), h5.trans (Cert.Kernel4Ideal.ProjIn.out_eq11 m c), h6.trans (Cert.Kernel4Ideal.ProjIn.out_eq12 m c), ha⟩
  refine (θ_run (Cert.Reference4Ideal.defs (F := Ideal)) _ _).mono (fun r h c => ?_) (Cert.Reference4Ideal.Value.run (F := Ideal) m' g')
  obtain ⟨h0, h1, h2, h3, h4, h5, h6, ha⟩ := h c
  obtain ⟨e0, e1, e2, e3, e4⟩ := hargs c
  refine ⟨h0.trans ?_, h1.trans ?_, h2.trans ?_, h3.trans ?_, h4.trans ?_, h5.trans ?_, h6.trans ?_, ha⟩
  · rw [Cert.Reference4Ideal.Read.val_main_v38_eq, e0, e2]; rfl
  · rw [Cert.Reference4Ideal.Read.val_main_v53_eq, e0, e2, e3]; rfl
  · rw [Cert.Reference4Ideal.Read.val_main_v68_eq, e0, e2, e4]; rfl
  · rw [Cert.Reference4Ideal.Read.val_main_v69_eq, e0, e1, e2]; rfl
  · rw [Cert.Reference4Ideal.Read.val_main_v73_eq, e1]; rfl
  · rw [Cert.Reference4Ideal.Read.val_main_v77_eq, e1]; rfl
  · rw [Cert.Reference4Ideal.Read.val_main_v81_eq, e1]; rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_scores.Gen.facts,
  fun m g _ => Cert.Kernel.Attn.frame m g, fun m g _ => Cert.KernelIdeal.Attn.frame m g, fun m g _ => Cert.KernelIdeal.Attn.frame m g,
  frame_r, fun m g _ => frame_r m g trivial,
  fun m g _ => Cert.Kernel2.Gen.frame m g, fun m g _ => Cert.Kernel2Ideal.Gen.frame m g, frame_r2,
  fun m g _ => Cert.Kernel3.Gen.frame m g, fun m g _ => Cert.Kernel3Ideal.Gen.frame m g, frame_r3, fun m g _ => Cert.Kernel4.Gen.frame m g, fun m g _ => Cert.Kernel4Ideal.Gen.frame m g, frame_r4,
  IdealRules.named_const.statement Cert.KernelIdeal.κ "mask" .f32 0xF149F2CA#32 ⊥ rfl,
  value, trivial, value2, trivial, value3, trivial, value4⟩

end Cert.Proof

end
